-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_GradWeight (m : (ℓ : Loc Cert.GradWeight.nD Cert.GradWeight.τ Cert.GradWeight.sig) → Buf (Elt Bits) ℓ) : Prop :=
  True

def Pre_GradWeightIdeal (m : (ℓ : Loc Cert.GradWeightIdeal.nD Cert.GradWeightIdeal.τ Cert.GradWeightIdeal.sig) → Buf (Elt Ideal) ℓ) : Prop :=
  True

def Pre_GradWeightRefIdeal (m : (ℓ : Loc Cert.GradWeightRefIdeal.nD Cert.GradWeightRefIdeal.τ Cert.GradWeightRefIdeal.sig) → Buf (Elt Ideal) ℓ) : Prop :=
  True

def Pre_GradInput (m : (ℓ : Loc Cert.GradInput.nD Cert.GradInput.τ Cert.GradInput.sig) → Buf (Elt Bits) ℓ) : Prop :=
  True

def Pre_GradInputIdeal (m : (ℓ : Loc Cert.GradInputIdeal.nD Cert.GradInputIdeal.τ Cert.GradInputIdeal.sig) → Buf (Elt Ideal) ℓ) : Prop :=
  True

def Pre_GradInputRefIdeal (m : (ℓ : Loc Cert.GradInputRefIdeal.nD Cert.GradInputRefIdeal.τ Cert.GradInputRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradBranch (m : (ℓ : Loc Cert.GradBranch.nD Cert.GradBranch.τ Cert.GradBranch.sig) → Buf (Elt Bits) ℓ) : Prop :=
  True

def Pre_GradBranchIdeal (m : (ℓ : Loc Cert.GradBranchIdeal.nD Cert.GradBranchIdeal.τ Cert.GradBranchIdeal.sig) → Buf (Elt Ideal) ℓ) : Prop :=
  True

def Pre_GradBranchRefIdeal (m : (ℓ : Loc Cert.GradBranchRefIdeal.nD Cert.GradBranchRefIdeal.τ Cert.GradBranchRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GradWeight [hGradWeight : Cert.GradWeight.Facts] : Prop :=
  ∀ (m : (ℓ : Loc Cert.GradWeight.nD Cert.GradWeight.τ Cert.GradWeight.sig) → Buf (Elt Bits) ℓ) (g : Dev Cert.GradWeight.nD → PrngReg), Pre_GradWeight m →
    θ_run (Cert.GradWeight.defs (F := Bits)) (onTc (τ := Cert.GradWeight.τ) (Cert.GradWeight.main (F := Bits))) ⟨m, fun _ => 0, g⟩ (fun r => (∀ c : Dev Cert.GradWeight.nD,
      r.2.mem ((c.tc : Thread Cert.GradWeight.nD Cert.GradWeight.τ).loc Cert.GradWeight.main_arg0) = m ((c.tc : Thread Cert.GradWeight.nD Cert.GradWeight.τ).loc Cert.GradWeight.main_arg0)
      ∧ r.2.mem ((c.tc : Thread Cert.GradWeight.nD Cert.GradWeight.τ).loc Cert.GradWeight.main_arg1) = m ((c.tc : Thread Cert.GradWeight.nD Cert.GradWeight.τ).loc Cert.GradWeight.main_arg1))
      ∧ r.2.sem = fun _ => 0)

def quiescent_GradWeightIdeal [hGradWeightIdeal : Cert.GradWeightIdeal.Facts] : Prop :=
  ∀ (m : (ℓ : Loc Cert.GradWeightIdeal.nD Cert.GradWeightIdeal.τ Cert.GradWeightIdeal.sig) → Buf (Elt Ideal) ℓ) (g : Dev Cert.GradWeightIdeal.nD → PrngReg), Pre_GradWeightIdeal m →
    θ_run (Cert.GradWeightIdeal.defs (F := Ideal)) (onTc (τ := Cert.GradWeightIdeal.τ) (Cert.GradWeightIdeal.main (F := Ideal))) ⟨m, fun _ => 0, g⟩ (fun r => (∀ c : Dev Cert.GradWeightIdeal.nD,
      r.2.mem ((c.tc : Thread Cert.GradWeightIdeal.nD Cert.GradWeightIdeal.τ).loc Cert.GradWeightIdeal.main_arg0) = m ((c.tc : Thread Cert.GradWeightIdeal.nD Cert.GradWeightIdeal.τ).loc Cert.GradWeightIdeal.main_arg0)
      ∧ r.2.mem ((c.tc : Thread Cert.GradWeightIdeal.nD Cert.GradWeightIdeal.τ).loc Cert.GradWeightIdeal.main_arg1) = m ((c.tc : Thread Cert.GradWeightIdeal.nD Cert.GradWeightIdeal.τ).loc Cert.GradWeightIdeal.main_arg1))
      ∧ r.2.sem = fun _ => 0)

def quiescent_GradWeightRefIdeal [hGradWeightRefIdeal : Cert.GradWeightRefIdeal.Facts] : Prop :=
  ∀ (m : (ℓ : Loc Cert.GradWeightRefIdeal.nD Cert.GradWeightRefIdeal.τ Cert.GradWeightRefIdeal.sig) → Buf (Elt Ideal) ℓ) (g : Dev Cert.GradWeightRefIdeal.nD → PrngReg), Pre_GradWeightRefIdeal m →
    θ_run (Cert.GradWeightRefIdeal.defs (F := Ideal)) (onTc (τ := Cert.GradWeightRefIdeal.τ) (Cert.GradWeightRefIdeal.main (F := Ideal))) ⟨m, fun _ => 0, g⟩ (fun r => (∀ c : Dev Cert.GradWeightRefIdeal.nD,
      r.2.mem ((c.tc : Thread Cert.GradWeightRefIdeal.nD Cert.GradWeightRefIdeal.τ).loc Cert.GradWeightRefIdeal.main_arg0) = m ((c.tc : Thread Cert.GradWeightRefIdeal.nD Cert.GradWeightRefIdeal.τ).loc Cert.GradWeightRefIdeal.main_arg0)
      ∧ r.2.mem ((c.tc : Thread Cert.GradWeightRefIdeal.nD Cert.GradWeightRefIdeal.τ).loc Cert.GradWeightRefIdeal.main_arg1) = m ((c.tc : Thread Cert.GradWeightRefIdeal.nD Cert.GradWeightRefIdeal.τ).loc Cert.GradWeightRefIdeal.main_arg1))
      ∧ r.2.sem = fun _ => 0)

def quiescent_GradInput [hGradInput : Cert.GradInput.Facts] : Prop :=
  ∀ (m : (ℓ : Loc Cert.GradInput.nD Cert.GradInput.τ Cert.GradInput.sig) → Buf (Elt Bits) ℓ) (g : Dev Cert.GradInput.nD → PrngReg), Pre_GradInput m →
    θ_run (Cert.GradInput.defs (F := Bits)) (onTc (τ := Cert.GradInput.τ) (Cert.GradInput.main (F := Bits))) ⟨m, fun _ => 0, g⟩ (fun r => (∀ c : Dev Cert.GradInput.nD,
      r.2.mem ((c.tc : Thread Cert.GradInput.nD Cert.GradInput.τ).loc Cert.GradInput.main_arg0) = m ((c.tc : Thread Cert.GradInput.nD Cert.GradInput.τ).loc Cert.GradInput.main_arg0)
      ∧ r.2.mem ((c.tc : Thread Cert.GradInput.nD Cert.GradInput.τ).loc Cert.GradInput.main_arg1) = m ((c.tc : Thread Cert.GradInput.nD Cert.GradInput.τ).loc Cert.GradInput.main_arg1))
      ∧ r.2.sem = fun _ => 0)

def quiescent_GradInputIdeal [hGradInputIdeal : Cert.GradInputIdeal.Facts] : Prop :=
  ∀ (m : (ℓ : Loc Cert.GradInputIdeal.nD Cert.GradInputIdeal.τ Cert.GradInputIdeal.sig) → Buf (Elt Ideal) ℓ) (g : Dev Cert.GradInputIdeal.nD → PrngReg), Pre_GradInputIdeal m →
    θ_run (Cert.GradInputIdeal.defs (F := Ideal)) (onTc (τ := Cert.GradInputIdeal.τ) (Cert.GradInputIdeal.main (F := Ideal))) ⟨m, fun _ => 0, g⟩ (fun r => (∀ c : Dev Cert.GradInputIdeal.nD,
      r.2.mem ((c.tc : Thread Cert.GradInputIdeal.nD Cert.GradInputIdeal.τ).loc Cert.GradInputIdeal.main_arg0) = m ((c.tc : Thread Cert.GradInputIdeal.nD Cert.GradInputIdeal.τ).loc Cert.GradInputIdeal.main_arg0)
      ∧ r.2.mem ((c.tc : Thread Cert.GradInputIdeal.nD Cert.GradInputIdeal.τ).loc Cert.GradInputIdeal.main_arg1) = m ((c.tc : Thread Cert.GradInputIdeal.nD Cert.GradInputIdeal.τ).loc Cert.GradInputIdeal.main_arg1))
      ∧ r.2.sem = fun _ => 0)

def quiescent_GradInputRefIdeal [hGradInputRefIdeal : Cert.GradInputRefIdeal.Facts] : Prop :=
  ∀ (m : (ℓ : Loc Cert.GradInputRefIdeal.nD Cert.GradInputRefIdeal.τ Cert.GradInputRefIdeal.sig) → Buf (Elt Ideal) ℓ) (g : Dev Cert.GradInputRefIdeal.nD → PrngReg), Pre_GradInputRefIdeal m →
    θ_run (Cert.GradInputRefIdeal.defs (F := Ideal)) (onTc (τ := Cert.GradInputRefIdeal.τ) (Cert.GradInputRefIdeal.main (F := Ideal))) ⟨m, fun _ => 0, g⟩ (fun r => (∀ c : Dev Cert.GradInputRefIdeal.nD,
      r.2.mem ((c.tc : Thread Cert.GradInputRefIdeal.nD Cert.GradInputRefIdeal.τ).loc Cert.GradInputRefIdeal.main_arg0) = m ((c.tc : Thread Cert.GradInputRefIdeal.nD Cert.GradInputRefIdeal.τ).loc Cert.GradInputRefIdeal.main_arg0)
      ∧ r.2.mem ((c.tc : Thread Cert.GradInputRefIdeal.nD Cert.GradInputRefIdeal.τ).loc Cert.GradInputRefIdeal.main_arg1) = m ((c.tc : Thread Cert.GradInputRefIdeal.nD Cert.GradInputRefIdeal.τ).loc Cert.GradInputRefIdeal.main_arg1))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradBranch [hGradBranch : Cert.GradBranch.Facts] : Prop :=
  ∀ (m : (ℓ : Loc Cert.GradBranch.nD Cert.GradBranch.τ Cert.GradBranch.sig) → Buf (Elt Bits) ℓ) (g : Dev Cert.GradBranch.nD → PrngReg), Pre_GradBranch m →
    θ_run (Cert.GradBranch.defs (F := Bits)) (onTc (τ := Cert.GradBranch.τ) (Cert.GradBranch.main (F := Bits))) ⟨m, fun _ => 0, g⟩ (fun r => (∀ c : Dev Cert.GradBranch.nD,
      r.2.mem ((c.tc : Thread Cert.GradBranch.nD Cert.GradBranch.τ).loc Cert.GradBranch.main_arg0) = m ((c.tc : Thread Cert.GradBranch.nD Cert.GradBranch.τ).loc Cert.GradBranch.main_arg0)
      ∧ r.2.mem ((c.tc : Thread Cert.GradBranch.nD Cert.GradBranch.τ).loc Cert.GradBranch.main_arg1) = m ((c.tc : Thread Cert.GradBranch.nD Cert.GradBranch.τ).loc Cert.GradBranch.main_arg1))
      ∧ r.2.sem = fun _ => 0)

def quiescent_GradBranchIdeal [hGradBranchIdeal : Cert.GradBranchIdeal.Facts] : Prop :=
  ∀ (m : (ℓ : Loc Cert.GradBranchIdeal.nD Cert.GradBranchIdeal.τ Cert.GradBranchIdeal.sig) → Buf (Elt Ideal) ℓ) (g : Dev Cert.GradBranchIdeal.nD → PrngReg), Pre_GradBranchIdeal m →
    θ_run (Cert.GradBranchIdeal.defs (F := Ideal)) (onTc (τ := Cert.GradBranchIdeal.τ) (Cert.GradBranchIdeal.main (F := Ideal))) ⟨m, fun _ => 0, g⟩ (fun r => (∀ c : Dev Cert.GradBranchIdeal.nD,
      r.2.mem ((c.tc : Thread Cert.GradBranchIdeal.nD Cert.GradBranchIdeal.τ).loc Cert.GradBranchIdeal.main_arg0) = m ((c.tc : Thread Cert.GradBranchIdeal.nD Cert.GradBranchIdeal.τ).loc Cert.GradBranchIdeal.main_arg0)
      ∧ r.2.mem ((c.tc : Thread Cert.GradBranchIdeal.nD Cert.GradBranchIdeal.τ).loc Cert.GradBranchIdeal.main_arg1) = m ((c.tc : Thread Cert.GradBranchIdeal.nD Cert.GradBranchIdeal.τ).loc Cert.GradBranchIdeal.main_arg1))
      ∧ r.2.sem = fun _ => 0)

def quiescent_GradBranchRefIdeal [hGradBranchRefIdeal : Cert.GradBranchRefIdeal.Facts] : Prop :=
  ∀ (m : (ℓ : Loc Cert.GradBranchRefIdeal.nD Cert.GradBranchRefIdeal.τ Cert.GradBranchRefIdeal.sig) → Buf (Elt Ideal) ℓ) (g : Dev Cert.GradBranchRefIdeal.nD → PrngReg), Pre_GradBranchRefIdeal m →
    θ_run (Cert.GradBranchRefIdeal.defs (F := Ideal)) (onTc (τ := Cert.GradBranchRefIdeal.τ) (Cert.GradBranchRefIdeal.main (F := Ideal))) ⟨m, fun _ => 0, g⟩ (fun r => (∀ c : Dev Cert.GradBranchRefIdeal.nD,
      r.2.mem ((c.tc : Thread Cert.GradBranchRefIdeal.nD Cert.GradBranchRefIdeal.τ).loc Cert.GradBranchRefIdeal.main_arg0) = m ((c.tc : Thread Cert.GradBranchRefIdeal.nD Cert.GradBranchRefIdeal.τ).loc Cert.GradBranchRefIdeal.main_arg0)
      ∧ r.2.mem ((c.tc : Thread Cert.GradBranchRefIdeal.nD Cert.GradBranchRefIdeal.τ).loc Cert.GradBranchRefIdeal.main_arg1) = m ((c.tc : Thread Cert.GradBranchRefIdeal.nD Cert.GradBranchRefIdeal.τ).loc Cert.GradBranchRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v85_0)) (v1 : (c : Dev Cert.KernelIdeal.nD) → Buf (Elt Ideal) ((c.tc : Thread Cert.KernelIdeal.nD Cert.KernelIdeal.τ).loc Cert.KernelIdeal.main_v85_1)) (v2 : (c : Dev Cert.KernelIdeal.nD) → Buf (Elt Ideal) ((c.tc : Thread Cert.KernelIdeal.nD Cert.KernelIdeal.τ).loc Cert.KernelIdeal.main_v85_2)) (v3 : (c : Dev Cert.KernelIdeal.nD) → Buf (Elt Ideal) ((c.tc : Thread Cert.KernelIdeal.nD Cert.KernelIdeal.τ).loc Cert.KernelIdeal.main_v85_3)) (v4 : (c : Dev Cert.KernelIdeal.nD) → Buf (Elt Ideal) ((c.tc : Thread Cert.KernelIdeal.nD Cert.KernelIdeal.τ).loc Cert.KernelIdeal.main_v85_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85_0) = v0 c
          ∧ r.2.mem ((c.tc : Thread Cert.KernelIdeal.nD Cert.KernelIdeal.τ).loc Cert.KernelIdeal.main_v85_1) = v1 c
          ∧ r.2.mem ((c.tc : Thread Cert.KernelIdeal.nD Cert.KernelIdeal.τ).loc Cert.KernelIdeal.main_v85_2) = v2 c
          ∧ r.2.mem ((c.tc : Thread Cert.KernelIdeal.nD Cert.KernelIdeal.τ).loc Cert.KernelIdeal.main_v85_3) = v3 c
          ∧ r.2.mem ((c.tc : Thread Cert.KernelIdeal.nD Cert.KernelIdeal.τ).loc Cert.KernelIdeal.main_v85_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_v80) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_GradWeight_GradWeightIdeal : Prop :=
  True

def algebraic_GradWeightIdeal_GradWeightRefIdeal [hGradWeightIdeal : Cert.GradWeightIdeal.Facts] [hGradWeightRefIdeal : Cert.GradWeightRefIdeal.Facts] : Prop :=
  ∀ (m : (ℓ : Loc Cert.GradWeightIdeal.nD Cert.GradWeightIdeal.τ Cert.GradWeightIdeal.sig) → Buf (Elt Ideal) ℓ) (g : Dev Cert.GradWeightIdeal.nD → PrngReg)
    (m' : (ℓ : Loc Cert.GradWeightRefIdeal.nD Cert.GradWeightRefIdeal.τ Cert.GradWeightRefIdeal.sig) → Buf (Elt Ideal) ℓ) (g' : Dev Cert.GradWeightRefIdeal.nD → PrngReg), Pre_GradWeightIdeal m →
    (∀ c : Dev Cert.GradWeightIdeal.nD,
      m' ((c.tc : Thread Cert.GradWeightRefIdeal.nD Cert.GradWeightRefIdeal.τ).loc Cert.GradWeightRefIdeal.main_arg0) = m ((c.tc : Thread Cert.GradWeightIdeal.nD Cert.GradWeightIdeal.τ).loc Cert.GradWeightIdeal.main_arg0)
      ∧ m' ((c.tc : Thread Cert.GradWeightRefIdeal.nD Cert.GradWeightRefIdeal.τ).loc Cert.GradWeightRefIdeal.main_arg1) = m ((c.tc : Thread Cert.GradWeightIdeal.nD Cert.GradWeightIdeal.τ).loc Cert.GradWeightIdeal.main_arg1)) →
    ∃ (v0 : (c : Dev Cert.GradWeightIdeal.nD) → Buf (Elt Ideal) ((c.tc : Thread Cert.GradWeightIdeal.nD Cert.GradWeightIdeal.τ).loc Cert.GradWeightIdeal.main_v0)),
      θ_run (Cert.GradWeightIdeal.defs (F := Ideal)) (onTc (τ := Cert.GradWeightIdeal.τ) (Cert.GradWeightIdeal.main (F := Ideal))) ⟨m, fun _ => 0, g⟩ (fun r => ∀ c : Dev Cert.GradWeightIdeal.nD,
          r.2.mem ((c.tc : Thread Cert.GradWeightIdeal.nD Cert.GradWeightIdeal.τ).loc Cert.GradWeightIdeal.main_v0) = v0 c
          ∧ r.2.mem ((c.tc : Thread Cert.GradWeightIdeal.nD Cert.GradWeightIdeal.τ).loc Cert.GradWeightIdeal.main_arg0) = m ((c.tc : Thread Cert.GradWeightIdeal.nD Cert.GradWeightIdeal.τ).loc Cert.GradWeightIdeal.main_arg0)
          ∧ r.2.mem ((c.tc : Thread Cert.GradWeightIdeal.nD Cert.GradWeightIdeal.τ).loc Cert.GradWeightIdeal.main_arg1) = m ((c.tc : Thread Cert.GradWeightIdeal.nD Cert.GradWeightIdeal.τ).loc Cert.GradWeightIdeal.main_arg1))
      ∧ θ_run (Cert.GradWeightRefIdeal.defs (F := Ideal)) (onTc (τ := Cert.GradWeightRefIdeal.τ) (Cert.GradWeightRefIdeal.main (F := Ideal))) ⟨m', fun _ => 0, g'⟩ (fun r => ∀ c : Dev Cert.GradWeightRefIdeal.nD,
          r.2.mem ((c.tc : Thread Cert.GradWeightRefIdeal.nD Cert.GradWeightRefIdeal.τ).loc Cert.GradWeightRefIdeal.main_v5) = v0 c
          ∧ r.2.mem ((c.tc : Thread Cert.GradWeightRefIdeal.nD Cert.GradWeightRefIdeal.τ).loc Cert.GradWeightRefIdeal.main_arg0) = m' ((c.tc : Thread Cert.GradWeightRefIdeal.nD Cert.GradWeightRefIdeal.τ).loc Cert.GradWeightRefIdeal.main_arg0)
          ∧ r.2.mem ((c.tc : Thread Cert.GradWeightRefIdeal.nD Cert.GradWeightRefIdeal.τ).loc Cert.GradWeightRefIdeal.main_arg1) = m' ((c.tc : Thread Cert.GradWeightRefIdeal.nD Cert.GradWeightRefIdeal.τ).loc Cert.GradWeightRefIdeal.main_arg1))

def preserves_GradInput_GradInputIdeal : Prop :=
  True

def algebraic_GradInputIdeal_GradInputRefIdeal [hGradInputIdeal : Cert.GradInputIdeal.Facts] [hGradInputRefIdeal : Cert.GradInputRefIdeal.Facts] : Prop :=
  ∀ (m : (ℓ : Loc Cert.GradInputIdeal.nD Cert.GradInputIdeal.τ Cert.GradInputIdeal.sig) → Buf (Elt Ideal) ℓ) (g : Dev Cert.GradInputIdeal.nD → PrngReg)
    (m' : (ℓ : Loc Cert.GradInputRefIdeal.nD Cert.GradInputRefIdeal.τ Cert.GradInputRefIdeal.sig) → Buf (Elt Ideal) ℓ) (g' : Dev Cert.GradInputRefIdeal.nD → PrngReg), Pre_GradInputIdeal m →
    (∀ c : Dev Cert.GradInputIdeal.nD,
      m' ((c.tc : Thread Cert.GradInputRefIdeal.nD Cert.GradInputRefIdeal.τ).loc Cert.GradInputRefIdeal.main_arg0) = m ((c.tc : Thread Cert.GradInputIdeal.nD Cert.GradInputIdeal.τ).loc Cert.GradInputIdeal.main_arg0)
      ∧ m' ((c.tc : Thread Cert.GradInputRefIdeal.nD Cert.GradInputRefIdeal.τ).loc Cert.GradInputRefIdeal.main_arg1) = m ((c.tc : Thread Cert.GradInputIdeal.nD Cert.GradInputIdeal.τ).loc Cert.GradInputIdeal.main_arg1)) →
    ∃ (v0 : (c : Dev Cert.GradInputIdeal.nD) → Buf (Elt Ideal) ((c.tc : Thread Cert.GradInputIdeal.nD Cert.GradInputIdeal.τ).loc Cert.GradInputIdeal.main_v0)),
      θ_run (Cert.GradInputIdeal.defs (F := Ideal)) (onTc (τ := Cert.GradInputIdeal.τ) (Cert.GradInputIdeal.main (F := Ideal))) ⟨m, fun _ => 0, g⟩ (fun r => ∀ c : Dev Cert.GradInputIdeal.nD,
          r.2.mem ((c.tc : Thread Cert.GradInputIdeal.nD Cert.GradInputIdeal.τ).loc Cert.GradInputIdeal.main_v0) = v0 c
          ∧ r.2.mem ((c.tc : Thread Cert.GradInputIdeal.nD Cert.GradInputIdeal.τ).loc Cert.GradInputIdeal.main_arg0) = m ((c.tc : Thread Cert.GradInputIdeal.nD Cert.GradInputIdeal.τ).loc Cert.GradInputIdeal.main_arg0)
          ∧ r.2.mem ((c.tc : Thread Cert.GradInputIdeal.nD Cert.GradInputIdeal.τ).loc Cert.GradInputIdeal.main_arg1) = m ((c.tc : Thread Cert.GradInputIdeal.nD Cert.GradInputIdeal.τ).loc Cert.GradInputIdeal.main_arg1))
      ∧ θ_run (Cert.GradInputRefIdeal.defs (F := Ideal)) (onTc (τ := Cert.GradInputRefIdeal.τ) (Cert.GradInputRefIdeal.main (F := Ideal))) ⟨m', fun _ => 0, g'⟩ (fun r => ∀ c : Dev Cert.GradInputRefIdeal.nD,
          r.2.mem ((c.tc : Thread Cert.GradInputRefIdeal.nD Cert.GradInputRefIdeal.τ).loc Cert.GradInputRefIdeal.main_v4) = v0 c
          ∧ r.2.mem ((c.tc : Thread Cert.GradInputRefIdeal.nD Cert.GradInputRefIdeal.τ).loc Cert.GradInputRefIdeal.main_arg0) = m' ((c.tc : Thread Cert.GradInputRefIdeal.nD Cert.GradInputRefIdeal.τ).loc Cert.GradInputRefIdeal.main_arg0)
          ∧ r.2.mem ((c.tc : Thread Cert.GradInputRefIdeal.nD Cert.GradInputRefIdeal.τ).loc Cert.GradInputRefIdeal.main_arg1) = m' ((c.tc : Thread Cert.GradInputRefIdeal.nD Cert.GradInputRefIdeal.τ).loc Cert.GradInputRefIdeal.main_arg1))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v2) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v4) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradBranch_GradBranchIdeal : Prop :=
  True

def algebraic_GradBranchIdeal_GradBranchRefIdeal [hGradBranchIdeal : Cert.GradBranchIdeal.Facts] [hGradBranchRefIdeal : Cert.GradBranchRefIdeal.Facts] : Prop :=
  ∀ (m : (ℓ : Loc Cert.GradBranchIdeal.nD Cert.GradBranchIdeal.τ Cert.GradBranchIdeal.sig) → Buf (Elt Ideal) ℓ) (g : Dev Cert.GradBranchIdeal.nD → PrngReg)
    (m' : (ℓ : Loc Cert.GradBranchRefIdeal.nD Cert.GradBranchRefIdeal.τ Cert.GradBranchRefIdeal.sig) → Buf (Elt Ideal) ℓ) (g' : Dev Cert.GradBranchRefIdeal.nD → PrngReg), Pre_GradBranchIdeal m →
    (∀ c : Dev Cert.GradBranchIdeal.nD,
      m' ((c.tc : Thread Cert.GradBranchRefIdeal.nD Cert.GradBranchRefIdeal.τ).loc Cert.GradBranchRefIdeal.main_arg0) = m ((c.tc : Thread Cert.GradBranchIdeal.nD Cert.GradBranchIdeal.τ).loc Cert.GradBranchIdeal.main_arg0)
      ∧ m' ((c.tc : Thread Cert.GradBranchRefIdeal.nD Cert.GradBranchRefIdeal.τ).loc Cert.GradBranchRefIdeal.main_arg1) = m ((c.tc : Thread Cert.GradBranchIdeal.nD Cert.GradBranchIdeal.τ).loc Cert.GradBranchIdeal.main_arg1)) →
    ∃ (v0 : (c : Dev Cert.GradBranchIdeal.nD) → Buf (Elt Ideal) ((c.tc : Thread Cert.GradBranchIdeal.nD Cert.GradBranchIdeal.τ).loc Cert.GradBranchIdeal.main_v0)),
      θ_run (Cert.GradBranchIdeal.defs (F := Ideal)) (onTc (τ := Cert.GradBranchIdeal.τ) (Cert.GradBranchIdeal.main (F := Ideal))) ⟨m, fun _ => 0, g⟩ (fun r => ∀ c : Dev Cert.GradBranchIdeal.nD,
          r.2.mem ((c.tc : Thread Cert.GradBranchIdeal.nD Cert.GradBranchIdeal.τ).loc Cert.GradBranchIdeal.main_v0) = v0 c
          ∧ r.2.mem ((c.tc : Thread Cert.GradBranchIdeal.nD Cert.GradBranchIdeal.τ).loc Cert.GradBranchIdeal.main_arg0) = m ((c.tc : Thread Cert.GradBranchIdeal.nD Cert.GradBranchIdeal.τ).loc Cert.GradBranchIdeal.main_arg0)
          ∧ r.2.mem ((c.tc : Thread Cert.GradBranchIdeal.nD Cert.GradBranchIdeal.τ).loc Cert.GradBranchIdeal.main_arg1) = m ((c.tc : Thread Cert.GradBranchIdeal.nD Cert.GradBranchIdeal.τ).loc Cert.GradBranchIdeal.main_arg1))
      ∧ θ_run (Cert.GradBranchRefIdeal.defs (F := Ideal)) (onTc (τ := Cert.GradBranchRefIdeal.τ) (Cert.GradBranchRefIdeal.main (F := Ideal))) ⟨m', fun _ => 0, g'⟩ (fun r => ∀ c : Dev Cert.GradBranchRefIdeal.nD,
          r.2.mem ((c.tc : Thread Cert.GradBranchRefIdeal.nD Cert.GradBranchRefIdeal.τ).loc Cert.GradBranchRefIdeal.main_v5) = v0 c
          ∧ r.2.mem ((c.tc : Thread Cert.GradBranchRefIdeal.nD Cert.GradBranchRefIdeal.τ).loc Cert.GradBranchRefIdeal.main_arg0) = m' ((c.tc : Thread Cert.GradBranchRefIdeal.nD Cert.GradBranchRefIdeal.τ).loc Cert.GradBranchRefIdeal.main_arg0)
          ∧ r.2.mem ((c.tc : Thread Cert.GradBranchRefIdeal.nD Cert.GradBranchRefIdeal.τ).loc Cert.GradBranchRefIdeal.main_arg1) = m' ((c.tc : Thread Cert.GradBranchRefIdeal.nD Cert.GradBranchRefIdeal.τ).loc Cert.GradBranchRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v2_0)) (v1 : (c : Dev Cert.MergeIdeal.nD) → Buf (Elt Ideal) ((c.tc : Thread Cert.MergeIdeal.nD Cert.MergeIdeal.τ).loc Cert.MergeIdeal.main_v2_1)) (v2 : (c : Dev Cert.MergeIdeal.nD) → Buf (Elt Ideal) ((c.tc : Thread Cert.MergeIdeal.nD Cert.MergeIdeal.τ).loc Cert.MergeIdeal.main_v2_2)) (v3 : (c : Dev Cert.MergeIdeal.nD) → Buf (Elt Ideal) ((c.tc : Thread Cert.MergeIdeal.nD Cert.MergeIdeal.τ).loc Cert.MergeIdeal.main_v2_3)) (v4 : (c : Dev Cert.MergeIdeal.nD) → Buf (Elt Ideal) ((c.tc : Thread Cert.MergeIdeal.nD Cert.MergeIdeal.τ).loc Cert.MergeIdeal.main_v2_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2_0) = v0 c
          ∧ r.2.mem ((c.tc : Thread Cert.MergeIdeal.nD Cert.MergeIdeal.τ).loc Cert.MergeIdeal.main_v2_1) = v1 c
          ∧ r.2.mem ((c.tc : Thread Cert.MergeIdeal.nD Cert.MergeIdeal.τ).loc Cert.MergeIdeal.main_v2_2) = v2 c
          ∧ r.2.mem ((c.tc : Thread Cert.MergeIdeal.nD Cert.MergeIdeal.τ).loc Cert.MergeIdeal.main_v2_3) = v3 c
          ∧ r.2.mem ((c.tc : Thread Cert.MergeIdeal.nD Cert.MergeIdeal.τ).loc Cert.MergeIdeal.main_v2_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v46) = v0 c
          ∧ r.2.mem ((c.tc : Thread Cert.MergeRefIdeal.nD Cert.MergeRefIdeal.τ).loc Cert.MergeRefIdeal.main_v47) = v1 c
          ∧ r.2.mem ((c.tc : Thread Cert.MergeRefIdeal.nD Cert.MergeRefIdeal.τ).loc Cert.MergeRefIdeal.main_v48) = v2 c
          ∧ r.2.mem ((c.tc : Thread Cert.MergeRefIdeal.nD Cert.MergeRefIdeal.τ).loc Cert.MergeRefIdeal.main_v49) = v3 c
          ∧ r.2.mem ((c.tc : Thread Cert.MergeRefIdeal.nD Cert.MergeRefIdeal.τ).loc Cert.MergeRefIdeal.main_v50) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def Claim : Prop :=
  ∃ (hKernel : Cert.Kernel.Facts) (hKernelIdeal : Cert.KernelIdeal.Facts) (hReferenceIdeal : Cert.ReferenceIdeal.Facts) (hGradWeight : Cert.GradWeight.Facts) (hGradWeightIdeal : Cert.GradWeightIdeal.Facts) (hGradWeightRefIdeal : Cert.GradWeightRefIdeal.Facts) (hGradInput : Cert.GradInput.Facts) (hGradInputIdeal : Cert.GradInputIdeal.Facts) (hGradInputRefIdeal : Cert.GradInputRefIdeal.Facts) (hProject : Cert.Project.Facts) (hProjectIdeal : Cert.ProjectIdeal.Facts) (hProjectRefIdeal : Cert.ProjectRefIdeal.Facts) (hGradOut : Cert.GradOut.Facts) (hGradOutIdeal : Cert.GradOutIdeal.Facts) (hGradOutRefIdeal : Cert.GradOutRefIdeal.Facts) (hGradBranch : Cert.GradBranch.Facts) (hGradBranchIdeal : Cert.GradBranchIdeal.Facts) (hGradBranchRefIdeal : Cert.GradBranchRefIdeal.Facts) (hMerge : Cert.Merge.Facts) (hMergeIdeal : Cert.MergeIdeal.Facts) (hMergeRefIdeal : Cert.MergeRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GradWeight (hGradWeight := hGradWeight)
    ∧ quiescent_GradWeightIdeal (hGradWeightIdeal := hGradWeightIdeal)
    ∧ quiescent_GradWeightRefIdeal (hGradWeightRefIdeal := hGradWeightRefIdeal)
    ∧ quiescent_GradInput (hGradInput := hGradInput)
    ∧ quiescent_GradInputIdeal (hGradInputIdeal := hGradInputIdeal)
    ∧ quiescent_GradInputRefIdeal (hGradInputRefIdeal := hGradInputRefIdeal)
    ∧ quiescent_Project (hProject := hProject)
    ∧ quiescent_ProjectIdeal (hProjectIdeal := hProjectIdeal)
    ∧ quiescent_ProjectRefIdeal (hProjectRefIdeal := hProjectRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradBranch (hGradBranch := hGradBranch)
    ∧ quiescent_GradBranchIdeal (hGradBranchIdeal := hGradBranchIdeal)
    ∧ quiescent_GradBranchRefIdeal (hGradBranchRefIdeal := hGradBranchRefIdeal)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GradWeight_GradWeightIdeal
    ∧ algebraic_GradWeightIdeal_GradWeightRefIdeal (hGradWeightIdeal := hGradWeightIdeal) (hGradWeightRefIdeal := hGradWeightRefIdeal)
    ∧ preserves_GradInput_GradInputIdeal
    ∧ algebraic_GradInputIdeal_GradInputRefIdeal (hGradInputIdeal := hGradInputIdeal) (hGradInputRefIdeal := hGradInputRefIdeal)
    ∧ preserves_Project_ProjectIdeal
    ∧ algebraic_ProjectIdeal_ProjectRefIdeal (hProjectIdeal := hProjectIdeal) (hProjectRefIdeal := hProjectRefIdeal)
    ∧ preserves_GradOut_GradOutIdeal
    ∧ algebraic_GradOutIdeal_GradOutRefIdeal (hGradOutIdeal := hGradOutIdeal) (hGradOutRefIdeal := hGradOutRefIdeal)
    ∧ preserves_GradBranch_GradBranchIdeal
    ∧ algebraic_GradBranchIdeal_GradBranchRefIdeal (hGradBranchIdeal := hGradBranchIdeal) (hGradBranchRefIdeal := hGradBranchRefIdeal)
    ∧ preserves_Merge_MergeIdeal
    ∧ algebraic_MergeIdeal_MergeRefIdeal (hMergeIdeal := hMergeIdeal) (hMergeRefIdeal := hMergeRefIdeal)
-- ==== Pre_finite.lean ====
abbrev S16384x8x64 : Shape := ⟨3, ![16384, 8, 64]⟩
abbrev S8x16384 : Shape := ⟨2, ![8, 16384]⟩
abbrev S_ : Shape := ⟨0, ![]⟩

class Facts : Prop where
  bcast_S_S16384x8x64 : S_.BroadcastsInDim S16384x8x64 (![] : Fin 0 → Fin S16384x8x64.rank)
  reducesTo_S16384x8x64_S_d0_1_2 : S16384x8x64.ReducesTo [0, 1, 2] S_
  h_S_ : 0 < S_.numel
  bcast_S_S8x16384 : S_.BroadcastsInDim S8x16384 (![] : Fin 0 → Fin S8x16384.rank)
  reducesTo_S8x16384_S_d0_1 : S8x16384.ReducesTo [0, 1] S_

variable [Facts]

def fn_part1 {F : FTy → Type} [FloatOps F] (main_arg4 : FVec F S16384x8x64 .f32) (main_v13 : IVec S_ 1) (main_v16 : IVec S8x16384 1) : IVec S_ 1 :=
  let main_c_5 : IVec S_ 1 := constantI S_ 1 1#1
  let main_v17 : IVec S_ 1 := (fun x v => Host.reduce IntOp.andi x v reducesTo_S8x16384_S_d0_1 h_S_) main_v16 main_c_5
  let main_v18 : IVec S_ 1 := andi main_v13 main_v17
  let main_v19 : FVec F S16384x8x64 .f32 := Host.absf main_arg4
  let main_cst_6 : FVec F S_ .f32 := constant S_ .f32 0x7F800000#32
  let main_v20 : FVec F S16384x8x64 .f32 := broadcastInDim S16384x8x64 ![] bcast_S_S16384x8x64 main_cst_6
  let main_v21 : IVec S16384x8x64 1 := cmpf .olt main_v19 main_v20
  let main_c_7 : IVec S_ 1 := constantI S_ 1 1#1
  let main_v22 : IVec S_ 1 := (fun x v => Host.reduce IntOp.andi x v reducesTo_S16384x8x64_S_d0_1_2 h_S_) main_v21 main_c_7
  let main_v23 : IVec S_ 1 := andi main_v18 main_v22
  main_v23

def fn {F : FTy → Type} [FloatOps F] (main_arg0 : FVec F S16384x8x64 .f32) (main_arg1 : FVec F S16384x8x64 .f32) (main_arg2 : FVec F S16384x8x64 .f32) (main_arg3 : FVec F S8x16384 .f32) (main_arg4 : FVec F S16384x8x64 .f32) : IVec S_ 1 :=
  let main_v0 : FVec F S16384x8x64 .f32 := Host.absf main_arg0
  let main_cst : FVec F S_ .f32 := constant S_ .f32 0x7F800000#32
  let main_v1 : FVec F S16384x8x64 .f32 := broadcastInDim S16384x8x64 ![] bcast_S_S16384x8x64 main_cst
  let main_v2 : IVec S16384x8x64 1 := cmpf .olt main_v0 main_v1
  let main_c : IVec S_ 1 := constantI S_ 1 1#1
  let main_v3 : IVec S_ 1 := (fun x v => Host.reduce IntOp.andi x v reducesTo_S16384x8x64_S_d0_1_2 h_S_) main_v2 main_c
  let main_v4 : FVec F S16384x8x64 .f32 := Host.absf main_arg1
  let main_cst_0 : FVec F S_ .f32 := constant S_ .f32 0x7F800000#32
  let main_v5 : FVec F S16384x8x64 .f32 := broadcastInDim S16384x8x64 ![] bcast_S_S16384x8x64 main_cst_0
  let main_v6 : IVec S16384x8x64 1 := cmpf .olt main_v4 main_v5
  let main_c_1 : IVec S_ 1 := constantI S_ 1 1#1
  let main_v7 : IVec S_ 1 := (fun x v => Host.reduce IntOp.andi x v reducesTo_S16384x8x64_S_d0_1_2 h_S_) main_v6 main_c_1
  let main_v8 : IVec S_ 1 := andi main_v3 main_v7
  let main_v9 : FVec F S16384x8x64 .f32 := Host.absf main_arg2
  let main_cst_2 : FVec F S_ .f32 := constant S_ .f32 0x7F800000#32
  let main_v10 : FVec F S16384x8x64 .f32 := broadcastInDim S16384x8x64 ![] bcast_S_S16384x8x64 main_cst_2
  let main_v11 : IVec S16384x8x64 1 := cmpf .olt main_v9 main_v10
  let main_c_3 : IVec S_ 1 := constantI S_ 1 1#1
  let main_v12 : IVec S_ 1 := (fun x v => Host.reduce IntOp.andi x v reducesTo_S16384x8x64_S_d0_1_2 h_S_) main_v11 main_c_3
  let main_v13 : IVec S_ 1 := andi main_v8 main_v12
  let main_v14 : FVec F S8x16384 .f32 := Host.absf main_arg3
  let main_cst_4 : FVec F S_ .f32 := constant S_ .f32 0x7F800000#32
  let main_v15 : FVec F S8x16384 .f32 := broadcastInDim S8x16384 ![] bcast_S_S8x16384 main_cst_4
  let main_v16 : IVec S8x16384 1 := cmpf .olt main_v14 main_v15
  fn_part1 (F := F) main_arg4 main_v13 main_v16
-- ==== Kernel.lean ====
abbrev S16384x8x64 : Shape := ⟨3, ![16384, 8, 64]⟩
abbrev S8x16384 : Shape := ⟨2, ![8, 16384]⟩
abbrev S8x16384x64 : Shape := ⟨3, ![8, 16384, 64]⟩
abbrev S_ : Shape := ⟨0, ![]⟩
abbrev S8x1x16384 : Shape := ⟨3, ![8, 1, 16384]⟩
abbrev S8x3x16384 : Shape := ⟨3, ![8, 3, 16384]⟩
abbrev S8x16384x3 : Shape := ⟨3, ![8, 16384, 3]⟩
abbrev S8x16384x10 : Shape := ⟨3, ![8, 16384, 10]⟩
abbrev S8x16384x80 : Shape := ⟨3, ![8, 16384, 80]⟩
abbrev S8x64x16384 : Shape := ⟨3, ![8, 64, 16384]⟩
abbrev S8x10x16384 : Shape := ⟨3, ![8, 10, 16384]⟩
abbrev S8x80x16384 : Shape := ⟨3, ![8, 80, 16384]⟩
abbrev S8x16384x1 : Shape := ⟨3, ![8, 16384, 1]⟩
abbrev S8x16384x63 : Shape := ⟨3, ![8, 16384, 63]⟩
abbrev S8x16384x128 : Shape := ⟨3, ![8, 16384, 128]⟩
abbrev S8x16384x16384 : Shape := ⟨3, ![8, 16384, 16384]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S1x1x80 : Shape := ⟨3, ![1, 1, 80]⟩
abbrev S16384x8 : Shape := ⟨2, ![16384, 8]⟩
abbrev S1x16384x80 : Shape := ⟨3, ![1, 16384, 80]⟩
abbrev S1x512x80 : Shape := ⟨3, ![1, 512, 80]⟩
abbrev S1x64x512 : Shape := ⟨3, ![1, 64, 512]⟩
abbrev S1x512x128 : Shape := ⟨3, ![1, 512, 128]⟩
abbrev S1x16384x64 : Shape := ⟨3, ![1, 16384, 64]⟩
abbrev S1x64x16384 : Shape := ⟨3, ![1, 64, 16384]⟩
abbrev S1x512x64 : Shape := ⟨3, ![1, 512, 64]⟩
abbrev S1x1x512 : Shape := ⟨3, ![1, 1, 512]⟩
abbrev S2x512x256 : Shape := ⟨3, ![2, 512, 256]⟩
abbrev S512x80 : Shape := ⟨2, ![512, 80]⟩
abbrev S512x64 : Shape := ⟨2, ![512, 64]⟩
abbrev S512x1 : Shape := ⟨2, ![512, 1]⟩
abbrev S64x16384 : Shape := ⟨2, ![64, 16384]⟩
abbrev S1x16384 : Shape := ⟨2, ![1, 16384]⟩
abbrev S64x512 : Shape := ⟨2, ![64, 512]⟩
abbrev S1x256x80 : Shape := ⟨3, ![1, 256, 80]⟩
abbrev S256x80 : Shape := ⟨2, ![256, 80]⟩
abbrev S512x256 : Shape := ⟨2, ![512, 256]⟩
abbrev S1x512x256 : Shape := ⟨3, ![1, 512, 256]⟩
abbrev S1x256x64 : Shape := ⟨3, ![1, 256, 64]⟩
abbrev S256x64 : Shape := ⟨2, ![256, 64]⟩
abbrev S1x1x256 : Shape := ⟨3, ![1, 1, 256]⟩
abbrev S1x256 : Shape := ⟨2, ![1, 256]⟩
abbrev S512 : Shape := ⟨1, ![512]⟩
abbrev S256 : Shape := ⟨1, ![256]⟩
abbrev S1x64x256 : Shape := ⟨3, ![1, 64, 256]⟩
abbrev S64x256 : Shape := ⟨2, ![64, 256]⟩
abbrev S512x128 : Shape := ⟨2, ![512, 128]⟩
abbrev S128x128 : Shape := ⟨2, ![128, 128]⟩
abbrev S8x128 : Shape := ⟨2, ![8, 128]⟩
abbrev S8x512 : Shape := ⟨2, ![8, 512]⟩
abbrev S1x512 : Shape := ⟨2, ![1, 512]⟩

abbrev nBuf : Space → Nat
  | .hbm => 115
  | .vmem => 31
  | .smem => 0
  | _ => 0

abbrev bufTy : (tb : Table) → Fin (tcTables nBuf tb) → BufTy
  | .hbm, ⟨0, _⟩ => ⟨S16384x8x64, .f32⟩
  | .hbm, ⟨1, _⟩ => ⟨S16384x8x64, .f32⟩
  | .hbm, ⟨2, _⟩ => ⟨S16384x8x64, .f32⟩
  | .hbm, ⟨3, _⟩ => ⟨S8x16384, .f32⟩
  | .hbm, ⟨4, _⟩ => ⟨S16384x8x64, .f32⟩
  | .hbm, ⟨5, _⟩ => ⟨S8x16384x64, .f32⟩
  | .hbm, ⟨6, _⟩ => ⟨S8x16384x64, .f32⟩
  | .hbm, ⟨7, _⟩ => ⟨S8x16384x64, .bf16⟩
  | .hbm, ⟨8, _⟩ => ⟨S8x16384x64, .f32⟩
  | .hbm, ⟨9, _⟩ => ⟨S8x16384x64, .bf16⟩
  | .hbm, ⟨10, _⟩ => ⟨S_, .f32⟩
  | .hbm, ⟨11, _⟩ => ⟨S_, .f32⟩
  | .hbm, ⟨12, _⟩ => ⟨S8x16384, .f32⟩
  | .hbm, ⟨13, _⟩ => ⟨S8x16384, .f32⟩
  | .hbm, ⟨14, _⟩ => ⟨S8x16384, .bf16⟩
  | .hbm, ⟨15, _⟩ => ⟨S8x16384, .f32⟩
  | .hbm, ⟨16, _⟩ => ⟨S8x16384, .f32⟩
  | .hbm, ⟨17, _⟩ => ⟨S8x16384, .bf16⟩
  | .hbm, ⟨18, _⟩ => ⟨S8x16384, .f32⟩
  | .hbm, ⟨19, _⟩ => ⟨S8x16384, .f32⟩
  | .hbm, ⟨20, _⟩ => ⟨S8x16384, .bf16⟩
  | .hbm, ⟨21, _⟩ => ⟨S8x1x16384, .bf16⟩
  | .hbm, ⟨22, _⟩ => ⟨S8x1x16384, .bf16⟩
  | .hbm, ⟨23, _⟩ => ⟨S8x1x16384, .bf16⟩
  | .hbm, ⟨24, _⟩ => ⟨S8x3x16384, .bf16⟩
  | .hbm, ⟨25, _⟩ => ⟨S8x16384x3, .bf16⟩
  | .hbm, ⟨26, _⟩ => ⟨S_, .bf16⟩
  | .hbm, ⟨27, _⟩ => ⟨S8x16384x3, .bf16⟩
  | .hbm, ⟨28, _⟩ => ⟨S_, .bf16⟩
  | .hbm, ⟨29, _⟩ => ⟨S8x16384x10, .bf16⟩
  | .hbm, ⟨30, _⟩ => ⟨S8x16384x3, .f32⟩
  | .hbm, ⟨31, _⟩ => ⟨S8x16384x3, .f32⟩
  | .hbm, ⟨32, _⟩ => ⟨S8x16384x10, .f32⟩
  | .hbm, ⟨33, _⟩ => ⟨S8x16384x80, .f32⟩
  | .hbm, ⟨34, _⟩ => ⟨S8x16384x3, .bf16⟩
  | .hbm, ⟨35, _⟩ => ⟨S8x16384x80, .bf16⟩
  | .hbm, ⟨36, _⟩ => ⟨S8x64x16384, .bf16⟩
  | .hbm, ⟨37, _⟩ => ⟨S8x3x16384, .bf16⟩
  | .hbm, ⟨38, _⟩ => ⟨S8x3x16384, .bf16⟩
  | .hbm, ⟨39, _⟩ => ⟨S8x10x16384, .bf16⟩
  | .hbm, ⟨40, _⟩ => ⟨S8x80x16384, .bf16⟩
  | .hbm, ⟨41, _⟩ => ⟨S8x16384x1, .bf16⟩
  | .hbm, ⟨42, _⟩ => ⟨S_, .bf16⟩
  | .hbm, ⟨43, _⟩ => ⟨S8x16384x63, .bf16⟩
  | .hbm, ⟨44, _⟩ => ⟨S8x16384x128, .bf16⟩
  | .hbm, ⟨45, _⟩ => ⟨S8x16384x16384, .f32⟩
  | .hbm, ⟨46, _⟩ => ⟨S_, .f32⟩
  | .hbm, ⟨47, _⟩ => ⟨S8x16384x16384, .f32⟩
  | .hbm, ⟨48, _⟩ => ⟨S8x16384x16384, .f32⟩
  | .hbm, ⟨49, _⟩ => ⟨S8x16384x1, .f32⟩
  | .hbm, ⟨50, _⟩ => ⟨S8x16384x16384, .f32⟩
  | .hbm, ⟨51, _⟩ => ⟨S8x16384x16384, .f32⟩
  | .hbm, ⟨52, _⟩ => ⟨S8x1x16384, .f32⟩
  | .hbm, ⟨53, _⟩ => ⟨S8x16384x16384, .f32⟩
  | .hbm, ⟨54, _⟩ => ⟨S8x16384x16384, .f32⟩
  | .hbm, ⟨55, _⟩ => ⟨S16384, .i32⟩
  | .hbm, ⟨56, _⟩ => ⟨S1x1x16384, .i32⟩
  | .hbm, ⟨57, _⟩ => ⟨S1x16384x1, .i32⟩
  | .hbm, ⟨58, _⟩ => ⟨S1x16384x16384, .i32⟩
  | .hbm, ⟨59, _⟩ => ⟨S1x16384x16384, .i32⟩
  | .hbm, ⟨60, _⟩ => ⟨S1x16384x16384, .i1⟩
  | .hbm, ⟨61, _⟩ => ⟨S_, .f32⟩
  | .hbm, ⟨62, _⟩ => ⟨S_, .f32⟩
  | .hbm, ⟨63, _⟩ => ⟨S8x16384x16384, .i1⟩
  | .hbm, ⟨64, _⟩ => ⟨S8x16384x16384, .f32⟩
  | .hbm, ⟨65, _⟩ => ⟨S8x16384x16384, .f32⟩
  | .hbm, ⟨66, _⟩ => ⟨S_, .f32⟩
  | .hbm, ⟨67, _⟩ => ⟨S8x16384, .f32⟩
  | .hbm, ⟨68, _⟩ => ⟨S8x16384x1, .f32⟩
  | .hbm, ⟨69, _⟩ => ⟨S8x16384x16384, .f32⟩
  | .hbm, ⟨70, _⟩ => ⟨S8x16384x16384, .f32⟩
  | .hbm, ⟨71, _⟩ => ⟨S8x16384x16384, .f32⟩
  | .hbm, ⟨72, _⟩ => ⟨S_, .f32⟩
  | .hbm, ⟨73, _⟩ => ⟨S8x16384, .f32⟩
  | .hbm, ⟨74, _⟩ => ⟨S8x16384x1, .f32⟩
  | .hbm, ⟨75, _⟩ => ⟨S8x16384x16384, .f32⟩
  | .hbm, ⟨76, _⟩ => ⟨S8x16384x16384, .f32⟩
  | .hbm, ⟨77, _⟩ => ⟨S8x64x16384, .f32⟩
  | .hbm, ⟨78, _⟩ => ⟨S16384x8x64, .f32⟩
  | .hbm, ⟨79, _⟩ => ⟨S8x16384x1, .f32⟩
  | .hbm, ⟨80, _⟩ => ⟨S8x16384x1, .f32⟩
  | .hbm, ⟨81, _⟩ => ⟨S_, .f32⟩
  | .hbm, ⟨82, _⟩ => ⟨S_, .f32⟩
  | .hbm, ⟨83, _⟩ => ⟨S8x16384x1, .f32⟩
  | .hbm, ⟨84, _⟩ => ⟨S8x16384x1, .f32⟩
  | .hbm, ⟨85, _⟩ => ⟨S8x16384, .f32⟩
  | .hbm, ⟨86, _⟩ => ⟨S8x1x16384, .f32⟩
  | .hbm, ⟨87, _⟩ => ⟨S1x1x80, .i32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .i32⟩
  | .hbm, ⟨93, _⟩ => ⟨S1x1x80, .i32⟩
  | .hbm, ⟨94, _⟩ => ⟨S1x1x80, .i1⟩
  | .hbm, ⟨95, _⟩ => ⟨S_, .f32⟩
  | .hbm, ⟨96, _⟩ => ⟨S_, .f32⟩
  | .hbm, ⟨97, _⟩ => ⟨S1x1x80, .f32⟩
  | .hbm, ⟨98, _⟩ => ⟨S1x1x80, .f32⟩
  | .hbm, ⟨99, _⟩ => ⟨S1x1x80, .f32⟩
  | .hbm, ⟨100, _⟩ => ⟨S8x16384x80, .f32⟩
  | .hbm, ⟨101, _⟩ => ⟨S8x16384x80, .f32⟩
  | .hbm, ⟨102, _⟩ => ⟨S8x16384x80, .bf16⟩
  | .hbm, ⟨103, _⟩ => ⟨S8x16384x64, .f32⟩
  | .hbm, ⟨104, _⟩ => ⟨S8x16384x64, .bf16⟩
  | .hbm, ⟨105, _⟩ => ⟨S16384x8x64, .f32⟩
  | .hbm, ⟨106, _⟩ => ⟨S_, .f32⟩
  | .hbm, ⟨107, _⟩ => ⟨S16384x8, .f32⟩
  | .hbm, ⟨108, _⟩ => ⟨S8x16384, .f32⟩
  | .hbm, ⟨109, _⟩ => ⟨S8x1x16384, .f32⟩
  | .hbm, ⟨110, _⟩ => ⟨S8x64x16384, .f32⟩
  | .hbm, ⟨111, _⟩ => ⟨S8x16384x64, .f32⟩
  | .hbm, ⟨112, _⟩ => ⟨S8x16384x64, .f32⟩
  | .hbm, ⟨113, _⟩ => ⟨S8x1x16384, .f32⟩
  | .hbm, ⟨114, _⟩ => ⟨S8x1x16384, .f32⟩
  | .local _ .vmem, ⟨0, _⟩ => ⟨S1x16384x80, .bf16⟩
  | .local _ .vmem, ⟨1, _⟩ => ⟨S1x16384x80, .bf16⟩
  | .local _ .vmem, ⟨2, _⟩ => ⟨S1x512x80, .bf16⟩
  | .local _ .vmem, ⟨3, _⟩ => ⟨S1x512x80, .bf16⟩
  | .local _ .vmem, ⟨4, _⟩ => ⟨S1x64x512, .bf16⟩
  | .local _ .vmem, ⟨5, _⟩ => ⟨S1x64x512, .bf16⟩
  | .local _ .vmem, ⟨6, _⟩ => ⟨S1x512x128, .bf16⟩
  | .local _ .vmem, ⟨7, _⟩ => ⟨S1x512x128, .bf16⟩
  | .local _ .vmem, ⟨8, _⟩ => ⟨S1x16384x64, .bf16⟩
  | .local _ .vmem, ⟨9, _⟩ => ⟨S1x16384x64, .bf16⟩
  | .local _ .vmem, ⟨10, _⟩ => ⟨S1x1x16384, .f32⟩
  | .local _ .vmem, ⟨11, _⟩ => ⟨S1x1x16384, .f32⟩
  | .local _ .vmem, ⟨12, _⟩ => ⟨S1x1x16384, .f32⟩
  | .local _ .vmem, ⟨13, _⟩ => ⟨S1x1x16384, .f32⟩
  | .local _ .vmem, ⟨14, _⟩ => ⟨S1x64x16384, .f32⟩
  | .local _ .vmem, ⟨15, _⟩ => ⟨S1x64x16384, .f32⟩
  | .local _ .vmem, ⟨16, _⟩ => ⟨S1x512x64, .f32⟩
  | .local _ .vmem, ⟨17, _⟩ => ⟨S1x512x64, .f32⟩
  | .local _ .vmem, ⟨18, _⟩ => ⟨S1x512x64, .f32⟩
  | .local _ .vmem, ⟨19, _⟩ => ⟨S1x512x64, .f32⟩
  | .local _ .vmem, ⟨20, _⟩ => ⟨S1x1x512, .f32⟩
  | .local _ .vmem, ⟨21, _⟩ => ⟨S1x1x512, .f32⟩
  | .local _ .vmem, ⟨22, _⟩ => ⟨S1x1x16384, .f32⟩
  | .local _ .vmem, ⟨23, _⟩ => ⟨S1x1x16384, .f32⟩
  | .local _ .vmem, ⟨24, _⟩ => ⟨S2x512x256, .f32⟩
  | .local _ .vmem, ⟨25, _⟩ => ⟨S2x512x256, .f32⟩
  | .local _ .vmem, ⟨26, _⟩ => ⟨S2x512x256, .bf16⟩
  | .local _ .vmem, ⟨27, _⟩ => ⟨S2x512x256, .bf16⟩
  | .local _ .vmem, ⟨28, _⟩ => ⟨S512x80, .f32⟩
  | .local _ .vmem, ⟨29, _⟩ => ⟨S512x64, .f32⟩
  | .local _ .vmem, ⟨30, _⟩ => ⟨S512x1, .f32⟩
  | _, _ => ⟨S16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_4 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_8 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_c : Ref sig .tc := ⟨.hbm, 92, rfl⟩
abbrev main_v73 : Ref sig .tc := ⟨.hbm, 93, rfl⟩
abbrev main_v74 : Ref sig .tc := ⟨.hbm, 94, rfl⟩
abbrev main_cst_10 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_11 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85_0 : Ref sig .tc := ⟨.hbm, 110, rfl⟩
abbrev main_v85_1 : Ref sig .tc := ⟨.hbm, 111, rfl⟩
abbrev main_v85_2 : Ref sig .tc := ⟨.hbm, 112, rfl⟩
abbrev main_v85_3 : Ref sig .tc := ⟨.hbm, 113, rfl⟩
abbrev main_v85_4 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let c2_i32 : BitVec 32 := 2#32
  let arg1 : BitVec 32 := BitVec.ofNat 32 (i 1).val
  let v21 : BitVec 32 := Scalar.muli c2_i32 arg1
  let c256_i32 : BitVec 32 := 256#32
  let v22 : BitVec 32 := Scalar.muli v21 c256_i32
  v22
def k0_off1 (i : grid0.Coords) : Fin 3 → Nat :=
  let c0_17 : Index := 0#32
  let c2_i32 : BitVec 32 := 2#32
  let arg1 : BitVec 32 := BitVec.ofNat 32 (i 1).val
  let v21 : BitVec 32 := Scalar.muli c2_i32 arg1
  let c256_i32 : BitVec 32 := 256#32
  let v22 : BitVec 32 := Scalar.muli v21 c256_i32
  let v23 : BitVec 32 := v22
  let v24 : Index := Scalar.indexCast v23
  let c0_18 : Index := 0#32
  ![0, v24.toNat, 0]
def k0_off2 (i : grid0.Coords) : Fin 3 → Nat :=
  let c0_23 : Index := 0#32
  let c2_i32 : BitVec 32 := 2#32
  let arg1 : BitVec 32 := BitVec.ofNat 32 (i 1).val
  let v21 : BitVec 32 := Scalar.muli c2_i32 arg1
  let c256_i32 : BitVec 32 := 256#32
  let v22 : BitVec 32 := Scalar.muli v21 c256_i32
  let v23 : BitVec 32 := v22
  let v31 : Index := Scalar.indexCast v23
  let c0_24 : Index := 0#32
  ![0, v31.toNat, 0]
def k0_mult2 (i : grid0.Coords) : BitVec 32 :=
  let c2_i32_29 : BitVec 32 := 2#32
  let arg1 : BitVec 32 := BitVec.ofNat 32 (i 1).val
  let v38 : BitVec 32 := Scalar.muli c2_i32_29 arg1
  let c1_i32 : BitVec 32 := 1#32
  let v39 : BitVec 32 := Scalar.addi v38 c1_i32
  let c63_i32 : BitVec 32 := 63#32
  let v40 : BitVec 32 := Scalar.minsi v39 c63_i32
  let c256_i32_30 : BitVec 32 := 256#32
  let v41 : BitVec 32 := Scalar.muli v40 c256_i32_30
  v41
def k0_off3 (i : grid0.Coords) : Fin 3 → Nat :=
  let c0_31 : Index := 0#32
  let c2_i32_29 : BitVec 32 := 2#32
  let arg1 : BitVec 32 := BitVec.ofNat 32 (i 1).val
  let v38 : BitVec 32 := Scalar.muli c2_i32_29 arg1
  let c1_i32 : BitVec 32 := 1#32
  let v39 : BitVec 32 := Scalar.addi v38 c1_i32
  let c63_i32 : BitVec 32 := 63#32
  let v40 : BitVec 32 := Scalar.minsi v39 c63_i32
  let c256_i32_30 : BitVec 32 := 256#32
  let v41 : BitVec 32 := Scalar.muli v40 c256_i32_30
  let v42 : BitVec 32 := v41
  let v43 : Index := Scalar.indexCast v42
  let c0_32 : Index := 0#32
  ![0, v43.toNat, 0]
def k0_off4 (i : grid0.Coords) : Fin 3 → Nat :=
  let c0_36 : Index := 0#32
  let c2_i32_29 : BitVec 32 := 2#32
  let arg1 : BitVec 32 := BitVec.ofNat 32 (i 1).val
  let v38 : BitVec 32 := Scalar.muli c2_i32_29 arg1
  let c1_i32 : BitVec 32 := 1#32
  let v39 : BitVec 32 := Scalar.addi v38 c1_i32
  let c63_i32 : BitVec 32 := 63#32
  let v40 : BitVec 32 := Scalar.minsi v39 c63_i32
  let c256_i32_30 : BitVec 32 := 256#32
  let v41 : BitVec 32 := Scalar.muli v40 c256_i32_30
  let v42 : BitVec 32 := v41
  let v50 : Index := Scalar.indexCast v42
  let c0_37 : Index := 0#32
  ![0, v50.toNat, 0]
def k0_mult3 (i : grid0.Coords) : BitVec 32 :=
  let c2_i32_29 : BitVec 32 := 2#32
  let arg1 : BitVec 32 := BitVec.ofNat 32 (i 1).val
  let v38 : BitVec 32 := Scalar.muli c2_i32_29 arg1
  let c256_i32_42 : BitVec 32 := 256#32
  let v57 : BitVec 32 := Scalar.muli v38 c256_i32_42
  v57
def k0_off5 (i : grid0.Coords) : Fin 3 → Nat :=
  let c0_48 : Index := 0#32
  let c0_49 : Index := 0#32
  let c2_i32_29 : BitVec 32 := 2#32
  let arg1 : BitVec 32 := BitVec.ofNat 32 (i 1).val
  let v38 : BitVec 32 := Scalar.muli c2_i32_29 arg1
  let c256_i32_42 : BitVec 32 := 256#32
  let v57 : BitVec 32 := Scalar.muli v38 c256_i32_42
  let v58 : BitVec 32 := v57
  let v68 : Index := Scalar.indexCast v58
  ![0, 0, v68.toNat]
def k0_mult4 (i : grid0.Coords) : BitVec 32 :=
  let c2_i32_71 : BitVec 32 := 2#32
  let arg1 : BitVec 32 := BitVec.ofNat 32 (i 1).val
  let v107 : BitVec 32 := Scalar.muli c2_i32_71 arg1
  let c1_i32_72 : BitVec 32 := 1#32
  let v108 : BitVec 32 := Scalar.addi v107 c1_i32_72
  let c1_i32_73 : BitVec 32 := 1#32
  let v109 : BitVec 32 := Scalar.addi v108 c1_i32_73
  let c63_i32_74 : BitVec 32 := 63#32
  let v110 : BitVec 32 := Scalar.minsi v109 c63_i32_74
  let c256_i32_75 : BitVec 32 := 256#32
  let v111 : BitVec 32 := Scalar.muli v110 c256_i32_75
  v111
def k0_off6 (i : grid0.Coords) : Fin 3 → Nat :=
  let c0_76 : Index := 0#32
  let c2_i32_71 : BitVec 32 := 2#32
  let arg1 : BitVec 32 := BitVec.ofNat 32 (i 1).val
  let v107 : BitVec 32 := Scalar.muli c2_i32_71 arg1
  let c1_i32_72 : BitVec 32 := 1#32
  let v108 : BitVec 32 := Scalar.addi v107 c1_i32_72
  let c1_i32_73 : BitVec 32 := 1#32
  let v109 : BitVec 32 := Scalar.addi v108 c1_i32_73
  let c63_i32_74 : BitVec 32 := 63#32
  let v110 : BitVec 32 := Scalar.minsi v109 c63_i32_74
  let c256_i32_75 : BitVec 32 := 256#32
  let v111 : BitVec 32 := Scalar.muli v110 c256_i32_75
  let v112 : BitVec 32 := v111
  let v113 : Index := Scalar.indexCast v112
  let c0_77 : Index := 0#32
  ![0, v113.toNat, 0]
def k0_off7 (i : grid0.Coords) : Fin 3 → Nat :=
  let c0_82 : Index := 0#32
  let c2_i32_71 : BitVec 32 := 2#32
  let arg1 : BitVec 32 := BitVec.ofNat 32 (i 1).val
  let v107 : BitVec 32 := Scalar.muli c2_i32_71 arg1
  let c1_i32_72 : BitVec 32 := 1#32
  let v108 : BitVec 32 := Scalar.addi v107 c1_i32_72
  let c1_i32_73 : BitVec 32 := 1#32
  let v109 : BitVec 32 := Scalar.addi v108 c1_i32_73
  let c63_i32_74 : BitVec 32 := 63#32
  let v110 : BitVec 32 := Scalar.minsi v109 c63_i32_74
  let c256_i32_75 : BitVec 32 := 256#32
  let v111 : BitVec 32 := Scalar.muli v110 c256_i32_75
  let v112 : BitVec 32 := v111
  let v120 : Index := Scalar.indexCast v112
  let c0_83 : Index := 0#32
  ![0, v120.toNat, 0]
def k0_mult5 (i : grid0.Coords) : BitVec 32 :=
  let c2_i32_71 : BitVec 32 := 2#32
  let arg1 : BitVec 32 := BitVec.ofNat 32 (i 1).val
  let v107 : BitVec 32 := Scalar.muli c2_i32_71 arg1
  let c1_i32_72 : BitVec 32 := 1#32
  let v108 : BitVec 32 := Scalar.addi v107 c1_i32_72
  let c1_i32_88 : BitVec 32 := 1#32
  let v127 : BitVec 32 := Scalar.subi v108 c1_i32_88
  let c256_i32_89 : BitVec 32 := 256#32
  let v128 : BitVec 32 := Scalar.muli v127 c256_i32_89
  v128
def k0_off8 (i : grid0.Coords) : Fin 3 → Nat :=
  let c0_98 : Index := 0#32
  let c2_i32_71 : BitVec 32 := 2#32
  let arg1 : BitVec 32 := BitVec.ofNat 32 (i 1).val
  let v107 : BitVec 32 := Scalar.muli c2_i32_71 arg1
  let c1_i32_72 : BitVec 32 := 1#32
  let v108 : BitVec 32 := Scalar.addi v107 c1_i32_72
  let c1_i32_88 : BitVec 32 := 1#32
  let v127 : BitVec 32 := Scalar.subi v108 c1_i32_88
  let c256_i32_89 : BitVec 32 := 256#32
  let v128 : BitVec 32 := Scalar.muli v127 c256_i32_89
  let v129 : BitVec 32 := v128
  let v135 : Index := Scalar.indexCast v129
  let c0_99 : Index := 0#32
  ![0, v135.toNat, 0]
def k0_off9 (i : grid0.Coords) : Fin 3 → Nat :=
  let c0_105 : Index := 0#32
  let c2_i32_71 : BitVec 32 := 2#32
  let arg1 : BitVec 32 := BitVec.ofNat 32 (i 1).val
  let v107 : BitVec 32 := Scalar.muli c2_i32_71 arg1
  let c1_i32_72 : BitVec 32 := 1#32
  let v108 : BitVec 32 := Scalar.addi v107 c1_i32_72
  let c1_i32_88 : BitVec 32 := 1#32
  let v127 : BitVec 32 := Scalar.subi v108 c1_i32_88
  let c256_i32_89 : BitVec 32 := 256#32
  let v128 : BitVec 32 := Scalar.muli v127 c256_i32_89
  let v129 : BitVec 32 := v128
  let v144 : Index := Scalar.indexCast v129
  let c0_106 : Index := 0#32
  ![0, v144.toNat, 0]
def k0_off10 (i : grid0.Coords) : Fin 3 → Nat :=
  let c0_110 : Index := 0#32
  let c0_111 : Index := 0#32
  let c2_i32_71 : BitVec 32 := 2#32
  let arg1 : BitVec 32 := BitVec.ofNat 32 (i 1).val
  let v107 : BitVec 32 := Scalar.muli c2_i32_71 arg1
  let c1_i32_72 : BitVec 32 := 1#32
  let v108 : BitVec 32 := Scalar.addi v107 c1_i32_72
  let c1_i32_88 : BitVec 32 := 1#32
  let v127 : BitVec 32 := Scalar.subi v108 c1_i32_88
  let c256_i32_89 : BitVec 32 := 256#32
  let v128 : BitVec 32 := Scalar.muli v127 c256_i32_89
  let v129 : BitVec 32 := v128
  let v152 : Index := Scalar.indexCast v129
  ![0, 0, v152.toNat]
def k0_mult6 (i : grid0.Coords) : BitVec 32 :=
  let c2_i32_71 : BitVec 32 := 2#32
  let arg1 : BitVec 32 := BitVec.ofNat 32 (i 1).val
  let v107 : BitVec 32 := Scalar.muli c2_i32_71 arg1
  let c1_i32_72 : BitVec 32 := 1#32
  let v108 : BitVec 32 := Scalar.addi v107 c1_i32_72
  let c256_i32_116 : BitVec 32 := 256#32
  let v163 : BitVec 32 := Scalar.muli v108 c256_i32_116
  v163
def k0_off11 (i : grid0.Coords) : Fin 3 → Nat :=
  let c0_122 : Index := 0#32
  let c0_123 : Index := 0#32
  let c2_i32_71 : BitVec 32 := 2#32
  let arg1 : BitVec 32 := BitVec.ofNat 32 (i 1).val
  let v107 : BitVec 32 := Scalar.muli c2_i32_71 arg1
  let c1_i32_72 : BitVec 32 := 1#32
  let v108 : BitVec 32 := Scalar.addi v107 c1_i32_72
  let c256_i32_116 : BitVec 32 := 256#32
  let v163 : BitVec 32 := Scalar.muli v108 c256_i32_116
  let v164 : BitVec 32 := v163
  let v174 : Index := Scalar.indexCast v164
  ![0, 0, v174.toNat]
@[reducible] def k0_t1_loop (i : grid0.Coords) : Scf.Loop 32 :=
  let c0_i32_152 : BitVec 32 := 0#32
  let c31_i32 : BitVec 32 := 31#32
  let arg1 : BitVec 32 := BitVec.ofNat 32 (i 1).val
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_155 : BitVec 32 := 1#32
  ⟨c0_i32_152, v235, c1_i32_155⟩
def k0_mult7 (i : grid0.Coords) (k0_t1 : Fin (k0_t1_loop i).trips) : BitVec 32 :=
  let c2_i32_212 : BitVec 32 := 2#32
  let arg1 : BitVec 32 := BitVec.ofNat 32 (i 1).val
  let c1_i32_210 : BitVec 32 := 1#32
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v313 : BitVec 32 := Scalar.muli c2_i32_212 v312
  let c1_i32_213 : BitVec 32 := 1#32
  let v314 : BitVec 32 := Scalar.addi v313 c1_i32_213
  let c63_i32_214 : BitVec 32 := 63#32
  let v315 : BitVec 32 := Scalar.minsi v314 c63_i32_214
  let c256_i32_215 : BitVec 32 := 256#32
  let v316 : BitVec 32 := Scalar.muli v315 c256_i32_215
  v316
def k0_off12 (i : grid0.Coords) (k0_t1 : Fin (k0_t1_loop i).trips) (c1_i32_210 : BitVec 32) : Fin 3 → Nat :=
  let c0_216 : Index := 0#32
  let c2_i32_212 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v313 : BitVec 32 := Scalar.muli c2_i32_212 v312
  let c1_i32_213 : BitVec 32 := 1#32
  let v314 : BitVec 32 := Scalar.addi v313 c1_i32_213
  let c63_i32_214 : BitVec 32 := 63#32
  let v315 : BitVec 32 := Scalar.minsi v314 c63_i32_214
  let c256_i32_215 : BitVec 32 := 256#32
  let v316 : BitVec 32 := Scalar.muli v315 c256_i32_215
  let v317 : BitVec 32 := v316
  let v318 : Index := Scalar.indexCast v317
  let c0_217 : Index := 0#32
  ![0, v318.toNat, 0]
def k0_off13 (i : grid0.Coords) (k0_t1 : Fin (k0_t1_loop i).trips) (c1_i32_210 : BitVec 32) : Fin 3 → Nat :=
  let c0_222 : Index := 0#32
  let c2_i32_212 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v313 : BitVec 32 := Scalar.muli c2_i32_212 v312
  let c1_i32_213 : BitVec 32 := 1#32
  let v314 : BitVec 32 := Scalar.addi v313 c1_i32_213
  let c63_i32_214 : BitVec 32 := 63#32
  let v315 : BitVec 32 := Scalar.minsi v314 c63_i32_214
  let c256_i32_215 : BitVec 32 := 256#32
  let v316 : BitVec 32 := Scalar.muli v315 c256_i32_215
  let v317 : BitVec 32 := v316
  let v325 : Index := Scalar.indexCast v317
  let c0_223 : Index := 0#32
  ![0, v325.toNat, 0]
def k0_mult8 (i : grid0.Coords) (k0_t1 : Fin (k0_t1_loop i).trips) : BitVec 32 :=
  let c2_i32_212 : BitVec 32 := 2#32
  let arg1 : BitVec 32 := BitVec.ofNat 32 (i 1).val
  let c1_i32_210 : BitVec 32 := 1#32
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v313 : BitVec 32 := Scalar.muli c2_i32_212 v312
  let c1_i32_228 : BitVec 32 := 1#32
  let v332 : BitVec 32 := Scalar.subi v313 c1_i32_228
  let c256_i32_229 : BitVec 32 := 256#32
  let v333 : BitVec 32 := Scalar.muli v332 c256_i32_229
  v333
def k0_off14 (i : grid0.Coords) (k0_t1 : Fin (k0_t1_loop i).trips) (c1_i32_210 : BitVec 32) : Fin 3 → Nat :=
  let c0_238 : Index := 0#32
  let c2_i32_212 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v313 : BitVec 32 := Scalar.muli c2_i32_212 v312
  let c1_i32_228 : BitVec 32 := 1#32
  let v332 : BitVec 32 := Scalar.subi v313 c1_i32_228
  let c256_i32_229 : BitVec 32 := 256#32
  let v333 : BitVec 32 := Scalar.muli v332 c256_i32_229
  let v334 : BitVec 32 := v333
  let v340 : Index := Scalar.indexCast v334
  let c0_239 : Index := 0#32
  ![0, v340.toNat, 0]
def k0_off15 (i : grid0.Coords) (k0_t1 : Fin (k0_t1_loop i).trips) (c1_i32_210 : BitVec 32) : Fin 3 → Nat :=
  let c0_245 : Index := 0#32
  let c2_i32_212 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v313 : BitVec 32 := Scalar.muli c2_i32_212 v312
  let c1_i32_228 : BitVec 32 := 1#32
  let v332 : BitVec 32 := Scalar.subi v313 c1_i32_228
  let c256_i32_229 : BitVec 32 := 256#32
  let v333 : BitVec 32 := Scalar.muli v332 c256_i32_229
  let v334 : BitVec 32 := v333
  let v349 : Index := Scalar.indexCast v334
  let c0_246 : Index := 0#32
  ![0, v349.toNat, 0]
def k0_off16 (i : grid0.Coords) (k0_t1 : Fin (k0_t1_loop i).trips) (c1_i32_210 : BitVec 32) : Fin 3 → Nat :=
  let c0_250 : Index := 0#32
  let c0_251 : Index := 0#32
  let c2_i32_212 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v313 : BitVec 32 := Scalar.muli c2_i32_212 v312
  let c1_i32_228 : BitVec 32 := 1#32
  let v332 : BitVec 32 := Scalar.subi v313 c1_i32_228
  let c256_i32_229 : BitVec 32 := 256#32
  let v333 : BitVec 32 := Scalar.muli v332 c256_i32_229
  let v334 : BitVec 32 := v333
  let v357 : Index := Scalar.indexCast v334
  ![0, 0, v357.toNat]
def k0_mult9 (i : grid0.Coords) (k0_t1 : Fin (k0_t1_loop i).trips) : BitVec 32 :=
  let c2_i32_212 : BitVec 32 := 2#32
  let arg1 : BitVec 32 := BitVec.ofNat 32 (i 1).val
  let c1_i32_210 : BitVec 32 := 1#32
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v313 : BitVec 32 := Scalar.muli c2_i32_212 v312
  let c256_i32_256 : BitVec 32 := 256#32
  let v368 : BitVec 32 := Scalar.muli v313 c256_i32_256
  v368
def k0_off17 (i : grid0.Coords) (k0_t1 : Fin (k0_t1_loop i).trips) (c1_i32_210 : BitVec 32) : Fin 3 → Nat :=
  let c0_260 : Index := 0#32
  let c0_261 : Index := 0#32
  let c2_i32_212 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v313 : BitVec 32 := Scalar.muli c2_i32_212 v312
  let c256_i32_256 : BitVec 32 := 256#32
  let v368 : BitVec 32 := Scalar.muli v313 c256_i32_256
  let v369 : BitVec 32 := v368
  let v372 : Index := Scalar.indexCast v369
  ![0, 0, v372.toNat]
def k0_mult10 (i : grid0.Coords) (k0_t1 : Fin (k0_t1_loop i).trips) : BitVec 32 :=
  let c2_i32_283 : BitVec 32 := 2#32
  let arg1 : BitVec 32 := BitVec.ofNat 32 (i 1).val
  let c1_i32_210 : BitVec 32 := 1#32
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c1_i32_285 : BitVec 32 := 1#32
  let v413 : BitVec 32 := Scalar.addi v412 c1_i32_285
  let c63_i32_286 : BitVec 32 := 63#32
  let v414 : BitVec 32 := Scalar.minsi v413 c63_i32_286
  let c256_i32_287 : BitVec 32 := 256#32
  let v415 : BitVec 32 := Scalar.muli v414 c256_i32_287
  v415
def k0_off18 (i : grid0.Coords) (k0_t1 : Fin (k0_t1_loop i).trips) (c1_i32_210 : BitVec 32) : Fin 3 → Nat :=
  let c0_288 : Index := 0#32
  let c2_i32_283 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c1_i32_285 : BitVec 32 := 1#32
  let v413 : BitVec 32 := Scalar.addi v412 c1_i32_285
  let c63_i32_286 : BitVec 32 := 63#32
  let v414 : BitVec 32 := Scalar.minsi v413 c63_i32_286
  let c256_i32_287 : BitVec 32 := 256#32
  let v415 : BitVec 32 := Scalar.muli v414 c256_i32_287
  let v416 : BitVec 32 := v415
  let v417 : Index := Scalar.indexCast v416
  let c0_289 : Index := 0#32
  ![0, v417.toNat, 0]
def k0_off19 (i : grid0.Coords) (k0_t1 : Fin (k0_t1_loop i).trips) (c1_i32_210 : BitVec 32) : Fin 3 → Nat :=
  let c0_294 : Index := 0#32
  let c2_i32_283 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c1_i32_285 : BitVec 32 := 1#32
  let v413 : BitVec 32 := Scalar.addi v412 c1_i32_285
  let c63_i32_286 : BitVec 32 := 63#32
  let v414 : BitVec 32 := Scalar.minsi v413 c63_i32_286
  let c256_i32_287 : BitVec 32 := 256#32
  let v415 : BitVec 32 := Scalar.muli v414 c256_i32_287
  let v416 : BitVec 32 := v415
  let v424 : Index := Scalar.indexCast v416
  let c0_295 : Index := 0#32
  ![0, v424.toNat, 0]
def k0_mult11 (i : grid0.Coords) (k0_t1 : Fin (k0_t1_loop i).trips) : BitVec 32 :=
  let c2_i32_283 : BitVec 32 := 2#32
  let arg1 : BitVec 32 := BitVec.ofNat 32 (i 1).val
  let c1_i32_210 : BitVec 32 := 1#32
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c1_i32_300 : BitVec 32 := 1#32
  let v431 : BitVec 32 := Scalar.subi v412 c1_i32_300
  let c256_i32_301 : BitVec 32 := 256#32
  let v432 : BitVec 32 := Scalar.muli v431 c256_i32_301
  v432
def k0_off20 (i : grid0.Coords) (k0_t1 : Fin (k0_t1_loop i).trips) (c1_i32_210 : BitVec 32) : Fin 3 → Nat :=
  let c0_310 : Index := 0#32
  let c2_i32_283 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c1_i32_300 : BitVec 32 := 1#32
  let v431 : BitVec 32 := Scalar.subi v412 c1_i32_300
  let c256_i32_301 : BitVec 32 := 256#32
  let v432 : BitVec 32 := Scalar.muli v431 c256_i32_301
  let v433 : BitVec 32 := v432
  let v439 : Index := Scalar.indexCast v433
  let c0_311 : Index := 0#32
  ![0, v439.toNat, 0]
def k0_off21 (i : grid0.Coords) (k0_t1 : Fin (k0_t1_loop i).trips) (c1_i32_210 : BitVec 32) : Fin 3 → Nat :=
  let c0_317 : Index := 0#32
  let c2_i32_283 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c1_i32_300 : BitVec 32 := 1#32
  let v431 : BitVec 32 := Scalar.subi v412 c1_i32_300
  let c256_i32_301 : BitVec 32 := 256#32
  let v432 : BitVec 32 := Scalar.muli v431 c256_i32_301
  let v433 : BitVec 32 := v432
  let v448 : Index := Scalar.indexCast v433
  let c0_318 : Index := 0#32
  ![0, v448.toNat, 0]
def k0_off22 (i : grid0.Coords) (k0_t1 : Fin (k0_t1_loop i).trips) (c1_i32_210 : BitVec 32) : Fin 3 → Nat :=
  let c0_322 : Index := 0#32
  let c0_323 : Index := 0#32
  let c2_i32_283 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c1_i32_300 : BitVec 32 := 1#32
  let v431 : BitVec 32 := Scalar.subi v412 c1_i32_300
  let c256_i32_301 : BitVec 32 := 256#32
  let v432 : BitVec 32 := Scalar.muli v431 c256_i32_301
  let v433 : BitVec 32 := v432
  let v456 : Index := Scalar.indexCast v433
  ![0, 0, v456.toNat]
def k0_mult12 (i : grid0.Coords) (k0_t1 : Fin (k0_t1_loop i).trips) : BitVec 32 :=
  let c2_i32_283 : BitVec 32 := 2#32
  let arg1 : BitVec 32 := BitVec.ofNat 32 (i 1).val
  let c1_i32_210 : BitVec 32 := 1#32
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c256_i32_328 : BitVec 32 := 256#32
  let v467 : BitVec 32 := Scalar.muli v412 c256_i32_328
  v467
def k0_off23 (i : grid0.Coords) (k0_t1 : Fin (k0_t1_loop i).trips) (c1_i32_210 : BitVec 32) : Fin 3 → Nat :=
  let c0_332 : Index := 0#32
  let c0_333 : Index := 0#32
  let c2_i32_283 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c1_i32_155 : BitVec 32 := 1#32
  let arg21 : BitVec 32 := Scf.iv c0_i32_152 c1_i32_155 k0_t1
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c256_i32_328 : BitVec 32 := 256#32
  let v467 : BitVec 32 := Scalar.muli v412 c256_i32_328
  let v468 : BitVec 32 := v467
  let v471 : Index := Scalar.indexCast v468
  ![0, 0, v471.toNat]
def k0_mult13 (i : grid0.Coords) (k0_t1 : Fin (k0_t1_loop i).trips) : BitVec 32 :=
  let c2_i32_357 : BitVec 32 := 2#32
  let arg1 : BitVec 32 := BitVec.ofNat 32 (i 1).val
  let c2_i32_355 : BitVec 32 := 2#32
  let v510 : BitVec 32 := Scalar.addi arg1 c2_i32_355
  let c2_i32_356 : BitVec 32 := 2#32
  let c0_i32_152 : BitVec 32 := 0#32
  let c1_i32_155 : BitVec 32 := 1#32
  let arg21 : BitVec 32 := Scf.iv c0_i32_152 c1_i32_155 k0_t1
  let v511 : BitVec 32 := Scalar.muli c2_i32_356 arg21
  let v512 : BitVec 32 := Scalar.addi v510 v511
  let v513 : BitVec 32 := Scalar.muli c2_i32_357 v512
  let c1_i32_358 : BitVec 32 := 1#32
  let v514 : BitVec 32 := Scalar.addi v513 c1_i32_358
  let c63_i32_359 : BitVec 32 := 63#32
  let v515 : BitVec 32 := Scalar.minsi v514 c63_i32_359
  let c256_i32_360 : BitVec 32 := 256#32
  let v516 : BitVec 32 := Scalar.muli v515 c256_i32_360
  v516
def k0_mult14 (i : grid0.Coords) (k0_t1 : Fin (k0_t1_loop i).trips) : BitVec 32 :=
  let c2_i32_357 : BitVec 32 := 2#32
  let arg1 : BitVec 32 := BitVec.ofNat 32 (i 1).val
  let c2_i32_355 : BitVec 32 := 2#32
  let v510 : BitVec 32 := Scalar.addi arg1 c2_i32_355
  let c2_i32_356 : BitVec 32 := 2#32
  let c0_i32_152 : BitVec 32 := 0#32
  let c1_i32_155 : BitVec 32 := 1#32
  let arg21 : BitVec 32 := Scf.iv c0_i32_152 c1_i32_155 k0_t1
  let v511 : BitVec 32 := Scalar.muli c2_i32_356 arg21
  let v512 : BitVec 32 := Scalar.addi v510 v511
  let v513 : BitVec 32 := Scalar.muli c2_i32_357 v512
  let c1_i32_373 : BitVec 32 := 1#32
  let v532 : BitVec 32 := Scalar.subi v513 c1_i32_373
  let c256_i32_374 : BitVec 32 := 256#32
  let v533 : BitVec 32 := Scalar.muli v532 c256_i32_374
  v533
def k0_mult15 (i : grid0.Coords) (k0_t1 : Fin (k0_t1_loop i).trips) : BitVec 32 :=
  let c2_i32_357 : BitVec 32 := 2#32
  let arg1 : BitVec 32 := BitVec.ofNat 32 (i 1).val
  let c2_i32_355 : BitVec 32 := 2#32
  let v510 : BitVec 32 := Scalar.addi arg1 c2_i32_355
  let c2_i32_356 : BitVec 32 := 2#32
  let c0_i32_152 : BitVec 32 := 0#32
  let c1_i32_155 : BitVec 32 := 1#32
  let arg21 : BitVec 32 := Scf.iv c0_i32_152 c1_i32_155 k0_t1
  let v511 : BitVec 32 := Scalar.muli c2_i32_356 arg21
  let v512 : BitVec 32 := Scalar.addi v510 v511
  let v513 : BitVec 32 := Scalar.muli c2_i32_357 v512
  let c256_i32_401 : BitVec 32 := 256#32
  let v568 : BitVec 32 := Scalar.muli v513 c256_i32_401
  v568
def k0_mult16 (i : grid0.Coords) (k0_t1 : Fin (k0_t1_loop i).trips) : BitVec 32 :=
  let c2_i32_428 : BitVec 32 := 2#32
  let arg1 : BitVec 32 := BitVec.ofNat 32 (i 1).val
  let c2_i32_355 : BitVec 32 := 2#32
  let v510 : BitVec 32 := Scalar.addi arg1 c2_i32_355
  let c2_i32_356 : BitVec 32 := 2#32
  let c0_i32_152 : BitVec 32 := 0#32
  let c1_i32_155 : BitVec 32 := 1#32
  let arg21 : BitVec 32 := Scf.iv c0_i32_152 c1_i32_155 k0_t1
  let v511 : BitVec 32 := Scalar.muli c2_i32_356 arg21
  let v512 : BitVec 32 := Scalar.addi v510 v511
  let v611 : BitVec 32 := Scalar.muli c2_i32_428 v512
  let c1_i32_429 : BitVec 32 := 1#32
  let v612 : BitVec 32 := Scalar.addi v611 c1_i32_429
  let c1_i32_430 : BitVec 32 := 1#32
  let v613 : BitVec 32 := Scalar.addi v612 c1_i32_430
  let c63_i32_431 : BitVec 32 := 63#32
  let v614 : BitVec 32 := Scalar.minsi v613 c63_i32_431
  let c256_i32_432 : BitVec 32 := 256#32
  let v615 : BitVec 32 := Scalar.muli v614 c256_i32_432
  v615
def k0_mult17 (i : grid0.Coords) (k0_t1 : Fin (k0_t1_loop i).trips) : BitVec 32 :=
  let c2_i32_428 : BitVec 32 := 2#32
  let arg1 : BitVec 32 := BitVec.ofNat 32 (i 1).val
  let c2_i32_355 : BitVec 32 := 2#32
  let v510 : BitVec 32 := Scalar.addi arg1 c2_i32_355
  let c2_i32_356 : BitVec 32 := 2#32
  let c0_i32_152 : BitVec 32 := 0#32
  let c1_i32_155 : BitVec 32 := 1#32
  let arg21 : BitVec 32 := Scf.iv c0_i32_152 c1_i32_155 k0_t1
  let v511 : BitVec 32 := Scalar.muli c2_i32_356 arg21
  let v512 : BitVec 32 := Scalar.addi v510 v511
  let v611 : BitVec 32 := Scalar.muli c2_i32_428 v512
  let c1_i32_429 : BitVec 32 := 1#32
  let v612 : BitVec 32 := Scalar.addi v611 c1_i32_429
  let c1_i32_445 : BitVec 32 := 1#32
  let v631 : BitVec 32 := Scalar.subi v612 c1_i32_445
  let c256_i32_446 : BitVec 32 := 256#32
  let v632 : BitVec 32 := Scalar.muli v631 c256_i32_446
  v632
def k0_mult18 (i : grid0.Coords) (k0_t1 : Fin (k0_t1_loop i).trips) : BitVec 32 :=
  let c2_i32_428 : BitVec 32 := 2#32
  let arg1 : BitVec 32 := BitVec.ofNat 32 (i 1).val
  let c2_i32_355 : BitVec 32 := 2#32
  let v510 : BitVec 32 := Scalar.addi arg1 c2_i32_355
  let c2_i32_356 : BitVec 32 := 2#32
  let c0_i32_152 : BitVec 32 := 0#32
  let c1_i32_155 : BitVec 32 := 1#32
  let arg21 : BitVec 32 := Scf.iv c0_i32_152 c1_i32_155 k0_t1
  let v511 : BitVec 32 := Scalar.muli c2_i32_356 arg21
  let v512 : BitVec 32 := Scalar.addi v510 v511
  let v611 : BitVec 32 := Scalar.muli c2_i32_428 v512
  let c1_i32_429 : BitVec 32 := 1#32
  let v612 : BitVec 32 := Scalar.addi v611 c1_i32_429
  let c256_i32_473 : BitVec 32 := 256#32
  let v667 : BitVec 32 := Scalar.muli v612 c256_i32_473
  v667
@[reducible] def k0_t2_loop (i : grid0.Coords) : Scf.Loop 32 :=
  let c0_i32_152 : BitVec 32 := 0#32
  let c31_i32 : BitVec 32 := 31#32
  let arg1 : BitVec 32 := BitVec.ofNat 32 (i 1).val
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let v232 : BitVec 32 := Scalar.addi c0_i32_152 v231
  let c1_i32_156 : BitVec 32 := 1#32
  ⟨v235, v232, c1_i32_156⟩
def k0_mult19 (i : grid0.Coords) (k0_t2 : Fin (k0_t2_loop i).trips) : BitVec 32 :=
  let c2_i32_212 : BitVec 32 := 2#32
  let arg1 : BitVec 32 := BitVec.ofNat 32 (i 1).val
  let c1_i32_210 : BitVec 32 := 1#32
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v313 : BitVec 32 := Scalar.muli c2_i32_212 v312
  let c1_i32_213 : BitVec 32 := 1#32
  let v314 : BitVec 32 := Scalar.addi v313 c1_i32_213
  let c63_i32_214 : BitVec 32 := 63#32
  let v315 : BitVec 32 := Scalar.minsi v314 c63_i32_214
  let c256_i32_215 : BitVec 32 := 256#32
  let v316 : BitVec 32 := Scalar.muli v315 c256_i32_215
  v316
def k0_off24 (i : grid0.Coords) (k0_t2 : Fin (k0_t2_loop i).trips) (c1_i32_210 : BitVec 32) : Fin 3 → Nat :=
  let c0_216 : Index := 0#32
  let c2_i32_212 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v313 : BitVec 32 := Scalar.muli c2_i32_212 v312
  let c1_i32_213 : BitVec 32 := 1#32
  let v314 : BitVec 32 := Scalar.addi v313 c1_i32_213
  let c63_i32_214 : BitVec 32 := 63#32
  let v315 : BitVec 32 := Scalar.minsi v314 c63_i32_214
  let c256_i32_215 : BitVec 32 := 256#32
  let v316 : BitVec 32 := Scalar.muli v315 c256_i32_215
  let v317 : BitVec 32 := v316
  let v318 : Index := Scalar.indexCast v317
  let c0_217 : Index := 0#32
  ![0, v318.toNat, 0]
def k0_off25 (i : grid0.Coords) (k0_t2 : Fin (k0_t2_loop i).trips) (c1_i32_210 : BitVec 32) : Fin 3 → Nat :=
  let c0_222 : Index := 0#32
  let c2_i32_212 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v313 : BitVec 32 := Scalar.muli c2_i32_212 v312
  let c1_i32_213 : BitVec 32 := 1#32
  let v314 : BitVec 32 := Scalar.addi v313 c1_i32_213
  let c63_i32_214 : BitVec 32 := 63#32
  let v315 : BitVec 32 := Scalar.minsi v314 c63_i32_214
  let c256_i32_215 : BitVec 32 := 256#32
  let v316 : BitVec 32 := Scalar.muli v315 c256_i32_215
  let v317 : BitVec 32 := v316
  let v325 : Index := Scalar.indexCast v317
  let c0_223 : Index := 0#32
  ![0, v325.toNat, 0]
def k0_mult20 (i : grid0.Coords) (k0_t2 : Fin (k0_t2_loop i).trips) : BitVec 32 :=
  let c2_i32_212 : BitVec 32 := 2#32
  let arg1 : BitVec 32 := BitVec.ofNat 32 (i 1).val
  let c1_i32_210 : BitVec 32 := 1#32
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v313 : BitVec 32 := Scalar.muli c2_i32_212 v312
  let c1_i32_228 : BitVec 32 := 1#32
  let v332 : BitVec 32 := Scalar.subi v313 c1_i32_228
  let c256_i32_229 : BitVec 32 := 256#32
  let v333 : BitVec 32 := Scalar.muli v332 c256_i32_229
  v333
def k0_off26 (i : grid0.Coords) (k0_t2 : Fin (k0_t2_loop i).trips) (c1_i32_210 : BitVec 32) : Fin 3 → Nat :=
  let c0_238 : Index := 0#32
  let c2_i32_212 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v313 : BitVec 32 := Scalar.muli c2_i32_212 v312
  let c1_i32_228 : BitVec 32 := 1#32
  let v332 : BitVec 32 := Scalar.subi v313 c1_i32_228
  let c256_i32_229 : BitVec 32 := 256#32
  let v333 : BitVec 32 := Scalar.muli v332 c256_i32_229
  let v334 : BitVec 32 := v333
  let v340 : Index := Scalar.indexCast v334
  let c0_239 : Index := 0#32
  ![0, v340.toNat, 0]
def k0_off27 (i : grid0.Coords) (k0_t2 : Fin (k0_t2_loop i).trips) (c1_i32_210 : BitVec 32) : Fin 3 → Nat :=
  let c0_245 : Index := 0#32
  let c2_i32_212 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v313 : BitVec 32 := Scalar.muli c2_i32_212 v312
  let c1_i32_228 : BitVec 32 := 1#32
  let v332 : BitVec 32 := Scalar.subi v313 c1_i32_228
  let c256_i32_229 : BitVec 32 := 256#32
  let v333 : BitVec 32 := Scalar.muli v332 c256_i32_229
  let v334 : BitVec 32 := v333
  let v349 : Index := Scalar.indexCast v334
  let c0_246 : Index := 0#32
  ![0, v349.toNat, 0]
def k0_off28 (i : grid0.Coords) (k0_t2 : Fin (k0_t2_loop i).trips) (c1_i32_210 : BitVec 32) : Fin 3 → Nat :=
  let c0_250 : Index := 0#32
  let c0_251 : Index := 0#32
  let c2_i32_212 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v313 : BitVec 32 := Scalar.muli c2_i32_212 v312
  let c1_i32_228 : BitVec 32 := 1#32
  let v332 : BitVec 32 := Scalar.subi v313 c1_i32_228
  let c256_i32_229 : BitVec 32 := 256#32
  let v333 : BitVec 32 := Scalar.muli v332 c256_i32_229
  let v334 : BitVec 32 := v333
  let v357 : Index := Scalar.indexCast v334
  ![0, 0, v357.toNat]
def k0_mult21 (i : grid0.Coords) (k0_t2 : Fin (k0_t2_loop i).trips) : BitVec 32 :=
  let c2_i32_212 : BitVec 32 := 2#32
  let arg1 : BitVec 32 := BitVec.ofNat 32 (i 1).val
  let c1_i32_210 : BitVec 32 := 1#32
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v313 : BitVec 32 := Scalar.muli c2_i32_212 v312
  let c256_i32_256 : BitVec 32 := 256#32
  let v368 : BitVec 32 := Scalar.muli v313 c256_i32_256
  v368
def k0_off29 (i : grid0.Coords) (k0_t2 : Fin (k0_t2_loop i).trips) (c1_i32_210 : BitVec 32) : Fin 3 → Nat :=
  let c0_260 : Index := 0#32
  let c0_261 : Index := 0#32
  let c2_i32_212 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v313 : BitVec 32 := Scalar.muli c2_i32_212 v312
  let c256_i32_256 : BitVec 32 := 256#32
  let v368 : BitVec 32 := Scalar.muli v313 c256_i32_256
  let v369 : BitVec 32 := v368
  let v372 : Index := Scalar.indexCast v369
  ![0, 0, v372.toNat]
def k0_mult22 (i : grid0.Coords) (k0_t2 : Fin (k0_t2_loop i).trips) : BitVec 32 :=
  let c2_i32_283 : BitVec 32 := 2#32
  let arg1 : BitVec 32 := BitVec.ofNat 32 (i 1).val
  let c1_i32_210 : BitVec 32 := 1#32
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c1_i32_285 : BitVec 32 := 1#32
  let v413 : BitVec 32 := Scalar.addi v412 c1_i32_285
  let c63_i32_286 : BitVec 32 := 63#32
  let v414 : BitVec 32 := Scalar.minsi v413 c63_i32_286
  let c256_i32_287 : BitVec 32 := 256#32
  let v415 : BitVec 32 := Scalar.muli v414 c256_i32_287
  v415
def k0_off30 (i : grid0.Coords) (k0_t2 : Fin (k0_t2_loop i).trips) (c1_i32_210 : BitVec 32) : Fin 3 → Nat :=
  let c0_288 : Index := 0#32
  let c2_i32_283 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c1_i32_285 : BitVec 32 := 1#32
  let v413 : BitVec 32 := Scalar.addi v412 c1_i32_285
  let c63_i32_286 : BitVec 32 := 63#32
  let v414 : BitVec 32 := Scalar.minsi v413 c63_i32_286
  let c256_i32_287 : BitVec 32 := 256#32
  let v415 : BitVec 32 := Scalar.muli v414 c256_i32_287
  let v416 : BitVec 32 := v415
  let v417 : Index := Scalar.indexCast v416
  let c0_289 : Index := 0#32
  ![0, v417.toNat, 0]
def k0_off31 (i : grid0.Coords) (k0_t2 : Fin (k0_t2_loop i).trips) (c1_i32_210 : BitVec 32) : Fin 3 → Nat :=
  let c0_294 : Index := 0#32
  let c2_i32_283 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c1_i32_285 : BitVec 32 := 1#32
  let v413 : BitVec 32 := Scalar.addi v412 c1_i32_285
  let c63_i32_286 : BitVec 32 := 63#32
  let v414 : BitVec 32 := Scalar.minsi v413 c63_i32_286
  let c256_i32_287 : BitVec 32 := 256#32
  let v415 : BitVec 32 := Scalar.muli v414 c256_i32_287
  let v416 : BitVec 32 := v415
  let v424 : Index := Scalar.indexCast v416
  let c0_295 : Index := 0#32
  ![0, v424.toNat, 0]
def k0_mult23 (i : grid0.Coords) (k0_t2 : Fin (k0_t2_loop i).trips) : BitVec 32 :=
  let c2_i32_283 : BitVec 32 := 2#32
  let arg1 : BitVec 32 := BitVec.ofNat 32 (i 1).val
  let c1_i32_210 : BitVec 32 := 1#32
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c1_i32_300 : BitVec 32 := 1#32
  let v431 : BitVec 32 := Scalar.subi v412 c1_i32_300
  let c256_i32_301 : BitVec 32 := 256#32
  let v432 : BitVec 32 := Scalar.muli v431 c256_i32_301
  v432
def k0_off32 (i : grid0.Coords) (k0_t2 : Fin (k0_t2_loop i).trips) (c1_i32_210 : BitVec 32) : Fin 3 → Nat :=
  let c0_310 : Index := 0#32
  let c2_i32_283 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c1_i32_300 : BitVec 32 := 1#32
  let v431 : BitVec 32 := Scalar.subi v412 c1_i32_300
  let c256_i32_301 : BitVec 32 := 256#32
  let v432 : BitVec 32 := Scalar.muli v431 c256_i32_301
  let v433 : BitVec 32 := v432
  let v439 : Index := Scalar.indexCast v433
  let c0_311 : Index := 0#32
  ![0, v439.toNat, 0]
def k0_off33 (i : grid0.Coords) (k0_t2 : Fin (k0_t2_loop i).trips) (c1_i32_210 : BitVec 32) : Fin 3 → Nat :=
  let c0_317 : Index := 0#32
  let c2_i32_283 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c1_i32_300 : BitVec 32 := 1#32
  let v431 : BitVec 32 := Scalar.subi v412 c1_i32_300
  let c256_i32_301 : BitVec 32 := 256#32
  let v432 : BitVec 32 := Scalar.muli v431 c256_i32_301
  let v433 : BitVec 32 := v432
  let v448 : Index := Scalar.indexCast v433
  let c0_318 : Index := 0#32
  ![0, v448.toNat, 0]
def k0_off34 (i : grid0.Coords) (k0_t2 : Fin (k0_t2_loop i).trips) (c1_i32_210 : BitVec 32) : Fin 3 → Nat :=
  let c0_322 : Index := 0#32
  let c0_323 : Index := 0#32
  let c2_i32_283 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c1_i32_300 : BitVec 32 := 1#32
  let v431 : BitVec 32 := Scalar.subi v412 c1_i32_300
  let c256_i32_301 : BitVec 32 := 256#32
  let v432 : BitVec 32 := Scalar.muli v431 c256_i32_301
  let v433 : BitVec 32 := v432
  let v456 : Index := Scalar.indexCast v433
  ![0, 0, v456.toNat]
def k0_mult24 (i : grid0.Coords) (k0_t2 : Fin (k0_t2_loop i).trips) : BitVec 32 :=
  let c2_i32_283 : BitVec 32 := 2#32
  let arg1 : BitVec 32 := BitVec.ofNat 32 (i 1).val
  let c1_i32_210 : BitVec 32 := 1#32
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c256_i32_328 : BitVec 32 := 256#32
  let v467 : BitVec 32 := Scalar.muli v412 c256_i32_328
  v467
def k0_off35 (i : grid0.Coords) (k0_t2 : Fin (k0_t2_loop i).trips) (c1_i32_210 : BitVec 32) : Fin 3 → Nat :=
  let c0_332 : Index := 0#32
  let c0_333 : Index := 0#32
  let c2_i32_283 : BitVec 32 := 2#32
  let arg1 : BitVec 32 := BitVec.ofNat 32 (i 1).val
  let v310 : BitVec 32 := Scalar.addi arg1 c1_i32_210
  let c2_i32_211 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v311 : BitVec 32 := Scalar.muli c2_i32_211 arg21
  let v312 : BitVec 32 := Scalar.addi v310 v311
  let v411 : BitVec 32 := Scalar.muli c2_i32_283 v312
  let c1_i32_284 : BitVec 32 := 1#32
  let v412 : BitVec 32 := Scalar.addi v411 c1_i32_284
  let c256_i32_328 : BitVec 32 := 256#32
  let v467 : BitVec 32 := Scalar.muli v412 c256_i32_328
  let v468 : BitVec 32 := v467
  let v471 : Index := Scalar.indexCast v468
  ![0, 0, v471.toNat]
def k0_mult25 (i : grid0.Coords) (k0_t2 : Fin (k0_t2_loop i).trips) : BitVec 32 :=
  let c2_i32_357 : BitVec 32 := 2#32
  let arg1 : BitVec 32 := BitVec.ofNat 32 (i 1).val
  let c2_i32_355 : BitVec 32 := 2#32
  let v510 : BitVec 32 := Scalar.addi arg1 c2_i32_355
  let c2_i32_356 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v511 : BitVec 32 := Scalar.muli c2_i32_356 arg21
  let v512 : BitVec 32 := Scalar.addi v510 v511
  let v513 : BitVec 32 := Scalar.muli c2_i32_357 v512
  let c1_i32_358 : BitVec 32 := 1#32
  let v514 : BitVec 32 := Scalar.addi v513 c1_i32_358
  let c63_i32_359 : BitVec 32 := 63#32
  let v515 : BitVec 32 := Scalar.minsi v514 c63_i32_359
  let c256_i32_360 : BitVec 32 := 256#32
  let v516 : BitVec 32 := Scalar.muli v515 c256_i32_360
  v516
def k0_mult26 (i : grid0.Coords) (k0_t2 : Fin (k0_t2_loop i).trips) : BitVec 32 :=
  let c2_i32_357 : BitVec 32 := 2#32
  let arg1 : BitVec 32 := BitVec.ofNat 32 (i 1).val
  let c2_i32_355 : BitVec 32 := 2#32
  let v510 : BitVec 32 := Scalar.addi arg1 c2_i32_355
  let c2_i32_356 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v511 : BitVec 32 := Scalar.muli c2_i32_356 arg21
  let v512 : BitVec 32 := Scalar.addi v510 v511
  let v513 : BitVec 32 := Scalar.muli c2_i32_357 v512
  let c1_i32_373 : BitVec 32 := 1#32
  let v532 : BitVec 32 := Scalar.subi v513 c1_i32_373
  let c256_i32_374 : BitVec 32 := 256#32
  let v533 : BitVec 32 := Scalar.muli v532 c256_i32_374
  v533
def k0_mult27 (i : grid0.Coords) (k0_t2 : Fin (k0_t2_loop i).trips) : BitVec 32 :=
  let c2_i32_357 : BitVec 32 := 2#32
  let arg1 : BitVec 32 := BitVec.ofNat 32 (i 1).val
  let c2_i32_355 : BitVec 32 := 2#32
  let v510 : BitVec 32 := Scalar.addi arg1 c2_i32_355
  let c2_i32_356 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v511 : BitVec 32 := Scalar.muli c2_i32_356 arg21
  let v512 : BitVec 32 := Scalar.addi v510 v511
  let v513 : BitVec 32 := Scalar.muli c2_i32_357 v512
  let c256_i32_401 : BitVec 32 := 256#32
  let v568 : BitVec 32 := Scalar.muli v513 c256_i32_401
  v568
def k0_mult28 (i : grid0.Coords) (k0_t2 : Fin (k0_t2_loop i).trips) : BitVec 32 :=
  let c2_i32_428 : BitVec 32 := 2#32
  let arg1 : BitVec 32 := BitVec.ofNat 32 (i 1).val
  let c2_i32_355 : BitVec 32 := 2#32
  let v510 : BitVec 32 := Scalar.addi arg1 c2_i32_355
  let c2_i32_356 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v511 : BitVec 32 := Scalar.muli c2_i32_356 arg21
  let v512 : BitVec 32 := Scalar.addi v510 v511
  let v611 : BitVec 32 := Scalar.muli c2_i32_428 v512
  let c1_i32_429 : BitVec 32 := 1#32
  let v612 : BitVec 32 := Scalar.addi v611 c1_i32_429
  let c1_i32_430 : BitVec 32 := 1#32
  let v613 : BitVec 32 := Scalar.addi v612 c1_i32_430
  let c63_i32_431 : BitVec 32 := 63#32
  let v614 : BitVec 32 := Scalar.minsi v613 c63_i32_431
  let c256_i32_432 : BitVec 32 := 256#32
  let v615 : BitVec 32 := Scalar.muli v614 c256_i32_432
  v615
def k0_mult29 (i : grid0.Coords) (k0_t2 : Fin (k0_t2_loop i).trips) : BitVec 32 :=
  let c2_i32_428 : BitVec 32 := 2#32
  let arg1 : BitVec 32 := BitVec.ofNat 32 (i 1).val
  let c2_i32_355 : BitVec 32 := 2#32
  let v510 : BitVec 32 := Scalar.addi arg1 c2_i32_355
  let c2_i32_356 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v511 : BitVec 32 := Scalar.muli c2_i32_356 arg21
  let v512 : BitVec 32 := Scalar.addi v510 v511
  let v611 : BitVec 32 := Scalar.muli c2_i32_428 v512
  let c1_i32_429 : BitVec 32 := 1#32
  let v612 : BitVec 32 := Scalar.addi v611 c1_i32_429
  let c1_i32_445 : BitVec 32 := 1#32
  let v631 : BitVec 32 := Scalar.subi v612 c1_i32_445
  let c256_i32_446 : BitVec 32 := 256#32
  let v632 : BitVec 32 := Scalar.muli v631 c256_i32_446
  v632
def k0_mult30 (i : grid0.Coords) (k0_t2 : Fin (k0_t2_loop i).trips) : BitVec 32 :=
  let c2_i32_428 : BitVec 32 := 2#32
  let arg1 : BitVec 32 := BitVec.ofNat 32 (i 1).val
  let c2_i32_355 : BitVec 32 := 2#32
  let v510 : BitVec 32 := Scalar.addi arg1 c2_i32_355
  let c2_i32_356 : BitVec 32 := 2#32
  let c0_i32_152 : BitVec 32 := 0#32
  let c31_i32 : BitVec 32 := 31#32
  let v213 : BitVec 32 := Scalar.subi c31_i32 arg1
  let c0_i32_146 : BitVec 32 := 0#32
  let v215 : BitVec 1 := Scalar.cmpi .sgt v213 c0_i32_146
  let v216 : BitVec 32 := Scalar.extui v215
  let c0_i32_147 : BitVec 32 := 0#32
  let v217 : BitVec 1 := Scalar.cmpi .slt v213 c0_i32_147
  let v218 : BitVec 32 := Scalar.extui v217
  let v219 : BitVec 32 := Scalar.subi v216 v218
  let c2_i32_145 : BitVec 32 := 2#32
  let c0_i32_148 : BitVec 32 := 0#32
  let v220 : BitVec 1 := Scalar.cmpi .sgt c2_i32_145 c0_i32_148
  let v221 : BitVec 32 := Scalar.extui v220
  let c0_i32_149 : BitVec 32 := 0#32
  let v222 : BitVec 1 := Scalar.cmpi .slt c2_i32_145 c0_i32_149
  let v223 : BitVec 32 := Scalar.extui v222
  let v224 : BitVec 32 := Scalar.subi v221 v223
  let v225 : BitVec 1 := Scalar.cmpi .ne v219 v224
  let v226 : BitVec 32 := Scalar.remsi v213 c2_i32_145
  let c0_i32_150 : BitVec 32 := 0#32
  let v227 : BitVec 1 := Scalar.cmpi .ne v226 c0_i32_150
  let v228 : BitVec 1 := Scalar.andi v225 v227
  let v214 : BitVec 32 := Scalar.divsi v213 c2_i32_145
  let c1_i32_151 : BitVec 32 := 1#32
  let v229 : BitVec 32 := Scalar.subi v214 c1_i32_151
  let v230 : BitVec 32 := Scalar.select v228 v229 v214
  let v231 : BitVec 32 := Scalar.subi v230 c0_i32_152
  let c1_i32_154 : BitVec 32 := 1#32
  let v233 : BitVec 32 := Scalar.divsi v231 c1_i32_154
  let v234 : BitVec 32 := Scalar.muli v233 c1_i32_154
  let v235 : BitVec 32 := Scalar.addi c0_i32_152 v234
  let c1_i32_156 : BitVec 32 := 1#32
  let arg21 : BitVec 32 := Scf.iv v235 c1_i32_156 k0_t2
  let v511 : BitVec 32 := Scalar.muli c2_i32_356 arg21
  let v512 : BitVec 32 := Scalar.addi v510 v511
  let v611 : BitVec 32 := Scalar.muli c2_i32_428 v512
  let c1_i32_429 : BitVec 32 := 1#32
  let v612 : BitVec 32 := Scalar.addi v611 c1_i32_429
  let c256_i32_473 : BitVec 32 := 256#32
  let v667 : BitVec 32 := Scalar.muli v612 c256_i32_473
  v667
def k0_cond2 (i : grid0.Coords) : BitVec 1 :=
  let c31_i32 : BitVec 32 := 31#32
  let arg1 : BitVec 32 := BitVec.ofNat 32 (i 1).val
  let v213 : BitVec 32 := Scalar.subi c31_i32 arg1
  let c2_i32_157 : BitVec 32 := 2#32
  let c0_i32_158 : BitVec 32 := 0#32
  let v238 : BitVec 1 := Scalar.cmpi .eq c2_i32_157 c0_i32_158
  let c1_i32_159 : BitVec 32 := 1#32
  let v239 : BitVec 32 := Scalar.select v238 c1_i32_159 c2_i32_157
  let v240 : BitVec 32 := Scalar.remsi v213 v239
  let c0_i32_161 : BitVec 32 := 0#32
  let v242 : BitVec 1 := Scalar.cmpi .slt v240 c0_i32_161
  let c0_i32_162 : BitVec 32 := 0#32
  let v243 : BitVec 1 := Scalar.cmpi .slt v239 c0_i32_162
  let v244 : BitVec 1 := Scalar.xori v242 v243
  let c0_i32_160 : BitVec 32 := 0#32
  let v241 : BitVec 1 := Scalar.cmpi .ne v240 c0_i32_160
  let v245 : BitVec 1 := Scalar.andi v244 v241
  let v246 : BitVec 32 := Scalar.addi v240 v239
  let v247 : BitVec 32 := Scalar.select v245 v246 v240
  let c1_i32_163 : BitVec 32 := 1#32
  let v248 : BitVec 1 := Scalar.cmpi .eq v247 c1_i32_163
  let v249 : BitVec 32 := Scalar.extui v248
  let c0_i32_164 : BitVec 32 := 0#32
  let v250 : BitVec 1 := Scalar.cmpi .ne v249 c0_i32_164
  v250

def k0_mult31 : BitVec 32 :=
  let c63_i32_210 : BitVec 32 := 63#32
  let c63_i32_211 : BitVec 32 := 63#32
  let v310 : BitVec 32 := Scalar.minsi c63_i32_210 c63_i32_211
  let c256_i32_212 : BitVec 32 := 256#32
  let v311 : BitVec 32 := Scalar.muli v310 c256_i32_212
  v311
def k0_off36 (c63_i32_210 : BitVec 32) : Fin 3 → Nat :=
  let c0_213 : Index := 0#32
  let c63_i32_211 : BitVec 32 := 63#32
  let v310 : BitVec 32 := Scalar.minsi c63_i32_210 c63_i32_211
  let c256_i32_212 : BitVec 32 := 256#32
  let v311 : BitVec 32 := Scalar.muli v310 c256_i32_212
  let v312 : BitVec 32 := v311
  let v313 : Index := Scalar.indexCast v312
  let c0_214 : Index := 0#32
  ![0, v313.toNat, 0]
def k0_off37 (c63_i32_210 : BitVec 32) : Fin 3 → Nat :=
  let c0_219 : Index := 0#32
  let c63_i32_211 : BitVec 32 := 63#32
  let v310 : BitVec 32 := Scalar.minsi c63_i32_210 c63_i32_211
  let c256_i32_212 : BitVec 32 := 256#32
  let v311 : BitVec 32 := Scalar.muli v310 c256_i32_212
  let v312 : BitVec 32 := v311
  let v320 : Index := Scalar.indexCast v312
  let c0_220 : Index := 0#32
  ![0, v320.toNat, 0]
def k0_mult32 : BitVec 32 :=
  let c15616_i32 : BitVec 32 := 15616#32
  c15616_i32
def k0_mult33 : BitVec 32 :=
  let c15872_i32 : BitVec 32 := 15872#32
  c15872_i32
def k0_mult34 : BitVec 32 :=
  let c64_i32 : BitVec 32 := 64#32
  let c63_i32_277 : BitVec 32 := 63#32
  let v403 : BitVec 32 := Scalar.minsi c64_i32 c63_i32_277
  let c256_i32_278 : BitVec 32 := 256#32
  let v404 : BitVec 32 := Scalar.muli v403 c256_i32_278
  v404
def k0_mult35 : BitVec 32 :=
  let c15872_i32_291 : BitVec 32 := 15872#32
  c15872_i32_291
def k0_mult36 : BitVec 32 :=
  let c16128_i32_318 : BitVec 32 := 16128#32
  c16128_i32_318
def k0_mult37 : BitVec 32 :=
  let c16128_i32 : BitVec 32 := 16128#32
  c16128_i32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384x80 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x80 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16384x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x16384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S16384x8x64 : Shape := ⟨3, ![16384, 8, 64]⟩
abbrev S8x16384 : Shape := ⟨2, ![8, 16384]⟩
abbrev S8x16384x16384 : Shape := ⟨3, ![8, 16384, 16384]⟩
abbrev S_ : Shape := ⟨0, ![]⟩
abbrev S8x16384x1 : Shape := ⟨3, ![8, 16384, 1]⟩
abbrev S8x1x16384 : Shape := ⟨3, ![8, 1, 16384]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S8x64x16384 : Shape := ⟨3, ![8, 64, 16384]⟩
abbrev S8x16384x64 : Shape := ⟨3, ![8, 16384, 64]⟩

abbrev nBuf : Space → Nat
  | .hbm => 112
  | .vmem => 0
  | .smem => 0
  | _ => 0

abbrev bufTy : (tb : Table) → Fin (tcTables nBuf tb) → BufTy
  | .hbm, ⟨0, _⟩ => ⟨S16384x8x64, .f32⟩
  | .hbm, ⟨1, _⟩ => ⟨S16384x8x64, .f32⟩
  | .hbm, ⟨2, _⟩ => ⟨S16384x8x64, .f32⟩
  | .hbm, ⟨3, _⟩ => ⟨S8x16384, .f32⟩
  | .hbm, ⟨4, _⟩ => ⟨S16384x8x64, .f32⟩
  | .hbm, ⟨5, _⟩ => ⟨S8x16384x16384, .f32⟩
  | .hbm, ⟨6, _⟩ => ⟨S_, .f32⟩
  | .hbm, ⟨7, _⟩ => ⟨S8x16384x16384, .f32⟩
  | .hbm, ⟨8, _⟩ => ⟨S8x16384x16384, .f32⟩
  | .hbm, ⟨9, _⟩ => ⟨S8x16384x1, .f32⟩
  | .hbm, ⟨10, _⟩ => ⟨S8x16384x16384, .f32⟩
  | .hbm, ⟨11, _⟩ => ⟨S8x16384x16384, .f32⟩
  | .hbm, ⟨12, _⟩ => ⟨S8x1x16384, .f32⟩
  | .hbm, ⟨13, _⟩ => ⟨S8x16384x16384, .f32⟩
  | .hbm, ⟨14, _⟩ => ⟨S8x16384x16384, .f32⟩
  | .hbm, ⟨15, _⟩ => ⟨S16384, .i32⟩
  | .hbm, ⟨16, _⟩ => ⟨S1x1x16384, .i32⟩
  | .hbm, ⟨17, _⟩ => ⟨S1x16384x1, .i32⟩
  | .hbm, ⟨18, _⟩ => ⟨S1x16384x16384, .i32⟩
  | .hbm, ⟨19, _⟩ => ⟨S1x16384x16384, .i32⟩
  | .hbm, ⟨20, _⟩ => ⟨S1x16384x16384, .i1⟩
  | .hbm, ⟨21, _⟩ => ⟨S_, .f32⟩
  | .hbm, ⟨22, _⟩ => ⟨S_, .f32⟩
  | .hbm, ⟨23, _⟩ => ⟨S8x16384x16384, .i1⟩
  | .hbm, ⟨24, _⟩ => ⟨S8x16384x16384, .f32⟩
  | .hbm, ⟨25, _⟩ => ⟨S8x16384x16384, .f32⟩
  | .hbm, ⟨26, _⟩ => ⟨S_, .f32⟩
  | .hbm, ⟨27, _⟩ => ⟨S8x16384x16384, .f32⟩
  | .hbm, ⟨28, _⟩ => ⟨S_, .f32⟩
  | .hbm, ⟨29, _⟩ => ⟨S8x16384, .f32⟩
  | .hbm, ⟨30, _⟩ => ⟨S8x16384x1, .f32⟩
  | .hbm, ⟨31, _⟩ => ⟨S8x16384x16384, .f32⟩
  | .hbm, ⟨32, _⟩ => ⟨S8x16384x16384, .i1⟩
  | .hbm, ⟨33, _⟩ => ⟨S8x16384x16384, .f32⟩
  | .hbm, ⟨34, _⟩ => ⟨S_, .f32⟩
  | .hbm, ⟨35, _⟩ => ⟨S8x16384, .f32⟩
  | .hbm, ⟨36, _⟩ => ⟨S_, .f32⟩
  | .hbm, ⟨37, _⟩ => ⟨S8x16384, .f32⟩
  | .hbm, ⟨38, _⟩ => ⟨S8x16384, .f32⟩
  | .hbm, ⟨39, _⟩ => ⟨S_, .f32⟩
  | .hbm, ⟨40, _⟩ => ⟨S8x16384, .f32⟩
  | .hbm, ⟨41, _⟩ => ⟨S8x16384, .i1⟩
  | .hbm, ⟨42, _⟩ => ⟨S_, .f32⟩
  | .hbm, ⟨43, _⟩ => ⟨S8x16384, .f32⟩
  | .hbm, ⟨44, _⟩ => ⟨S8x16384, .i1⟩
  | .hbm, ⟨45, _⟩ => ⟨S_, .f32⟩
  | .hbm, ⟨46, _⟩ => ⟨S8x16384, .f32⟩
  | .hbm, ⟨47, _⟩ => ⟨S_, .f32⟩
  | .hbm, ⟨48, _⟩ => ⟨S8x16384, .f32⟩
  | .hbm, ⟨49, _⟩ => ⟨S_, .f32⟩
  | .hbm, ⟨50, _⟩ => ⟨S8x16384, .f32⟩
  | .hbm, ⟨51, _⟩ => ⟨S8x16384, .f32⟩
  | .hbm, ⟨52, _⟩ => ⟨S8x16384, .f32⟩
  | .hbm, ⟨53, _⟩ => ⟨S8x16384x1, .f32⟩
  | .hbm, ⟨54, _⟩ => ⟨S8x16384x16384, .f32⟩
  | .hbm, ⟨55, _⟩ => ⟨S8x16384x16384, .f32⟩
  | .hbm, ⟨56, _⟩ => ⟨S8x16384x16384, .f32⟩
  | .hbm, ⟨57, _⟩ => ⟨S_, .f32⟩
  | .hbm, ⟨58, _⟩ => ⟨S8x16384, .f32⟩
  | .hbm, ⟨59, _⟩ => ⟨S8x16384x1, .f32⟩
  | .hbm, ⟨60, _⟩ => ⟨S8x16384x16384, .f32⟩
  | .hbm, ⟨61, _⟩ => ⟨S8x16384x16384, .f32⟩
  | .hbm, ⟨62, _⟩ => ⟨S8x16384x1, .f32⟩
  | .hbm, ⟨63, _⟩ => ⟨S_, .f32⟩
  | .hbm, ⟨64, _⟩ => ⟨S8x16384x1, .f32⟩
  | .hbm, ⟨65, _⟩ => ⟨S8x16384x1, .f32⟩
  | .hbm, ⟨66, _⟩ => ⟨S8x64x16384, .f32⟩
  | .hbm, ⟨67, _⟩ => ⟨S16384x8x64, .f32⟩
  | .hbm, ⟨68, _⟩ => ⟨S8x64x16384, .f32⟩
  | .hbm, ⟨69, _⟩ => ⟨S8x16384x16384, .f32⟩
  | .hbm, ⟨70, _⟩ => ⟨S8x64x16384, .f32⟩
  | .hbm, ⟨71, _⟩ => ⟨S16384x8x64, .f32⟩
  | .hbm, ⟨72, _⟩ => ⟨S8x16384x16384, .f32⟩
  | .hbm, ⟨73, _⟩ => ⟨S8x16384x16384, .f32⟩
  | .hbm, ⟨74, _⟩ => ⟨S8x16384x16384, .f32⟩
  | .hbm, ⟨75, _⟩ => ⟨S_, .f32⟩
  | .hbm, ⟨76, _⟩ => ⟨S8x16384, .f32⟩
  | .hbm, ⟨77, _⟩ => ⟨S8x16384x1, .f32⟩
  | .hbm, ⟨78, _⟩ => ⟨S8x16384x1, .f32⟩
  | .hbm, ⟨79, _⟩ => ⟨S8x16384x16384, .f32⟩
  | .hbm, ⟨80, _⟩ => ⟨S8x16384x16384, .f32⟩
  | .hbm, ⟨81, _⟩ => ⟨S_, .f32⟩
  | .hbm, ⟨82, _⟩ => ⟨S8x16384, .f32⟩
  | .hbm, ⟨83, _⟩ => ⟨S8x16384x16384, .f32⟩
  | .hbm, ⟨84, _⟩ => ⟨S8x16384x16384, .f32⟩
  | .hbm, ⟨85, _⟩ => ⟨S8x16384x16384, .f32⟩
  | .hbm, ⟨86, _⟩ => ⟨S_, .f32⟩
  | .hbm, ⟨87, _⟩ => ⟨S8x16384x16384, .f32⟩
  | .hbm, ⟨88, _⟩ => ⟨S8x16384x16384, .f32⟩
  | .hbm, ⟨89, _⟩ => ⟨S8x16384x16384, .f32⟩
  | .hbm, ⟨90, _⟩ => ⟨S_, .f32⟩
  | .hbm, ⟨91, _⟩ => ⟨S8x16384, .f32⟩
  | .hbm, ⟨92, _⟩ => ⟨S8x1x16384, .f32⟩
  | .hbm, ⟨93, _⟩ => ⟨S_, .f32⟩
  | .hbm, ⟨94, _⟩ => ⟨S8x16384, .f32⟩
  | .hbm, ⟨95, _⟩ => ⟨S_, .f32⟩
  | .hbm, ⟨96, _⟩ => ⟨S8x16384, .f32⟩
  | .hbm, ⟨97, _⟩ => ⟨S8x16384x1, .f32⟩
  | .hbm, ⟨98, _⟩ => ⟨S_, .f32⟩
  | .hbm, ⟨99, _⟩ => ⟨S8x16384, .f32⟩
  | .hbm, ⟨100, _⟩ => ⟨S_, .f32⟩
  | .hbm, ⟨101, _⟩ => ⟨S8x16384x16384, .f32⟩
  | .hbm, ⟨102, _⟩ => ⟨S8x16384x16384, .f32⟩
  | .hbm, ⟨103, _⟩ => ⟨S8x16384x64, .f32⟩
  | .hbm, ⟨104, _⟩ => ⟨S16384x8x64, .f32⟩
  | .hbm, ⟨105, _⟩ => ⟨S8x16384x64, .f32⟩
  | .hbm, ⟨106, _⟩ => ⟨S16384x8x64, .f32⟩
  | .hbm, ⟨107, _⟩ => ⟨S8x64x16384, .f32⟩
  | .hbm, ⟨108, _⟩ => ⟨S8x16384x64, .f32⟩
  | .hbm, ⟨109, _⟩ => ⟨S8x16384x64, .f32⟩
  | .hbm, ⟨110, _⟩ => ⟨S8x1x16384, .f32⟩
  | .hbm, ⟨111, _⟩ => ⟨S8x1x16384, .f32⟩
  | _, _ => ⟨S16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_cst_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]
-- ==== GradWeight.lean ====
abbrev S16384x1024 : Shape := ⟨2, ![16384, 1024]⟩
abbrev S16384x8320 : Shape := ⟨2, ![16384, 8320]⟩
abbrev S1024x8320 : Shape := ⟨2, ![1024, 8320]⟩
abbrev S2048x1024 : Shape := ⟨2, ![2048, 1024]⟩
abbrev S2048x1664 : Shape := ⟨2, ![2048, 1664]⟩
abbrev S1024x1664 : Shape := ⟨2, ![1024, 1664]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x8320, .bf16⟩
  | .hbm, ⟨2, _⟩ => ⟨S1024x8320, .f32⟩
  | .local _ .vmem, ⟨0, _⟩ => ⟨S2048x1024, .bf16⟩
  | .local _ .vmem, ⟨1, _⟩ => ⟨S2048x1024, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .f32⟩
  | .local _ .vmem, ⟨5, _⟩ => ⟨S1024x1664, .f32⟩
  | .local _ .vmem, ⟨6, _⟩ => ⟨S1024x1664, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWeightRefIdeal.lean ====
abbrev S16384x1024 : Shape := ⟨2, ![16384, 1024]⟩
abbrev S16384x8320 : Shape := ⟨2, ![16384, 8320]⟩
abbrev S_ : Shape := ⟨0, ![]⟩
abbrev S1024x8320 : Shape := ⟨2, ![1024, 8320]⟩
abbrev S8320x1024 : Shape := ⟨2, ![8320, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x8320, .bf16⟩
  | .hbm, ⟨2, _⟩ => ⟨S_, .f32⟩
  | .hbm, ⟨3, _⟩ => ⟨S1024x8320, .f32⟩
  | .hbm, ⟨4, _⟩ => ⟨S16384x1024, .f32⟩
  | .hbm, ⟨5, _⟩ => ⟨S16384x8320, .f32⟩
  | .hbm, ⟨6, _⟩ => ⟨S16384x8320, .f32⟩
  | .hbm, ⟨7, _⟩ => ⟨S8320x1024, .f32⟩
  | .hbm, ⟨8, _⟩ => ⟨S1024x8320, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradInput.lean ====
abbrev S16384x8320 : Shape := ⟨2, ![16384, 8320]⟩
abbrev S1024x8320 : Shape := ⟨2, ![1024, 8320]⟩
abbrev S16384x1024 : Shape := ⟨2, ![16384, 1024]⟩
abbrev S2048x1664 : Shape := ⟨2, ![2048, 1664]⟩
abbrev S1024x1664 : Shape := ⟨2, ![1024, 1664]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x8320, .bf16⟩
  | .hbm, ⟨1, _⟩ => ⟨S1024x8320, .bf16⟩
  | .hbm, ⟨2, _⟩ => ⟨S16384x1024, .f32⟩
  | .local _ .vmem, ⟨0, _⟩ => ⟨S2048x1664, .bf16⟩
  | .local _ .vmem, ⟨1, _⟩ => ⟨S2048x1664, .bf16⟩
  | .local _ .vmem, ⟨2, _⟩ => ⟨S1024x1664, .bf16⟩
  | .local _ .vmem, ⟨3, _⟩ => ⟨S1024x1664, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S16384x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInputRefIdeal.lean ====
abbrev S16384x8320 : Shape := ⟨2, ![16384, 8320]⟩
abbrev S1024x8320 : Shape := ⟨2, ![1024, 8320]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x8320, .bf16⟩
  | .hbm, ⟨1, _⟩ => ⟨S1024x8320, .bf16⟩
  | .hbm, ⟨2, _⟩ => ⟨S_, .f32⟩
  | .hbm, ⟨3, _⟩ => ⟨S16384x1024, .f32⟩
  | .hbm, ⟨4, _⟩ => ⟨S1024x8320, .f32⟩
  | .hbm, ⟨5, _⟩ => ⟨S16384x8320, .f32⟩
  | .hbm, ⟨6, _⟩ => ⟨S16384x8320, .f32⟩
  | .hbm, ⟨7, _⟩ => ⟨S16384x1024, .f32⟩
  | _, _ => ⟨S16384x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Project.lean ====
abbrev S16384x1024 : Shape := ⟨2, ![16384, 1024]⟩
abbrev S1024x8320 : Shape := ⟨2, ![1024, 8320]⟩
abbrev S16384x8320 : Shape := ⟨2, ![16384, 8320]⟩
abbrev S2048x1024 : Shape := ⟨2, ![2048, 1024]⟩
abbrev S1024x1664 : Shape := ⟨2, ![1024, 1664]⟩
abbrev S2048x1664 : Shape := ⟨2, ![2048, 1664]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x8320, .bf16⟩
  | .hbm, ⟨2, _⟩ => ⟨S16384x8320, .f32⟩
  | .local _ .vmem, ⟨0, _⟩ => ⟨S2048x1024, .bf16⟩
  | .local _ .vmem, ⟨1, _⟩ => ⟨S2048x1024, .bf16⟩
  | .local _ .vmem, ⟨2, _⟩ => ⟨S1024x1664, .bf16⟩
  | .local _ .vmem, ⟨3, _⟩ => ⟨S1024x1664, .bf16⟩
  | .local _ .vmem, ⟨4, _⟩ => ⟨S2048x1664, .f32⟩
  | .local _ .vmem, ⟨5, _⟩ => ⟨S2048x1664, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjectRefIdeal.lean ====
abbrev S16384x1024 : Shape := ⟨2, ![16384, 1024]⟩
abbrev S1024x8320 : Shape := ⟨2, ![1024, 8320]⟩
abbrev S16384x8320 : Shape := ⟨2, ![16384, 8320]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x8320, .bf16⟩
  | .hbm, ⟨2, _⟩ => ⟨S16384x1024, .f32⟩
  | .hbm, ⟨3, _⟩ => ⟨S1024x8320, .f32⟩
  | .hbm, ⟨4, _⟩ => ⟨S16384x8320, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradOut.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradBranch.lean ====
abbrev S16384x512 : Shape := ⟨2, ![16384, 512]⟩
abbrev S16384x1024 : Shape := ⟨2, ![16384, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradBranchRefIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S_, .f32⟩
  | .hbm, ⟨3, _⟩ => ⟨S512x1024, .f32⟩
  | .hbm, ⟨4, _⟩ => ⟨S16384x512, .f32⟩
  | .hbm, ⟨5, _⟩ => ⟨S16384x1024, .f32⟩
  | .hbm, ⟨6, _⟩ => ⟨S16384x1024, .f32⟩
  | .hbm, ⟨7, _⟩ => ⟨S1024x512, .f32⟩
  | .hbm, ⟨8, _⟩ => ⟨S512x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Merge.lean ====
abbrev S16384x1024 : Shape := ⟨2, ![16384, 1024]⟩
abbrev S16384x8320 : Shape := ⟨2, ![16384, 8320]⟩
abbrev S16384x512 : Shape := ⟨2, ![16384, 512]⟩
abbrev S128 : Shape := ⟨1, ![128]⟩
abbrev S3072 : Shape := ⟨1, ![3072]⟩
abbrev S3x512x1024 : Shape := ⟨3, ![3, 512, 1024]⟩
abbrev S1024x1024 : Shape := ⟨2, ![1024, 1024]⟩
abbrev S1x128 : Shape := ⟨2, ![1, 128]⟩
abbrev S1x3072 : Shape := ⟨2, ![1, 3072]⟩
abbrev S512x1024 : Shape := ⟨2, ![512, 1024]⟩
abbrev S512x3072 : Shape := ⟨2, ![512, 3072]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x1024 : Shape := ⟨2, ![1, 1024]⟩
abbrev S1x512x1024 : Shape := ⟨3, ![1, 512, 1024]⟩

abbrev nBuf : Space → Nat
  | .hbm => 16
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S16384x8320, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S128, .f32⟩
  | .hbm, ⟨6, _⟩ => ⟨S3072, .f32⟩
  | .hbm, ⟨7, _⟩ => ⟨S3x512x1024, .bf16⟩
  | .hbm, ⟨8, _⟩ => ⟨S1024x1024, .bf16⟩
  | .hbm, ⟨9, _⟩ => ⟨S1x128, .f32⟩
  | .hbm, ⟨10, _⟩ => ⟨S1x3072, .f32⟩
  | .hbm, ⟨11, _⟩ => ⟨S16384x1024, .f32⟩
  | .hbm, ⟨12, _⟩ => ⟨S16384x512, .bf16⟩
  | .hbm, ⟨13, _⟩ => ⟨S16384x512, .bf16⟩
  | .hbm, ⟨14, _⟩ => ⟨S16384x512, .bf16⟩
  | .hbm, ⟨15, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x3072, .f32⟩
  | .local _ .vmem, ⟨3, _⟩ => ⟨S512x3072, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S1x128, .f32⟩
  | .local _ .vmem, ⟨17, _⟩ => ⟨S1x3072, .f32⟩
  | .local _ .vmem, ⟨18, _⟩ => ⟨S3x512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x1024, .bf16⟩
  | .local _ .vmem, ⟨29, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S16384x1024 : Shape := ⟨2, ![16384, 1024]⟩
abbrev S16384x8320 : Shape := ⟨2, ![16384, 8320]⟩
abbrev S16384x512 : Shape := ⟨2, ![16384, 512]⟩
abbrev S128 : Shape := ⟨1, ![128]⟩
abbrev S3072 : Shape := ⟨1, ![3072]⟩
abbrev S3x512x1024 : Shape := ⟨3, ![3, 512, 1024]⟩
abbrev S1024x1024 : Shape := ⟨2, ![1024, 1024]⟩
abbrev S16384x3072 : Shape := ⟨2, ![16384, 3072]⟩
abbrev S_ : Shape := ⟨0, ![]⟩
abbrev S16384x4x128 : Shape := ⟨3, ![16384, 4, 128]⟩
abbrev S16384x4 : Shape := ⟨2, ![16384, 4]⟩
abbrev S16384x4x1 : Shape := ⟨3, ![16384, 4, 1]⟩
abbrev S1x1x128 : Shape := ⟨3, ![1, 1, 128]⟩
abbrev S16384x1x512 : Shape := ⟨3, ![16384, 1, 512]⟩
abbrev S16384x3x512 : Shape := ⟨3, ![16384, 3, 512]⟩
abbrev S3x1024x16384 : Shape := ⟨3, ![3, 1024, 16384]⟩
abbrev S16384x3x1024 : Shape := ⟨3, ![16384, 3, 1024]⟩
abbrev S1x3072 : Shape := ⟨2, ![1, 3072]⟩

abbrev nBuf : Space → Nat
  | .hbm => 90
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x8320, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S128, .f32⟩
  | .hbm, ⟨6, _⟩ => ⟨S3072, .f32⟩
  | .hbm, ⟨7, _⟩ => ⟨S3x512x1024, .bf16⟩
  | .hbm, ⟨8, _⟩ => ⟨S1024x1024, .bf16⟩
  | .hbm, ⟨9, _⟩ => ⟨S16384x3072, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S_, .f32⟩
  | .hbm, ⟨16, _⟩ => ⟨S16384x512, .f32⟩
  | .hbm, ⟨17, _⟩ => ⟨S16384x512, .f32⟩
  | .hbm, ⟨18, _⟩ => ⟨S_, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x4x128, .f32⟩
  | .hbm, ⟨24, _⟩ => ⟨S16384x4x128, .f32⟩
  | .hbm, ⟨25, _⟩ => ⟨S_, .f32⟩
  | .hbm, ⟨26, _⟩ => ⟨S16384x4, .f32⟩
  | .hbm, ⟨27, _⟩ => ⟨S16384x4x1, .f32⟩
  | .hbm, ⟨28, _⟩ => ⟨S_, .f32⟩
  | .hbm, ⟨29, _⟩ => ⟨S16384x4x1, .f32⟩
  | .hbm, ⟨30, _⟩ => ⟨S16384x4x1, .f32⟩
  | .hbm, ⟨31, _⟩ => ⟨S_, .f32⟩
  | .hbm, ⟨32, _⟩ => ⟨S16384x4x1, .f32⟩
  | .hbm, ⟨33, _⟩ => ⟨S16384x4x1, .f32⟩
  | .hbm, ⟨34, _⟩ => ⟨S16384x4x1, .f32⟩
  | .hbm, ⟨35, _⟩ => ⟨S16384x4x128, .f32⟩
  | .hbm, ⟨36, _⟩ => ⟨S16384x4x128, .f32⟩
  | .hbm, ⟨37, _⟩ => ⟨S1x1x128, .f32⟩
  | .hbm, ⟨38, _⟩ => ⟨S16384x4x128, .f32⟩
  | .hbm, ⟨39, _⟩ => ⟨S16384x4x128, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S_, .f32⟩
  | .hbm, ⟨54, _⟩ => ⟨S16384x512, .f32⟩
  | .hbm, ⟨55, _⟩ => ⟨S16384x512, .f32⟩
  | .hbm, ⟨56, _⟩ => ⟨S_, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S16384x1x512, .f32⟩
  | .hbm, ⟨62, _⟩ => ⟨S16384x1x512, .f32⟩
  | .hbm, ⟨63, _⟩ => ⟨S16384x1x512, .f32⟩
  | .hbm, ⟨64, _⟩ => ⟨S16384x3x512, .f32⟩
  | .hbm, ⟨65, _⟩ => ⟨S3x512x1024, .f32⟩
  | .hbm, ⟨66, _⟩ => ⟨S3x1024x16384, .f32⟩
  | .hbm, ⟨67, _⟩ => ⟨S16384x3x1024, .f32⟩
  | .hbm, ⟨68, _⟩ => ⟨S1x3072, .f32⟩
  | .hbm, ⟨69, _⟩ => ⟨S16384x3072, .f32⟩
  | .hbm, ⟨70, _⟩ => ⟨S16384x3072, .f32⟩
  | .hbm, ⟨71, _⟩ => ⟨S16384x3072, .f32⟩
  | .hbm, ⟨72, _⟩ => ⟨S16384x3072, .f32⟩
  | .hbm, ⟨73, _⟩ => ⟨S_, .f32⟩
  | .hbm, ⟨74, _⟩ => ⟨S16384x3072, .f32⟩
  | .hbm, ⟨75, _⟩ => ⟨S16384x3072, .f32⟩
  | .hbm, ⟨76, _⟩ => ⟨S_, .f32⟩
  | .hbm, ⟨77, _⟩ => ⟨S16384x3072, .f32⟩
  | .hbm, ⟨78, _⟩ => ⟨S16384x3072, .f32⟩
  | .hbm, ⟨79, _⟩ => ⟨S16384x3x1024, .f32⟩
  | .hbm, ⟨80, _⟩ => ⟨S16384x3x1024, .f32⟩
  | .hbm, ⟨81, _⟩ => ⟨S_, .f32⟩
  | .hbm, ⟨82, _⟩ => ⟨S16384x1024, .f32⟩
  | .hbm, ⟨83, _⟩ => ⟨S1024x1024, .f32⟩
  | .hbm, ⟨84, _⟩ => ⟨S16384x1024, .f32⟩
  | .hbm, ⟨85, _⟩ => ⟨S16384x1024, .f32⟩
  | .hbm, ⟨86, _⟩ => ⟨S16384x512, .bf16⟩
  | .hbm, ⟨87, _⟩ => ⟨S16384x512, .bf16⟩
  | .hbm, ⟨88, _⟩ => ⟨S16384x512, .bf16⟩
  | .hbm, ⟨89, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v21 : Ref sig .tc := ⟨.hbm, 49, rfl⟩
abbrev main_v22 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_call2_v5 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_2 : Ref sig .tc := ⟨.hbm, 73, rfl⟩
abbrev main_v37 : Ref sig .tc := ⟨.hbm, 74, rfl⟩
abbrev main_v38 : Ref sig .tc := ⟨.hbm, 75, rfl⟩
abbrev main_cst_3 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_4 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩

abbrev nD : Nat := 1
abbrev τ : Topo := Topo.v7x

variable {F : FTy → Type} [FloatOps F]
-- ==== Proof.SameText.lean ====
/- The program as printed for words and the program as printed for reading at extended reals are, at words, one
   program: a constant named in the second is its own word. -/
module

public import proofs.«01_k».proof.Defs
public import proofs.«01_k».proof.Proof.Gen.Kernel
public import proofs.«01_k».proof.Proof.Gen.KernelIdeal

@[expose] public section

set_option maxRecDepth 100000
set_option maxHeartbeats 4000000

noncomputable section

namespace Cert.Words

open Idealize.ShloMosaic Idealize.SL.Sem

/-- At words a named constant is its own word. -/
instance named : Named Bits where
  named _ _ {φ} bits := Scalar.ofBits φ bits

/-! The parts the two programs are written with, one by one. -/

theorem τ_same : Cert.Kernel.τ = Cert.KernelIdeal.τ := rfl
theorem S16384x8x64_same : Cert.Kernel.S16384x8x64 = Cert.KernelIdeal.S16384x8x64 := rfl
theorem S8x16384_same : Cert.Kernel.S8x16384 = Cert.KernelIdeal.S8x16384 := rfl
theorem S8x16384x64_same : Cert.Kernel.S8x16384x64 = Cert.KernelIdeal.S8x16384x64 := rfl
theorem S__same : Cert.Kernel.S_ = Cert.KernelIdeal.S_ := rfl
theorem S8x1x16384_same : Cert.Kernel.S8x1x16384 = Cert.KernelIdeal.S8x1x16384 := rfl
theorem S8x3x16384_same : Cert.Kernel.S8x3x16384 = Cert.KernelIdeal.S8x3x16384 := rfl
theorem S8x16384x3_same : Cert.Kernel.S8x16384x3 = Cert.KernelIdeal.S8x16384x3 := rfl
theorem S8x16384x10_same : Cert.Kernel.S8x16384x10 = Cert.KernelIdeal.S8x16384x10 := rfl
theorem S8x16384x80_same : Cert.Kernel.S8x16384x80 = Cert.KernelIdeal.S8x16384x80 := rfl
theorem S8x64x16384_same : Cert.Kernel.S8x64x16384 = Cert.KernelIdeal.S8x64x16384 := rfl
theorem S8x10x16384_same : Cert.Kernel.S8x10x16384 = Cert.KernelIdeal.S8x10x16384 := rfl
theorem S8x80x16384_same : Cert.Kernel.S8x80x16384 = Cert.KernelIdeal.S8x80x16384 := rfl
theorem S8x16384x1_same : Cert.Kernel.S8x16384x1 = Cert.KernelIdeal.S8x16384x1 := rfl
theorem S8x16384x63_same : Cert.Kernel.S8x16384x63 = Cert.KernelIdeal.S8x16384x63 := rfl
theorem S8x16384x128_same : Cert.Kernel.S8x16384x128 = Cert.KernelIdeal.S8x16384x128 := rfl
theorem S8x16384x16384_same : Cert.Kernel.S8x16384x16384 = Cert.KernelIdeal.S8x16384x16384 := rfl
theorem S16384_same : Cert.Kernel.S16384 = Cert.KernelIdeal.S16384 := rfl
theorem S1x1x16384_same : Cert.Kernel.S1x1x16384 = Cert.KernelIdeal.S1x1x16384 := rfl
theorem S1x16384x1_same : Cert.Kernel.S1x16384x1 = Cert.KernelIdeal.S1x16384x1 := rfl
theorem S1x16384x16384_same : Cert.Kernel.S1x16384x16384 = Cert.KernelIdeal.S1x16384x16384 := rfl
theorem S1x1x80_same : Cert.Kernel.S1x1x80 = Cert.KernelIdeal.S1x1x80 := rfl
theorem S16384x8_same : Cert.Kernel.S16384x8 = Cert.KernelIdeal.S16384x8 := rfl
theorem S1x16384x80_same : Cert.Kernel.S1x16384x80 = Cert.KernelIdeal.S1x16384x80 := rfl
theorem S1x512x80_same : Cert.Kernel.S1x512x80 = Cert.KernelIdeal.S1x512x80 := rfl
theorem S1x64x512_same : Cert.Kernel.S1x64x512 = Cert.KernelIdeal.S1x64x512 := rfl
theorem S1x512x128_same : Cert.Kernel.S1x512x128 = Cert.KernelIdeal.S1x512x128 := rfl
theorem S1x16384x64_same : Cert.Kernel.S1x16384x64 = Cert.KernelIdeal.S1x16384x64 := rfl
theorem S1x64x16384_same : Cert.Kernel.S1x64x16384 = Cert.KernelIdeal.S1x64x16384 := rfl
theorem S1x512x64_same : Cert.Kernel.S1x512x64 = Cert.KernelIdeal.S1x512x64 := rfl
theorem S1x1x512_same : Cert.Kernel.S1x1x512 = Cert.KernelIdeal.S1x1x512 := rfl
theorem S2x512x256_same : Cert.Kernel.S2x512x256 = Cert.KernelIdeal.S2x512x256 := rfl
theorem S512x80_same : Cert.Kernel.S512x80 = Cert.KernelIdeal.S512x80 := rfl
theorem S512x64_same : Cert.Kernel.S512x64 = Cert.KernelIdeal.S512x64 := rfl
theorem S512x1_same : Cert.Kernel.S512x1 = Cert.KernelIdeal.S512x1 := rfl
theorem sig_same : Cert.Kernel.sig = Cert.KernelIdeal.sig := rfl
theorem grid0_same : Cert.Kernel.grid0 = Cert.KernelIdeal.grid0 := rfl
theorem Λ₀_same : Cert.Kernel.Λ₀ = Cert.KernelIdeal.Λ₀ := rfl
theorem S64x512_same : Cert.Kernel.S64x512 = Cert.KernelIdeal.S64x512 := rfl
theorem S512x256_same : Cert.Kernel.S512x256 = Cert.KernelIdeal.S512x256 := rfl
theorem S1x256x80_same : Cert.Kernel.S1x256x80 = Cert.KernelIdeal.S1x256x80 := rfl
theorem k0_off1_same : Cert.Kernel.k0_off1 = Cert.KernelIdeal.k0_off1 := rfl
theorem S256x80_same : Cert.Kernel.S256x80 = Cert.KernelIdeal.S256x80 := rfl
theorem dot_S512x80_S256x80_S512x256_1_1_0_0_n_n_same : Cert.Kernel.dot_S512x80_S256x80_S512x256_1_1_0_0_n_n = Cert.KernelIdeal.dot_S512x80_S256x80_S512x256_1_1_0_0_n_n := rfl
theorem S64x16384_same : Cert.Kernel.S64x16384 = Cert.KernelIdeal.S64x16384 := rfl
theorem S1x16384_same : Cert.Kernel.S1x16384 = Cert.KernelIdeal.S1x16384 := rfl
theorem S1x512x256_same : Cert.Kernel.S1x512x256 = Cert.KernelIdeal.S1x512x256 := rfl
theorem S1x256x64_same : Cert.Kernel.S1x256x64 = Cert.KernelIdeal.S1x256x64 := rfl
theorem k0_off2_same : Cert.Kernel.k0_off2 = Cert.KernelIdeal.k0_off2 := rfl
theorem S256x64_same : Cert.Kernel.S256x64 = Cert.KernelIdeal.S256x64 := rfl
theorem dot_S512x64_S256x64_S512x256_1_1_0_0_n_n_same : Cert.Kernel.dot_S512x64_S256x64_S512x256_1_1_0_0_n_n = Cert.KernelIdeal.dot_S512x64_S256x64_S512x256_1_1_0_0_n_n := rfl
theorem k0_off3_same : Cert.Kernel.k0_off3 = Cert.KernelIdeal.k0_off3 := rfl
theorem k0_off4_same : Cert.Kernel.k0_off4 = Cert.KernelIdeal.k0_off4 := rfl
theorem S1x1x256_same : Cert.Kernel.S1x1x256 = Cert.KernelIdeal.S1x1x256 := rfl
theorem k0_off5_same : Cert.Kernel.k0_off5 = Cert.KernelIdeal.k0_off5 := rfl
theorem S1x256_same : Cert.Kernel.S1x256 = Cert.KernelIdeal.S1x256 := rfl
theorem S512_same : Cert.Kernel.S512 = Cert.KernelIdeal.S512 := rfl
theorem S256_same : Cert.Kernel.S256 = Cert.KernelIdeal.S256 := rfl
theorem k0_off6_same : Cert.Kernel.k0_off6 = Cert.KernelIdeal.k0_off6 := rfl
theorem k0_off7_same : Cert.Kernel.k0_off7 = Cert.KernelIdeal.k0_off7 := rfl
theorem S64x256_same : Cert.Kernel.S64x256 = Cert.KernelIdeal.S64x256 := rfl
theorem k0_off8_same : Cert.Kernel.k0_off8 = Cert.KernelIdeal.k0_off8 := rfl
theorem dot_S512x256_S256x64_S512x64_1_0_0_1_n_n_same : Cert.Kernel.dot_S512x256_S256x64_S512x64_1_0_0_1_n_n = Cert.KernelIdeal.dot_S512x256_S256x64_S512x64_1_0_0_1_n_n := rfl
theorem k0_off9_same : Cert.Kernel.k0_off9 = Cert.KernelIdeal.k0_off9 := rfl
theorem dot_S512x256_S256x80_S512x80_1_0_0_1_n_n_same : Cert.Kernel.dot_S512x256_S256x80_S512x80_1_0_0_1_n_n = Cert.KernelIdeal.dot_S512x256_S256x80_S512x80_1_0_0_1_n_n := rfl
theorem S1x64x256_same : Cert.Kernel.S1x64x256 = Cert.KernelIdeal.S1x64x256 := rfl
theorem k0_off10_same : Cert.Kernel.k0_off10 = Cert.KernelIdeal.k0_off10 := rfl
theorem dot_S64x512_S512x256_S64x256_1_0_0_1_n_n_same : Cert.Kernel.dot_S64x512_S512x256_S64x256_1_0_0_1_n_n = Cert.KernelIdeal.dot_S64x512_S512x256_S64x256_1_0_0_1_n_n := rfl
theorem k0_off11_same : Cert.Kernel.k0_off11 = Cert.KernelIdeal.k0_off11 := rfl
theorem k0_t1_loop_same : Cert.Kernel.k0_t1_loop = Cert.KernelIdeal.k0_t1_loop := rfl
theorem k0_off12_same : Cert.Kernel.k0_off12 = Cert.KernelIdeal.k0_off12 := rfl
theorem k0_off13_same : Cert.Kernel.k0_off13 = Cert.KernelIdeal.k0_off13 := rfl
theorem k0_off14_same : Cert.Kernel.k0_off14 = Cert.KernelIdeal.k0_off14 := rfl
theorem k0_off15_same : Cert.Kernel.k0_off15 = Cert.KernelIdeal.k0_off15 := rfl
theorem k0_off16_same : Cert.Kernel.k0_off16 = Cert.KernelIdeal.k0_off16 := rfl
theorem k0_off17_same : Cert.Kernel.k0_off17 = Cert.KernelIdeal.k0_off17 := rfl
theorem k0_off18_same : Cert.Kernel.k0_off18 = Cert.KernelIdeal.k0_off18 := rfl
theorem k0_off19_same : Cert.Kernel.k0_off19 = Cert.KernelIdeal.k0_off19 := rfl
theorem k0_off20_same : Cert.Kernel.k0_off20 = Cert.KernelIdeal.k0_off20 := rfl
theorem k0_off21_same : Cert.Kernel.k0_off21 = Cert.KernelIdeal.k0_off21 := rfl
theorem k0_off22_same : Cert.Kernel.k0_off22 = Cert.KernelIdeal.k0_off22 := rfl
theorem k0_off23_same : Cert.Kernel.k0_off23 = Cert.KernelIdeal.k0_off23 := rfl
theorem k0_t2_loop_same : Cert.Kernel.k0_t2_loop = Cert.KernelIdeal.k0_t2_loop := rfl
theorem k0_off24_same : Cert.Kernel.k0_off24 = Cert.KernelIdeal.k0_off24 := rfl
theorem k0_off25_same : Cert.Kernel.k0_off25 = Cert.KernelIdeal.k0_off25 := rfl
theorem k0_off26_same : Cert.Kernel.k0_off26 = Cert.KernelIdeal.k0_off26 := rfl
theorem k0_off27_same : Cert.Kernel.k0_off27 = Cert.KernelIdeal.k0_off27 := rfl
theorem k0_off28_same : Cert.Kernel.k0_off28 = Cert.KernelIdeal.k0_off28 := rfl
theorem k0_off29_same : Cert.Kernel.k0_off29 = Cert.KernelIdeal.k0_off29 := rfl
theorem k0_off30_same : Cert.Kernel.k0_off30 = Cert.KernelIdeal.k0_off30 := rfl
theorem k0_off31_same : Cert.Kernel.k0_off31 = Cert.KernelIdeal.k0_off31 := rfl
theorem k0_off32_same : Cert.Kernel.k0_off32 = Cert.KernelIdeal.k0_off32 := rfl
theorem k0_off33_same : Cert.Kernel.k0_off33 = Cert.KernelIdeal.k0_off33 := rfl
theorem k0_off34_same : Cert.Kernel.k0_off34 = Cert.KernelIdeal.k0_off34 := rfl
theorem k0_off35_same : Cert.Kernel.k0_off35 = Cert.KernelIdeal.k0_off35 := rfl
theorem k0_cond2_same : Cert.Kernel.k0_cond2 = Cert.KernelIdeal.k0_cond2 := rfl
theorem k0_off36_same : Cert.Kernel.k0_off36 = Cert.KernelIdeal.k0_off36 := rfl
theorem k0_off37_same : Cert.Kernel.k0_off37 = Cert.KernelIdeal.k0_off37 := rfl
theorem S512x128_same : Cert.Kernel.S512x128 = Cert.KernelIdeal.S512x128 := rfl
theorem S128x128_same : Cert.Kernel.S128x128 = Cert.KernelIdeal.S128x128 := rfl
theorem S8x128_same : Cert.Kernel.S8x128 = Cert.KernelIdeal.S8x128 := rfl
theorem S8x512_same : Cert.Kernel.S8x512 = Cert.KernelIdeal.S8x512 := rfl
theorem dot_S8x128_S512x128_S8x512_1_1_0_0_n_n_same : Cert.Kernel.dot_S8x128_S512x128_S8x512_1_1_0_0_n_n = Cert.KernelIdeal.dot_S8x128_S512x128_S8x512_1_1_0_0_n_n := rfl
theorem S1x512_same : Cert.Kernel.S1x512 = Cert.KernelIdeal.S1x512 := rfl

/-- The kernels' bodies are the same. -/
theorem defs₀_same : Cert.Kernel.defs₀ (F := Bits) = Cert.KernelIdeal.defs₀ (F := Bits) := by
  delta Cert.Kernel.nD Cert.KernelIdeal.nD Cert.Kernel.stage0_0.match_1 Cert.KernelIdeal.stage0_0.match_1 Cert.Kernel.cc0_stg0_0 Cert.KernelIdeal.cc0_stg0_0
    Cert.Kernel.cc0_stg0_1 Cert.KernelIdeal.cc0_stg0_1 Cert.Kernel.stage0_0 Cert.KernelIdeal.stage0_0 Cert.Kernel.win0_0 Cert.KernelIdeal.win0_0
    Cert.Kernel.cc0_stg1_0 Cert.KernelIdeal.cc0_stg1_0 Cert.Kernel.cc0_stg1_1 Cert.KernelIdeal.cc0_stg1_1 Cert.Kernel.stage0_1 Cert.KernelIdeal.stage0_1
    Cert.Kernel.win0_1 Cert.KernelIdeal.win0_1 Cert.Kernel.cc0_stg2_0 Cert.KernelIdeal.cc0_stg2_0 Cert.Kernel.cc0_stg2_1 Cert.KernelIdeal.cc0_stg2_1
    Cert.Kernel.stage0_2 Cert.KernelIdeal.stage0_2 Cert.Kernel.win0_2 Cert.KernelIdeal.win0_2 Cert.Kernel.cc0_stg3_0 Cert.KernelIdeal.cc0_stg3_0
    Cert.Kernel.cc0_stg3_1 Cert.KernelIdeal.cc0_stg3_1 Cert.Kernel.stage0_3 Cert.KernelIdeal.stage0_3 Cert.Kernel.win0_3 Cert.KernelIdeal.win0_3
    Cert.Kernel.cc0_stg4_0 Cert.KernelIdeal.cc0_stg4_0 Cert.Kernel.cc0_stg4_1 Cert.KernelIdeal.cc0_stg4_1 Cert.Kernel.stage0_4 Cert.KernelIdeal.stage0_4
    Cert.Kernel.win0_4 Cert.KernelIdeal.win0_4 Cert.Kernel.cc0_stg5_0 Cert.KernelIdeal.cc0_stg5_0 Cert.Kernel.cc0_stg5_1 Cert.KernelIdeal.cc0_stg5_1
    Cert.Kernel.stage0_5 Cert.KernelIdeal.stage0_5 Cert.Kernel.win0_5 Cert.KernelIdeal.win0_5 Cert.Kernel.cc0_stg6_0 Cert.KernelIdeal.cc0_stg6_0
    Cert.Kernel.cc0_stg6_1 Cert.KernelIdeal.cc0_stg6_1 Cert.Kernel.stage0_6 Cert.KernelIdeal.stage0_6 Cert.Kernel.win0_6 Cert.KernelIdeal.win0_6
    Cert.Kernel.cc0_stg7_0 Cert.KernelIdeal.cc0_stg7_0 Cert.Kernel.cc0_stg7_1 Cert.KernelIdeal.cc0_stg7_1 Cert.Kernel.stage0_7 Cert.KernelIdeal.stage0_7
    Cert.Kernel.win0_7 Cert.KernelIdeal.win0_7 Cert.Kernel.cc0_stg8_0 Cert.KernelIdeal.cc0_stg8_0 Cert.Kernel.cc0_stg8_1 Cert.KernelIdeal.cc0_stg8_1
    Cert.Kernel.stage0_8 Cert.KernelIdeal.stage0_8 Cert.Kernel.win0_8 Cert.KernelIdeal.win0_8 Cert.Kernel.cc0_stg9_0 Cert.KernelIdeal.cc0_stg9_0
    Cert.Kernel.cc0_stg9_1 Cert.KernelIdeal.cc0_stg9_1 Cert.Kernel.stage0_9 Cert.KernelIdeal.stage0_9 Cert.Kernel.win0_9 Cert.KernelIdeal.win0_9
    Cert.Kernel.cc0_stg10_0 Cert.KernelIdeal.cc0_stg10_0 Cert.Kernel.cc0_stg10_1 Cert.KernelIdeal.cc0_stg10_1 Cert.Kernel.stage0_10
    Cert.KernelIdeal.stage0_10 Cert.Kernel.win0_10 Cert.KernelIdeal.win0_10 Cert.Kernel.cc0_stg11_0 Cert.KernelIdeal.cc0_stg11_0 Cert.Kernel.cc0_stg11_1
    Cert.KernelIdeal.cc0_stg11_1 Cert.Kernel.stage0_11 Cert.KernelIdeal.stage0_11 Cert.Kernel.win0_11 Cert.KernelIdeal.win0_11 Cert.Kernel.defs₀.match_1
    Cert.KernelIdeal.defs₀.match_1 Cert.Kernel.k0_part30 Cert.KernelIdeal.k0_part30 Cert.Kernel.cc0_fox_bwd.match_11 Cert.KernelIdeal.cc0_fox_bwd.match_11
    Cert.Kernel.k0_part31 Cert.KernelIdeal.k0_part31 Cert.Kernel.k0_part32 Cert.KernelIdeal.k0_part32 Cert.Kernel.cc0_fox_bwd.match_9
    Cert.KernelIdeal.cc0_fox_bwd.match_9 Cert.Kernel.k0_part33 Cert.KernelIdeal.k0_part33 Cert.Kernel.cc0_fox_bwd.match_7
    Cert.KernelIdeal.cc0_fox_bwd.match_7 Cert.Kernel.k0_part34 Cert.KernelIdeal.k0_part34 Cert.Kernel.cc0_fox_bwd.match_5
    Cert.KernelIdeal.cc0_fox_bwd.match_5 Cert.Kernel.k0_part35 Cert.KernelIdeal.k0_part35 Cert.Kernel.k0_part37.match_7 Cert.KernelIdeal.k0_part37.match_7
    Cert.Kernel.k0_part36 Cert.KernelIdeal.k0_part36 Cert.Kernel.cc0_fox_bwd.match_3 Cert.KernelIdeal.cc0_fox_bwd.match_3 Cert.Kernel.k0_part1
    Cert.KernelIdeal.k0_part1 Cert.Kernel.k0_part37.match_11 Cert.KernelIdeal.k0_part37.match_11 Cert.Kernel.k0_part2 Cert.KernelIdeal.k0_part2
    Cert.Kernel.k0_part3 Cert.KernelIdeal.k0_part3 Cert.Kernel.k0_part4 Cert.KernelIdeal.k0_part4 Cert.Kernel.k0_part37.match_9
    Cert.KernelIdeal.k0_part37.match_9 Cert.Kernel.k0_part5 Cert.KernelIdeal.k0_part5 Cert.Kernel.k0_part6 Cert.KernelIdeal.k0_part6 Cert.Kernel.k0_part7
    Cert.KernelIdeal.k0_part7 Cert.Kernel.k0_part37.match_5 Cert.KernelIdeal.k0_part37.match_5 Cert.Kernel.k0_part8 Cert.KernelIdeal.k0_part8
    Cert.Kernel.k0_part37.match_1 Cert.KernelIdeal.k0_part37.match_1 Cert.Kernel.k0_part9 Cert.KernelIdeal.k0_part9 Cert.Kernel.k0_part10
    Cert.KernelIdeal.k0_part10 Cert.Kernel.k0_part37.match_3 Cert.KernelIdeal.k0_part37.match_3 Cert.Kernel.k0_part11 Cert.KernelIdeal.k0_part11
    Cert.Kernel.k0_part12 Cert.KernelIdeal.k0_part12 Cert.Kernel.k0_part13 Cert.KernelIdeal.k0_part13 Cert.Kernel.k0_part14 Cert.KernelIdeal.k0_part14
    Cert.Kernel.k0_part15 Cert.KernelIdeal.k0_part15 Cert.Kernel.k0_part16 Cert.KernelIdeal.k0_part16 Cert.Kernel.k0_part17 Cert.KernelIdeal.k0_part17
    Cert.Kernel.k0_part18 Cert.KernelIdeal.k0_part18 Cert.Kernel.k0_part19 Cert.KernelIdeal.k0_part19 Cert.Kernel.k0_part20 Cert.KernelIdeal.k0_part20
    Cert.Kernel.k0_part21 Cert.KernelIdeal.k0_part21 Cert.Kernel.k0_part22 Cert.KernelIdeal.k0_part22 Cert.Kernel.k0_part23 Cert.KernelIdeal.k0_part23
    Cert.Kernel.k0_part24 Cert.KernelIdeal.k0_part24 Cert.Kernel.k0_part25 Cert.KernelIdeal.k0_part25 Cert.Kernel.k0_part37.match_19
    Cert.KernelIdeal.k0_part37.match_19 Cert.Kernel.k0_part26 Cert.KernelIdeal.k0_part26 Cert.Kernel.k0_part37.match_17
    Cert.KernelIdeal.k0_part37.match_17 Cert.Kernel.k0_part27 Cert.KernelIdeal.k0_part27 Cert.Kernel.k0_part28 Cert.KernelIdeal.k0_part28
    Cert.Kernel.k0_part37.match_15 Cert.KernelIdeal.k0_part37.match_15 Cert.Kernel.k0_part29 Cert.KernelIdeal.k0_part29 Cert.Kernel.k0_part37.match_13
    Cert.KernelIdeal.k0_part37.match_13 Cert.Kernel.k0_part37 Cert.KernelIdeal.k0_part37 Cert.Kernel.cc0_fox_bwd.match_1
    Cert.KernelIdeal.cc0_fox_bwd.match_1 Cert.Kernel.k0_part38 Cert.KernelIdeal.k0_part38 Cert.Kernel.cc0_fox_bwd Cert.KernelIdeal.cc0_fox_bwd
    Cert.Kernel.cc0_scratch0 Cert.KernelIdeal.cc0_scratch0 Cert.Kernel.cc0_scratch1 Cert.KernelIdeal.cc0_scratch1 Cert.Kernel.cc0_scratch2
    Cert.KernelIdeal.cc0_scratch2 Cert.Kernel.cc0_scratch3 Cert.KernelIdeal.cc0_scratch3 Cert.Kernel.cc0_scratch4 Cert.KernelIdeal.cc0_scratch4
    Cert.Kernel.cc0_scratch5 Cert.KernelIdeal.cc0_scratch5 Cert.Kernel.cc0_scratch6 Cert.KernelIdeal.cc0_scratch6 Cert.Kernel.defs₀ Cert.KernelIdeal.defs₀
  dsimp -zeta -beta -proj -eta -iota only [τ_same, S16384x8x64_same, S8x16384_same, S8x16384x64_same, S__same, S8x1x16384_same, S8x3x16384_same,
    S8x16384x3_same, S8x16384x10_same, S8x16384x80_same, S8x64x16384_same, S8x10x16384_same, S8x80x16384_same, S8x16384x1_same, S8x16384x63_same,
    S8x16384x128_same, S8x16384x16384_same, S16384_same, S1x1x16384_same, S1x16384x1_same, S1x16384x16384_same, S1x1x80_same, S16384x8_same,
    S1x16384x80_same, S1x512x80_same, S1x64x512_same, S1x512x128_same, S1x16384x64_same, S1x64x16384_same, S1x512x64_same, S1x1x512_same, S2x512x256_same,
    S512x80_same, S512x64_same, S512x1_same, sig_same, grid0_same, Λ₀_same, S64x512_same, S512x256_same, S1x256x80_same, k0_off1_same, S256x80_same,
    dot_S512x80_S256x80_S512x256_1_1_0_0_n_n_same, S64x16384_same, S1x16384_same, S1x512x256_same, S1x256x64_same, k0_off2_same, S256x64_same,
    dot_S512x64_S256x64_S512x256_1_1_0_0_n_n_same, k0_off3_same, k0_off4_same, S1x1x256_same, k0_off5_same, S1x256_same, S512_same, S256_same,
    k0_off6_same, k0_off7_same, S64x256_same, k0_off8_same, dot_S512x256_S256x64_S512x64_1_0_0_1_n_n_same, k0_off9_same,
    dot_S512x256_S256x80_S512x80_1_0_0_1_n_n_same, S1x64x256_same, k0_off10_same, dot_S64x512_S512x256_S64x256_1_0_0_1_n_n_same, k0_off11_same,
    k0_t1_loop_same, k0_off12_same, k0_off13_same, k0_off14_same, k0_off15_same, k0_off16_same, k0_off17_same, k0_off18_same, k0_off19_same,
    k0_off20_same, k0_off21_same, k0_off22_same, k0_off23_same, k0_t2_loop_same, k0_off24_same, k0_off25_same, k0_off26_same, k0_off27_same,
    k0_off28_same, k0_off29_same, k0_off30_same, k0_off31_same, k0_off32_same, k0_off33_same, k0_off34_same, k0_off35_same, k0_cond2_same, k0_off36_same,
    k0_off37_same, S512x128_same, S128x128_same, S8x128_same, S8x512_same, dot_S8x128_S512x128_S8x512_1_1_0_0_n_n_same, S1x512_same]
  rfl

/-- The pipelines are the same. -/
theorem pcfgs_same : Cert.Kernel.pcfgs (F := Bits) = Cert.KernelIdeal.pcfgs (F := Bits) := rfl

/-- The host programs are the same. -/
theorem main_same : Cert.Kernel.main (F := Bits) = Cert.KernelIdeal.main (F := Bits) := rfl

end Cert.Words

end
-- ==== Proof.Split.lean ====
/- The kernel's body cut at its loop: what comes before, the loop, what comes after. -/
module

public import proofs.«01_k».proof.Proof.Gen.KernelIdeal.Skeleton
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Before the loop: the block of keys is loaded, the sums are set to zero, the diagonal block is done. -/
noncomputable def headProg (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) :
    Prog (TpuEff nD τ sig (Elt F) Λ₀ .tc) (Σ' (_ : BitVec 32) (_ : FVec F S512x80 .bf16) (_ : FVec F S64x512 .bf16) (_ : FVec F S512x64 .bf16) (_ : BitVec 32) (_ : BitVec 32) (_ : BitVec 32) (_ : BitVec 32), BitVec 32) := do
  let ⟨arg1, v4, v6, v8, v23, v27⟩ : Σ' (arg1 : BitVec 32) (v4 : FVec F S512x80 .bf16) (v6 : FVec F S64x512 .bf16) (v8 : FVec F S512x64 .bf16) (v23 : BitVec 32), FVec F S512x256 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v58 : BitVec 32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v8 v23 v27
  let ⟨v81, v93⟩ : Σ' (v81 : FVec F S512x256 .f32), FVec F S512x1 .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v58
  let ⟨v108, c1_i32_88⟩ : Σ' (v108 : BitVec 32), BitVec 32 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v8 v58 v81 v93
  let ⟨v129, v158⟩ : Σ' (v129 : BitVec 32), FVec F S64x256 .f32 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v108 c1_i32_88
  let ⟨v164, v187⟩ : Σ' (v164 : BitVec 32), FVec F S512x256 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v108 v129 v158
  let ⟨v213, c0_i32_152, c0_i32_153, v231, c1_i32_154⟩ : Σ' (v213 : BitVec 32) (c0_i32_152 : BitVec 32) (c0_i32_153 : BitVec 32) (v231 : BitVec 32), BitVec 32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v164 v187
  pure ⟨arg1, v4, v6, v8, v213, c0_i32_152, c0_i32_153, v231, c1_i32_154⟩

/-- After the loop: the pair left over when the tiles behind the diagonal are an odd number of pairs, and the last tile's values. -/
noncomputable def tailProg0 (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (v4 : FVec F S512x80 .bf16) (v6 : FVec F S64x512 .bf16) (v8 : FVec F S512x64 .bf16) :
    Prog (TpuEff nD τ sig (Elt F) Λ₀ .tc) (Σ' (v251 : BitVec 32), FVec F S512x256 .bf16) := do
  if k0_h2 : k0_cond2 i = 1#1 then do
    let ⟨v327, v329, v337, v338⟩ : Σ' (v327 : BitVec 32) (v329 : FVec F S512x256 .bf16) (v337 : FVec F S512x64 .f32), Vec F S512x64 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 k0_h2
    let ⟨v361, v369, v371⟩ : Σ' (v361 : BitVec 32) (v369 : FVec F S512x256 .f32), FVec F S512x256 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v327 v329 v337 v338
    let v405 : BitVec 32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v361 v369 v371
    let ⟨v420, v422, v434⟩ : Σ' (v420 : BitVec 32) (v422 : FVec F S512x256 .bf16), Vec F S512x80 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 k0_h2 v405
    let ⟨v454, v470, v471⟩ : Σ' (v454 : BitVec 32) (v470 : FVec F S512x256 .f32), FVec F S512x256 .bf16 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v420 v422 v434
    let v472 : Vec F S1x512x256 .bf16 ← Prog.lift (.load arg16 (Rect.unit (s := S2x512x256) ![1, 0, 0] S1x512x256.size inb_S2x512x256_S1x512x256_1_0_0).toLoadRect (View.loadsAt_vmem h_S1x512x256))
    Prog.lift (.store arg16 (Rect.unit (s := S2x512x256) ![1, 0, 0] S1x512x256.size inb_S2x512x256_S1x512x256_1_0_0) (k0_pay166 v471) Finset.univ (View.stores_vmem h_S1x512x256 (harg16.storeExact_slice rfl _ packedbf16_S2x512x256_S1x512x256_1_0_0) (fun _ => rfl)) (.inl rfl))
    let v476 : Vec F S1x512x256 .bf16 ← Prog.lift (.load arg17 (Rect.unit (s := S2x512x256) ![1, 0, 0] S1x512x256.size inb_S2x512x256_S1x512x256_1_0_0).toLoadRect (View.loadsAt_vmem h_S1x512x256))
    Prog.lift (.store arg17 (Rect.unit (s := S2x512x256) ![1, 0, 0] S1x512x256.size inb_S2x512x256_S1x512x256_1_0_0) (k0_pay167 v470) Finset.univ (View.stores_vmem h_S1x512x256 (harg17.storeExact_slice rfl _ packedbf16_S2x512x256_S1x512x256_1_0_0) (fun _ => rfl)) (.inl rfl))
    let v479 : Vec F S512x1 .f32 ← Prog.lift (.load arg20 (Rect.unit (s := S512x1) ![0, 0] S512x1.size inb_S512x1_S512x1_0_0).toLoadRect (View.loadsAt_vmem h_S512x1))
    let v483 : Vec F S512x1 .f32 ← Prog.lift (.load arg20 (Rect.unit (s := S512x1) ![0, 0] S512x1.size inb_S512x1_S512x1_0_0).toLoadRect (View.loadsAt_vmem h_S512x1))
    Prog.lift (.store arg20 (Rect.unit (s := S512x1) ![0, 0] S512x1.size inb_S512x1_S512x1_0_0) (k0_pay168 v470 v479) Finset.univ (View.stores_vmem_bits_univ h_S512x1 rfl) (.inl rfl))
    let v487 : Vec F S1x1x256 .f32 ← Prog.lift (.load arg13 (Rect.unit (s := S1x1x16384) ![0, 0, 16128] S1x1x256.size inb_S1x1x16384_S1x1x256_0_0_16128).toLoadRect (View.loadsAt_vmem h_S1x1x256))
    let v493 : Vec F S1x1x256 .f32 ← Prog.lift (.load arg13 (Rect.unit (s := S1x1x16384) ![0, 0, 16128] S1x1x256.size inb_S1x1x16384_S1x1x256_0_0_16128).toLoadRect (View.loadsAt_vmem h_S1x1x256))
    Prog.lift (.store arg13 (Rect.unit (s := S1x1x16384) ![0, 0, 16128] S1x1x256.size inb_S1x1x16384_S1x1x256_0_0_16128) (k0_pay169 v470 v487) Finset.univ (View.stores_vmem_bits_univ h_S1x1x256 rfl) (.inl rfl))
    pure ⟨⟩
  else do
    pure ⟨⟩
  let v251 : BitVec 32 := 16128#32
  let v252 : Vec F S1x512x256 .bf16 ← Prog.lift (.load arg17 (Rect.unit (s := S2x512x256) ![1, 0, 0] S1x512x256.size inb_S2x512x256_S1x512x256_1_0_0).toLoadRect (View.loadsAt_vmem h_S1x512x256))
  let v254 : Vec F S512x64 .f32 ← Prog.lift (.load arg19 (Rect.unit (s := S512x64) ![0, 0] S512x64.size inb_S512x64_S512x64_0_0).toLoadRect (View.loadsAt_vmem h_S512x64))
  let v255 : Vec F S1x512x256 .bf16 ← Prog.lift (.load arg16 (Rect.unit (s := S2x512x256) ![1, 0, 0] S1x512x256.size inb_S2x512x256_S1x512x256_1_0_0).toLoadRect (View.loadsAt_vmem h_S1x512x256))
  let v258 : Vec F S1x256x64 .bf16 ← Prog.lift (.load arg6 (Rect.unit (s := S1x16384x64) ![0, 16128, 0] S1x256x64.size inb_S1x16384x64_S1x256x64_0_16128_0).toLoadRect (View.loadsAt_vmem h_S1x256x64))
  let v262 : Vec F S512x64 .f32 ← Prog.lift (.load arg19 (Rect.unit (s := S512x64) ![0, 0] S512x64.size inb_S512x64_S512x64_0_0).toLoadRect (View.loadsAt_vmem h_S512x64))
  Prog.lift (.store arg19 (Rect.unit (s := S512x64) ![0, 0] S512x64.size inb_S512x64_S512x64_0_0) (k0_pay171 v254 v255 v258) Finset.univ (View.stores_vmem_bits_univ h_S512x64 rfl) (.inl rfl))
  pure ⟨v251, k0_pay170 v252⟩

/-- All that comes after the loop. -/
noncomputable def tailProg (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (v4 : FVec F S512x80 .bf16) (v6 : FVec F S64x512 .bf16) (v8 : FVec F S512x64 .bf16) :
    Prog (TpuEff nD τ sig (Elt F) Λ₀ .tc) PUnit := do
  let ⟨v251, v253⟩ : Σ' (v251 : BitVec 32), FVec F S512x256 .bf16 ← tailProg0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v6 v8
  let v296 : FVec F S512x1 .f32 ← k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v251 v253
  let v307 : Vec F S1x1x512 .f32 ← Prog.lift (.load arg12 (Rect.unit (s := S1x1x512) ![0, 0, 0] S1x1x512.size inb_S1x1x512_S1x1x512_0_0_0).toLoadRect (View.loadsAt_vmem h_S1x1x512))
  Prog.lift (.store arg12 (Rect.unit (s := S1x1x512) ![0, 0, 0] S1x1x512.size inb_S1x1x512_S1x1x512_0_0_0) (k0_pay1 v296) Finset.univ (View.stores_vmem_bits_univ h_S1x1x512 rfl) (.inl rfl))
  pure ⟨⟩

/-- The body is its three pieces in sequence. -/
theorem body_split (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) :
    cc0_fox_bwd_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
      = (headProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 >>= fun ⟨arg1, v4, v6, v8, v213, c0_i32_152, c0_i32_153, v231, c1_i32_154⟩ =>
          Scf.Loop.for (k0_t1_loop i) (k0_t1_ok i) c0_i32_153 (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v213 c0_i32_152 c0_i32_153 v231 c1_i32_154) >>= fun v236 =>
          Scf.Loop.for (k0_t2_loop i) (k0_t2_ok i) v236 (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v213 c0_i32_152 c0_i32_153 v231 c1_i32_154 (Scalar.addi c0_i32_152 (Scalar.muli (Scalar.divsi v231 c1_i32_154) c1_i32_154))) >>= fun _ =>
          tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v6 v8) := by
  simp only [cc0_fox_bwd_skel, headProg, tailProg, tailProg0, k0_part37_eq_skeleton, k0_part37_skel, bind_assoc, pure_bind]

end Cert.KernelIdeal.Gen

end
-- ==== Proof.Offsets.lean ====
/- Where the loop's accesses lie: each offset in closed form over the tile `j` and the trip. -/
module

public import proofs.«01_k».proof.Proof.Gen.KernelIdeal

@[expose] public section

set_option maxRecDepth 16384

namespace Cert.KernelIdeal.Gen

open Idealize.ShloMosaic Idealize.ShloMosaic.TcCoe Idealize.ShloMosaic.Tactic

/-- The loop makes `(31 - j) / 2` trips. -/
theorem trips_eq : ∀ i : grid0.Coords, (k0_t1_loop i).trips = (31 - (i 1).val) / 2 := by decide +kernel

/-- Four tiles to a trip: the rows of the queries the `r`-th pair of trip `k` multiplies first. -/
theorem k0_off12_eq : ∀ (i : grid0.Coords) (k : Fin (k0_t1_loop i).trips) (r : Fin 2),
    k0_off12 i k (BitVec.ofNat 32 (1 + r.val)) = ![0, 256 * (2 * (i 1).val + 4 * k.val + 2 * r.val + 3), 0] := by
  decide +kernel

theorem k0_off13_eq : ∀ (i : grid0.Coords) (k : Fin (k0_t1_loop i).trips) (r : Fin 2),
    k0_off13 i k (BitVec.ofNat 32 (1 + r.val)) = ![0, 256 * (2 * (i 1).val + 4 * k.val + 2 * r.val + 3), 0] := by
  decide +kernel

theorem k0_off14_eq : ∀ (i : grid0.Coords) (k : Fin (k0_t1_loop i).trips) (r : Fin 2),
    k0_off14 i k (BitVec.ofNat 32 (1 + r.val)) = ![0, 256 * (2 * (i 1).val + 4 * k.val + 2 * r.val + 1), 0] := by
  decide +kernel

theorem k0_off15_eq : ∀ (i : grid0.Coords) (k : Fin (k0_t1_loop i).trips) (r : Fin 2),
    k0_off15 i k (BitVec.ofNat 32 (1 + r.val)) = ![0, 256 * (2 * (i 1).val + 4 * k.val + 2 * r.val + 1), 0] := by
  decide +kernel

theorem k0_off16_eq : ∀ (i : grid0.Coords) (k : Fin (k0_t1_loop i).trips) (r : Fin 2),
    k0_off16 i k (BitVec.ofNat 32 (1 + r.val)) = ![0, 0, 256 * (2 * (i 1).val + 4 * k.val + 2 * r.val + 1)] := by
  decide +kernel

theorem k0_off17_eq : ∀ (i : grid0.Coords) (k : Fin (k0_t1_loop i).trips) (r : Fin 2),
    k0_off17 i k (BitVec.ofNat 32 (1 + r.val)) = ![0, 0, 256 * (2 * (i 1).val + 4 * k.val + 2 * r.val + 2)] := by
  decide +kernel

theorem k0_off22_eq : ∀ (i : grid0.Coords) (k : Fin (k0_t1_loop i).trips) (r : Fin 2),
    k0_off22 i k (BitVec.ofNat 32 (1 + r.val)) = ![0, 0, 256 * (2 * (i 1).val + 4 * k.val + 2 * r.val + 2)] := by
  decide +kernel

theorem k0_off23_eq : ∀ (i : grid0.Coords) (k : Fin (k0_t1_loop i).trips) (r : Fin 2),
    k0_off23 i k (BitVec.ofNat 32 (1 + r.val)) = ![0, 0, 256 * (2 * (i 1).val + 4 * k.val + 2 * r.val + 3)] := by
  decide +kernel

end Cert.KernelIdeal.Gen

end
-- ==== Proof.OffsetsMore.lean ====
/- The remaining offsets of the loop's accesses, and the instances that name the closed forms. -/
module

public import proofs.«01_k».proof.Proof.Offsets

@[expose] public section

set_option maxRecDepth 16384

namespace Cert.KernelIdeal.Gen

open Idealize.ShloMosaic Idealize.ShloMosaic.TcCoe Idealize.ShloMosaic.Tactic

theorem k0_off18_eq : ∀ (i : grid0.Coords) (k : Fin (k0_t1_loop i).trips) (r : Fin 2),
    k0_off18 i k (BitVec.ofNat 32 (1 + r.val))
      = ![0, 256 * min (2 * (i 1).val + 4 * k.val + 2 * r.val + 4) 63, 0] := by
  decide +kernel

theorem k0_off19_eq : ∀ (i : grid0.Coords) (k : Fin (k0_t1_loop i).trips) (r : Fin 2),
    k0_off19 i k (BitVec.ofNat 32 (1 + r.val))
      = ![0, 256 * min (2 * (i 1).val + 4 * k.val + 2 * r.val + 4) 63, 0] := by
  decide +kernel

theorem k0_off20_eq : ∀ (i : grid0.Coords) (k : Fin (k0_t1_loop i).trips) (r : Fin 2),
    k0_off20 i k (BitVec.ofNat 32 (1 + r.val)) = ![0, 256 * (2 * (i 1).val + 4 * k.val + 2 * r.val + 2), 0] := by
  decide +kernel

theorem k0_off21_eq : ∀ (i : grid0.Coords) (k : Fin (k0_t1_loop i).trips) (r : Fin 2),
    k0_off21 i k (BitVec.ofNat 32 (1 + r.val)) = ![0, 256 * (2 * (i 1).val + 4 * k.val + 2 * r.val + 2), 0] := by
  decide +kernel

end Cert.KernelIdeal.Gen

end
-- ==== Proof.Trip.lean ====
/- One trip of the loop over the query tiles, run: what its loads read and its stores leave. -/
module

public import proofs.«01_k».proof.Proof.OffsetsMore
public import proofs.«01_k».proof.Proof.Gen.KernelIdeal.Skeleton
public import proofs.«01_k».proof.Proof.Gen.KernelIdeal.Frame
public import Idealize.ShloMosaic.Lib.Exec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

instance closedOff_k0_off12_0 (i : grid0.Coords) (k : Fin (k0_t1_loop i).trips) : ClosedOff (k0_off12 i k 1#32) :=
  ⟨_, k0_off12_eq i k ⟨0, by decide⟩⟩
instance closedOff_k0_off12_1 (i : grid0.Coords) (k : Fin (k0_t1_loop i).trips) : ClosedOff (k0_off12 i k 2#32) :=
  ⟨_, k0_off12_eq i k ⟨1, by decide⟩⟩
instance closedOff_k0_off13_0 (i : grid0.Coords) (k : Fin (k0_t1_loop i).trips) : ClosedOff (k0_off13 i k 1#32) :=
  ⟨_, k0_off13_eq i k ⟨0, by decide⟩⟩
instance closedOff_k0_off13_1 (i : grid0.Coords) (k : Fin (k0_t1_loop i).trips) : ClosedOff (k0_off13 i k 2#32) :=
  ⟨_, k0_off13_eq i k ⟨1, by decide⟩⟩
instance closedOff_k0_off14_0 (i : grid0.Coords) (k : Fin (k0_t1_loop i).trips) : ClosedOff (k0_off14 i k 1#32) :=
  ⟨_, k0_off14_eq i k ⟨0, by decide⟩⟩
instance closedOff_k0_off14_1 (i : grid0.Coords) (k : Fin (k0_t1_loop i).trips) : ClosedOff (k0_off14 i k 2#32) :=
  ⟨_, k0_off14_eq i k ⟨1, by decide⟩⟩
instance closedOff_k0_off15_0 (i : grid0.Coords) (k : Fin (k0_t1_loop i).trips) : ClosedOff (k0_off15 i k 1#32) :=
  ⟨_, k0_off15_eq i k ⟨0, by decide⟩⟩
instance closedOff_k0_off15_1 (i : grid0.Coords) (k : Fin (k0_t1_loop i).trips) : ClosedOff (k0_off15 i k 2#32) :=
  ⟨_, k0_off15_eq i k ⟨1, by decide⟩⟩
instance closedOff_k0_off16_0 (i : grid0.Coords) (k : Fin (k0_t1_loop i).trips) : ClosedOff (k0_off16 i k 1#32) :=
  ⟨_, k0_off16_eq i k ⟨0, by decide⟩⟩
instance closedOff_k0_off16_1 (i : grid0.Coords) (k : Fin (k0_t1_loop i).trips) : ClosedOff (k0_off16 i k 2#32) :=
  ⟨_, k0_off16_eq i k ⟨1, by decide⟩⟩
instance closedOff_k0_off17_0 (i : grid0.Coords) (k : Fin (k0_t1_loop i).trips) : ClosedOff (k0_off17 i k 1#32) :=
  ⟨_, k0_off17_eq i k ⟨0, by decide⟩⟩
instance closedOff_k0_off17_1 (i : grid0.Coords) (k : Fin (k0_t1_loop i).trips) : ClosedOff (k0_off17 i k 2#32) :=
  ⟨_, k0_off17_eq i k ⟨1, by decide⟩⟩
instance closedOff_k0_off18_0 (i : grid0.Coords) (k : Fin (k0_t1_loop i).trips) : ClosedOff (k0_off18 i k 1#32) :=
  ⟨_, k0_off18_eq i k ⟨0, by decide⟩⟩
instance closedOff_k0_off18_1 (i : grid0.Coords) (k : Fin (k0_t1_loop i).trips) : ClosedOff (k0_off18 i k 2#32) :=
  ⟨_, k0_off18_eq i k ⟨1, by decide⟩⟩
instance closedOff_k0_off19_0 (i : grid0.Coords) (k : Fin (k0_t1_loop i).trips) : ClosedOff (k0_off19 i k 1#32) :=
  ⟨_, k0_off19_eq i k ⟨0, by decide⟩⟩
instance closedOff_k0_off19_1 (i : grid0.Coords) (k : Fin (k0_t1_loop i).trips) : ClosedOff (k0_off19 i k 2#32) :=
  ⟨_, k0_off19_eq i k ⟨1, by decide⟩⟩
instance closedOff_k0_off20_0 (i : grid0.Coords) (k : Fin (k0_t1_loop i).trips) : ClosedOff (k0_off20 i k 1#32) :=
  ⟨_, k0_off20_eq i k ⟨0, by decide⟩⟩
instance closedOff_k0_off20_1 (i : grid0.Coords) (k : Fin (k0_t1_loop i).trips) : ClosedOff (k0_off20 i k 2#32) :=
  ⟨_, k0_off20_eq i k ⟨1, by decide⟩⟩
instance closedOff_k0_off21_0 (i : grid0.Coords) (k : Fin (k0_t1_loop i).trips) : ClosedOff (k0_off21 i k 1#32) :=
  ⟨_, k0_off21_eq i k ⟨0, by decide⟩⟩
instance closedOff_k0_off21_1 (i : grid0.Coords) (k : Fin (k0_t1_loop i).trips) : ClosedOff (k0_off21 i k 2#32) :=
  ⟨_, k0_off21_eq i k ⟨1, by decide⟩⟩
instance closedOff_k0_off22_0 (i : grid0.Coords) (k : Fin (k0_t1_loop i).trips) : ClosedOff (k0_off22 i k 1#32) :=
  ⟨_, k0_off22_eq i k ⟨0, by decide⟩⟩
instance closedOff_k0_off22_1 (i : grid0.Coords) (k : Fin (k0_t1_loop i).trips) : ClosedOff (k0_off22 i k 2#32) :=
  ⟨_, k0_off22_eq i k ⟨1, by decide⟩⟩
instance closedOff_k0_off23_0 (i : grid0.Coords) (k : Fin (k0_t1_loop i).trips) : ClosedOff (k0_off23 i k 1#32) :=
  ⟨_, k0_off23_eq i k ⟨0, by decide⟩⟩
instance closedOff_k0_off23_1 (i : grid0.Coords) (k : Fin (k0_t1_loop i).trips) : ClosedOff (k0_off23 i k 2#32) :=
  ⟨_, k0_off23_eq i k ⟨1, by decide⟩⟩

set_option maxHeartbeats 4000000 in
/-- The trip runs from buffers holding `x·` and leaves each buffer it stores into with a list of pieces
    written over what it held; the queries, cotangents, logarithms and row sums it leaves as they were. -/
noncomputable def tripRun (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (arg1 : BitVec 32) (v4 : FVec F S512x80 .bf16) (v6 : FVec F S64x512 .bf16) (v8 : FVec F S512x64 .bf16) (v213 c0_i32_152 c0_i32_153 v231 c1_i32_154 acc : BitVec 32) (k : Fin (k0_t1_loop i).trips)
    (x2 : Vec F S1x16384x80 .bf16) (x6 : Vec F S1x16384x64 .bf16) (x7 : Vec F S1x1x16384 .f32) (x8 : Vec F S1x1x16384 .f32) (x9 : Vec F S1x64x16384 .f32) (x13 : Vec F S1x1x16384 .f32) (x14 : Vec F S2x512x256 .f32) (x15 : Vec F S2x512x256 .f32) (x16 : Vec F S2x512x256 .bf16) (x17 : Vec F S2x512x256 .bf16) (x18 : Vec F S512x80 .f32) (x19 : Vec F S512x64 .f32) (x20 : Vec F S512x1 .f32) :
    Σ' (L9 : List (View.Piece (Elt F) S1x64x16384 .f32)), Σ' (L13 : List (View.Piece (Elt F) S1x1x16384 .f32)), Σ' (L14 : List (View.Piece (Elt F) S2x512x256 .f32)), Σ' (L15 : List (View.Piece (Elt F) S2x512x256 .f32)), Σ' (L16 : List (View.Piece (Elt F) S2x512x256 .bf16)), Σ' (L17 : List (View.Piece (Elt F) S2x512x256 .bf16)), Σ' (L18 : List (View.Piece (Elt F) S512x80 .f32)), Σ' (L19 : List (View.Piece (Elt F) S512x64 .f32)), { L20 : List (View.Piece (Elt F) S512x1 .f32) //
      ∀ (E : Set ℕ) (K : BitVec 32 → sProp 𝕄),
        iprop(owns (c : Thread nD τ) arg2 fullShare x2 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ ((owns (c : Thread nD τ) arg2 fullShare x2 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20)) -∗ K 0#32))
      ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v213 c0_i32_152 c0_i32_153 v231 c1_i32_154 k acc) K } := by
  refine ⟨?_, ?_, ?_, ?_, ?_, ?_, ?_, ?_, ?_, fun E K => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f2, %hf2, H2⟩, ⟨%f6, %hf6, H6⟩, ⟨%f7, %hf7, H7⟩, ⟨%f8, %hf8, H8⟩, ⟨%f9, %hf9, H9⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg2.eq_unread hf2; obtain rfl := harg6.eq_unread hf6; obtain rfl := harg7.eq_unread hf7; obtain rfl := harg8.eq_unread hf8; obtain rfl := harg9.eq_unread hf9; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec
    sl_step
    iapply Hk
    isplitl [H2]
    · iexists _; isplitr; · ipureintro; exact harg2.read_unread _
      iexact H2
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

end Cert.KernelIdeal.Gen

end
-- ==== Proof.Tiles.lean ====
/- The tiles of the arrays the kernel works on — 256 rows of the queries, 256 columns of the transposed
   gradient, one of the two slots of a buffer — and how a load reads them and a store replaces them. -/
module

public import proofs.«01_k».proof.KernelIdeal
public import Idealize.ShloMosaic.Lib.Exec
public import Idealize.ShloMosaic.Lib.Tactic
public import Idealize.ShloMosaic.Lib.WholeRead
public import Idealize.ShloMosaic.Lib.WritesUnit
public import Idealize.ShloMosaic.Lib.ValueIdxCore

@[expose] public section

set_option maxRecDepth 16384

noncomputable section

namespace Cert.Fox

open Idealize.ShloMosaic
open Idealize.ShloMosaic.ValueIdx

variable {F : FTy → Type}

/-- Tile `t` of the rows of an array of 16384 rows. -/
def rowTile {D : ℕ} {e : EltTy} (x : Vec F ⟨3, ![1, 16384, D]⟩ e) (t : ℕ) : Vec F ⟨3, ![1, 256, D]⟩ e :=
  fun y => x (ix3 (y 0) ⟨(256 * t + (y 1).val) % 16384, Nat.mod_lt _ (by decide)⟩ (y 2))

/-- Tile `t` of the columns of an array of 16384 columns. -/
def colTile {D : ℕ} {e : EltTy} (x : Vec F ⟨3, ![1, D, 16384]⟩ e) (t : ℕ) : Vec F ⟨3, ![1, D, 256]⟩ e :=
  fun y => x (ix3 (y 0) (y 1) ⟨(256 * t + (y 2).val) % 16384, Nat.mod_lt _ (by decide)⟩)

/-- Slot `b` of a buffer of two. -/
def slot {e : EltTy} (x : Vec F ⟨3, ![2, 512, 256]⟩ e) (b : ℕ) : Vec F ⟨3, ![1, 512, 256]⟩ e :=
  fun y => x (ix3 ⟨b % 2, Nat.mod_lt _ (by decide)⟩ (y 1) (y 2))

/-- A family with its member `t` replaced. -/
def upd {α : Type} (f : ℕ → α) (t : ℕ) (w : α) : ℕ → α := fun t' => if t' = t then w else f t'

variable {sig : RefSig} {κ : Kind} {sp : Space} {e : EltTy}

/-- A load of 256 rows reads their tile. -/
theorem readAt_rows {D : ℕ} (v : View sig κ sp ⟨3, ![1, 16384, D]⟩ e) {off : Fin 3 → ℕ} {t : ℕ}
    (h : off = ![0, 256 * t, 0]) (inb : ∀ a : Fin 3, off a + (![1, 256, D] : Fin 3 → ℕ) a ≤ (![1, 16384, D] : Fin 3 → ℕ) a)
    (f : v.ty.Contents (Elt F)) :
    View.readAt (Elt F) v (Rect.unit (s := ⟨3, ![1, 16384, D]⟩) off ![1, 256, D] inb).toLoadRect f
      = rowTile (F := F) (v.read (Elt F) f) t := by
  subst h
  funext y
  show v.read (Elt F) f _ = v.read (Elt F) f _
  congr 1
  have h1 := inb 1
  have hy : (y 1).val < 256 := (y 1).isLt
  simp only [Matrix.cons_val_one, Matrix.cons_val_zero] at h1
  funext a
  apply Fin.ext
  fin_cases a
  · show 0 + 1 * (y 0).val = (y 0).val
    omega
  · show 256 * t + 1 * (y 1).val = (256 * t + (y 1).val) % 16384
    rw [Nat.mod_eq_of_lt (by omega)]; omega
  · show 0 + 1 * (y 2).val = (y 2).val
    omega

/-- A load of 256 columns reads their tile. -/
theorem readAt_cols {D : ℕ} (v : View sig κ sp ⟨3, ![1, D, 16384]⟩ e) {off : Fin 3 → ℕ} {t : ℕ}
    (h : off = ![0, 0, 256 * t]) (inb : ∀ a : Fin 3, off a + (![1, D, 256] : Fin 3 → ℕ) a ≤ (![1, D, 16384] : Fin 3 → ℕ) a)
    (f : v.ty.Contents (Elt F)) :
    View.readAt (Elt F) v (Rect.unit (s := ⟨3, ![1, D, 16384]⟩) off ![1, D, 256] inb).toLoadRect f
      = colTile (F := F) (v.read (Elt F) f) t := by
  subst h
  funext y
  show v.read (Elt F) f _ = v.read (Elt F) f _
  congr 1
  have h1 := inb 2
  have hy : (y 2).val < 256 := (y 2).isLt
  simp only [Matrix.cons_val] at h1
  funext a
  apply Fin.ext
  fin_cases a
  · show 0 + 1 * (y 0).val = (y 0).val
    omega
  · show 0 + 1 * (y 1).val = (y 1).val
    omega
  · show 256 * t + 1 * (y 2).val = (256 * t + (y 2).val) % 16384
    rw [Nat.mod_eq_of_lt (by omega)]; omega

/-- A store of 256 columns replaces their tile and no other. -/
theorem colTile_writes {D : ℕ} (v : View sig κ sp ⟨3, ![1, D, 16384]⟩ e) {off : Fin 3 → ℕ} {t t' : ℕ}
    (h : off = ![0, 0, 256 * t]) (ht' : t' < 64)
    (inb : ∀ a : Fin 3, off a + (![1, D, 256] : Fin 3 → ℕ) a ≤ (![1, D, 16384] : Fin 3 → ℕ) a)
    (f : v.ty.Contents (Elt F)) (w : Vec F ⟨3, ![1, D, 256]⟩ e) (L : List (View.Piece (Elt F) ⟨3, ![1, D, 16384]⟩ e)) :
    colTile (F := F) (v.read (Elt F) (v.writes (Elt F) f (⟨Rect.unit (s := ⟨3, ![1, D, 16384]⟩) off ![1, D, 256] inb, w⟩ :: L))) t'
      = upd (colTile (F := F) (v.read (Elt F) (v.writes (Elt F) f L))) t w t' := by
  unfold upd
  have h1 := inb 2
  rw [h] at h1
  simp only [Matrix.cons_val] at h1
  split
  · next htt =>
    subst htt
    funext y
    have hy : (y 2).val < 256 := (y 2).isLt
    refine View.read_writes_cons_unit_of_mem v f inb w L _ y h ?_
    intro a
    fin_cases a
    · show (y 0).val = 0 + (y 0).val
      omega
    · show (y 1).val = 0 + (y 1).val
      omega
    · show (256 * t' + (y 2).val) % 16384 = 256 * t' + (y 2).val
      exact Nat.mod_eq_of_lt (by omega)
  · next htt =>
    funext y
    have hy : (y 2).val < 256 := (y 2).isLt
    refine View.read_writes_cons_unit_of_not_mem v f inb w L _ h 2 ?_
    show (256 * t' + (y 2).val) % 16384 < 256 * t ∨ 256 * t + 256 ≤ (256 * t' + (y 2).val) % 16384
    rw [Nat.mod_eq_of_lt (by omega)]
    omega

/-- A load of a slot reads it. -/
theorem readAt_slot (b : ℕ) (hb : b < 2) (v : View sig κ sp ⟨3, ![2, 512, 256]⟩ e)
    (inb : ∀ a : Fin 3, (![b, 0, 0] : Fin 3 → ℕ) a + (![1, 512, 256] : Fin 3 → ℕ) a ≤ (![2, 512, 256] : Fin 3 → ℕ) a)
    (f : v.ty.Contents (Elt F)) :
    View.readAt (Elt F) v (Rect.unit (s := ⟨3, ![2, 512, 256]⟩) ![b, 0, 0] ![1, 512, 256] inb).toLoadRect f
      = slot (F := F) (v.read (Elt F) f) b := by
  funext y
  show v.read (Elt F) f _ = v.read (Elt F) f _
  congr 1
  have hy : (y 0).val < 1 := (y 0).isLt
  funext a
  apply Fin.ext
  fin_cases a
  · show b + 1 * (y 0).val = b % 2
    omega
  · show 0 + 1 * (y 1).val = (y 1).val
    omega
  · show 0 + 1 * (y 2).val = (y 2).val
    omega

/-- A store of a slot replaces it and not the other. -/
theorem slot_writes (b b' : ℕ) (hb : b < 2) (hb' : b' < 2) (v : View sig κ sp ⟨3, ![2, 512, 256]⟩ e)
    (inb : ∀ a : Fin 3, (![b, 0, 0] : Fin 3 → ℕ) a + (![1, 512, 256] : Fin 3 → ℕ) a ≤ (![2, 512, 256] : Fin 3 → ℕ) a)
    (f : v.ty.Contents (Elt F)) (w : Vec F ⟨3, ![1, 512, 256]⟩ e) (L : List (View.Piece (Elt F) ⟨3, ![2, 512, 256]⟩ e)) :
    slot (F := F) (v.read (Elt F) (v.writes (Elt F) f (⟨Rect.unit (s := ⟨3, ![2, 512, 256]⟩) ![b, 0, 0] ![1, 512, 256] inb, w⟩ :: L))) b'
      = upd (slot (F := F) (v.read (Elt F) (v.writes (Elt F) f L))) b w b' := by
  unfold upd
  split
  · next htt =>
    subst htt
    funext y
    have hy : (y 0).val < 1 := (y 0).isLt
    refine View.read_writes_cons_unit_of_mem v f inb w L _ y rfl ?_
    intro a
    fin_cases a
    · show b' % 2 = b' + (y 0).val
      omega
    · show (y 1).val = 0 + (y 1).val
      omega
    · show (y 2).val = 0 + (y 2).val
      omega
  · next htt =>
    funext y
    refine View.read_writes_cons_unit_of_not_mem v f inb w L _ rfl 0 ?_
    show b' % 2 < b ∨ b + 1 ≤ b' % 2
    omega

/-- A load of the whole of a two-axis array reads it. -/
theorem readAt_whole2 {m n : ℕ} (v : View sig κ sp ⟨2, ![m, n]⟩ e)
    (inb : ∀ a : Fin 2, (![0, 0] : Fin 2 → ℕ) a + (![m, n] : Fin 2 → ℕ) a ≤ (![m, n] : Fin 2 → ℕ) a)
    (f : v.ty.Contents (Elt F)) :
    View.readAt (Elt F) v (Rect.unit (s := ⟨2, ![m, n]⟩) ![0, 0] ![m, n] inb).toLoadRect f = v.read (Elt F) f := by
  funext y
  show v.read (Elt F) f _ = v.read (Elt F) f _
  congr 1
  funext a
  apply Fin.ext
  fin_cases a
  · show 0 + 1 * (y 0).val = (y 0).val
    omega
  · show 0 + 1 * (y 1).val = (y 1).val
    omega

/-- A store of the whole of a two-axis array replaces it. -/
theorem read_writes_whole2 {m n : ℕ} (v : View sig κ sp ⟨2, ![m, n]⟩ e)
    (inb : ∀ a : Fin 2, (![0, 0] : Fin 2 → ℕ) a + (![m, n] : Fin 2 → ℕ) a ≤ (![m, n] : Fin 2 → ℕ) a)
    (f : v.ty.Contents (Elt F)) (w : Vec F ⟨2, ![m, n]⟩ e) (L : List (View.Piece (Elt F) ⟨2, ![m, n]⟩ e)) :
    v.read (Elt F) (v.writes (Elt F) f (⟨Rect.unit (s := ⟨2, ![m, n]⟩) ![0, 0] ![m, n] inb, w⟩ :: L)) = w := by
  funext y
  refine View.read_writes_cons_unit_of_mem v f inb w L y y rfl ?_
  intro a
  fin_cases a
  · show (y 0).val = 0 + (y 0).val
    omega
  · show (y 1).val = 0 + (y 1).val
    omega

/-- A load of the whole of a three-axis array reads it. -/
theorem readAt_whole3 {l m n : ℕ} (v : View sig κ sp ⟨3, ![l, m, n]⟩ e)
    (inb : ∀ a : Fin 3, (![0, 0, 0] : Fin 3 → ℕ) a + (![l, m, n] : Fin 3 → ℕ) a ≤ (![l, m, n] : Fin 3 → ℕ) a)
    (f : v.ty.Contents (Elt F)) :
    View.readAt (Elt F) v (Rect.unit (s := ⟨3, ![l, m, n]⟩) ![0, 0, 0] ![l, m, n] inb).toLoadRect f = v.read (Elt F) f := by
  funext y
  show v.read (Elt F) f _ = v.read (Elt F) f _
  congr 1
  funext a
  apply Fin.ext
  fin_cases a
  · show 0 + 1 * (y 0).val = (y 0).val
    omega
  · show 0 + 1 * (y 1).val = (y 1).val
    omega
  · show 0 + 1 * (y 2).val = (y 2).val
    omega

/-- A store of the whole of a three-axis array replaces it. -/
theorem read_writes_whole3 {l m n : ℕ} (v : View sig κ sp ⟨3, ![l, m, n]⟩ e)
    (inb : ∀ a : Fin 3, (![0, 0, 0] : Fin 3 → ℕ) a + (![l, m, n] : Fin 3 → ℕ) a ≤ (![l, m, n] : Fin 3 → ℕ) a)
    (f : v.ty.Contents (Elt F)) (w : Vec F ⟨3, ![l, m, n]⟩ e) (L : List (View.Piece (Elt F) ⟨3, ![l, m, n]⟩ e)) :
    v.read (Elt F) (v.writes (Elt F) f (⟨Rect.unit (s := ⟨3, ![l, m, n]⟩) ![0, 0, 0] ![l, m, n] inb, w⟩ :: L)) = w := by
  funext y
  refine View.read_writes_cons_unit_of_mem v f inb w L y y rfl ?_
  intro a
  fin_cases a
  · show (y 0).val = 0 + (y 0).val
    omega
  · show (y 1).val = 0 + (y 1).val
    omega
  · show (y 2).val = 0 + (y 2).val
    omega

end Cert.Fox

end
-- ==== Proof.Steps.lean ====
/- The steps of the kernel's body as functions: what each block of 256 queries adds to the running
   sums. The printed body holds one copy of each step for each stage it is unrolled into; here every
   copy is shown to be the same function, and the whole state of the sums is one record. -/
module

public import proofs.«01_k».proof.Proof.Tiles
public import proofs.«01_k».proof.Proof.Gen.KernelIdeal.Skeleton

@[expose] public section

set_option maxRecDepth 65536

noncomputable section

namespace Cert.KernelIdeal.Gen

open Idealize.ShloMosaic Cert.Fox

variable {F : FTy → Type} [FloatOps F] [Named F]

/-- The scores of a block of keys against a tile of queries. -/
def prodKq (v4 : FVec F S512x80 .bf16) (q : Vec F S1x256x80 .bf16) : Vec F S1x512x256 .f32 := k0_pay2 v4 q
/-- The values of a block of keys against a tile of cotangents. -/
def prodDp (v8 : FVec F S512x64 .bf16) (g : Vec F S1x256x64 .bf16) : Vec F S1x512x256 .f32 := k0_pay3 v8 g
/-- The probabilities of a tile from its scores and the saved logarithms. -/
def probs (kq : Vec F S1x512x256 .f32) (l : Vec F S1x1x256 .f32) : FVec F S512x256 .f32 := k0_pay9 (k0_pay8 kq) l
/-- The probabilities of the first tile of the diagonal block: a key after the query counts for nothing. -/
def probsLo (kq : Vec F S1x512x256 .f32) (l : Vec F S1x1x256 .f32) : FVec F S512x256 .f32 := k0_pay144 kq l
/-- The probabilities of the second tile of the diagonal block. -/
def probsHi (kq : Vec F S1x512x256 .f32) (l : Vec F S1x1x256 .f32) : FVec F S512x256 .f32 := k0_pay158 kq l
/-- The gradient of the scores of a tile. -/
def gradS (p : FVec F S512x256 .f32) (dp : Vec F S1x512x256 .f32) (dl : Vec F S1x1x256 .f32) : FVec F S512x256 .f32 :=
  k0_pay117 p (k0_pay8 dp) dl
/-- A tile narrowed for the products that use it. -/
def narrow (p : FVec F S512x256 .f32) : Vec F S1x512x256 .bf16 := k0_pay118 p
/-- The gradient of the values with one tile added. -/
def accDv (dv : Vec F S512x64 .f32) (pb : Vec F S1x512x256 .bf16) (g : Vec F S1x256x64 .bf16) : Vec F S512x64 .f32 := k0_pay5 dv pb g
/-- The gradient of the keys with one tile added. -/
def accDk (dk : Vec F S512x80 .f32) (ds : Vec F S1x512x256 .bf16) (q : Vec F S1x256x80 .bf16) : Vec F S512x80 .f32 :=
  k0_pay6 (k0_pay4 ds) dk q
/-- The gradient of a tile of queries with one block of keys added. -/
def accDq (v6 : FVec F S64x512 .bf16) (dq : Vec F S1x64x256 .f32) (ds : Vec F S1x512x256 .bf16) : Vec F S1x64x256 .f32 :=
  k0_pay7 v6 (k0_pay4 ds) dq
/-- The gradient of the keys' gates with one tile taken off. -/
def accDfk (f : Vec F S512x1 .f32) (s : FVec F S512x256 .f32) : Vec F S512x1 .f32 := k0_pay162 s f
/-- The gradient of the queries' gates with one block of keys added. -/
def accDfq (f : Vec F S1x1x256 .f32) (s : FVec F S512x256 .f32) : Vec F S1x1x256 .f32 := k0_pay150 s f

theorem step_2 (v4 : FVec F S512x80 .bf16)(q : Vec F S1x256x80 .bf16) : k0_pay2 v4 q = prodKq v4 q := rfl
theorem step_16 (v4 : FVec F S512x80 .bf16)(q : Vec F S1x256x80 .bf16) : k0_pay16 v4 q = prodKq v4 q := rfl
theorem step_30 (v4 : FVec F S512x80 .bf16)(q : Vec F S1x256x80 .bf16) : k0_pay30 v4 q = prodKq v4 q := rfl
theorem step_43 (v4 : FVec F S512x80 .bf16)(q : Vec F S1x256x80 .bf16) : k0_pay43 v4 q = prodKq v4 q := rfl
theorem step_55 (v4 : FVec F S512x80 .bf16)(q : Vec F S1x256x80 .bf16) : k0_pay55 v4 q = prodKq v4 q := rfl
theorem step_69 (v4 : FVec F S512x80 .bf16)(q : Vec F S1x256x80 .bf16) : k0_pay69 v4 q = prodKq v4 q := rfl
theorem step_83 (v4 : FVec F S512x80 .bf16)(q : Vec F S1x256x80 .bf16) : k0_pay83 v4 q = prodKq v4 q := rfl
theorem step_96 (v4 : FVec F S512x80 .bf16)(q : Vec F S1x256x80 .bf16) : k0_pay96 v4 q = prodKq v4 q := rfl
theorem step_108 (v4 : FVec F S512x80 .bf16)(q : Vec F S1x256x80 .bf16) : k0_pay108 v4 q = prodKq v4 q := rfl
theorem step_122 (v4 : FVec F S512x80 .bf16)(q : Vec F S1x256x80 .bf16) : k0_pay122 v4 q = prodKq v4 q := rfl
theorem step_142 (v4 : FVec F S512x80 .bf16)(q : Vec F S1x256x80 .bf16) : k0_pay142 v4 q = prodKq v4 q := rfl
theorem step_151 (v4 : FVec F S512x80 .bf16)(q : Vec F S1x256x80 .bf16) : k0_pay151 v4 q = prodKq v4 q := rfl
theorem step_140 (v3 : Vec F S1x512x80 .bf16) (q : Vec F S1x256x80 .bf16) : k0_pay140 (k0_pay139 v3 q) = prodKq (k0_pay133 v3) q := rfl
theorem step_3 (v8 : FVec F S512x64 .bf16)(g : Vec F S1x256x64 .bf16) : k0_pay3 v8 g = prodDp v8 g := rfl
theorem step_17 (v8 : FVec F S512x64 .bf16)(g : Vec F S1x256x64 .bf16) : k0_pay17 v8 g = prodDp v8 g := rfl
theorem step_31 (v8 : FVec F S512x64 .bf16)(g : Vec F S1x256x64 .bf16) : k0_pay31 v8 g = prodDp v8 g := rfl
theorem step_44 (v8 : FVec F S512x64 .bf16)(g : Vec F S1x256x64 .bf16) : k0_pay44 v8 g = prodDp v8 g := rfl
theorem step_56 (v8 : FVec F S512x64 .bf16)(g : Vec F S1x256x64 .bf16) : k0_pay56 v8 g = prodDp v8 g := rfl
theorem step_70 (v8 : FVec F S512x64 .bf16)(g : Vec F S1x256x64 .bf16) : k0_pay70 v8 g = prodDp v8 g := rfl
theorem step_84 (v8 : FVec F S512x64 .bf16)(g : Vec F S1x256x64 .bf16) : k0_pay84 v8 g = prodDp v8 g := rfl
theorem step_97 (v8 : FVec F S512x64 .bf16)(g : Vec F S1x256x64 .bf16) : k0_pay97 v8 g = prodDp v8 g := rfl
theorem step_109 (v8 : FVec F S512x64 .bf16)(g : Vec F S1x256x64 .bf16) : k0_pay109 v8 g = prodDp v8 g := rfl
theorem step_123 (v8 : FVec F S512x64 .bf16)(g : Vec F S1x256x64 .bf16) : k0_pay123 v8 g = prodDp v8 g := rfl
theorem step_141 (v8 : FVec F S512x64 .bf16)(g : Vec F S1x256x64 .bf16) : k0_pay141 v8 g = prodDp v8 g := rfl
theorem step_143 (v8 : FVec F S512x64 .bf16)(g : Vec F S1x256x64 .bf16) : k0_pay143 v8 g = prodDp v8 g := rfl
theorem step_152 (v8 : FVec F S512x64 .bf16)(g : Vec F S1x256x64 .bf16) : k0_pay152 v8 g = prodDp v8 g := rfl
theorem step_5 (dv : Vec F S512x64 .f32)(p : Vec F S1x512x256 .bf16)(g : Vec F S1x256x64 .bf16) : k0_pay5 dv p g = accDv dv p g := rfl
theorem step_19 (dv : Vec F S512x64 .f32)(p : Vec F S1x512x256 .bf16)(g : Vec F S1x256x64 .bf16) : k0_pay19 dv p g = accDv dv p g := rfl
theorem step_33 (dv : Vec F S512x64 .f32)(p : Vec F S1x512x256 .bf16)(g : Vec F S1x256x64 .bf16) : k0_pay33 dv p g = accDv dv p g := rfl
theorem step_46 (dv : Vec F S512x64 .f32)(p : Vec F S1x512x256 .bf16)(g : Vec F S1x256x64 .bf16) : k0_pay46 dv p g = accDv dv p g := rfl
theorem step_58 (dv : Vec F S512x64 .f32)(p : Vec F S1x512x256 .bf16)(g : Vec F S1x256x64 .bf16) : k0_pay58 dv p g = accDv dv p g := rfl
theorem step_72 (dv : Vec F S512x64 .f32)(p : Vec F S1x512x256 .bf16)(g : Vec F S1x256x64 .bf16) : k0_pay72 dv p g = accDv dv p g := rfl
theorem step_86 (dv : Vec F S512x64 .f32)(p : Vec F S1x512x256 .bf16)(g : Vec F S1x256x64 .bf16) : k0_pay86 dv p g = accDv dv p g := rfl
theorem step_99 (dv : Vec F S512x64 .f32)(p : Vec F S1x512x256 .bf16)(g : Vec F S1x256x64 .bf16) : k0_pay99 dv p g = accDv dv p g := rfl
theorem step_125 (dv : Vec F S512x64 .f32)(p : Vec F S1x512x256 .bf16)(g : Vec F S1x256x64 .bf16) : k0_pay125 dv p g = accDv dv p g := rfl
theorem step_154 (dv : Vec F S512x64 .f32)(p : Vec F S1x512x256 .bf16)(g : Vec F S1x256x64 .bf16) : k0_pay154 dv p g = accDv dv p g := rfl
theorem step_171 (dv : Vec F S512x64 .f32)(p : Vec F S1x512x256 .bf16)(g : Vec F S1x256x64 .bf16) : k0_pay171 dv p g = accDv dv p g := rfl
theorem step_112 (dv : Vec F S512x64 .f32)(p : Vec F S1x512x256 .bf16)(g : Vec F S1x256x64 .bf16) : k0_pay112 (k0_pay111 dv p g) = accDv dv p g := rfl
theorem step_6 (dk : Vec F S512x80 .f32)(p : Vec F S1x512x256 .bf16)(q : Vec F S1x256x80 .bf16) : k0_pay6 (k0_pay4 p) dk q = accDk dk p q := rfl
theorem step_7 (v6 : FVec F S64x512 .bf16)(dq : Vec F S1x64x256 .f32)(p : Vec F S1x512x256 .bf16) : k0_pay7 v6 (k0_pay4 p) dq = accDq v6 dq p := rfl
theorem step_20 (dk : Vec F S512x80 .f32)(p : Vec F S1x512x256 .bf16)(q : Vec F S1x256x80 .bf16) : k0_pay20 (k0_pay18 p) dk q = accDk dk p q := rfl
theorem step_21 (v6 : FVec F S64x512 .bf16)(dq : Vec F S1x64x256 .f32)(p : Vec F S1x512x256 .bf16) : k0_pay21 v6 (k0_pay18 p) dq = accDq v6 dq p := rfl
theorem step_34 (dk : Vec F S512x80 .f32)(p : Vec F S1x512x256 .bf16)(q : Vec F S1x256x80 .bf16) : k0_pay34 (k0_pay32 p) dk q = accDk dk p q := rfl
theorem step_35 (v6 : FVec F S64x512 .bf16)(dq : Vec F S1x64x256 .f32)(p : Vec F S1x512x256 .bf16) : k0_pay35 v6 (k0_pay32 p) dq = accDq v6 dq p := rfl
theorem step_47 (dk : Vec F S512x80 .f32)(p : Vec F S1x512x256 .bf16)(q : Vec F S1x256x80 .bf16) : k0_pay47 (k0_pay45 p) dk q = accDk dk p q := rfl
theorem step_48 (v6 : FVec F S64x512 .bf16)(dq : Vec F S1x64x256 .f32)(p : Vec F S1x512x256 .bf16) : k0_pay48 v6 (k0_pay45 p) dq = accDq v6 dq p := rfl
theorem step_59 (dk : Vec F S512x80 .f32)(p : Vec F S1x512x256 .bf16)(q : Vec F S1x256x80 .bf16) : k0_pay59 (k0_pay57 p) dk q = accDk dk p q := rfl
theorem step_60 (v6 : FVec F S64x512 .bf16)(dq : Vec F S1x64x256 .f32)(p : Vec F S1x512x256 .bf16) : k0_pay60 v6 (k0_pay57 p) dq = accDq v6 dq p := rfl
theorem step_73 (dk : Vec F S512x80 .f32)(p : Vec F S1x512x256 .bf16)(q : Vec F S1x256x80 .bf16) : k0_pay73 (k0_pay71 p) dk q = accDk dk p q := rfl
theorem step_74 (v6 : FVec F S64x512 .bf16)(dq : Vec F S1x64x256 .f32)(p : Vec F S1x512x256 .bf16) : k0_pay74 v6 (k0_pay71 p) dq = accDq v6 dq p := rfl
theorem step_87 (dk : Vec F S512x80 .f32)(p : Vec F S1x512x256 .bf16)(q : Vec F S1x256x80 .bf16) : k0_pay87 (k0_pay85 p) dk q = accDk dk p q := rfl
theorem step_88 (v6 : FVec F S64x512 .bf16)(dq : Vec F S1x64x256 .f32)(p : Vec F S1x512x256 .bf16) : k0_pay88 v6 (k0_pay85 p) dq = accDq v6 dq p := rfl
theorem step_100 (dk : Vec F S512x80 .f32)(p : Vec F S1x512x256 .bf16)(q : Vec F S1x256x80 .bf16) : k0_pay100 (k0_pay98 p) dk q = accDk dk p q := rfl
theorem step_101 (v6 : FVec F S64x512 .bf16)(dq : Vec F S1x64x256 .f32)(p : Vec F S1x512x256 .bf16) : k0_pay101 v6 (k0_pay98 p) dq = accDq v6 dq p := rfl
theorem step_113 (dk : Vec F S512x80 .f32)(p : Vec F S1x512x256 .bf16)(q : Vec F S1x256x80 .bf16) : k0_pay113 (k0_pay110 p) dk q = accDk dk p q := rfl
theorem step_114 (v6 : FVec F S64x512 .bf16)(dq : Vec F S1x64x256 .f32)(p : Vec F S1x512x256 .bf16) : k0_pay114 v6 (k0_pay110 p) dq = accDq v6 dq p := rfl
theorem step_126 (dk : Vec F S512x80 .f32)(p : Vec F S1x512x256 .bf16)(q : Vec F S1x256x80 .bf16) : k0_pay126 (k0_pay124 p) dk q = accDk dk p q := rfl
theorem step_127 (v6 : FVec F S64x512 .bf16)(dq : Vec F S1x64x256 .f32)(p : Vec F S1x512x256 .bf16) : k0_pay127 v6 (k0_pay124 p) dq = accDq v6 dq p := rfl
theorem step_172 (dk : Vec F S512x80 .f32)(p : Vec F S1x512x256 .bf16)(q : Vec F S1x256x80 .bf16) : k0_pay172 (k0_pay170 p) dk q = accDk dk p q := rfl
theorem step_173 (v6 : FVec F S64x512 .bf16)(dq : Vec F S1x64x256 .f32)(p : Vec F S1x512x256 .bf16) : k0_pay173 v6 (k0_pay170 p) dq = accDq v6 dq p := rfl
theorem step_155 (dk : Vec F S512x80 .f32)(p : Vec F S1x512x256 .bf16)(q : Vec F S1x256x80 .bf16) : k0_pay155 p dk q = accDk dk p q := rfl
theorem step_157 (v6 : FVec F S64x512 .bf16)(dq : Vec F S1x64x256 .f32)(p : Vec F S1x512x256 .bf16) : k0_pay157 (k0_pay156 v6 p dq) = accDq v6 dq p := rfl
theorem step_11 (a : Vec F S1x512x256 .f32)(b : Vec F S1x1x256 .f32) : k0_pay11 (k0_pay8 a) b = narrow (probs a b) := rfl
theorem step_12 (a : Vec F S1x512x256 .f32)(b : Vec F S1x1x256 .f32)(c : Vec F S1x512x256 .f32)(d : Vec F S1x1x256 .f32) : k0_pay12 (k0_pay8 a) b c d = narrow (gradS (probs a b) c d) := rfl
theorem step_13 (a : Vec F S1x512x256 .f32)(b : Vec F S1x1x256 .f32)(c : Vec F S1x512x256 .f32)(d : Vec F S1x1x256 .f32)(e : Vec F S512x1 .f32) : k0_pay13 (k0_pay8 a) b c d e = accDfk e (gradS (probs a b) c d) := rfl
theorem step_14 (a : Vec F S1x512x256 .f32)(b : Vec F S1x1x256 .f32)(c : Vec F S1x512x256 .f32)(d : Vec F S1x1x256 .f32)(e : Vec F S1x1x256 .f32) : k0_pay15 (k0_pay14 (k0_pay8 a) b c d e) = accDfq e (gradS (probs a b) c d) := rfl
theorem step_25 (a : Vec F S1x512x256 .f32)(b : Vec F S1x1x256 .f32) : k0_pay25 (k0_pay22 a) b = narrow (probs a b) := rfl
theorem step_26 (a : Vec F S1x512x256 .f32)(b : Vec F S1x1x256 .f32)(c : Vec F S1x512x256 .f32)(d : Vec F S1x1x256 .f32) : k0_pay26 (k0_pay22 a) b c d = narrow (gradS (probs a b) c d) := rfl
theorem step_27 (a : Vec F S1x512x256 .f32)(b : Vec F S1x1x256 .f32)(c : Vec F S1x512x256 .f32)(d : Vec F S1x1x256 .f32)(e : Vec F S512x1 .f32) : k0_pay27 (k0_pay22 a) b c d e = accDfk e (gradS (probs a b) c d) := rfl
theorem step_28 (a : Vec F S1x512x256 .f32)(b : Vec F S1x1x256 .f32)(c : Vec F S1x512x256 .f32)(d : Vec F S1x1x256 .f32)(e : Vec F S1x1x256 .f32) : k0_pay29 (k0_pay28 (k0_pay22 a) b c d e) = accDfq e (gradS (probs a b) c d) := rfl
theorem step_64 (a : Vec F S1x512x256 .f32)(b : Vec F S1x1x256 .f32) : k0_pay64 (k0_pay61 a) b = narrow (probs a b) := rfl
theorem step_65 (a : Vec F S1x512x256 .f32)(b : Vec F S1x1x256 .f32)(c : Vec F S1x512x256 .f32)(d : Vec F S1x1x256 .f32) : k0_pay65 (k0_pay61 a) b c d = narrow (gradS (probs a b) c d) := rfl
theorem step_66 (a : Vec F S1x512x256 .f32)(b : Vec F S1x1x256 .f32)(c : Vec F S1x512x256 .f32)(d : Vec F S1x1x256 .f32)(e : Vec F S512x1 .f32) : k0_pay66 (k0_pay61 a) b c d e = accDfk e (gradS (probs a b) c d) := rfl
theorem step_67 (a : Vec F S1x512x256 .f32)(b : Vec F S1x1x256 .f32)(c : Vec F S1x512x256 .f32)(d : Vec F S1x1x256 .f32)(e : Vec F S1x1x256 .f32) : k0_pay68 (k0_pay67 (k0_pay61 a) b c d e) = accDfq e (gradS (probs a b) c d) := rfl
theorem step_78 (a : Vec F S1x512x256 .f32)(b : Vec F S1x1x256 .f32) : k0_pay78 (k0_pay75 a) b = narrow (probs a b) := rfl
theorem step_79 (a : Vec F S1x512x256 .f32)(b : Vec F S1x1x256 .f32)(c : Vec F S1x512x256 .f32)(d : Vec F S1x1x256 .f32) : k0_pay79 (k0_pay75 a) b c d = narrow (gradS (probs a b) c d) := rfl
theorem step_80 (a : Vec F S1x512x256 .f32)(b : Vec F S1x1x256 .f32)(c : Vec F S1x512x256 .f32)(d : Vec F S1x1x256 .f32)(e : Vec F S512x1 .f32) : k0_pay80 (k0_pay75 a) b c d e = accDfk e (gradS (probs a b) c d) := rfl
theorem step_81 (a : Vec F S1x512x256 .f32)(b : Vec F S1x1x256 .f32)(c : Vec F S1x512x256 .f32)(d : Vec F S1x1x256 .f32)(e : Vec F S1x1x256 .f32) : k0_pay82 (k0_pay81 (k0_pay75 a) b c d e) = accDfq e (gradS (probs a b) c d) := rfl
theorem step_38 (a : Vec F S1x512x256 .f32)(b : Vec F S1x1x256 .f32) : k0_pay38 a b = narrow (probs a b) := rfl
theorem step_39 (a : Vec F S1x512x256 .f32)(b : Vec F S1x1x256 .f32)(c : Vec F S1x512x256 .f32)(d : Vec F S1x1x256 .f32) : k0_pay39 a b c d = narrow (gradS (probs a b) c d) := rfl
theorem step_40 (a : Vec F S1x512x256 .f32)(b : Vec F S1x1x256 .f32)(c : Vec F S1x512x256 .f32)(d : Vec F S1x1x256 .f32)(e : Vec F S512x1 .f32) : k0_pay40 a b c d e = accDfk e (gradS (probs a b) c d) := rfl
theorem step_41 (a : Vec F S1x512x256 .f32)(b : Vec F S1x1x256 .f32)(c : Vec F S1x512x256 .f32)(d : Vec F S1x1x256 .f32)(e : Vec F S1x1x256 .f32) : k0_pay42 (k0_pay41 a b c d e) = accDfq e (gradS (probs a b) c d) := rfl
theorem step_51 (a : Vec F S1x512x256 .f32)(b : Vec F S1x1x256 .f32) : k0_pay51 a b = narrow (probs a b) := rfl
theorem step_52 (a : Vec F S1x512x256 .f32)(b : Vec F S1x1x256 .f32)(c : Vec F S1x512x256 .f32)(d : Vec F S1x1x256 .f32) : k0_pay52 a b c d = narrow (gradS (probs a b) c d) := rfl
theorem step_53 (a : Vec F S1x512x256 .f32)(b : Vec F S1x1x256 .f32)(c : Vec F S1x512x256 .f32)(d : Vec F S1x1x256 .f32)(e : Vec F S512x1 .f32) : k0_pay53 a b c d e = accDfk e (gradS (probs a b) c d) := rfl
theorem step_54 (a : Vec F S1x512x256 .f32)(b : Vec F S1x1x256 .f32)(c : Vec F S1x512x256 .f32)(d : Vec F S1x1x256 .f32)(e : Vec F S1x1x256 .f32) : k0_pay164 (k0_pay54 a b c d e) = accDfq e (gradS (probs a b) c d) := rfl
theorem step_91 (a : Vec F S1x512x256 .f32)(b : Vec F S1x1x256 .f32) : k0_pay91 a b = narrow (probs a b) := rfl
theorem step_92 (a : Vec F S1x512x256 .f32)(b : Vec F S1x1x256 .f32)(c : Vec F S1x512x256 .f32)(d : Vec F S1x1x256 .f32) : k0_pay92 a b c d = narrow (gradS (probs a b) c d) := rfl
theorem step_93 (a : Vec F S1x512x256 .f32)(b : Vec F S1x1x256 .f32)(c : Vec F S1x512x256 .f32)(d : Vec F S1x1x256 .f32)(e : Vec F S512x1 .f32) : k0_pay93 a b c d e = accDfk e (gradS (probs a b) c d) := rfl
theorem step_94 (a : Vec F S1x512x256 .f32)(b : Vec F S1x1x256 .f32)(c : Vec F S1x512x256 .f32)(d : Vec F S1x1x256 .f32)(e : Vec F S1x1x256 .f32) : k0_pay95 (k0_pay94 a b c d e) = accDfq e (gradS (probs a b) c d) := rfl
theorem step_104 (a : Vec F S1x512x256 .f32)(b : Vec F S1x1x256 .f32) : k0_pay104 a b = narrow (probs a b) := rfl
theorem step_105 (a : Vec F S1x512x256 .f32)(b : Vec F S1x1x256 .f32)(c : Vec F S1x512x256 .f32)(d : Vec F S1x1x256 .f32) : k0_pay105 a b c d = narrow (gradS (probs a b) c d) := rfl
theorem step_106 (a : Vec F S1x512x256 .f32)(b : Vec F S1x1x256 .f32)(c : Vec F S1x512x256 .f32)(d : Vec F S1x1x256 .f32)(e : Vec F S512x1 .f32) : k0_pay106 a b c d e = accDfk e (gradS (probs a b) c d) := rfl
theorem step_107 (a : Vec F S1x512x256 .f32)(b : Vec F S1x1x256 .f32)(c : Vec F S1x512x256 .f32)(d : Vec F S1x1x256 .f32)(e : Vec F S1x1x256 .f32) : k0_pay165 (k0_pay107 a b c d e) = accDfq e (gradS (probs a b) c d) := rfl
theorem step_118 (a : Vec F S1x512x256 .f32)(b : Vec F S1x1x256 .f32) : k0_pay118 (k0_pay115 a b) = narrow (probs a b) := rfl
theorem step_119 (a : Vec F S1x512x256 .f32)(b : Vec F S1x1x256 .f32)(c : Vec F S1x512x256 .f32)(d : Vec F S1x1x256 .f32) : k0_pay119 (k0_pay115 a b) (k0_pay116 c) d = narrow (gradS (probs a b) c d) := rfl
theorem step_120 (a : Vec F S1x512x256 .f32)(b : Vec F S1x1x256 .f32)(c : Vec F S1x512x256 .f32)(d : Vec F S1x1x256 .f32)(e : Vec F S512x1 .f32) : k0_pay120 (k0_pay115 a b) (k0_pay116 c) d e = accDfk e (gradS (probs a b) c d) := rfl
theorem step_121 (a : Vec F S1x512x256 .f32)(b : Vec F S1x1x256 .f32)(c : Vec F S1x512x256 .f32)(d : Vec F S1x1x256 .f32)(e : Vec F S1x1x256 .f32) : k0_pay121 (k0_pay115 a b) (k0_pay116 c) d e = accDfq e (gradS (probs a b) c d) := rfl
theorem step_166 (a : Vec F S1x512x256 .f32)(b : Vec F S1x1x256 .f32) : k0_pay166 (k0_pay130 a b) = narrow (probs a b) := rfl
theorem step_167 (a : Vec F S1x512x256 .f32)(b : Vec F S1x1x256 .f32)(c : Vec F S1x512x256 .f32)(d : Vec F S1x1x256 .f32) : k0_pay167 (k0_pay129 a b c d) = narrow (gradS (probs a b) c d) := rfl
theorem step_168 (a : Vec F S1x512x256 .f32)(b : Vec F S1x1x256 .f32)(c : Vec F S1x512x256 .f32)(d : Vec F S1x1x256 .f32)(e : Vec F S512x1 .f32) : k0_pay168 (k0_pay129 a b c d) e = accDfk e (gradS (probs a b) c d) := rfl
theorem step_169 (a : Vec F S1x512x256 .f32)(b : Vec F S1x1x256 .f32)(c : Vec F S1x512x256 .f32)(d : Vec F S1x1x256 .f32)(e : Vec F S1x1x256 .f32) : k0_pay169 (k0_pay129 a b c d) e = accDfq e (gradS (probs a b) c d) := rfl
theorem step_146 (a : Vec F S1x512x256 .f32)(b : Vec F S1x1x256 .f32) : k0_pay146 a b = narrow (probsLo a b) := rfl
theorem step_147 (a : Vec F S1x512x256 .f32)(b : Vec F S1x1x256 .f32)(c : Vec F S1x512x256 .f32)(d : Vec F S1x1x256 .f32) : k0_pay147 a b c d = narrow (gradS (probsLo a b) c d) := rfl
theorem step_149 (a : Vec F S1x512x256 .f32)(b : Vec F S1x1x256 .f32)(c : Vec F S1x512x256 .f32)(d : Vec F S1x1x256 .f32)(e : Vec F S512x1 .f32) : k0_pay149 (k0_pay148 a b c d e) = accDfk e (gradS (probsLo a b) c d) := rfl
theorem step_150 (a : Vec F S1x512x256 .f32)(b : Vec F S1x1x256 .f32)(c : Vec F S1x512x256 .f32)(d : Vec F S1x1x256 .f32)(e : Vec F S1x1x256 .f32) : k0_pay150 (k0_pay145 a b c d) e = accDfq e (gradS (probsLo a b) c d) := rfl
theorem step_160 (a : Vec F S1x512x256 .f32)(b : Vec F S1x1x256 .f32) : k0_pay160 a b = narrow (probsHi a b) := rfl
theorem step_161 (a : Vec F S1x512x256 .f32)(b : Vec F S1x1x256 .f32)(c : Vec F S1x512x256 .f32)(d : Vec F S1x1x256 .f32) : k0_pay161 a b c d = narrow (gradS (probsHi a b) c d) := rfl
theorem step_162 (a : Vec F S1x512x256 .f32)(b : Vec F S1x1x256 .f32)(c : Vec F S1x512x256 .f32)(d : Vec F S1x1x256 .f32)(e : Vec F S512x1 .f32) : k0_pay162 (k0_pay159 a b c d) e = accDfk e (gradS (probsHi a b) c d) := rfl
theorem step_163 (a : Vec F S1x512x256 .f32)(b : Vec F S1x1x256 .f32)(c : Vec F S1x512x256 .f32)(d : Vec F S1x1x256 .f32)(e : Vec F S1x1x256 .f32) : k0_pay163 (k0_pay159 a b c d) e = accDfq e (gradS (probsHi a b) c d) := rfl

/-- What the body reads and does not change: the block of keys (as rows and transposed), of values, and
    the queries, cotangents, logarithms and row sums of the head. -/
structure Ins (F : FTy → Type) where
  kA : FVec F S512x80 .bf16
  kT : FVec F S64x512 .bf16
  vA : FVec F S512x64 .bf16
  q : Vec F S1x16384x80 .bf16
  g : Vec F S1x16384x64 .bf16
  lse : Vec F S1x1x16384 .f32
  dl : Vec F S1x1x16384 .f32

/-- The running state: the two slots of the scores, of the values' products, of the probabilities and of
    their gradients; the block's running sums; and the tiles of the queries' gradients. -/
structure St (F : FTy → Type) where
  kq : ℕ → Vec F S1x512x256 .f32
  dp : ℕ → Vec F S1x512x256 .f32
  pb : ℕ → Vec F S1x512x256 .bf16
  ds : ℕ → Vec F S1x512x256 .bf16
  dk : Vec F S512x80 .f32
  dv : Vec F S512x64 .f32
  dfk : Vec F S512x1 .f32
  dq : ℕ → Vec F S1x64x256 .f32
  dfq : ℕ → Vec F S1x1x256 .f32

/-- The products of tile `n` put into slot `b`. -/
def St.products (I : Ins F) (n b : ℕ) (s : St F) : St F :=
  { s with kq := upd s.kq b (prodKq I.kA (rowTile (F := F) I.q n)), dp := upd s.dp b (prodDp I.vA (rowTile (F := F) I.g n)) }

/-- The tile `a` whose probabilities are in slot `b` added to the running sums. -/
def St.accumulate (I : Ins F) (a b : ℕ) (s : St F) : St F :=
  { s with dv := accDv s.dv (s.pb b) (rowTile (F := F) I.g a), dk := accDk s.dk (s.ds b) (rowTile (F := F) I.q a),
           dq := upd s.dq a (accDq I.kT (s.dq a) (s.ds b)) }

/-- The probabilities of tile `t`, by the rule `P`, and their gradient, put into slot `b`. -/
def St.pointwise (P : Vec F S1x512x256 .f32 → Vec F S1x1x256 .f32 → FVec F S512x256 .f32) (I : Ins F) (t b : ℕ)
    (s : St F) : St F :=
  let p := P (s.kq b) (colTile (F := F) I.lse t)
  let g := gradS p (s.dp b) (colTile (F := F) I.dl t)
  { s with pb := upd s.pb b (narrow p), ds := upd s.ds b (narrow g), dfk := accDfk s.dfk g,
           dfq := upd s.dfq t (accDfq (s.dfq t) g) }

/-- One stage: the products of tile `n` ahead, the sums of tile `a` behind, the probabilities of tile `t`. -/
def St.stage (I : Ins F) (a t n b b' : ℕ) (s : St F) : St F :=
  ((s.products I n b').accumulate I a b').pointwise probs I t b

/-- Two stages: the even tile `t` in slot 0 and the next in slot 1; the last look-ahead stays on the
    last tile. -/
def St.pair (I : Ins F) (t : ℕ) (s : St F) : St F :=
  (s.stage I (t - 1) t (t + 1) 0 1).stage I t (t + 1) (min (t + 2) 63) 1 0

/-- One trip of the loop: two pairs. -/
def St.trip (I : Ins F) (t : ℕ) (s : St F) : St F := (s.pair I t).pair I (t + 2)

/-- The diagonal block: the running sums of the block start at zero, and the two tiles that meet the
    diagonal are masked. The slots are all filled before they are read, so what they start with is of no
    account. -/
def St.head (I : Ins F) (t : ℕ) (dq : ℕ → Vec F S1x64x256 .f32) (dfq : ℕ → Vec F S1x1x256 .f32) : St F :=
  let p := probs (prodKq I.kA (rowTile (F := F) I.q t)) (colTile (F := F) I.lse t)
  let s0 : St F := ⟨fun _ => prodKq I.kA (rowTile (F := F) I.q t), fun _ => prodDp I.vA (rowTile (F := F) I.g t),
    fun _ => narrow p, fun _ => narrow p, k0_pay136, k0_pay137, k0_pay138, dq, dfq⟩
  let s1 := ((s0.products I t 0).products I (t + 1) 1).pointwise probsLo I t 0
  ((s1.products I (min (t + 2) 63) 0).accumulate I t 0).pointwise probsHi I (t + 1) 1

/-- The trips of the loop, from tile `t`. -/
def St.trips (I : Ins F) (t : ℕ) : ℕ → St F → St F
  | 0, s => s
  | n + 1, s => (St.trips I t n s).trip I (t + 4 * n)

/-- One block of keys, the `j`-th of 32: the diagonal, the trips over the tiles behind it, the pair left
    over when their number is odd, and the sums of the last tile. -/
def St.block (I : Ins F) (j : ℕ) (dq : ℕ → Vec F S1x64x256 .f32) (dfq : ℕ → Vec F S1x1x256 .f32) : St F :=
  let s := St.trips I (2 * j + 2) ((31 - j) / 2) (St.head I (2 * j) dq dfq)
  (if (31 - j) % 2 = 1 then s.pair I 62 else s).accumulate I 63 1

/-- The buffers hold the state. -/
structure Rel (s : St F) (x9 : Vec F S1x64x16384 .f32) (x13 : Vec F S1x1x16384 .f32) (x14 x15 : Vec F S2x512x256 .f32)
    (x16 x17 : Vec F S2x512x256 .bf16) (x18 : Vec F S512x80 .f32) (x19 : Vec F S512x64 .f32) (x20 : Vec F S512x1 .f32) : Prop where
  kq : ∀ b, b < 2 → slot (F := F) x14 b = s.kq b
  dp : ∀ b, b < 2 → slot (F := F) x15 b = s.dp b
  pb : ∀ b, b < 2 → slot (F := F) x16 b = s.pb b
  ds : ∀ b, b < 2 → slot (F := F) x17 b = s.ds b
  dk : x18 = s.dk
  dv : x19 = s.dv
  dfk : x20 = s.dfk
  dq : ∀ t, t < 64 → colTile (F := F) x9 t = s.dq t
  dfq : ∀ t, t < 64 → colTile (F := F) x13 t = s.dfq t

end Cert.KernelIdeal.Gen

end
-- ==== Proof.Reads.lean ====
/- What a load sees behind a list of stores, store by store. -/
module

public import proofs.«01_k».proof.Proof.Tiles

@[expose] public section

noncomputable section

namespace Cert.Fox

open Idealize.ShloMosaic

variable {F : FTy → Type} {sig : RefSig} {κ : Kind} {sp : Space} {e : EltTy}

theorem upd_ap {α : Type} (f : ℕ → α) (t : ℕ) (w : α) (u : ℕ) : upd f t w u = if u = t then w else f u := rfl

/-- A tile read behind a store of a tile: the tile stored, when it is that one; else what was there. -/
theorem col_ite {D : ℕ} (v : View sig κ sp ⟨3, ![1, D, 16384]⟩ e) {off : Fin 3 → ℕ} {t t' : ℕ}
    (h : off = ![0, 0, 256 * t]) (ht' : t' < 64)
    (inb : ∀ a : Fin 3, off a + (![1, D, 256] : Fin 3 → ℕ) a ≤ (![1, D, 16384] : Fin 3 → ℕ) a)
    (f : v.ty.Contents (Elt F)) (w : Vec F ⟨3, ![1, D, 256]⟩ e) (L : List (View.Piece (Elt F) ⟨3, ![1, D, 16384]⟩ e)) :
    colTile (F := F) (v.read (Elt F) (v.writes (Elt F) f (⟨Rect.unit (s := ⟨3, ![1, D, 16384]⟩) off ![1, D, 256] inb, w⟩ :: L))) t'
      = if t' = t then w else colTile (F := F) (v.read (Elt F) (v.writes (Elt F) f L)) t' :=
  colTile_writes v h ht' inb f w L

/-- A slot read behind a store of a slot. -/
theorem slot_ite (b b' : ℕ) (hb : b < 2) (hb' : b' < 2) (v : View sig κ sp ⟨3, ![2, 512, 256]⟩ e)
    (inb : ∀ a : Fin 3, (![b, 0, 0] : Fin 3 → ℕ) a + (![1, 512, 256] : Fin 3 → ℕ) a ≤ (![2, 512, 256] : Fin 3 → ℕ) a)
    (f : v.ty.Contents (Elt F)) (w : Vec F ⟨3, ![1, 512, 256]⟩ e) (L : List (View.Piece (Elt F) ⟨3, ![2, 512, 256]⟩ e)) :
    slot (F := F) (v.read (Elt F) (v.writes (Elt F) f (⟨Rect.unit (s := ⟨3, ![2, 512, 256]⟩) ![b, 0, 0] ![1, 512, 256] inb, w⟩ :: L))) b'
      = if b' = b then w else slot (F := F) (v.read (Elt F) (v.writes (Elt F) f L)) b' :=
  slot_writes b b' hb hb' v inb f w L

open ValueIdx in
/-- The first 64 of 128 columns. -/
def left64 (x : Vec F ⟨3, ![1, 512, 128]⟩ e) : Vec F ⟨3, ![1, 512, 64]⟩ e :=
  fun y => x (ix3 (y 0) (y 1) ⟨(y 2).val, by have h : (y 2).val < 64 := (y 2).isLt; show (y 2).val < 128; omega⟩)

open ValueIdx in
/-- The first 64 of 80 columns. -/
def left64b (x : Vec F ⟨2, ![512, 80]⟩ e) : Vec F ⟨2, ![512, 64]⟩ e :=
  fun y => x (ix2 (y 0) ⟨(y 1).val, by have h : (y 1).val < 64 := (y 1).isLt; show (y 1).val < 80; omega⟩)

/-- A load of the first 64 of 128 columns. -/
theorem readAt_left64 (v : View sig κ sp ⟨3, ![1, 512, 128]⟩ e)
    (inb : ∀ a : Fin 3, (![0, 0, 0] : Fin 3 → ℕ) a + (![1, 512, 64] : Fin 3 → ℕ) a ≤ (![1, 512, 128] : Fin 3 → ℕ) a)
    (f : v.ty.Contents (Elt F)) :
    View.readAt (Elt F) v (Rect.unit (s := ⟨3, ![1, 512, 128]⟩) ![0, 0, 0] ![1, 512, 64] inb).toLoadRect f
      = left64 (F := F) (v.read (Elt F) f) := by
  funext y
  show v.read (Elt F) f _ = v.read (Elt F) f _
  congr 1
  funext a
  apply Fin.ext
  fin_cases a
  · show 0 + 1 * (y 0).val = (y 0).val
    omega
  · show 0 + 1 * (y 1).val = (y 1).val
    omega
  · show 0 + 1 * (y 2).val = (y 2).val
    omega

/-- A load of the first 64 of 80 columns. -/
theorem readAt_left64b (v : View sig κ sp ⟨2, ![512, 80]⟩ e)
    (inb : ∀ a : Fin 2, (![0, 0] : Fin 2 → ℕ) a + (![512, 64] : Fin 2 → ℕ) a ≤ (![512, 80] : Fin 2 → ℕ) a)
    (f : v.ty.Contents (Elt F)) :
    View.readAt (Elt F) v (Rect.unit (s := ⟨2, ![512, 80]⟩) ![0, 0] ![512, 64] inb).toLoadRect f
      = left64b (F := F) (v.read (Elt F) f) := by
  funext y
  show v.read (Elt F) f _ = v.read (Elt F) f _
  congr 1
  funext a
  apply Fin.ext
  fin_cases a
  · show 0 + 1 * (y 0).val = (y 0).val
    omega
  · show 0 + 1 * (y 1).val = (y 1).val
    omega

end Cert.Fox

end
-- ==== Proof.TripState.lean ====
/- One trip of the loop as a step of the state: two pairs of stages. -/
module

public import proofs.«01_k».proof.Proof.Trip
public import proofs.«01_k».proof.Proof.Steps
public import proofs.«01_k».proof.Proof.Reads

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox

variable {F : FTy → Type} [FloatOps F] [Named F]

local notation "𝕄" => MT nD τ sig Unit (Elt F) ℕ (UR sig nD τ) ℕ

theorem off12_0 (i : grid0.Coords) (k : Fin (k0_t1_loop i).trips) (t : ℕ) (ht : t = 2 * (i 1).val + 2 + 4 * k.val) :
    k0_off12 i k 1#32 = ![0, 256 * (t + 1), 0] := by
  refine (k0_off12_eq i k ⟨0, by decide⟩).trans ?_
  exact congrArg (fun n : ℕ => (![0, 256 * n, 0] : Fin 3 → ℕ)) (by first | rfl | (dsimp only <;> omega))
theorem off12_1 (i : grid0.Coords) (k : Fin (k0_t1_loop i).trips) (t : ℕ) (ht : t = 2 * (i 1).val + 2 + 4 * k.val) :
    k0_off12 i k 2#32 = ![0, 256 * (t + 2 + 1), 0] := by
  refine (k0_off12_eq i k ⟨1, by decide⟩).trans ?_
  exact congrArg (fun n : ℕ => (![0, 256 * n, 0] : Fin 3 → ℕ)) (by first | rfl | (dsimp only <;> omega))
theorem off13_0 (i : grid0.Coords) (k : Fin (k0_t1_loop i).trips) (t : ℕ) (ht : t = 2 * (i 1).val + 2 + 4 * k.val) :
    k0_off13 i k 1#32 = ![0, 256 * (t + 1), 0] := by
  refine (k0_off13_eq i k ⟨0, by decide⟩).trans ?_
  exact congrArg (fun n : ℕ => (![0, 256 * n, 0] : Fin 3 → ℕ)) (by first | rfl | (dsimp only <;> omega))
theorem off13_1 (i : grid0.Coords) (k : Fin (k0_t1_loop i).trips) (t : ℕ) (ht : t = 2 * (i 1).val + 2 + 4 * k.val) :
    k0_off13 i k 2#32 = ![0, 256 * (t + 2 + 1), 0] := by
  refine (k0_off13_eq i k ⟨1, by decide⟩).trans ?_
  exact congrArg (fun n : ℕ => (![0, 256 * n, 0] : Fin 3 → ℕ)) (by first | rfl | (dsimp only <;> omega))
theorem off14_0 (i : grid0.Coords) (k : Fin (k0_t1_loop i).trips) (t : ℕ) (ht : t = 2 * (i 1).val + 2 + 4 * k.val) :
    k0_off14 i k 1#32 = ![0, 256 * (t - 1), 0] := by
  refine (k0_off14_eq i k ⟨0, by decide⟩).trans ?_
  exact congrArg (fun n : ℕ => (![0, 256 * n, 0] : Fin 3 → ℕ)) (by first | rfl | (dsimp only <;> omega))
theorem off14_1 (i : grid0.Coords) (k : Fin (k0_t1_loop i).trips) (t : ℕ) (ht : t = 2 * (i 1).val + 2 + 4 * k.val) :
    k0_off14 i k 2#32 = ![0, 256 * (t + 2 - 1), 0] := by
  refine (k0_off14_eq i k ⟨1, by decide⟩).trans ?_
  exact congrArg (fun n : ℕ => (![0, 256 * n, 0] : Fin 3 → ℕ)) (by first | rfl | (dsimp only <;> omega))
theorem off15_0 (i : grid0.Coords) (k : Fin (k0_t1_loop i).trips) (t : ℕ) (ht : t = 2 * (i 1).val + 2 + 4 * k.val) :
    k0_off15 i k 1#32 = ![0, 256 * (t - 1), 0] := by
  refine (k0_off15_eq i k ⟨0, by decide⟩).trans ?_
  exact congrArg (fun n : ℕ => (![0, 256 * n, 0] : Fin 3 → ℕ)) (by first | rfl | (dsimp only <;> omega))
theorem off15_1 (i : grid0.Coords) (k : Fin (k0_t1_loop i).trips) (t : ℕ) (ht : t = 2 * (i 1).val + 2 + 4 * k.val) :
    k0_off15 i k 2#32 = ![0, 256 * (t + 2 - 1), 0] := by
  refine (k0_off15_eq i k ⟨1, by decide⟩).trans ?_
  exact congrArg (fun n : ℕ => (![0, 256 * n, 0] : Fin 3 → ℕ)) (by first | rfl | (dsimp only <;> omega))
theorem off16_0 (i : grid0.Coords) (k : Fin (k0_t1_loop i).trips) (t : ℕ) (ht : t = 2 * (i 1).val + 2 + 4 * k.val) :
    k0_off16 i k 1#32 = ![0, 0, 256 * (t - 1)] := by
  refine (k0_off16_eq i k ⟨0, by decide⟩).trans ?_
  exact congrArg (fun n : ℕ => (![0, 0, 256 * n] : Fin 3 → ℕ)) (by first | rfl | (dsimp only <;> omega))
theorem off16_1 (i : grid0.Coords) (k : Fin (k0_t1_loop i).trips) (t : ℕ) (ht : t = 2 * (i 1).val + 2 + 4 * k.val) :
    k0_off16 i k 2#32 = ![0, 0, 256 * (t + 2 - 1)] := by
  refine (k0_off16_eq i k ⟨1, by decide⟩).trans ?_
  exact congrArg (fun n : ℕ => (![0, 0, 256 * n] : Fin 3 → ℕ)) (by first | rfl | (dsimp only <;> omega))
theorem off17_0 (i : grid0.Coords) (k : Fin (k0_t1_loop i).trips) (t : ℕ) (ht : t = 2 * (i 1).val + 2 + 4 * k.val) :
    k0_off17 i k 1#32 = ![0, 0, 256 * (t)] := by
  refine (k0_off17_eq i k ⟨0, by decide⟩).trans ?_
  exact congrArg (fun n : ℕ => (![0, 0, 256 * n] : Fin 3 → ℕ)) (by first | rfl | (dsimp only <;> omega))
theorem off17_1 (i : grid0.Coords) (k : Fin (k0_t1_loop i).trips) (t : ℕ) (ht : t = 2 * (i 1).val + 2 + 4 * k.val) :
    k0_off17 i k 2#32 = ![0, 0, 256 * (t + 2)] := by
  refine (k0_off17_eq i k ⟨1, by decide⟩).trans ?_
  exact congrArg (fun n : ℕ => (![0, 0, 256 * n] : Fin 3 → ℕ)) (by first | rfl | (dsimp only <;> omega))
theorem off18_0 (i : grid0.Coords) (k : Fin (k0_t1_loop i).trips) (t : ℕ) (ht : t = 2 * (i 1).val + 2 + 4 * k.val) :
    k0_off18 i k 1#32 = ![0, 256 * (min (t + 2) 63), 0] := by
  refine (k0_off18_eq i k ⟨0, by decide⟩).trans ?_
  exact congrArg (fun n : ℕ => (![0, 256 * n, 0] : Fin 3 → ℕ)) (by first | rfl | (dsimp only <;> omega))
theorem off18_1 (i : grid0.Coords) (k : Fin (k0_t1_loop i).trips) (t : ℕ) (ht : t = 2 * (i 1).val + 2 + 4 * k.val) :
    k0_off18 i k 2#32 = ![0, 256 * (min (t + 2 + 2) 63), 0] := by
  refine (k0_off18_eq i k ⟨1, by decide⟩).trans ?_
  exact congrArg (fun n : ℕ => (![0, 256 * n, 0] : Fin 3 → ℕ)) (by first | rfl | (dsimp only <;> omega))
theorem off19_0 (i : grid0.Coords) (k : Fin (k0_t1_loop i).trips) (t : ℕ) (ht : t = 2 * (i 1).val + 2 + 4 * k.val) :
    k0_off19 i k 1#32 = ![0, 256 * (min (t + 2) 63), 0] := by
  refine (k0_off19_eq i k ⟨0, by decide⟩).trans ?_
  exact congrArg (fun n : ℕ => (![0, 256 * n, 0] : Fin 3 → ℕ)) (by first | rfl | (dsimp only <;> omega))
theorem off19_1 (i : grid0.Coords) (k : Fin (k0_t1_loop i).trips) (t : ℕ) (ht : t = 2 * (i 1).val + 2 + 4 * k.val) :
    k0_off19 i k 2#32 = ![0, 256 * (min (t + 2 + 2) 63), 0] := by
  refine (k0_off19_eq i k ⟨1, by decide⟩).trans ?_
  exact congrArg (fun n : ℕ => (![0, 256 * n, 0] : Fin 3 → ℕ)) (by first | rfl | (dsimp only <;> omega))
theorem off20_0 (i : grid0.Coords) (k : Fin (k0_t1_loop i).trips) (t : ℕ) (ht : t = 2 * (i 1).val + 2 + 4 * k.val) :
    k0_off20 i k 1#32 = ![0, 256 * (t), 0] := by
  refine (k0_off20_eq i k ⟨0, by decide⟩).trans ?_
  exact congrArg (fun n : ℕ => (![0, 256 * n, 0] : Fin 3 → ℕ)) (by first | rfl | (dsimp only <;> omega))
theorem off20_1 (i : grid0.Coords) (k : Fin (k0_t1_loop i).trips) (t : ℕ) (ht : t = 2 * (i 1).val + 2 + 4 * k.val) :
    k0_off20 i k 2#32 = ![0, 256 * (t + 2), 0] := by
  refine (k0_off20_eq i k ⟨1, by decide⟩).trans ?_
  exact congrArg (fun n : ℕ => (![0, 256 * n, 0] : Fin 3 → ℕ)) (by first | rfl | (dsimp only <;> omega))
theorem off21_0 (i : grid0.Coords) (k : Fin (k0_t1_loop i).trips) (t : ℕ) (ht : t = 2 * (i 1).val + 2 + 4 * k.val) :
    k0_off21 i k 1#32 = ![0, 256 * (t), 0] := by
  refine (k0_off21_eq i k ⟨0, by decide⟩).trans ?_
  exact congrArg (fun n : ℕ => (![0, 256 * n, 0] : Fin 3 → ℕ)) (by first | rfl | (dsimp only <;> omega))
theorem off21_1 (i : grid0.Coords) (k : Fin (k0_t1_loop i).trips) (t : ℕ) (ht : t = 2 * (i 1).val + 2 + 4 * k.val) :
    k0_off21 i k 2#32 = ![0, 256 * (t + 2), 0] := by
  refine (k0_off21_eq i k ⟨1, by decide⟩).trans ?_
  exact congrArg (fun n : ℕ => (![0, 256 * n, 0] : Fin 3 → ℕ)) (by first | rfl | (dsimp only <;> omega))
theorem off22_0 (i : grid0.Coords) (k : Fin (k0_t1_loop i).trips) (t : ℕ) (ht : t = 2 * (i 1).val + 2 + 4 * k.val) :
    k0_off22 i k 1#32 = ![0, 0, 256 * (t)] := by
  refine (k0_off22_eq i k ⟨0, by decide⟩).trans ?_
  exact congrArg (fun n : ℕ => (![0, 0, 256 * n] : Fin 3 → ℕ)) (by first | rfl | (dsimp only <;> omega))
theorem off22_1 (i : grid0.Coords) (k : Fin (k0_t1_loop i).trips) (t : ℕ) (ht : t = 2 * (i 1).val + 2 + 4 * k.val) :
    k0_off22 i k 2#32 = ![0, 0, 256 * (t + 2)] := by
  refine (k0_off22_eq i k ⟨1, by decide⟩).trans ?_
  exact congrArg (fun n : ℕ => (![0, 0, 256 * n] : Fin 3 → ℕ)) (by first | rfl | (dsimp only <;> omega))
theorem off23_0 (i : grid0.Coords) (k : Fin (k0_t1_loop i).trips) (t : ℕ) (ht : t = 2 * (i 1).val + 2 + 4 * k.val) :
    k0_off23 i k 1#32 = ![0, 0, 256 * (t + 1)] := by
  refine (k0_off23_eq i k ⟨0, by decide⟩).trans ?_
  exact congrArg (fun n : ℕ => (![0, 0, 256 * n] : Fin 3 → ℕ)) (by first | rfl | (dsimp only <;> omega))
theorem off23_1 (i : grid0.Coords) (k : Fin (k0_t1_loop i).trips) (t : ℕ) (ht : t = 2 * (i 1).val + 2 + 4 * k.val) :
    k0_off23 i k 2#32 = ![0, 0, 256 * (t + 2 + 1)] := by
  refine (k0_off23_eq i k ⟨1, by decide⟩).trans ?_
  exact congrArg (fun n : ℕ => (![0, 0, 256 * n] : Fin 3 → ℕ)) (by first | rfl | (dsimp only <;> omega))

set_option backward.isDefEq.respectTransparency.types false in
set_option maxHeartbeats 4000000 in
/-- What the trip's stores leave is the state moved on by one trip. -/
theorem trip_rel (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (arg1 : BitVec 32) (v4 : FVec F S512x80 .bf16) (v6 : FVec F S64x512 .bf16) (v8 : FVec F S512x64 .bf16) (v213 c0_i32_152 c0_i32_153 v231 c1_i32_154 acc : BitVec 32) (k : Fin (k0_t1_loop i).trips)
    (x2 : Vec F S1x16384x80 .bf16) (x6 : Vec F S1x16384x64 .bf16) (x7 : Vec F S1x1x16384 .f32) (x8 : Vec F S1x1x16384 .f32) (x9 : Vec F S1x64x16384 .f32) (x13 : Vec F S1x1x16384 .f32) (x14 : Vec F S2x512x256 .f32) (x15 : Vec F S2x512x256 .f32) (x16 : Vec F S2x512x256 .bf16) (x17 : Vec F S2x512x256 .bf16) (x18 : Vec F S512x80 .f32) (x19 : Vec F S512x64 .f32) (x20 : Vec F S512x1 .f32) (t : ℕ) (ht : t = 2 * (i 1).val + 2 + 4 * k.val) (h3 : t + 3 < 64) (s : St F) (h : Rel s x9 x13 x14 x15 x16 x17 x18 x19 x20) :
    Rel (s.trip ⟨v4, v6, v8, x2, x6, x7, x8⟩ t)
      (arg9.view.read (Elt F) (arg9.view.writes (Elt F) (harg9.unread x9) (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v213 c0_i32_152 c0_i32_153 v231 c1_i32_154 acc k x2 x6 x7 x8 x9 x13 x14 x15 x16 x17 x18 x19 x20).1))
      (arg13.view.read (Elt F) (arg13.view.writes (Elt F) (harg13.unread x13) (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v213 c0_i32_152 c0_i32_153 v231 c1_i32_154 acc k x2 x6 x7 x8 x9 x13 x14 x15 x16 x17 x18 x19 x20).2.1))
      (arg14.view.read (Elt F) (arg14.view.writes (Elt F) (harg14.unread x14) (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v213 c0_i32_152 c0_i32_153 v231 c1_i32_154 acc k x2 x6 x7 x8 x9 x13 x14 x15 x16 x17 x18 x19 x20).2.2.1))
      (arg15.view.read (Elt F) (arg15.view.writes (Elt F) (harg15.unread x15) (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v213 c0_i32_152 c0_i32_153 v231 c1_i32_154 acc k x2 x6 x7 x8 x9 x13 x14 x15 x16 x17 x18 x19 x20).2.2.2.1))
      (arg16.view.read (Elt F) (arg16.view.writes (Elt F) (harg16.unread x16) (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v213 c0_i32_152 c0_i32_153 v231 c1_i32_154 acc k x2 x6 x7 x8 x9 x13 x14 x15 x16 x17 x18 x19 x20).2.2.2.2.1))
      (arg17.view.read (Elt F) (arg17.view.writes (Elt F) (harg17.unread x17) (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v213 c0_i32_152 c0_i32_153 v231 c1_i32_154 acc k x2 x6 x7 x8 x9 x13 x14 x15 x16 x17 x18 x19 x20).2.2.2.2.2.1))
      (arg18.view.read (Elt F) (arg18.view.writes (Elt F) (harg18.unread x18) (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v213 c0_i32_152 c0_i32_153 v231 c1_i32_154 acc k x2 x6 x7 x8 x9 x13 x14 x15 x16 x17 x18 x19 x20).2.2.2.2.2.2.1))
      (arg19.view.read (Elt F) (arg19.view.writes (Elt F) (harg19.unread x19) (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v213 c0_i32_152 c0_i32_153 v231 c1_i32_154 acc k x2 x6 x7 x8 x9 x13 x14 x15 x16 x17 x18 x19 x20).2.2.2.2.2.2.2.1))
      (arg20.view.read (Elt F) (arg20.view.writes (Elt F) (harg20.unread x20) (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v4 v6 v8 v213 c0_i32_152 c0_i32_153 v231 c1_i32_154 acc k x2 x6 x7 x8 x9 x13 x14 x15 x16 x17 x18 x19 x20).2.2.2.2.2.2.2.2.1))
    := by
  obtain ⟨hkq, hdp, hpb, hds, hdk, hdv, hdfk, hdq, hdfq⟩ := h
  have k0 := hkq 0 (by decide)
  have k1 := hkq 1 (by decide)
  have d0 := hdp 0 (by decide)
  have d1 := hdp 1 (by decide)
  have p0 := hpb 0 (by decide)
  have p1 := hpb 1 (by decide)
  have s0 := hds 0 (by decide)
  have s1 := hds 1 (by decide)
  have e0 : t - 1 < 64 := by omega
  have e1 : t < 64 := by omega
  have e2 : t + 1 < 64 := by omega
  have e3 : t + 2 - 1 < 64 := by omega
  have e4 : t + 2 < 64 := by omega
  have e5 : t + 2 + 1 < 64 := by omega
  constructor
  all_goals simp only [tripRun, tripRun.sl.H13_2, tripRun.sl.H13_3, tripRun.sl.H14_2, tripRun.sl.H14_3, tripRun.sl.H14_4, tripRun.sl.H15_2, tripRun.sl.H15_3, tripRun.sl.H15_4, tripRun.sl.H16_1, tripRun.sl.H16_2, tripRun.sl.H16_3, tripRun.sl.H17_1, tripRun.sl.H17_2, tripRun.sl.H17_3, tripRun.sl.H18_1, tripRun.sl.H18_2, tripRun.sl.H18_3, tripRun.sl.H19_1, tripRun.sl.H19_2, tripRun.sl.H19_3, tripRun.sl.H20_1, tripRun.sl.H20_2, tripRun.sl.H20_3, tripRun.sl.H9_2, tripRun.sl.H9_3, tripRun.sl.arg21, tripRun.sl.r, tripRun.sl.r_1, tripRun.sl.r_10, tripRun.sl.r_11, tripRun.sl.r_2, tripRun.sl.r_3, tripRun.sl.r_4, tripRun.sl.r_5, tripRun.sl.r_6, tripRun.sl.r_7, tripRun.sl.r_8, tripRun.sl.r_9, tripRun.sl.v310, tripRun.sl.v311, tripRun.sl.v312, tripRun.sl.v313, tripRun.sl.v332, tripRun.sl.v333, tripRun.sl.v368, tripRun.sl.v370, tripRun.sl.v378, tripRun.sl.v412, tripRun.sl.v431, tripRun.sl.v432, tripRun.sl.v434, tripRun.sl.v436, tripRun.sl.v437, tripRun.sl.v447, tripRun.sl.v457, tripRun.sl.v467, tripRun.sl.v469, tripRun.sl.v477, tripRun.sl.v493, tripRun.sl.v501, tripRun.sl.v510, tripRun.sl.v512, tripRun.sl.v513, tripRun.sl.v532, tripRun.sl.v533, tripRun.sl.v535, tripRun.sl.v537, tripRun.sl.v538, tripRun.sl.v548, tripRun.sl.v558, tripRun.sl.v568, tripRun.sl.v570, tripRun.sl.v578, tripRun.sl.v594, tripRun.sl.v602, tripRun.sl.v612, tripRun.sl.v631, tripRun.sl.v632, tripRun.sl.v634, tripRun.sl.v636, tripRun.sl.v637, tripRun.sl.v647, tripRun.sl.v657, tripRun.sl.v667, tripRun.sl.v669, tripRun.sl.v677, tripRun.sl.v693, tripRun.sl.v701]
  case kq | dp | pb | ds =>
    intro b hb
    try simp only [View.readCov, View.writes_nil, readAt_slot 0 (by decide), readAt_slot 1 (by decide), readAt_whole2, read_writes_whole2, readAt_rows _ (off12_0 i k t ht), readAt_rows _ (off12_1 i k t ht), readAt_rows _ (off13_0 i k t ht), readAt_rows _ (off13_1 i k t ht), readAt_rows _ (off14_0 i k t ht), readAt_rows _ (off14_1 i k t ht), readAt_rows _ (off15_0 i k t ht), readAt_rows _ (off15_1 i k t ht), readAt_cols _ (off16_0 i k t ht), fun v t' ht' => col_ite (F := F) (D := 64) (κ := .tc) (e := .f32) (sig := sig) (sp := .vmem) (t' := t') v (off16_0 i k t ht) ht', fun v t' ht' => col_ite (F := F) (D := 1) (κ := .tc) (e := .f32) (sig := sig) (sp := .vmem) (t' := t') v (off16_0 i k t ht) ht', readAt_cols _ (off16_1 i k t ht), fun v t' ht' => col_ite (F := F) (D := 64) (κ := .tc) (e := .f32) (sig := sig) (sp := .vmem) (t' := t') v (off16_1 i k t ht) ht', fun v t' ht' => col_ite (F := F) (D := 1) (κ := .tc) (e := .f32) (sig := sig) (sp := .vmem) (t' := t') v (off16_1 i k t ht) ht', readAt_cols _ (off17_0 i k t ht), fun v t' ht' => col_ite (F := F) (D := 64) (κ := .tc) (e := .f32) (sig := sig) (sp := .vmem) (t' := t') v (off17_0 i k t ht) ht', fun v t' ht' => col_ite (F := F) (D := 1) (κ := .tc) (e := .f32) (sig := sig) (sp := .vmem) (t' := t') v (off17_0 i k t ht) ht', readAt_cols _ (off17_1 i k t ht), fun v t' ht' => col_ite (F := F) (D := 64) (κ := .tc) (e := .f32) (sig := sig) (sp := .vmem) (t' := t') v (off17_1 i k t ht) ht', fun v t' ht' => col_ite (F := F) (D := 1) (κ := .tc) (e := .f32) (sig := sig) (sp := .vmem) (t' := t') v (off17_1 i k t ht) ht', readAt_rows _ (off18_0 i k t ht), readAt_rows _ (off18_1 i k t ht), readAt_rows _ (off19_0 i k t ht), readAt_rows _ (off19_1 i k t ht), readAt_rows _ (off20_0 i k t ht), readAt_rows _ (off20_1 i k t ht), readAt_rows _ (off21_0 i k t ht), readAt_rows _ (off21_1 i k t ht), readAt_cols _ (off22_0 i k t ht), fun v t' ht' => col_ite (F := F) (D := 64) (κ := .tc) (e := .f32) (sig := sig) (sp := .vmem) (t' := t') v (off22_0 i k t ht) ht', fun v t' ht' => col_ite (F := F) (D := 1) (κ := .tc) (e := .f32) (sig := sig) (sp := .vmem) (t' := t') v (off22_0 i k t ht) ht', readAt_cols _ (off22_1 i k t ht), fun v t' ht' => col_ite (F := F) (D := 64) (κ := .tc) (e := .f32) (sig := sig) (sp := .vmem) (t' := t') v (off22_1 i k t ht) ht', fun v t' ht' => col_ite (F := F) (D := 1) (κ := .tc) (e := .f32) (sig := sig) (sp := .vmem) (t' := t') v (off22_1 i k t ht) ht', readAt_cols _ (off23_0 i k t ht), fun v t' ht' => col_ite (F := F) (D := 64) (κ := .tc) (e := .f32) (sig := sig) (sp := .vmem) (t' := t') v (off23_0 i k t ht) ht', fun v t' ht' => col_ite (F := F) (D := 1) (κ := .tc) (e := .f32) (sig := sig) (sp := .vmem) (t' := t') v (off23_0 i k t ht) ht', readAt_cols _ (off23_1 i k t ht), fun v t' ht' => col_ite (F := F) (D := 64) (κ := .tc) (e := .f32) (sig := sig) (sp := .vmem) (t' := t') v (off23_1 i k t ht) ht', fun v t' ht' => col_ite (F := F) (D := 1) (κ := .tc) (e := .f32) (sig := sig) (sp := .vmem) (t' := t') v (off23_1 i k t ht) ht', harg2.read_unread, harg6.read_unread, harg7.read_unread, harg8.read_unread, harg9.read_unread, harg13.read_unread, harg14.read_unread, harg15.read_unread, harg16.read_unread, harg17.read_unread, harg18.read_unread, harg19.read_unread, harg20.read_unread, slot_ite 0 0 (by decide) (by decide), slot_ite 0 1 (by decide) (by decide), slot_ite 1 0 (by decide) (by decide), slot_ite 1 1 (by decide) (by decide), slot_ite 0 b (by decide) hb, slot_ite 1 b (by decide) hb, if_pos, if_neg, reduceIte, Nat.reduceEqDiff, OfNat.ofNat_ne_zero, one_ne_zero, zero_ne_one, e0, e1, e2, e3, e4, e5, hb]
    try simp only [if_pos, if_neg, reduceIte, Nat.reduceEqDiff, OfNat.ofNat_ne_zero, one_ne_zero, zero_ne_one, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [hkq, hdp, hpb, hds, hdk, hdv, hdfk, hdq, hdfq, k0, k1, d0, d1, p0, p1, s0, s1, e0, e1, e2, e3, e4, e5, hb, if_pos, if_neg, reduceIte, Nat.reduceEqDiff, OfNat.ofNat_ne_zero, one_ne_zero, zero_ne_one]
    try simp only [St.trip, St.pair, St.stage, St.products, St.accumulate, St.pointwise, St.head, upd_ap, e0, e1, e2, e3, e4, e5, hb, if_pos, if_neg, reduceIte, Nat.reduceEqDiff, OfNat.ofNat_ne_zero, one_ne_zero, zero_ne_one]
    try simp only [View.readCov, View.writes_nil, readAt_slot 0 (by decide), readAt_slot 1 (by decide), readAt_whole2, read_writes_whole2, readAt_rows _ (off12_0 i k t ht), readAt_rows _ (off12_1 i k t ht), readAt_rows _ (off13_0 i k t ht), readAt_rows _ (off13_1 i k t ht), readAt_rows _ (off14_0 i k t ht), readAt_rows _ (off14_1 i k t ht), readAt_rows _ (off15_0 i k t ht), readAt_rows _ (off15_1 i k t ht), readAt_cols _ (off16_0 i k t ht), fun v t' ht' => col_ite (F := F) (D := 64) (κ := .tc) (e := .f32) (sig := sig) (sp := .vmem) (t' := t') v (off16_0 i k t ht) ht', fun v t' ht' => col_ite (F := F) (D := 1) (κ := .tc) (e := .f32) (sig := sig) (sp := .vmem) (t' := t') v (off16_0 i k t ht) ht', readAt_cols _ (off16_1 i k t ht), fun v t' ht' => col_ite (F := F) (D := 64) (κ := .tc) (e := .f32) (sig := sig) (sp := .vmem) (t' := t') v (off16_1 i k t ht) ht', fun v t' ht' => col_ite (F := F) (D := 1) (κ := .tc) (e := .f32) (sig := sig) (sp := .vmem) (t' := t') v (off16_1 i k t ht) ht', readAt_cols _ (off17_0 i k t ht), fun v t' ht' => col_ite (F := F) (D := 64) (κ := .tc) (e := .f32) (sig := sig) (sp := .vmem) (t' := t') v (off17_0 i k t ht) ht', fun v t' ht' => col_ite (F := F) (D := 1) (κ := .tc) (e := .f32) (sig := sig) (sp := .vmem) (t' := t') v (off17_0 i k t ht) ht', readAt_cols _ (off17_1 i k t ht), fun v t' ht' => col_ite (F := F) (D := 64) (κ := .tc) (e := .f32) (sig := sig) (sp := .vmem) (t' := t') v (off17_1 i k t ht) ht', fun v t' ht' => col_ite (F := F) (D := 1) (κ := .tc) (e := .f32) (sig := sig) (sp := .vmem) (t' := t') v (off17_1 i k t ht) ht', readAt_rows _ (off18_0 i k t ht), readAt_rows _ (off18_1 i k t ht), readAt_rows _ (off19_0 i k t ht), readAt_rows _ (off19_1 i k t ht), readAt_rows _ (off20_0 i k t ht), readAt_rows _ (off20_1 i k t ht), readAt_rows _ (off21_0 i k t ht), readAt_rows _ (off21_1 i k t ht), readAt_cols _ (off22_0 i k t ht), fun v t' ht' => col_ite (F := F) (D := 64) (κ := .tc) (e := .f32) (sig := sig) (sp := .vmem) (t' := t') v (off22_0 i k t ht) ht', fun v t' ht' => col_ite (F := F) (D := 1) (κ := .tc) (e := .f32) (sig := sig) (sp := .vmem) (t' := t') v (off22_0 i k t ht) ht', readAt_cols _ (off22_1 i k t ht), fun v t' ht' => col_ite (F := F) (D := 64) (κ := .tc) (e := .f32) (sig := sig) (sp := .vmem) (t' := t') v (off22_1 i k t ht) ht', fun v t' ht' => col_ite (F := F) (D := 1) (κ := .tc) (e := .f32) (sig := sig) (sp := .vmem) (t' := t') v (off22_1 i k t ht) ht', readAt_cols _ (off23_0 i k t ht), fun v t' ht' => col_ite (F := F) (D := 64) (κ := .tc) (e := .f32) (sig := sig) (sp := .vmem) (t' := t') v (off23_0 i k t ht) ht', fun v t' ht' => col_ite (F := F) (D := 1) (κ := .tc) (e := .f32) (sig := sig) (sp := .vmem) (t' := t') v (off23_0 i k t ht) ht', readAt_cols _ (off23_1 i k t ht), fun v t' ht' => col_ite (F := F) (D := 64) (κ := .tc) (e := .f32) (sig := sig) (sp := .vmem) (t' := t') v (off23_1 i k t ht) ht', fun v t' ht' => col_ite (F := F) (D := 1) (κ := .tc) (e := .f32) (sig := sig) (sp := .vmem) (t' := t') v (off23_1 i k t ht) ht', harg2.read_unread, harg6.read_unread, harg7.read_unread, harg8.read_unread, harg9.read_unread, harg13.read_unread, harg14.read_unread, harg15.read_unread, harg16.read_unread, harg17.read_unread, harg18.read_unread, harg19.read_unread, harg20.read_unread, slot_ite 0 0 (by decide) (by decide), slot_ite 0 1 (by decide) (by decide), slot_ite 1 0 (by decide) (by decide), slot_ite 1 1 (by decide) (by decide), slot_ite 0 b (by decide) hb, slot_ite 1 b (by decide) hb, if_pos, if_neg, reduceIte, Nat.reduceEqDiff, OfNat.ofNat_ne_zero, one_ne_zero, zero_ne_one, e0, e1, e2, e3, e4, e5, hb, hkq, hdp, hpb, hds, hdk, hdv, hdfk, hdq, hdfq, k0, k1, d0, d1, p0, p1, s0, s1, upd_ap]
    try (obtain rfl | rfl : b = 0 ∨ b = 1 := by omega)
    all_goals try simp only [if_pos, if_neg, reduceIte, Nat.reduceEqDiff, OfNat.ofNat_ne_zero, one_ne_zero, zero_ne_one]
    all_goals try rfl
  case dk | dv | dfk =>
    try simp only [View.readCov, View.writes_nil, readAt_slot 0 (by decide), readAt_slot 1 (by decide), readAt_whole2, read_writes_whole2, readAt_rows _ (off12_0 i k t ht), readAt_rows _ (off12_1 i k t ht), readAt_rows _ (off13_0 i k t ht), readAt_rows _ (off13_1 i k t ht), readAt_rows _ (off14_0 i k t ht), readAt_rows _ (off14_1 i k t ht), readAt_rows _ (off15_0 i k t ht), readAt_rows _ (off15_1 i k t ht), readAt_cols _ (off16_0 i k t ht), fun v t' ht' => col_ite (F := F) (D := 64) (κ := .tc) (e := .f32) (sig := sig) (sp := .vmem) (t' := t') v (off16_0 i k t ht) ht', fun v t' ht' => col_ite (F := F) (D := 1) (κ := .tc) (e := .f32) (sig := sig) (sp := .vmem) (t' := t') v (off16_0 i k t ht) ht', readAt_cols _ (off16_1 i k t ht), fun v t' ht' => col_ite (F := F) (D := 64) (κ := .tc) (e := .f32) (sig := sig) (sp := .vmem) (t' := t') v (off16_1 i k t ht) ht', fun v t' ht' => col_ite (F := F) (D := 1) (κ := .tc) (e := .f32) (sig := sig) (sp := .vmem) (t' := t') v (off16_1 i k t ht) ht', readAt_cols _ (off17_0 i k t ht), fun v t' ht' => col_ite (F := F) (D := 64) (κ := .tc) (e := .f32) (sig := sig) (sp := .vmem) (t' := t') v (off17_0 i k t ht) ht', fun v t' ht' => col_ite (F := F) (D := 1) (κ := .tc) (e := .f32) (sig := sig) (sp := .vmem) (t' := t') v (off17_0 i k t ht) ht', readAt_cols _ (off17_1 i k t ht), fun v t' ht' => col_ite (F := F) (D := 64) (κ := .tc) (e := .f32) (sig := sig) (sp := .vmem) (t' := t') v (off17_1 i k t ht) ht', fun v t' ht' => col_ite (F := F) (D := 1) (κ := .tc) (e := .f32) (sig := sig) (sp := .vmem) (t' := t') v (off17_1 i k t ht) ht', readAt_rows _ (off18_0 i k t ht), readAt_rows _ (off18_1 i k t ht), readAt_rows _ (off19_0 i k t ht), readAt_rows _ (off19_1 i k t ht), readAt_rows _ (off20_0 i k t ht), readAt_rows _ (off20_1 i k t ht), readAt_rows _ (off21_0 i k t ht), readAt_rows _ (off21_1 i k t ht), readAt_cols _ (off22_0 i k t ht), fun v t' ht' => col_ite (F := F) (D := 64) (κ := .tc) (e := .f32) (sig := sig) (sp := .vmem) (t' := t') v (off22_0 i k t ht) ht', fun v t' ht' => col_ite (F := F) (D := 1) (κ := .tc) (e := .f32) (sig := sig) (sp := .vmem) (t' := t') v (off22_0 i k t ht) ht', readAt_cols _ (off22_1 i k t ht), fun v t' ht' => col_ite (F := F) (D := 64) (κ := .tc) (e := .f32) (sig := sig) (sp := .vmem) (t' := t') v (off22_1 i k t ht) ht', fun v t' ht' => col_ite (F := F) (D := 1) (κ := .tc) (e := .f32) (sig := sig) (sp := .vmem) (t' := t') v (off22_1 i k t ht) ht', readAt_cols _ (off23_0 i k t ht), fun v t' ht' => col_ite (F := F) (D := 64) (κ := .tc) (e := .f32) (sig := sig) (sp := .vmem) (t' := t') v (off23_0 i k t ht) ht', fun v t' ht' => col_ite (F := F) (D := 1) (κ := .tc) (e := .f32) (sig := sig) (sp := .vmem) (t' := t') v (off23_0 i k t ht) ht', readAt_cols _ (off23_1 i k t ht), fun v t' ht' => col_ite (F := F) (D := 64) (κ := .tc) (e := .f32) (sig := sig) (sp := .vmem) (t' := t') v (off23_1 i k t ht) ht', fun v t' ht' => col_ite (F := F) (D := 1) (κ := .tc) (e := .f32) (sig := sig) (sp := .vmem) (t' := t') v (off23_1 i k t ht) ht', harg2.read_unread, harg6.read_unread, harg7.read_unread, harg8.read_unread, harg9.read_unread, harg13.read_unread, harg14.read_unread, harg15.read_unread, harg16.read_unread, harg17.read_unread, harg18.read_unread, harg19.read_unread, harg20.read_unread, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1, e2, e3, e4, e5]
    try simp only [if_pos, if_neg, reduceIte, Nat.reduceEqDiff, OfNat.ofNat_ne_zero, one_ne_zero, zero_ne_one, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [hkq, hdp, hpb, hds, hdk, hdv, hdfk, hdq, hdfq, k0, k1, d0, d1, p0, p1, s0, s1, e0, e1, e2, e3, e4, e5, if_pos, if_neg, reduceIte, Nat.reduceEqDiff, OfNat.ofNat_ne_zero, one_ne_zero, zero_ne_one]
    try simp only [St.trip, St.pair, St.stage, St.products, St.accumulate, St.pointwise, St.head, upd_ap, e0, e1, e2, e3, e4, e5, if_pos, if_neg, reduceIte, Nat.reduceEqDiff, OfNat.ofNat_ne_zero, one_ne_zero, zero_ne_one]
    try simp only [View.readCov, View.writes_nil, readAt_slot 0 (by decide), readAt_slot 1 (by decide), readAt_whole2, read_writes_whole2, readAt_rows _ (off12_0 i k t ht), readAt_rows _ (off12_1 i k t ht), readAt_rows _ (off13_0 i k t ht), readAt_rows _ (off13_1 i k t ht), readAt_rows _ (off14_0 i k t ht), readAt_rows _ (off14_1 i k t ht), readAt_rows _ (off15_0 i k t ht), readAt_rows _ (off15_1 i k t ht), readAt_cols _ (off16_0 i k t ht), fun v t' ht' => col_ite (F := F) (D := 64) (κ := .tc) (e := .f32) (sig := sig) (sp := .vmem) (t' := t') v (off16_0 i k t ht) ht', fun v t' ht' => col_ite (F := F) (D := 1) (κ := .tc) (e := .f32) (sig := sig) (sp := .vmem) (t' := t') v (off16_0 i k t ht) ht', readAt_cols _ (off16_1 i k t ht), fun v t' ht' => col_ite (F := F) (D := 64) (κ := .tc) (e := .f32) (sig := sig) (sp := .vmem) (t' := t') v (off16_1 i k t ht) ht', fun v t' ht' => col_ite (F := F) (D := 1) (κ := .tc) (e := .f32) (sig := sig) (sp := .vmem) (t' := t') v (off16_1 i k t ht) ht', readAt_cols _ (off17_0 i k t ht), fun v t' ht' => col_ite (F := F) (D := 64) (κ := .tc) (e := .f32) (sig := sig) (sp := .vmem) (t' := t') v (off17_0 i k t ht) ht', fun v t' ht' => col_ite (F := F) (D := 1) (κ := .tc) (e := .f32) (sig := sig) (sp := .vmem) (t' := t') v (off17_0 i k t ht) ht', readAt_cols _ (off17_1 i k t ht), fun v t' ht' => col_ite (F := F) (D := 64) (κ := .tc) (e := .f32) (sig := sig) (sp := .vmem) (t' := t') v (off17_1 i k t ht) ht', fun v t' ht' => col_ite (F := F) (D := 1) (κ := .tc) (e := .f32) (sig := sig) (sp := .vmem) (t' := t') v (off17_1 i k t ht) ht', readAt_rows _ (off18_0 i k t ht), readAt_rows _ (off18_1 i k t ht), readAt_rows _ (off19_0 i k t ht), readAt_rows _ (off19_1 i k t ht), readAt_rows _ (off20_0 i k t ht), readAt_rows _ (off20_1 i k t ht), readAt_rows _ (off21_0 i k t ht), readAt_rows _ (off21_1 i k t ht), readAt_cols _ (off22_0 i k t ht), fun v t' ht' => col_ite (F := F) (D := 64) (κ := .tc) (e := .f32) (sig := sig) (sp := .vmem) (t' := t') v (off22_0 i k t ht) ht', fun v t' ht' => col_ite (F := F) (D := 1) (κ := .tc) (e := .f32) (sig := sig) (sp := .vmem) (t' := t') v (off22_0 i k t ht) ht', readAt_cols _ (off22_1 i k t ht), fun v t' ht' => col_ite (F := F) (D := 64) (κ := .tc) (e := .f32) (sig := sig) (sp := .vmem) (t' := t') v (off22_1 i k t ht) ht', fun v t' ht' => col_ite (F := F) (D := 1) (κ := .tc) (e := .f32) (sig := sig) (sp := .vmem) (t' := t') v (off22_1 i k t ht) ht', readAt_cols _ (off23_0 i k t ht), fun v t' ht' => col_ite (F := F) (D := 64) (κ := .tc) (e := .f32) (sig := sig) (sp := .vmem) (t' := t') v (off23_0 i k t ht) ht', fun v t' ht' => col_ite (F := F) (D := 1) (κ := .tc) (e := .f32) (sig := sig) (sp := .vmem) (t' := t') v (off23_0 i k t ht) ht', readAt_cols _ (off23_1 i k t ht), fun v t' ht' => col_ite (F := F) (D := 64) (κ := .tc) (e := .f32) (sig := sig) (sp := .vmem) (t' := t') v (off23_1 i k t ht) ht', fun v t' ht' => col_ite (F := F) (D := 1) (κ := .tc) (e := .f32) (sig := sig) (sp := .vmem) (t' := t') v (off23_1 i k t ht) ht', harg2.read_unread, harg6.read_unread, harg7.read_unread, harg8.read_unread, harg9.read_unread, harg13.read_unread, harg14.read_unread, harg15.read_unread, harg16.read_unread, harg17.read_unread, harg18.read_unread, harg19.read_unread, harg20.read_unread, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1, e2, e3, e4, e5, hkq, hdp, hpb, hds, hdk, hdv, hdfk, hdq, hdfq, k0, k1, d0, d1, p0, p1, s0, s1, upd_ap]
    all_goals try rfl
  case dq =>
    intro u hu
    have n01 : t - 1 ≠ t := by omega
    have n02 : t - 1 ≠ t + 2 - 1 := by omega
    have n03 : t - 1 ≠ t + 2 := by omega
    have n10 : t ≠ t - 1 := by omega
    have n12 : t ≠ t + 2 - 1 := by omega
    have n13 : t ≠ t + 2 := by omega
    have n20 : t + 2 - 1 ≠ t - 1 := by omega
    have n21 : t + 2 - 1 ≠ t := by omega
    have n23 : t + 2 - 1 ≠ t + 2 := by omega
    have n30 : t + 2 ≠ t - 1 := by omega
    have n31 : t + 2 ≠ t := by omega
    have n32 : t + 2 ≠ t + 2 - 1 := by omega
    try simp only [View.readCov, View.writes_nil, readAt_slot 0 (by decide), readAt_slot 1 (by decide), readAt_whole2, read_writes_whole2, readAt_rows _ (off12_0 i k t ht), readAt_rows _ (off12_1 i k t ht), readAt_rows _ (off13_0 i k t ht), readAt_rows _ (off13_1 i k t ht), readAt_rows _ (off14_0 i k t ht), readAt_rows _ (off14_1 i k t ht), readAt_rows _ (off15_0 i k t ht), readAt_rows _ (off15_1 i k t ht), readAt_cols _ (off16_0 i k t ht), fun v t' ht' => col_ite (F := F) (D := 64) (κ := .tc) (e := .f32) (sig := sig) (sp := .vmem) (t' := t') v (off16_0 i k t ht) ht', fun v t' ht' => col_ite (F := F) (D := 1) (κ := .tc) (e := .f32) (sig := sig) (sp := .vmem) (t' := t') v (off16_0 i k t ht) ht', readAt_cols _ (off16_1 i k t ht), fun v t' ht' => col_ite (F := F) (D := 64) (κ := .tc) (e := .f32) (sig := sig) (sp := .vmem) (t' := t') v (off16_1 i k t ht) ht', fun v t' ht' => col_ite (F := F) (D := 1) (κ := .tc) (e := .f32) (sig := sig) (sp := .vmem) (t' := t') v (off16_1 i k t ht) ht', readAt_cols _ (off17_0 i k t ht), fun v t' ht' => col_ite (F := F) (D := 64) (κ := .tc) (e := .f32) (sig := sig) (sp := .vmem) (t' := t') v (off17_0 i k t ht) ht', fun v t' ht' => col_ite (F := F) (D := 1) (κ := .tc) (e := .f32) (sig := sig) (sp := .vmem) (t' := t') v (off17_0 i k t ht) ht', readAt_cols _ (off17_1 i k t ht), fun v t' ht' => col_ite (F := F) (D := 64) (κ := .tc) (e := .f32) (sig := sig) (sp := .vmem) (t' := t') v (off17_1 i k t ht) ht', fun v t' ht' => col_ite (F := F) (D := 1) (κ := .tc) (e := .f32) (sig := sig) (sp := .vmem) (t' := t') v (off17_1 i k t ht) ht', readAt_rows _ (off18_0 i k t ht), readAt_rows _ (off18_1 i k t ht), readAt_rows _ (off19_0 i k t ht), readAt_rows _ (off19_1 i k t ht), readAt_rows _ (off20_0 i k t ht), readAt_rows _ (off20_1 i k t ht), readAt_rows _ (off21_0 i k t ht), readAt_rows _ (off21_1 i k t ht), readAt_cols _ (off22_0 i k t ht), fun v t' ht' => col_ite (F := F) (D := 64) (κ := .tc) (e := .f32) (sig := sig) (sp := .vmem) (t' := t') v (off22_0 i k t ht) ht', fun v t' ht' => col_ite (F := F) (D := 1) (κ := .tc) (e := .f32) (sig := sig) (sp := .vmem) (t' := t') v (off22_0 i k t ht) ht', readAt_cols _ (off22_1 i k t ht), fun v t' ht' => col_ite (F := F) (D := 64) (κ := .tc) (e := .f32) (sig := sig) (sp := .vmem) (t' := t') v (off22_1 i k t ht) ht', fun v t' ht' => col_ite (F := F) (D := 1) (κ := .tc) (e := .f32) (sig := sig) (sp := .vmem) (t' := t') v (off22_1 i k t ht) ht', readAt_cols _ (off23_0 i k t ht), fun v t' ht' => col_ite (F := F) (D := 64) (κ := .tc) (e := .f32) (sig := sig) (sp := .vmem) (t' := t') v (off23_0 i k t ht) ht', fun v t' ht' => col_ite (F := F) (D := 1) (κ := .tc) (e := .f32) (sig := sig) (sp := .vmem) (t' := t') v (off23_0 i k t ht) ht', readAt_cols _ (off23_1 i k t ht), fun v t' ht' => col_ite (F := F) (D := 64) (κ := .tc) (e := .f32) (sig := sig) (sp := .vmem) (t' := t') v (off23_1 i k t ht) ht', fun v t' ht' => col_ite (F := F) (D := 1) (κ := .tc) (e := .f32) (sig := sig) (sp := .vmem) (t' := t') v (off23_1 i k t ht) ht', harg2.read_unread, harg6.read_unread, harg7.read_unread, harg8.read_unread, harg9.read_unread, harg13.read_unread, harg14.read_unread, harg15.read_unread, harg16.read_unread, harg17.read_unread, harg18.read_unread, harg19.read_unread, harg20.read_unread, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1, e2, e3, e4, e5, hu, n01, n02, n03, n10, n12, n13, n20, n21, n23, n30, n31, n32]
    try simp only [if_pos, if_neg, reduceIte, Nat.reduceEqDiff, OfNat.ofNat_ne_zero, one_ne_zero, zero_ne_one, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [hkq, hdp, hpb, hds, hdk, hdv, hdfk, hdq, hdfq, k0, k1, d0, d1, p0, p1, s0, s1, e0, e1, e2, e3, e4, e5, hu, n01, n02, n03, n10, n12, n13, n20, n21, n23, n30, n31, n32, if_pos, if_neg, reduceIte, Nat.reduceEqDiff, OfNat.ofNat_ne_zero, one_ne_zero, zero_ne_one]
    try simp only [St.trip, St.pair, St.stage, St.products, St.accumulate, St.pointwise, St.head, upd_ap, e0, e1, e2, e3, e4, e5, hu, n01, n02, n03, n10, n12, n13, n20, n21, n23, n30, n31, n32, if_pos, if_neg, reduceIte, Nat.reduceEqDiff, OfNat.ofNat_ne_zero, one_ne_zero, zero_ne_one]
    try simp only [View.readCov, View.writes_nil, readAt_slot 0 (by decide), readAt_slot 1 (by decide), readAt_whole2, read_writes_whole2, readAt_rows _ (off12_0 i k t ht), readAt_rows _ (off12_1 i k t ht), readAt_rows _ (off13_0 i k t ht), readAt_rows _ (off13_1 i k t ht), readAt_rows _ (off14_0 i k t ht), readAt_rows _ (off14_1 i k t ht), readAt_rows _ (off15_0 i k t ht), readAt_rows _ (off15_1 i k t ht), readAt_cols _ (off16_0 i k t ht), fun v t' ht' => col_ite (F := F) (D := 64) (κ := .tc) (e := .f32) (sig := sig) (sp := .vmem) (t' := t') v (off16_0 i k t ht) ht', fun v t' ht' => col_ite (F := F) (D := 1) (κ := .tc) (e := .f32) (sig := sig) (sp := .vmem) (t' := t') v (off16_0 i k t ht) ht', readAt_cols _ (off16_1 i k t ht), fun v t' ht' => col_ite (F := F) (D := 64) (κ := .tc) (e := .f32) (sig := sig) (sp := .vmem) (t' := t') v (off16_1 i k t ht) ht', fun v t' ht' => col_ite (F := F) (D := 1) (κ := .tc) (e := .f32) (sig := sig) (sp := .vmem) (t' := t') v (off16_1 i k t ht) ht', readAt_cols _ (off17_0 i k t ht), fun v t' ht' => col_ite (F := F) (D := 64) (κ := .tc) (e := .f32) (sig := sig) (sp := .vmem) (t' := t') v (off17_0 i k t ht) ht', fun v t' ht' => col_ite (F := F) (D := 1) (κ := .tc) (e := .f32) (sig := sig) (sp := .vmem) (t' := t') v (off17_0 i k t ht) ht', readAt_cols _ (off17_1 i k t ht), fun v t' ht' => col_ite (F := F) (D := 64) (κ := .tc) (e := .f32) (sig := sig) (sp := .vmem) (t' := t') v (off17_1 i k t ht) ht', fun v t' ht' => col_ite (F := F) (D := 1) (κ := .tc) (e := .f32) (sig := sig) (sp := .vmem) (t' := t') v (off17_1 i k t ht) ht', readAt_rows _ (off18_0 i k t ht), readAt_rows _ (off18_1 i k t ht), readAt_rows _ (off19_0 i k t ht), readAt_rows _ (off19_1 i k t ht), readAt_rows _ (off20_0 i k t ht), readAt_rows _ (off20_1 i k t ht), readAt_rows _ (off21_0 i k t ht), readAt_rows _ (off21_1 i k t ht), readAt_cols _ (off22_0 i k t ht), fun v t' ht' => col_ite (F := F) (D := 64) (κ := .tc) (e := .f32) (sig := sig) (sp := .vmem) (t' := t') v (off22_0 i k t ht) ht', fun v t' ht' => col_ite (F := F) (D := 1) (κ := .tc) (e := .f32) (sig := sig) (sp := .vmem) (t' := t') v (off22_0 i k t ht) ht', readAt_cols _ (off22_1 i k t ht), fun v t' ht' => col_ite (F := F) (D := 64) (κ := .tc) (e := .f32) (sig := sig) (sp := .vmem) (t' := t') v (off22_1 i k t ht) ht', fun v t' ht' => col_ite (F := F) (D := 1) (κ := .tc) (e := .f32) (sig := sig) (sp := .vmem) (t' := t') v (off22_1 i k t ht) ht', readAt_cols _ (off23_0 i k t ht), fun v t' ht' => col_ite (F := F) (D := 64) (κ := .tc) (e := .f32) (sig := sig) (sp := .vmem) (t' := t') v (off23_0 i k t ht) ht', fun v t' ht' => col_ite (F := F) (D := 1) (κ := .tc) (e := .f32) (sig := sig) (sp := .vmem) (t' := t') v (off23_0 i k t ht) ht', readAt_cols _ (off23_1 i k t ht), fun v t' ht' => col_ite (F := F) (D := 64) (κ := .tc) (e := .f32) (sig := sig) (sp := .vmem) (t' := t') v (off23_1 i k t ht) ht', fun v t' ht' => col_ite (F := F) (D := 1) (κ := .tc) (e := .f32) (sig := sig) (sp := .vmem) (t' := t') v (off23_1 i k t ht) ht', harg2.read_unread, harg6.read_unread, harg7.read_unread, harg8.read_unread, harg9.read_unread, harg13.read_unread, harg14.read_unread, harg15.read_unread, harg16.read_unread, harg17.read_unread, harg18.read_unread, harg19.read_unread, harg20.read_unread, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1, e2, e3, e4, e5, hu, n01, n02, n03, n10, n12, n13, n20, n21, n23, n30, n31, n32, hkq, hdp, hpb, hds, hdk, hdv, hdfk, hdq, hdfq, k0, k1, d0, d1, p0, p1, s0, s1, upd_ap]
    all_goals try rfl
  case dfq =>
    intro u hu
    have n01 : t ≠ t + 1 := by omega
    have n02 : t ≠ t + 2 := by omega
    have n03 : t ≠ t + 2 + 1 := by omega
    have n10 : t + 1 ≠ t := by omega
    have n12 : t + 1 ≠ t + 2 := by omega
    have n13 : t + 1 ≠ t + 2 + 1 := by omega
    have n20 : t + 2 ≠ t := by omega
    have n21 : t + 2 ≠ t + 1 := by omega
    have n23 : t + 2 ≠ t + 2 + 1 := by omega
    have n30 : t + 2 + 1 ≠ t := by omega
    have n31 : t + 2 + 1 ≠ t + 1 := by omega
    have n32 : t + 2 + 1 ≠ t + 2 := by omega
    try simp only [View.readCov, View.writes_nil, readAt_slot 0 (by decide), readAt_slot 1 (by decide), readAt_whole2, read_writes_whole2, readAt_rows _ (off12_0 i k t ht), readAt_rows _ (off12_1 i k t ht), readAt_rows _ (off13_0 i k t ht), readAt_rows _ (off13_1 i k t ht), readAt_rows _ (off14_0 i k t ht), readAt_rows _ (off14_1 i k t ht), readAt_rows _ (off15_0 i k t ht), readAt_rows _ (off15_1 i k t ht), readAt_cols _ (off16_0 i k t ht), fun v t' ht' => col_ite (F := F) (D := 64) (κ := .tc) (e := .f32) (sig := sig) (sp := .vmem) (t' := t') v (off16_0 i k t ht) ht', fun v t' ht' => col_ite (F := F) (D := 1) (κ := .tc) (e := .f32) (sig := sig) (sp := .vmem) (t' := t') v (off16_0 i k t ht) ht', readAt_cols _ (off16_1 i k t ht), fun v t' ht' => col_ite (F := F) (D := 64) (κ := .tc) (e := .f32) (sig := sig) (sp := .vmem) (t' := t') v (off16_1 i k t ht) ht', fun v t' ht' => col_ite (F := F) (D := 1) (κ := .tc) (e := .f32) (sig := sig) (sp := .vmem) (t' := t') v (off16_1 i k t ht) ht', readAt_cols _ (off17_0 i k t ht), fun v t' ht' => col_ite (F := F) (D := 64) (κ := .tc) (e := .f32) (sig := sig) (sp := .vmem) (t' := t') v (off17_0 i k t ht) ht', fun v t' ht' => col_ite (F := F) (D := 1) (κ := .tc) (e := .f32) (sig := sig) (sp := .vmem) (t' := t') v (off17_0 i k t ht) ht', readAt_cols _ (off17_1 i k t ht), fun v t' ht' => col_ite (F := F) (D := 64) (κ := .tc) (e := .f32) (sig := sig) (sp := .vmem) (t' := t') v (off17_1 i k t ht) ht', fun v t' ht' => col_ite (F := F) (D := 1) (κ := .tc) (e := .f32) (sig := sig) (sp := .vmem) (t' := t') v (off17_1 i k t ht) ht', readAt_rows _ (off18_0 i k t ht), readAt_rows _ (off18_1 i k t ht), readAt_rows _ (off19_0 i k t ht), readAt_rows _ (off19_1 i k t ht), readAt_rows _ (off20_0 i k t ht), readAt_rows _ (off20_1 i k t ht), readAt_rows _ (off21_0 i k t ht), readAt_rows _ (off21_1 i k t ht), readAt_cols _ (off22_0 i k t ht), fun v t' ht' => col_ite (F := F) (D := 64) (κ := .tc) (e := .f32) (sig := sig) (sp := .vmem) (t' := t') v (off22_0 i k t ht) ht', fun v t' ht' => col_ite (F := F) (D := 1) (κ := .tc) (e := .f32) (sig := sig) (sp := .vmem) (t' := t') v (off22_0 i k t ht) ht', readAt_cols _ (off22_1 i k t ht), fun v t' ht' => col_ite (F := F) (D := 64) (κ := .tc) (e := .f32) (sig := sig) (sp := .vmem) (t' := t') v (off22_1 i k t ht) ht', fun v t' ht' => col_ite (F := F) (D := 1) (κ := .tc) (e := .f32) (sig := sig) (sp := .vmem) (t' := t') v (off22_1 i k t ht) ht', readAt_cols _ (off23_0 i k t ht), fun v t' ht' => col_ite (F := F) (D := 64) (κ := .tc) (e := .f32) (sig := sig) (sp := .vmem) (t' := t') v (off23_0 i k t ht) ht', fun v t' ht' => col_ite (F := F) (D := 1) (κ := .tc) (e := .f32) (sig := sig) (sp := .vmem) (t' := t') v (off23_0 i k t ht) ht', readAt_cols _ (off23_1 i k t ht), fun v t' ht' => col_ite (F := F) (D := 64) (κ := .tc) (e := .f32) (sig := sig) (sp := .vmem) (t' := t') v (off23_1 i k t ht) ht', fun v t' ht' => col_ite (F := F) (D := 1) (κ := .tc) (e := .f32) (sig := sig) (sp := .vmem) (t' := t') v (off23_1 i k t ht) ht', harg2.read_unread, harg6.read_unread, harg7.read_unread, harg8.read_unread, harg9.read_unread, harg13.read_unread, harg14.read_unread, harg15.read_unread, harg16.read_unread, harg17.read_unread, harg18.read_unread, harg19.read_unread, harg20.read_unread, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1, e2, e3, e4, e5, hu, n01, n02, n03, n10, n12, n13, n20, n21, n23, n30, n31, n32]
    try simp only [if_pos, if_neg, reduceIte, Nat.reduceEqDiff, OfNat.ofNat_ne_zero, one_ne_zero, zero_ne_one, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [hkq, hdp, hpb, hds, hdk, hdv, hdfk, hdq, hdfq, k0, k1, d0, d1, p0, p1, s0, s1, e0, e1, e2, e3, e4, e5, hu, n01, n02, n03, n10, n12, n13, n20, n21, n23, n30, n31, n32, if_pos, if_neg, reduceIte, Nat.reduceEqDiff, OfNat.ofNat_ne_zero, one_ne_zero, zero_ne_one]
    try simp only [St.trip, St.pair, St.stage, St.products, St.accumulate, St.pointwise, St.head, upd_ap, e0, e1, e2, e3, e4, e5, hu, n01, n02, n03, n10, n12, n13, n20, n21, n23, n30, n31, n32, if_pos, if_neg, reduceIte, Nat.reduceEqDiff, OfNat.ofNat_ne_zero, one_ne_zero, zero_ne_one]
    try simp only [View.readCov, View.writes_nil, readAt_slot 0 (by decide), readAt_slot 1 (by decide), readAt_whole2, read_writes_whole2, readAt_rows _ (off12_0 i k t ht), readAt_rows _ (off12_1 i k t ht), readAt_rows _ (off13_0 i k t ht), readAt_rows _ (off13_1 i k t ht), readAt_rows _ (off14_0 i k t ht), readAt_rows _ (off14_1 i k t ht), readAt_rows _ (off15_0 i k t ht), readAt_rows _ (off15_1 i k t ht), readAt_cols _ (off16_0 i k t ht), fun v t' ht' => col_ite (F := F) (D := 64) (κ := .tc) (e := .f32) (sig := sig) (sp := .vmem) (t' := t') v (off16_0 i k t ht) ht', fun v t' ht' => col_ite (F := F) (D := 1) (κ := .tc) (e := .f32) (sig := sig) (sp := .vmem) (t' := t') v (off16_0 i k t ht) ht', readAt_cols _ (off16_1 i k t ht), fun v t' ht' => col_ite (F := F) (D := 64) (κ := .tc) (e := .f32) (sig := sig) (sp := .vmem) (t' := t') v (off16_1 i k t ht) ht', fun v t' ht' => col_ite (F := F) (D := 1) (κ := .tc) (e := .f32) (sig := sig) (sp := .vmem) (t' := t') v (off16_1 i k t ht) ht', readAt_cols _ (off17_0 i k t ht), fun v t' ht' => col_ite (F := F) (D := 64) (κ := .tc) (e := .f32) (sig := sig) (sp := .vmem) (t' := t') v (off17_0 i k t ht) ht', fun v t' ht' => col_ite (F := F) (D := 1) (κ := .tc) (e := .f32) (sig := sig) (sp := .vmem) (t' := t') v (off17_0 i k t ht) ht', readAt_cols _ (off17_1 i k t ht), fun v t' ht' => col_ite (F := F) (D := 64) (κ := .tc) (e := .f32) (sig := sig) (sp := .vmem) (t' := t') v (off17_1 i k t ht) ht', fun v t' ht' => col_ite (F := F) (D := 1) (κ := .tc) (e := .f32) (sig := sig) (sp := .vmem) (t' := t') v (off17_1 i k t ht) ht', readAt_rows _ (off18_0 i k t ht), readAt_rows _ (off18_1 i k t ht), readAt_rows _ (off19_0 i k t ht), readAt_rows _ (off19_1 i k t ht), readAt_rows _ (off20_0 i k t ht), readAt_rows _ (off20_1 i k t ht), readAt_rows _ (off21_0 i k t ht), readAt_rows _ (off21_1 i k t ht), readAt_cols _ (off22_0 i k t ht), fun v t' ht' => col_ite (F := F) (D := 64) (κ := .tc) (e := .f32) (sig := sig) (sp := .vmem) (t' := t') v (off22_0 i k t ht) ht', fun v t' ht' => col_ite (F := F) (D := 1) (κ := .tc) (e := .f32) (sig := sig) (sp := .vmem) (t' := t') v (off22_0 i k t ht) ht', readAt_cols _ (off22_1 i k t ht), fun v t' ht' => col_ite (F := F) (D := 64) (κ := .tc) (e := .f32) (sig := sig) (sp := .vmem) (t' := t') v (off22_1 i k t ht) ht', fun v t' ht' => col_ite (F := F) (D := 1) (κ := .tc) (e := .f32) (sig := sig) (sp := .vmem) (t' := t') v (off22_1 i k t ht) ht', readAt_cols _ (off23_0 i k t ht), fun v t' ht' => col_ite (F := F) (D := 64) (κ := .tc) (e := .f32) (sig := sig) (sp := .vmem) (t' := t') v (off23_0 i k t ht) ht', fun v t' ht' => col_ite (F := F) (D := 1) (κ := .tc) (e := .f32) (sig := sig) (sp := .vmem) (t' := t') v (off23_0 i k t ht) ht', readAt_cols _ (off23_1 i k t ht), fun v t' ht' => col_ite (F := F) (D := 64) (κ := .tc) (e := .f32) (sig := sig) (sp := .vmem) (t' := t') v (off23_1 i k t ht) ht', fun v t' ht' => col_ite (F := F) (D := 1) (κ := .tc) (e := .f32) (sig := sig) (sp := .vmem) (t' := t') v (off23_1 i k t ht) ht', harg2.read_unread, harg6.read_unread, harg7.read_unread, harg8.read_unread, harg9.read_unread, harg13.read_unread, harg14.read_unread, harg15.read_unread, harg16.read_unread, harg17.read_unread, harg18.read_unread, harg19.read_unread, harg20.read_unread, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1, e2, e3, e4, e5, hu, n01, n02, n03, n10, n12, n13, n20, n21, n23, n30, n31, n32, hkq, hdp, hpb, hds, hdk, hdv, hdfk, hdq, hdfq, k0, k1, d0, d1, p0, p1, s0, s1, upd_ap]
    all_goals try rfl

end Cert.KernelIdeal.Gen

end
-- ==== Proof.Held.lean ====
/- What is held in memory while a block is worked on. -/
module

public import proofs.«01_k».proof.Proof.Steps
public import proofs.«01_k».proof.Proof.Reads
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox

variable {F : FTy → Type} [FloatOps F] [Named F]

local notation "𝕄" => MT nD τ sig Unit (Elt F) ℕ (UR sig nD τ) ℕ

/-- The contents of a whole buffer, as what a read of it gives. -/
theorem owns_read (c : Dev nD) {s : Shape} {e : EltTy} (m : Memref sig .tc .vmem s e) (f : m.view.ty.Contents (Elt F)) :
    (m.view.loc (c : Thread nD τ) ↦[m.view.set]{fullShare} f : sProp 𝕄) ⊢ owns (c : Thread nD τ) m fullShare (m.view.read (Elt F) f) := by
  unfold owns
  iintro H
  iexists f
  isplitr
  · ipureintro; rfl
  iexact H

/-- The same, where what a read gives is known. -/
theorem owns_eq (c : Dev nD) {s : Shape} {e : EltTy} (m : Memref sig .tc .vmem s e) (f : m.view.ty.Contents (Elt F)) (v : Vec F s e) (h : m.view.read (Elt F) f = v) :
    (m.view.loc (c : Thread nD τ) ↦[m.view.set]{fullShare} f : sProp 𝕄) ⊢ owns (c : Thread nD τ) m fullShare v := by
  subst h
  exact owns_read c m f

/-- The buffers that hold the running state `s`. -/
def Held (c : Dev nD) (arg9 : Memref sig .tc .vmem S1x64x16384 .f32) (arg13 : Memref sig .tc .vmem S1x1x16384 .f32) (arg14 : Memref sig .tc .vmem S2x512x256 .f32) (arg15 : Memref sig .tc .vmem S2x512x256 .f32) (arg16 : Memref sig .tc .vmem S2x512x256 .bf16) (arg17 : Memref sig .tc .vmem S2x512x256 .bf16) (arg18 : Memref sig .tc .vmem S512x80 .f32) (arg19 : Memref sig .tc .vmem S512x64 .f32) (arg20 : Memref sig .tc .vmem S512x1 .f32) (s : St F) : sProp 𝕄 :=
  iprop(∃ x9 x13 x14 x15 x16 x17 x18 x19 x20, ⌜Rel s x9 x13 x14 x15 x16 x17 x18 x19 x20⌝ ∗ owns (c : Thread nD τ) arg9 fullShare x9 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20)

/-- The head's inputs, which every step reads. -/
def Look (c : Dev nD) (arg2 : Memref sig .tc .vmem S1x16384x80 .bf16) (arg6 : Memref sig .tc .vmem S1x16384x64 .bf16) (arg7 : Memref sig .tc .vmem S1x1x16384 .f32) (arg8 : Memref sig .tc .vmem S1x1x16384 .f32) (I : Ins F) : sProp 𝕄 :=
  iprop(owns (c : Thread nD τ) arg2 fullShare I.q ∗ owns (c : Thread nD τ) arg6 fullShare I.g ∗ owns (c : Thread nD τ) arg7 fullShare I.lse ∗ owns (c : Thread nD τ) arg8 fullShare I.dl)

/-- The results of a block: the sums over its own keys, and the queries' gradients so far. -/
def Done (c : Dev nD) (arg9 : Memref sig .tc .vmem S1x64x16384 .f32) (arg10 : Memref sig .tc .vmem S1x512x64 .f32) (arg11 : Memref sig .tc .vmem S1x512x64 .f32) (arg12 : Memref sig .tc .vmem S1x1x512 .f32) (arg13 : Memref sig .tc .vmem S1x1x16384 .f32) (s : St F) : sProp 𝕄 :=
  iprop(∃ x9 x13, ⌜(∀ u, u < 64 → colTile (F := F) x9 u = s.dq u) ∧ (∀ u, u < 64 → colTile (F := F) x13 u = s.dfq u)⌝ ∗ owns (c : Thread nD τ) arg9 fullShare x9 ∗ owns (c : Thread nD τ) arg13 fullShare x13 ∗ owns (c : Thread nD τ) arg10 fullShare (k0_pay174 (left64b (F := F) s.dk)) ∗ owns (c : Thread nD τ) arg11 fullShare (k0_pay175 s.dv) ∗ owns (c : Thread nD τ) arg12 fullShare (k0_pay1 (k0_pay176 s.dfk)))

end Cert.KernelIdeal.Gen

end
-- ==== Proof.StepTrip.lean ====
/- One trip, in memory. -/
module

public import proofs.«01_k».proof.Proof.TripState
public import proofs.«01_k».proof.Proof.Held

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox

variable {F : FTy → Type} [FloatOps F] [Named F]

local notation "𝕄" => MT nD τ sig Unit (Elt F) ℕ (UR sig nD τ) ℕ

/-- A trip moves what is held on by one trip. -/
theorem trip_wp (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (arg1 : BitVec 32) (I : Ins F) (v213 c0_i32_152 c0_i32_153 v231 c1_i32_154 acc : BitVec 32) (k : Fin (k0_t1_loop i).trips)
    (t : ℕ) (ht : t = 2 * (i 1).val + 2 + 4 * k.val) (h3 : t + 3 < 64) (s : St F) (E : Set ℕ) (K : BitVec 32 → sProp 𝕄) :
    iprop(Look c arg2 arg6 arg7 arg8 I ∗ Held c arg9 arg13 arg14 arg15 arg16 arg17 arg18 arg19 arg20 s ∗ (∀ r, (Look c arg2 arg6 arg7 arg8 I ∗ Held c arg9 arg13 arg14 arg15 arg16 arg17 arg18 arg19 arg20 (s.trip I t)) -∗ K r))
      ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 I.kA I.kT I.vA v213 c0_i32_152 c0_i32_153 v231 c1_i32_154 k acc) K := by
  unfold Look Held
  iintro ⟨⟨H2, H6, H7, H8⟩, ⟨%x9, %x13, %x14, %x15, %x16, %x17, %x18, %x19, %x20, %hrel, H9, H13, H14, H15, H16, H17, H18, H19, H20⟩, Hk⟩
  have key := trip_rel c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 I.kA I.kT I.vA v213 c0_i32_152 c0_i32_153 v231 c1_i32_154 acc k I.q I.g I.lse I.dl x9 x13 x14 x15 x16 x17 x18 x19 x20 t ht h3 s hrel
  have run := (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 I.kA I.kT I.vA v213 c0_i32_152 c0_i32_153 v231 c1_i32_154 acc k I.q I.g I.lse I.dl x9 x13 x14 x15 x16 x17 x18 x19 x20).2.2.2.2.2.2.2.2.2 E K
  iapply run
  isplitl [H2]; · iexact H2
  isplitl [H6]; · iexact H6
  isplitl [H7]; · iexact H7
  isplitl [H8]; · iexact H8
  isplitl [H9]; · iexact H9
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H6, H7, H8, H9, H13, H14, H15, H16, H17, H18, H19, H20⟩
  ihave H9 := (owns_read c arg9 _) $$ H9
  ihave H13 := (owns_read c arg13 _) $$ H13
  ihave H14 := (owns_read c arg14 _) $$ H14
  ihave H15 := (owns_read c arg15 _) $$ H15
  ihave H16 := (owns_read c arg16 _) $$ H16
  ihave H17 := (owns_read c arg17 _) $$ H17
  ihave H18 := (owns_read c arg18 _) $$ H18
  ihave H19 := (owns_read c arg19 _) $$ H19
  ihave H20 := (owns_read c arg20 _) $$ H20
  iapply Hk
  isplitl [H2 H6 H7 H8]
  · isplitl [H2]; · iexact H2
    isplitl [H6]; · iexact H6
    isplitl [H7]; · iexact H7
    iexact H8
  iexists _
  iexists _
  iexists _
  iexists _
  iexists _
  iexists _
  iexists _
  iexists _
  iexists _
  isplitr; · ipureintro; exact key
  isplitl [H9]; · iexact H9
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

end Cert.KernelIdeal.Gen

end
-- ==== Proof.HeadFirst.lean ====
/- Before the loop, in the first block of a head: the gradients of the queries start at zero. -/
module

public import proofs.«01_k».proof.Proof.Split
public import proofs.«01_k».proof.Proof.Gen.KernelIdeal.Frame
public import Idealize.ShloMosaic.Lib.Exec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- Before the loop, in the first block of a head: the gradients of the queries start at zero. -/
noncomputable def headRunA (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole)  (hc : Scalar.cmpi .ne (Scalar.extui (Scalar.cmpi .eq (BitVec.ofNat 32 (i 1).val) 0#32)) 0#32 = 1#1)
    (x2 : Vec F S1x16384x80 .bf16) (x3 : Vec F S1x512x80 .bf16) (x4 : Vec F S1x64x512 .bf16) (x5 : Vec F S1x512x128 .bf16) (x6 : Vec F S1x16384x64 .bf16) (x7 : Vec F S1x1x16384 .f32) (x8 : Vec F S1x1x16384 .f32) (x14 : Vec F S2x512x256 .f32) (x15 : Vec F S2x512x256 .f32) (x16 : Vec F S2x512x256 .bf16) (x17 : Vec F S2x512x256 .bf16) (x18 : Vec F S512x80 .f32) (x19 : Vec F S512x64 .f32) (x20 : Vec F S512x1 .f32) :
    Σ' (r : (Σ' (_ : BitVec 32) (_ : FVec F S512x80 .bf16) (_ : FVec F S64x512 .bf16) (_ : FVec F S512x64 .bf16) (_ : BitVec 32) (_ : BitVec 32) (_ : BitVec 32) (_ : BitVec 32), BitVec 32)), Σ' (L14 : List (View.Piece (Elt F) S2x512x256 .f32)), Σ' (L15 : List (View.Piece (Elt F) S2x512x256 .f32)), Σ' (L16 : List (View.Piece (Elt F) S2x512x256 .bf16)), Σ' (L17 : List (View.Piece (Elt F) S2x512x256 .bf16)), Σ' (L18 : List (View.Piece (Elt F) S512x80 .f32)), Σ' (L19 : List (View.Piece (Elt F) S512x64 .f32)), Σ' (L20 : List (View.Piece (Elt F) S512x1 .f32)), Σ' (L9 : List (View.Piece (Elt F) S1x64x16384 .f32)), { L13 : List (View.Piece (Elt F) S1x1x16384 .f32) //
      ∀ (E : Set ℕ) (K : (Σ' (_ : BitVec 32) (_ : FVec F S512x80 .bf16) (_ : FVec F S64x512 .bf16) (_ : FVec F S512x64 .bf16) (_ : BitVec 32) (_ : BitVec 32) (_ : BitVec 32) (_ : BitVec 32), BitVec 32) → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ (∃ d, owns (c : Thread nD τ) arg9 fullShare d) ∗ (∃ d, owns (c : Thread nD τ) arg13 fullShare d) ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (∃ f, arg9.view.loc (c : Thread nD τ) ↦[arg9.view.set]{fullShare} arg9.view.writes (Elt F) f L9) ∗ (∃ f, arg13.view.loc (c : Thread nD τ) ↦[arg13.view.set]{fullShare} arg13.view.writes (Elt F) f L13)) -∗ K r))
      ⊢ wp frame (wpE (defs₀ (F := F)) Variants.none c none) E (headProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, ?_, ?_, fun E K => ?run⟩
  case run =>
    unfold headProg
    simp only [k0_part30_eq_skeleton, k0_part31_eq_skeleton, k0_part32_eq_skeleton, k0_part33_eq_skeleton, k0_part34_eq_skeleton, k0_part35_eq_skeleton, k0_part36_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d9, %f9, -, H9⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H9]; · iexists _; iexact H9
    iexists _; iexact H13

end Cert.KernelIdeal.Gen

end
-- ==== Proof.HeadStateA.lean ====
/- What is before the loop sets the state to the diagonal's. -/
module

public import proofs.«01_k».proof.Proof.HeadFirst
public import proofs.«01_k».proof.Proof.Steps
public import proofs.«01_k».proof.Proof.Reads

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox

variable {F : FTy → Type} [FloatOps F] [Named F]

local notation "𝕄" => MT nD τ sig Unit (Elt F) ℕ (UR sig nD τ) ℕ

theorem off1_a (i : grid0.Coords) (t : ℕ) (ht : t = 2 * (i 1).val) :
    k0_off1 i = ![0, 256 * (t), 0] := by
  refine (k0_off1_eq i).trans ?_
  exact congrArg (fun n : ℕ => (![0, n, 0] : Fin 3 → ℕ)) (by first | omega | (dsimp only; omega))
theorem off2_a (i : grid0.Coords) (t : ℕ) (ht : t = 2 * (i 1).val) :
    k0_off2 i = ![0, 256 * (t), 0] := by
  refine (k0_off2_eq i).trans ?_
  exact congrArg (fun n : ℕ => (![0, n, 0] : Fin 3 → ℕ)) (by first | omega | (dsimp only; omega))
theorem off3_a (i : grid0.Coords) (t : ℕ) (ht : t = 2 * (i 1).val) :
    k0_off3 i = ![0, 256 * (t + 1), 0] := by
  refine (k0_off3_eq i).trans ?_
  exact congrArg (fun n : ℕ => (![0, n, 0] : Fin 3 → ℕ)) (by first | omega | (dsimp only; omega))
theorem off4_a (i : grid0.Coords) (t : ℕ) (ht : t = 2 * (i 1).val) :
    k0_off4 i = ![0, 256 * (t + 1), 0] := by
  refine (k0_off4_eq i).trans ?_
  exact congrArg (fun n : ℕ => (![0, n, 0] : Fin 3 → ℕ)) (by first | omega | (dsimp only; omega))
theorem off5_a (i : grid0.Coords) (t : ℕ) (ht : t = 2 * (i 1).val) :
    k0_off5 i = ![0, 0, 256 * (t)] := by
  refine (k0_off5_eq i).trans ?_
  exact congrArg (fun n : ℕ => (![0, 0, n] : Fin 3 → ℕ)) (by first | omega | (dsimp only; omega))
theorem off6_a (i : grid0.Coords) (t : ℕ) (ht : t = 2 * (i 1).val) :
    k0_off6 i = ![0, 256 * (min (t + 2) 63), 0] := by
  refine (k0_off6_eq i).trans ?_
  exact congrArg (fun n : ℕ => (![0, n, 0] : Fin 3 → ℕ)) (by first | omega | (dsimp only; omega))
theorem off7_a (i : grid0.Coords) (t : ℕ) (ht : t = 2 * (i 1).val) :
    k0_off7 i = ![0, 256 * (min (t + 2) 63), 0] := by
  refine (k0_off7_eq i).trans ?_
  exact congrArg (fun n : ℕ => (![0, n, 0] : Fin 3 → ℕ)) (by first | omega | (dsimp only; omega))
theorem off8_a (i : grid0.Coords) (t : ℕ) (ht : t = 2 * (i 1).val) :
    k0_off8 i = ![0, 256 * (t), 0] := by
  refine (k0_off8_eq i).trans ?_
  exact congrArg (fun n : ℕ => (![0, n, 0] : Fin 3 → ℕ)) (by first | omega | (dsimp only; omega))
theorem off9_a (i : grid0.Coords) (t : ℕ) (ht : t = 2 * (i 1).val) :
    k0_off9 i = ![0, 256 * (t), 0] := by
  refine (k0_off9_eq i).trans ?_
  exact congrArg (fun n : ℕ => (![0, n, 0] : Fin 3 → ℕ)) (by first | omega | (dsimp only; omega))
theorem off10_a (i : grid0.Coords) (t : ℕ) (ht : t = 2 * (i 1).val) :
    k0_off10 i = ![0, 0, 256 * (t)] := by
  refine (k0_off10_eq i).trans ?_
  exact congrArg (fun n : ℕ => (![0, 0, n] : Fin 3 → ℕ)) (by first | omega | (dsimp only; omega))
theorem off11_a (i : grid0.Coords) (t : ℕ) (ht : t = 2 * (i 1).val) :
    k0_off11 i = ![0, 0, 256 * (t + 1)] := by
  refine (k0_off11_eq i).trans ?_
  exact congrArg (fun n : ℕ => (![0, 0, n] : Fin 3 → ℕ)) (by first | omega | (dsimp only; omega))

set_option backward.isDefEq.respectTransparency.types false in
set_option maxHeartbeats 4000000 in
/-- The block of keys and values the loop works with. -/
theorem headRunA_vals (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (hc : Scalar.cmpi .ne (Scalar.extui (Scalar.cmpi .eq (BitVec.ofNat 32 (i 1).val) 0#32)) 0#32 = 1#1) (x2 : Vec F S1x16384x80 .bf16) (x3 : Vec F S1x512x80 .bf16) (x4 : Vec F S1x64x512 .bf16) (x5 : Vec F S1x512x128 .bf16) (x6 : Vec F S1x16384x64 .bf16) (x7 : Vec F S1x1x16384 .f32) (x8 : Vec F S1x1x16384 .f32) (x14 : Vec F S2x512x256 .f32) (x15 : Vec F S2x512x256 .f32) (x16 : Vec F S2x512x256 .bf16) (x17 : Vec F S2x512x256 .bf16) (x18 : Vec F S512x80 .f32) (x19 : Vec F S512x64 .f32) (x20 : Vec F S512x1 .f32) :
    (headRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x14 x15 x16 x17 x18 x19 x20).1.2.1 = k0_pay133 x3 ∧ (headRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x14 x15 x16 x17 x18 x19 x20).1.2.2.1 = k0_pay134 x4 ∧ (headRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x14 x15 x16 x17 x18 x19 x20).1.2.2.2.1 = k0_pay135 (left64 x5) := by
  simp only [headRunA, headRunA.sl.v196, headRunA.sl.r, headRunA.sl.v229, headRunA.sl.v228, headRunA.sl.v226, headRunA.sl.v204, headRunA.sl.H9_1, headRunA.sl.r_3, headRunA.sl.v230, headRunA.sl.H20_1, headRunA.sl.v163, headRunA.sl.v108, headRunA.sl.r_1, headRunA.sl.H14_2, headRunA.sl.r_5, headRunA.sl.v215, headRunA.sl.v21, headRunA.sl.r_4, headRunA.sl.v128, headRunA.sl.v132, headRunA.sl.v74, headRunA.sl.r_6, headRunA.sl.v2, headRunA.sl.v214, headRunA.sl.H15_3, headRunA.sl.r_2, headRunA.sl.H18_1, headRunA.sl.v219, headRunA.sl.v1, headRunA.sl.H13_1, headRunA.sl.v225, headRunA.sl.H13_2, headRunA.sl.H20_2, headRunA.sl.v227, headRunA.sl.v218, headRunA.sl.v213, headRunA.sl.H14_3, headRunA.sl.v216, headRunA.sl.v59, headRunA.sl.v22, headRunA.sl.v133, headRunA.sl.H15_2, headRunA.sl.v217, headRunA.sl.v130, headRunA.sl.r_7, headRunA.sl.H17_1, headRunA.sl.v165, headRunA.sl.v90, headRunA.sl.H16_1, headRunA.sl.v127, headRunA.sl.v143, headRunA.sl.H19_1, headRunA.sl.v231, headRunA.sl.v180, headRunA.sl.v0, View.readCov, View.writes_nil, readAt_whole3, readAt_left64, harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread]
  try exact ⟨trivial, trivial, trivial⟩
  try trivial

set_option backward.isDefEq.respectTransparency.types false in
set_option maxHeartbeats 4000000 in
/-- What the stores before the loop leave is the diagonal's state. -/
theorem headRunA_rel (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (hc : Scalar.cmpi .ne (Scalar.extui (Scalar.cmpi .eq (BitVec.ofNat 32 (i 1).val) 0#32)) 0#32 = 1#1) (x2 : Vec F S1x16384x80 .bf16) (x3 : Vec F S1x512x80 .bf16) (x4 : Vec F S1x64x512 .bf16) (x5 : Vec F S1x512x128 .bf16) (x6 : Vec F S1x16384x64 .bf16) (x7 : Vec F S1x1x16384 .f32) (x8 : Vec F S1x1x16384 .f32) (x14 : Vec F S2x512x256 .f32) (x15 : Vec F S2x512x256 .f32) (x16 : Vec F S2x512x256 .bf16) (x17 : Vec F S2x512x256 .bf16) (x18 : Vec F S512x80 .f32) (x19 : Vec F S512x64 .f32) (x20 : Vec F S512x1 .f32) (t : ℕ) (ht : t = 2 * (i 1).val) (f9 : arg9.view.ty.Contents (Elt F)) (f13 : arg13.view.ty.Contents (Elt F)) :
    Rel (St.head ⟨k0_pay133 x3, k0_pay134 x4, k0_pay135 (left64 x5), x2, x6, x7, x8⟩ t (fun t => colTile (F := F) k0_pay131 t) (fun t => colTile (F := F) k0_pay132 t))
      (arg9.view.read (Elt F) (arg9.view.writes (Elt F) f9 (headRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x14 x15 x16 x17 x18 x19 x20).2.2.2.2.2.2.2.2.1))
      (arg13.view.read (Elt F) (arg13.view.writes (Elt F) f13 (headRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x14 x15 x16 x17 x18 x19 x20).2.2.2.2.2.2.2.2.2.1))
      (arg14.view.read (Elt F) (arg14.view.writes (Elt F) (harg14.unread x14) (headRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x14 x15 x16 x17 x18 x19 x20).2.1))
      (arg15.view.read (Elt F) (arg15.view.writes (Elt F) (harg15.unread x15) (headRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x14 x15 x16 x17 x18 x19 x20).2.2.1))
      (arg16.view.read (Elt F) (arg16.view.writes (Elt F) (harg16.unread x16) (headRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x14 x15 x16 x17 x18 x19 x20).2.2.2.1))
      (arg17.view.read (Elt F) (arg17.view.writes (Elt F) (harg17.unread x17) (headRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x14 x15 x16 x17 x18 x19 x20).2.2.2.2.1))
      (arg18.view.read (Elt F) (arg18.view.writes (Elt F) (harg18.unread x18) (headRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x14 x15 x16 x17 x18 x19 x20).2.2.2.2.2.1))
      (arg19.view.read (Elt F) (arg19.view.writes (Elt F) (harg19.unread x19) (headRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x14 x15 x16 x17 x18 x19 x20).2.2.2.2.2.2.1))
      (arg20.view.read (Elt F) (arg20.view.writes (Elt F) (harg20.unread x20) (headRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x14 x15 x16 x17 x18 x19 x20).2.2.2.2.2.2.2.1))
    := by
  have hi : (i 1).val < 32 := (i 1).isLt
  have e0 : t < 64 := by omega
  have e1 : t + 1 < 64 := by omega
  constructor
  all_goals simp only [headRunA, headRunA.sl.v196, headRunA.sl.r, headRunA.sl.v229, headRunA.sl.v228, headRunA.sl.v226, headRunA.sl.v204, headRunA.sl.H9_1, headRunA.sl.r_3, headRunA.sl.v230, headRunA.sl.H20_1, headRunA.sl.v163, headRunA.sl.v108, headRunA.sl.r_1, headRunA.sl.H14_2, headRunA.sl.r_5, headRunA.sl.v215, headRunA.sl.v21, headRunA.sl.r_4, headRunA.sl.v128, headRunA.sl.v132, headRunA.sl.v74, headRunA.sl.r_6, headRunA.sl.v2, headRunA.sl.v214, headRunA.sl.H15_3, headRunA.sl.r_2, headRunA.sl.H18_1, headRunA.sl.v219, headRunA.sl.v1, headRunA.sl.H13_1, headRunA.sl.v225, headRunA.sl.H13_2, headRunA.sl.H20_2, headRunA.sl.v227, headRunA.sl.v218, headRunA.sl.v213, headRunA.sl.H14_3, headRunA.sl.v216, headRunA.sl.v59, headRunA.sl.v22, headRunA.sl.v133, headRunA.sl.H15_2, headRunA.sl.v217, headRunA.sl.v130, headRunA.sl.r_7, headRunA.sl.H17_1, headRunA.sl.v165, headRunA.sl.v90, headRunA.sl.H16_1, headRunA.sl.v127, headRunA.sl.v143, headRunA.sl.H19_1, headRunA.sl.v231, headRunA.sl.v180, headRunA.sl.v0]
  case kq | dp | pb | ds =>
    intro b hb
    try simp only [View.readCov, View.writes_nil, readAt_slot 0 (by decide), readAt_slot 1 (by decide), readAt_whole2, read_writes_whole2, readAt_rows _ (off1_a i t ht), readAt_rows _ (off2_a i t ht), readAt_rows _ (off3_a i t ht), readAt_rows _ (off4_a i t ht), readAt_cols _ (off5_a i t ht), fun v t' ht' => col_ite (F := F) (D := 64) (κ := .tc) (e := .f32) (sig := sig) (sp := .vmem) (t' := t') v (off5_a i t ht) ht', fun v t' ht' => col_ite (F := F) (D := 1) (κ := .tc) (e := .f32) (sig := sig) (sp := .vmem) (t' := t') v (off5_a i t ht) ht', readAt_rows _ (off6_a i t ht), readAt_rows _ (off7_a i t ht), readAt_rows _ (off8_a i t ht), readAt_rows _ (off9_a i t ht), readAt_cols _ (off10_a i t ht), fun v t' ht' => col_ite (F := F) (D := 64) (κ := .tc) (e := .f32) (sig := sig) (sp := .vmem) (t' := t') v (off10_a i t ht) ht', fun v t' ht' => col_ite (F := F) (D := 1) (κ := .tc) (e := .f32) (sig := sig) (sp := .vmem) (t' := t') v (off10_a i t ht) ht', readAt_cols _ (off11_a i t ht), fun v t' ht' => col_ite (F := F) (D := 64) (κ := .tc) (e := .f32) (sig := sig) (sp := .vmem) (t' := t') v (off11_a i t ht) ht', fun v t' ht' => col_ite (F := F) (D := 1) (κ := .tc) (e := .f32) (sig := sig) (sp := .vmem) (t' := t') v (off11_a i t ht) ht', harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64, slot_ite 0 0 (by decide) (by decide), slot_ite 0 1 (by decide) (by decide), slot_ite 1 0 (by decide) (by decide), slot_ite 1 1 (by decide) (by decide), slot_ite 0 b (by decide) hb, slot_ite 1 b (by decide) hb, if_pos, if_neg, reduceIte, Nat.reduceEqDiff, OfNat.ofNat_ne_zero, one_ne_zero, zero_ne_one, e0, e1, hb]
    try simp only [if_pos, if_neg, reduceIte, Nat.reduceEqDiff, OfNat.ofNat_ne_zero, one_ne_zero, zero_ne_one, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [read_writes_whole3, e0, e1, hb, if_pos, if_neg, reduceIte, Nat.reduceEqDiff, OfNat.ofNat_ne_zero, one_ne_zero, zero_ne_one]
    try simp only [St.trip, St.pair, St.stage, St.products, St.accumulate, St.pointwise, St.head, upd_ap, e0, e1, hb, if_pos, if_neg, reduceIte, Nat.reduceEqDiff, OfNat.ofNat_ne_zero, one_ne_zero, zero_ne_one]
    try simp only [View.readCov, View.writes_nil, readAt_slot 0 (by decide), readAt_slot 1 (by decide), readAt_whole2, read_writes_whole2, readAt_rows _ (off1_a i t ht), readAt_rows _ (off2_a i t ht), readAt_rows _ (off3_a i t ht), readAt_rows _ (off4_a i t ht), readAt_cols _ (off5_a i t ht), fun v t' ht' => col_ite (F := F) (D := 64) (κ := .tc) (e := .f32) (sig := sig) (sp := .vmem) (t' := t') v (off5_a i t ht) ht', fun v t' ht' => col_ite (F := F) (D := 1) (κ := .tc) (e := .f32) (sig := sig) (sp := .vmem) (t' := t') v (off5_a i t ht) ht', readAt_rows _ (off6_a i t ht), readAt_rows _ (off7_a i t ht), readAt_rows _ (off8_a i t ht), readAt_rows _ (off9_a i t ht), readAt_cols _ (off10_a i t ht), fun v t' ht' => col_ite (F := F) (D := 64) (κ := .tc) (e := .f32) (sig := sig) (sp := .vmem) (t' := t') v (off10_a i t ht) ht', fun v t' ht' => col_ite (F := F) (D := 1) (κ := .tc) (e := .f32) (sig := sig) (sp := .vmem) (t' := t') v (off10_a i t ht) ht', readAt_cols _ (off11_a i t ht), fun v t' ht' => col_ite (F := F) (D := 64) (κ := .tc) (e := .f32) (sig := sig) (sp := .vmem) (t' := t') v (off11_a i t ht) ht', fun v t' ht' => col_ite (F := F) (D := 1) (κ := .tc) (e := .f32) (sig := sig) (sp := .vmem) (t' := t') v (off11_a i t ht) ht', harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64, slot_ite 0 0 (by decide) (by decide), slot_ite 0 1 (by decide) (by decide), slot_ite 1 0 (by decide) (by decide), slot_ite 1 1 (by decide) (by decide), slot_ite 0 b (by decide) hb, slot_ite 1 b (by decide) hb, if_pos, if_neg, reduceIte, Nat.reduceEqDiff, OfNat.ofNat_ne_zero, one_ne_zero, zero_ne_one, e0, e1, hb, read_writes_whole3, upd_ap]
    try (obtain rfl | rfl : b = 0 ∨ b = 1 := by omega)
    all_goals try simp only [if_pos, if_neg, reduceIte, Nat.reduceEqDiff, OfNat.ofNat_ne_zero, one_ne_zero, zero_ne_one]
    all_goals try rfl
  case dk | dv | dfk =>
    try simp only [View.readCov, View.writes_nil, readAt_slot 0 (by decide), readAt_slot 1 (by decide), readAt_whole2, read_writes_whole2, readAt_rows _ (off1_a i t ht), readAt_rows _ (off2_a i t ht), readAt_rows _ (off3_a i t ht), readAt_rows _ (off4_a i t ht), readAt_cols _ (off5_a i t ht), fun v t' ht' => col_ite (F := F) (D := 64) (κ := .tc) (e := .f32) (sig := sig) (sp := .vmem) (t' := t') v (off5_a i t ht) ht', fun v t' ht' => col_ite (F := F) (D := 1) (κ := .tc) (e := .f32) (sig := sig) (sp := .vmem) (t' := t') v (off5_a i t ht) ht', readAt_rows _ (off6_a i t ht), readAt_rows _ (off7_a i t ht), readAt_rows _ (off8_a i t ht), readAt_rows _ (off9_a i t ht), readAt_cols _ (off10_a i t ht), fun v t' ht' => col_ite (F := F) (D := 64) (κ := .tc) (e := .f32) (sig := sig) (sp := .vmem) (t' := t') v (off10_a i t ht) ht', fun v t' ht' => col_ite (F := F) (D := 1) (κ := .tc) (e := .f32) (sig := sig) (sp := .vmem) (t' := t') v (off10_a i t ht) ht', readAt_cols _ (off11_a i t ht), fun v t' ht' => col_ite (F := F) (D := 64) (κ := .tc) (e := .f32) (sig := sig) (sp := .vmem) (t' := t') v (off11_a i t ht) ht', fun v t' ht' => col_ite (F := F) (D := 1) (κ := .tc) (e := .f32) (sig := sig) (sp := .vmem) (t' := t') v (off11_a i t ht) ht', harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1]
    try simp only [if_pos, if_neg, reduceIte, Nat.reduceEqDiff, OfNat.ofNat_ne_zero, one_ne_zero, zero_ne_one, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [read_writes_whole3, e0, e1, if_pos, if_neg, reduceIte, Nat.reduceEqDiff, OfNat.ofNat_ne_zero, one_ne_zero, zero_ne_one]
    try simp only [St.trip, St.pair, St.stage, St.products, St.accumulate, St.pointwise, St.head, upd_ap, e0, e1, if_pos, if_neg, reduceIte, Nat.reduceEqDiff, OfNat.ofNat_ne_zero, one_ne_zero, zero_ne_one]
    try simp only [View.readCov, View.writes_nil, readAt_slot 0 (by decide), readAt_slot 1 (by decide), readAt_whole2, read_writes_whole2, readAt_rows _ (off1_a i t ht), readAt_rows _ (off2_a i t ht), readAt_rows _ (off3_a i t ht), readAt_rows _ (off4_a i t ht), readAt_cols _ (off5_a i t ht), fun v t' ht' => col_ite (F := F) (D := 64) (κ := .tc) (e := .f32) (sig := sig) (sp := .vmem) (t' := t') v (off5_a i t ht) ht', fun v t' ht' => col_ite (F := F) (D := 1) (κ := .tc) (e := .f32) (sig := sig) (sp := .vmem) (t' := t') v (off5_a i t ht) ht', readAt_rows _ (off6_a i t ht), readAt_rows _ (off7_a i t ht), readAt_rows _ (off8_a i t ht), readAt_rows _ (off9_a i t ht), readAt_cols _ (off10_a i t ht), fun v t' ht' => col_ite (F := F) (D := 64) (κ := .tc) (e := .f32) (sig := sig) (sp := .vmem) (t' := t') v (off10_a i t ht) ht', fun v t' ht' => col_ite (F := F) (D := 1) (κ := .tc) (e := .f32) (sig := sig) (sp := .vmem) (t' := t') v (off10_a i t ht) ht', readAt_cols _ (off11_a i t ht), fun v t' ht' => col_ite (F := F) (D := 64) (κ := .tc) (e := .f32) (sig := sig) (sp := .vmem) (t' := t') v (off11_a i t ht) ht', fun v t' ht' => col_ite (F := F) (D := 1) (κ := .tc) (e := .f32) (sig := sig) (sp := .vmem) (t' := t') v (off11_a i t ht) ht', harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1, read_writes_whole3, upd_ap]
    all_goals try rfl
  case dq =>
    intro u hu
    try simp only [View.readCov, View.writes_nil, readAt_slot 0 (by decide), readAt_slot 1 (by decide), readAt_whole2, read_writes_whole2, readAt_rows _ (off1_a i t ht), readAt_rows _ (off2_a i t ht), readAt_rows _ (off3_a i t ht), readAt_rows _ (off4_a i t ht), readAt_cols _ (off5_a i t ht), fun v t' ht' => col_ite (F := F) (D := 64) (κ := .tc) (e := .f32) (sig := sig) (sp := .vmem) (t' := t') v (off5_a i t ht) ht', fun v t' ht' => col_ite (F := F) (D := 1) (κ := .tc) (e := .f32) (sig := sig) (sp := .vmem) (t' := t') v (off5_a i t ht) ht', readAt_rows _ (off6_a i t ht), readAt_rows _ (off7_a i t ht), readAt_rows _ (off8_a i t ht), readAt_rows _ (off9_a i t ht), readAt_cols _ (off10_a i t ht), fun v t' ht' => col_ite (F := F) (D := 64) (κ := .tc) (e := .f32) (sig := sig) (sp := .vmem) (t' := t') v (off10_a i t ht) ht', fun v t' ht' => col_ite (F := F) (D := 1) (κ := .tc) (e := .f32) (sig := sig) (sp := .vmem) (t' := t') v (off10_a i t ht) ht', readAt_cols _ (off11_a i t ht), fun v t' ht' => col_ite (F := F) (D := 64) (κ := .tc) (e := .f32) (sig := sig) (sp := .vmem) (t' := t') v (off11_a i t ht) ht', fun v t' ht' => col_ite (F := F) (D := 1) (κ := .tc) (e := .f32) (sig := sig) (sp := .vmem) (t' := t') v (off11_a i t ht) ht', harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1, hu]
    try simp only [if_pos, if_neg, reduceIte, Nat.reduceEqDiff, OfNat.ofNat_ne_zero, one_ne_zero, zero_ne_one, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [read_writes_whole3, e0, e1, hu, if_pos, if_neg, reduceIte, Nat.reduceEqDiff, OfNat.ofNat_ne_zero, one_ne_zero, zero_ne_one]
    try simp only [St.trip, St.pair, St.stage, St.products, St.accumulate, St.pointwise, St.head, upd_ap, e0, e1, hu, if_pos, if_neg, reduceIte, Nat.reduceEqDiff, OfNat.ofNat_ne_zero, one_ne_zero, zero_ne_one]
    try simp only [View.readCov, View.writes_nil, readAt_slot 0 (by decide), readAt_slot 1 (by decide), readAt_whole2, read_writes_whole2, readAt_rows _ (off1_a i t ht), readAt_rows _ (off2_a i t ht), readAt_rows _ (off3_a i t ht), readAt_rows _ (off4_a i t ht), readAt_cols _ (off5_a i t ht), fun v t' ht' => col_ite (F := F) (D := 64) (κ := .tc) (e := .f32) (sig := sig) (sp := .vmem) (t' := t') v (off5_a i t ht) ht', fun v t' ht' => col_ite (F := F) (D := 1) (κ := .tc) (e := .f32) (sig := sig) (sp := .vmem) (t' := t') v (off5_a i t ht) ht', readAt_rows _ (off6_a i t ht), readAt_rows _ (off7_a i t ht), readAt_rows _ (off8_a i t ht), readAt_rows _ (off9_a i t ht), readAt_cols _ (off10_a i t ht), fun v t' ht' => col_ite (F := F) (D := 64) (κ := .tc) (e := .f32) (sig := sig) (sp := .vmem) (t' := t') v (off10_a i t ht) ht', fun v t' ht' => col_ite (F := F) (D := 1) (κ := .tc) (e := .f32) (sig := sig) (sp := .vmem) (t' := t') v (off10_a i t ht) ht', readAt_cols _ (off11_a i t ht), fun v t' ht' => col_ite (F := F) (D := 64) (κ := .tc) (e := .f32) (sig := sig) (sp := .vmem) (t' := t') v (off11_a i t ht) ht', fun v t' ht' => col_ite (F := F) (D := 1) (κ := .tc) (e := .f32) (sig := sig) (sp := .vmem) (t' := t') v (off11_a i t ht) ht', harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1, hu, read_writes_whole3, upd_ap]
    all_goals try rfl
  case dfq =>
    intro u hu
    have n01 : t ≠ t + 1 := by omega
    have n10 : t + 1 ≠ t := by omega
    try simp only [View.readCov, View.writes_nil, readAt_slot 0 (by decide), readAt_slot 1 (by decide), readAt_whole2, read_writes_whole2, readAt_rows _ (off1_a i t ht), readAt_rows _ (off2_a i t ht), readAt_rows _ (off3_a i t ht), readAt_rows _ (off4_a i t ht), readAt_cols _ (off5_a i t ht), fun v t' ht' => col_ite (F := F) (D := 64) (κ := .tc) (e := .f32) (sig := sig) (sp := .vmem) (t' := t') v (off5_a i t ht) ht', fun v t' ht' => col_ite (F := F) (D := 1) (κ := .tc) (e := .f32) (sig := sig) (sp := .vmem) (t' := t') v (off5_a i t ht) ht', readAt_rows _ (off6_a i t ht), readAt_rows _ (off7_a i t ht), readAt_rows _ (off8_a i t ht), readAt_rows _ (off9_a i t ht), readAt_cols _ (off10_a i t ht), fun v t' ht' => col_ite (F := F) (D := 64) (κ := .tc) (e := .f32) (sig := sig) (sp := .vmem) (t' := t') v (off10_a i t ht) ht', fun v t' ht' => col_ite (F := F) (D := 1) (κ := .tc) (e := .f32) (sig := sig) (sp := .vmem) (t' := t') v (off10_a i t ht) ht', readAt_cols _ (off11_a i t ht), fun v t' ht' => col_ite (F := F) (D := 64) (κ := .tc) (e := .f32) (sig := sig) (sp := .vmem) (t' := t') v (off11_a i t ht) ht', fun v t' ht' => col_ite (F := F) (D := 1) (κ := .tc) (e := .f32) (sig := sig) (sp := .vmem) (t' := t') v (off11_a i t ht) ht', harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1, hu, n01, n10]
    try simp only [if_pos, if_neg, reduceIte, Nat.reduceEqDiff, OfNat.ofNat_ne_zero, one_ne_zero, zero_ne_one, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [read_writes_whole3, e0, e1, hu, n01, n10, if_pos, if_neg, reduceIte, Nat.reduceEqDiff, OfNat.ofNat_ne_zero, one_ne_zero, zero_ne_one]
    try simp only [St.trip, St.pair, St.stage, St.products, St.accumulate, St.pointwise, St.head, upd_ap, e0, e1, hu, n01, n10, if_pos, if_neg, reduceIte, Nat.reduceEqDiff, OfNat.ofNat_ne_zero, one_ne_zero, zero_ne_one]
    try simp only [View.readCov, View.writes_nil, readAt_slot 0 (by decide), readAt_slot 1 (by decide), readAt_whole2, read_writes_whole2, readAt_rows _ (off1_a i t ht), readAt_rows _ (off2_a i t ht), readAt_rows _ (off3_a i t ht), readAt_rows _ (off4_a i t ht), readAt_cols _ (off5_a i t ht), fun v t' ht' => col_ite (F := F) (D := 64) (κ := .tc) (e := .f32) (sig := sig) (sp := .vmem) (t' := t') v (off5_a i t ht) ht', fun v t' ht' => col_ite (F := F) (D := 1) (κ := .tc) (e := .f32) (sig := sig) (sp := .vmem) (t' := t') v (off5_a i t ht) ht', readAt_rows _ (off6_a i t ht), readAt_rows _ (off7_a i t ht), readAt_rows _ (off8_a i t ht), readAt_rows _ (off9_a i t ht), readAt_cols _ (off10_a i t ht), fun v t' ht' => col_ite (F := F) (D := 64) (κ := .tc) (e := .f32) (sig := sig) (sp := .vmem) (t' := t') v (off10_a i t ht) ht', fun v t' ht' => col_ite (F := F) (D := 1) (κ := .tc) (e := .f32) (sig := sig) (sp := .vmem) (t' := t') v (off10_a i t ht) ht', readAt_cols _ (off11_a i t ht), fun v t' ht' => col_ite (F := F) (D := 64) (κ := .tc) (e := .f32) (sig := sig) (sp := .vmem) (t' := t') v (off11_a i t ht) ht', fun v t' ht' => col_ite (F := F) (D := 1) (κ := .tc) (e := .f32) (sig := sig) (sp := .vmem) (t' := t') v (off11_a i t ht) ht', harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1, hu, n01, n10, read_writes_whole3, upd_ap]
    all_goals try rfl

end Cert.KernelIdeal.Gen

end
-- ==== Proof.StepHeadA.lean ====
/- What is before the loop, in memory. -/
module

public import proofs.«01_k».proof.Proof.HeadStateA
public import proofs.«01_k».proof.Proof.Held

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox

variable {F : FTy → Type} [FloatOps F] [Named F]

local notation "𝕄" => MT nD τ sig Unit (Elt F) ℕ (UR sig nD τ) ℕ

/-- What is before the loop leaves the diagonal's state, and hands on the block of keys and values. -/
theorem headA_wp (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (hc : Scalar.cmpi .ne (Scalar.extui (Scalar.cmpi .eq (BitVec.ofNat 32 (i 1).val) 0#32)) 0#32 = 1#1) (x2 : Vec F S1x16384x80 .bf16) (x3 : Vec F S1x512x80 .bf16) (x4 : Vec F S1x64x512 .bf16) (x5 : Vec F S1x512x128 .bf16) (x6 : Vec F S1x16384x64 .bf16) (x7 : Vec F S1x1x16384 .f32) (x8 : Vec F S1x1x16384 .f32)  (E : Set ℕ)
    (K : (Σ' (_ : BitVec 32) (_ : FVec F S512x80 .bf16) (_ : FVec F S64x512 .bf16) (_ : FVec F S512x64 .bf16) (_ : BitVec 32) (_ : BitVec 32) (_ : BitVec 32) (_ : BitVec 32), BitVec 32) → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
      ∗ (∀ r, (⌜r.2.1 = k0_pay133 x3 ∧ r.2.2.1 = k0_pay134 x4 ∧ r.2.2.2.1 = k0_pay135 (left64 x5)⌝ ∗ (owns (c : Thread nD τ) arg3 fullShare x3 ∗ owns (c : Thread nD τ) arg4 fullShare x4 ∗ owns (c : Thread nD τ) arg5 fullShare x5) ∗ Look c arg2 arg6 arg7 arg8 ⟨k0_pay133 x3, k0_pay134 x4, k0_pay135 (left64 x5), x2, x6, x7, x8⟩ ∗ Held c arg9 arg13 arg14 arg15 arg16 arg17 arg18 arg19 arg20 (St.head ⟨k0_pay133 x3, k0_pay134 x4, k0_pay135 (left64 x5), x2, x6, x7, x8⟩ (2 * (i 1).val) (fun t => colTile (F := F) k0_pay131 t) (fun t => colTile (F := F) k0_pay132 t))) -∗ K r))
      ⊢ wp frame (wpE (defs₀ (F := F)) Variants.none c none) E (headProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold Look Held
  iintro ⟨H2, H3, H4, H5, H6, H7, H8, H9, H13, ⟨%x14, H14⟩, ⟨%x15, H15⟩, ⟨%x16, H16⟩, ⟨%x17, H17⟩, ⟨%x18, H18⟩, ⟨%x19, H19⟩, ⟨%x20, H20⟩, Hk⟩
  have vals := headRunA_vals c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x14 x15 x16 x17 x18 x19 x20
  have run := (headRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x14 x15 x16 x17 x18 x19 x20).2.2.2.2.2.2.2.2.2.2 E K
  iapply run
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H9]; · iexact H9
  isplitl [H13]; · iexact H13
  iintro ⟨H2, H3, H4, H5, H6, H7, H8, H14, H15, H16, H17, H18, H19, H20, ⟨%f9, H9⟩, ⟨%f13, H13⟩⟩
  have key := headRunA_rel c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x14 x15 x16 x17 x18 x19 x20 (2 * (i 1).val) rfl f9 f13
  ihave H9 := (owns_read c arg9 _) $$ H9
  ihave H13 := (owns_read c arg13 _) $$ H13
  ihave H14 := (owns_read c arg14 _) $$ H14
  ihave H15 := (owns_read c arg15 _) $$ H15
  ihave H16 := (owns_read c arg16 _) $$ H16
  ihave H17 := (owns_read c arg17 _) $$ H17
  ihave H18 := (owns_read c arg18 _) $$ H18
  ihave H19 := (owns_read c arg19 _) $$ H19
  ihave H20 := (owns_read c arg20 _) $$ H20
  iapply Hk
  isplitr; · ipureintro; exact vals
  isplitl [H3 H4 H5]
  · isplitl [H3]; · iexact H3
    isplitl [H4]; · iexact H4
    iexact H5
  isplitl [H2 H6 H7 H8]
  · isplitl [H2]; · iexact H2
    isplitl [H6]; · iexact H6
    isplitl [H7]; · iexact H7
    iexact H8
  iexists _
  iexists _
  iexists _
  iexists _
  iexists _
  iexists _
  iexists _
  iexists _
  iexists _
  isplitr; · ipureintro; exact key
  isplitl [H9]; · iexact H9
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

end Cert.KernelIdeal.Gen

end
-- ==== Proof.HeadNext.lean ====
/- Before the loop, in a later block of a head: the gradients of the queries go on from the block before. -/
module

public import proofs.«01_k».proof.Proof.Split
public import proofs.«01_k».proof.Proof.Gen.KernelIdeal.Frame
public import Idealize.ShloMosaic.Lib.Exec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- Before the loop, in a later block of a head: the gradients of the queries go on from the block before. -/
noncomputable def headRunB (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole)  (hc : ¬ Scalar.cmpi .ne (Scalar.extui (Scalar.cmpi .eq (BitVec.ofNat 32 (i 1).val) 0#32)) 0#32 = 1#1)
    (x2 : Vec F S1x16384x80 .bf16) (x3 : Vec F S1x512x80 .bf16) (x4 : Vec F S1x64x512 .bf16) (x5 : Vec F S1x512x128 .bf16) (x6 : Vec F S1x16384x64 .bf16) (x7 : Vec F S1x1x16384 .f32) (x8 : Vec F S1x1x16384 .f32) (x9 : Vec F S1x64x16384 .f32) (x13 : Vec F S1x1x16384 .f32) (x14 : Vec F S2x512x256 .f32) (x15 : Vec F S2x512x256 .f32) (x16 : Vec F S2x512x256 .bf16) (x17 : Vec F S2x512x256 .bf16) (x18 : Vec F S512x80 .f32) (x19 : Vec F S512x64 .f32) (x20 : Vec F S512x1 .f32) :
    Σ' (r : (Σ' (_ : BitVec 32) (_ : FVec F S512x80 .bf16) (_ : FVec F S64x512 .bf16) (_ : FVec F S512x64 .bf16) (_ : BitVec 32) (_ : BitVec 32) (_ : BitVec 32) (_ : BitVec 32), BitVec 32)), Σ' (L9 : List (View.Piece (Elt F) S1x64x16384 .f32)), Σ' (L13 : List (View.Piece (Elt F) S1x1x16384 .f32)), Σ' (L14 : List (View.Piece (Elt F) S2x512x256 .f32)), Σ' (L15 : List (View.Piece (Elt F) S2x512x256 .f32)), Σ' (L16 : List (View.Piece (Elt F) S2x512x256 .bf16)), Σ' (L17 : List (View.Piece (Elt F) S2x512x256 .bf16)), Σ' (L18 : List (View.Piece (Elt F) S512x80 .f32)), Σ' (L19 : List (View.Piece (Elt F) S512x64 .f32)), { L20 : List (View.Piece (Elt F) S512x1 .f32) //
      ∀ (E : Set ℕ) (K : (Σ' (_ : BitVec 32) (_ : FVec F S512x80 .bf16) (_ : FVec F S64x512 .bf16) (_ : FVec F S512x64 .bf16) (_ : BitVec 32) (_ : BitVec 32) (_ : BitVec 32) (_ : BitVec 32), BitVec 32) → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20)) -∗ K r))
      ⊢ wp frame (wpE (defs₀ (F := F)) Variants.none c none) E (headProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, ?_, ?_, fun E K => ?run⟩
  case run =>
    unfold headProg
    simp only [k0_part30_eq_skeleton, k0_part31_eq_skeleton, k0_part32_eq_skeleton, k0_part33_eq_skeleton, k0_part34_eq_skeleton, k0_part35_eq_skeleton, k0_part36_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

end Cert.KernelIdeal.Gen

end
-- ==== Proof.HeadStateB.lean ====
/- What is before the loop sets the state to the diagonal's. -/
module

public import proofs.«01_k».proof.Proof.HeadNext
public import proofs.«01_k».proof.Proof.Steps
public import proofs.«01_k».proof.Proof.Reads

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox

variable {F : FTy → Type} [FloatOps F] [Named F]

local notation "𝕄" => MT nD τ sig Unit (Elt F) ℕ (UR sig nD τ) ℕ

theorem off1_b (i : grid0.Coords) (t : ℕ) (ht : t = 2 * (i 1).val) :
    k0_off1 i = ![0, 256 * (t), 0] := by
  refine (k0_off1_eq i).trans ?_
  exact congrArg (fun n : ℕ => (![0, n, 0] : Fin 3 → ℕ)) (by first | omega | (dsimp only; omega))
theorem off2_b (i : grid0.Coords) (t : ℕ) (ht : t = 2 * (i 1).val) :
    k0_off2 i = ![0, 256 * (t), 0] := by
  refine (k0_off2_eq i).trans ?_
  exact congrArg (fun n : ℕ => (![0, n, 0] : Fin 3 → ℕ)) (by first | omega | (dsimp only; omega))
theorem off3_b (i : grid0.Coords) (t : ℕ) (ht : t = 2 * (i 1).val) :
    k0_off3 i = ![0, 256 * (t + 1), 0] := by
  refine (k0_off3_eq i).trans ?_
  exact congrArg (fun n : ℕ => (![0, n, 0] : Fin 3 → ℕ)) (by first | omega | (dsimp only; omega))
theorem off4_b (i : grid0.Coords) (t : ℕ) (ht : t = 2 * (i 1).val) :
    k0_off4 i = ![0, 256 * (t + 1), 0] := by
  refine (k0_off4_eq i).trans ?_
  exact congrArg (fun n : ℕ => (![0, n, 0] : Fin 3 → ℕ)) (by first | omega | (dsimp only; omega))
theorem off5_b (i : grid0.Coords) (t : ℕ) (ht : t = 2 * (i 1).val) :
    k0_off5 i = ![0, 0, 256 * (t)] := by
  refine (k0_off5_eq i).trans ?_
  exact congrArg (fun n : ℕ => (![0, 0, n] : Fin 3 → ℕ)) (by first | omega | (dsimp only; omega))
theorem off6_b (i : grid0.Coords) (t : ℕ) (ht : t = 2 * (i 1).val) :
    k0_off6 i = ![0, 256 * (min (t + 2) 63), 0] := by
  refine (k0_off6_eq i).trans ?_
  exact congrArg (fun n : ℕ => (![0, n, 0] : Fin 3 → ℕ)) (by first | omega | (dsimp only; omega))
theorem off7_b (i : grid0.Coords) (t : ℕ) (ht : t = 2 * (i 1).val) :
    k0_off7 i = ![0, 256 * (min (t + 2) 63), 0] := by
  refine (k0_off7_eq i).trans ?_
  exact congrArg (fun n : ℕ => (![0, n, 0] : Fin 3 → ℕ)) (by first | omega | (dsimp only; omega))
theorem off8_b (i : grid0.Coords) (t : ℕ) (ht : t = 2 * (i 1).val) :
    k0_off8 i = ![0, 256 * (t), 0] := by
  refine (k0_off8_eq i).trans ?_
  exact congrArg (fun n : ℕ => (![0, n, 0] : Fin 3 → ℕ)) (by first | omega | (dsimp only; omega))
theorem off9_b (i : grid0.Coords) (t : ℕ) (ht : t = 2 * (i 1).val) :
    k0_off9 i = ![0, 256 * (t), 0] := by
  refine (k0_off9_eq i).trans ?_
  exact congrArg (fun n : ℕ => (![0, n, 0] : Fin 3 → ℕ)) (by first | omega | (dsimp only; omega))
theorem off10_b (i : grid0.Coords) (t : ℕ) (ht : t = 2 * (i 1).val) :
    k0_off10 i = ![0, 0, 256 * (t)] := by
  refine (k0_off10_eq i).trans ?_
  exact congrArg (fun n : ℕ => (![0, 0, n] : Fin 3 → ℕ)) (by first | omega | (dsimp only; omega))
theorem off11_b (i : grid0.Coords) (t : ℕ) (ht : t = 2 * (i 1).val) :
    k0_off11 i = ![0, 0, 256 * (t + 1)] := by
  refine (k0_off11_eq i).trans ?_
  exact congrArg (fun n : ℕ => (![0, 0, n] : Fin 3 → ℕ)) (by first | omega | (dsimp only; omega))

set_option backward.isDefEq.respectTransparency.types false in
set_option maxHeartbeats 4000000 in
/-- The block of keys and values the loop works with. -/
theorem headRunB_vals (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (hc : ¬ Scalar.cmpi .ne (Scalar.extui (Scalar.cmpi .eq (BitVec.ofNat 32 (i 1).val) 0#32)) 0#32 = 1#1) (x2 : Vec F S1x16384x80 .bf16) (x3 : Vec F S1x512x80 .bf16) (x4 : Vec F S1x64x512 .bf16) (x5 : Vec F S1x512x128 .bf16) (x6 : Vec F S1x16384x64 .bf16) (x7 : Vec F S1x1x16384 .f32) (x8 : Vec F S1x1x16384 .f32) (x9 : Vec F S1x64x16384 .f32) (x13 : Vec F S1x1x16384 .f32) (x14 : Vec F S2x512x256 .f32) (x15 : Vec F S2x512x256 .f32) (x16 : Vec F S2x512x256 .bf16) (x17 : Vec F S2x512x256 .bf16) (x18 : Vec F S512x80 .f32) (x19 : Vec F S512x64 .f32) (x20 : Vec F S512x1 .f32) :
    (headRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x9 x13 x14 x15 x16 x17 x18 x19 x20).1.2.1 = k0_pay133 x3 ∧ (headRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x9 x13 x14 x15 x16 x17 x18 x19 x20).1.2.2.1 = k0_pay134 x4 ∧ (headRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x9 x13 x14 x15 x16 x17 x18 x19 x20).1.2.2.2.1 = k0_pay135 (left64 x5) := by
  simp only [headRunB, headRunB.sl.r_1, headRunB.sl.r_4, headRunB.sl.v59, headRunB.sl.H19_1, headRunB.sl.v215, headRunB.sl.v130, headRunB.sl.v22, headRunB.sl.v230, headRunB.sl.v74, headRunB.sl.v108, headRunB.sl.v163, headRunB.sl.r_2, headRunB.sl.v218, headRunB.sl.v128, headRunB.sl.v165, headRunB.sl.r_5, headRunB.sl.v196, headRunB.sl.r_6, headRunB.sl.v90, headRunB.sl.v228, headRunB.sl.v2, headRunB.sl.v132, headRunB.sl.H18_1, headRunB.sl.v143, headRunB.sl.v217, headRunB.sl.r, headRunB.sl.v219, headRunB.sl.v1, headRunB.sl.v226, headRunB.sl.v21, headRunB.sl.v229, headRunB.sl.v214, headRunB.sl.r_7, headRunB.sl.v216, headRunB.sl.H15_3, headRunB.sl.H16_1, headRunB.sl.H14_3, headRunB.sl.H15_2, headRunB.sl.H20_1, headRunB.sl.v231, headRunB.sl.H17_1, headRunB.sl.v213, headRunB.sl.r_3, headRunB.sl.v133, headRunB.sl.v227, headRunB.sl.v0, headRunB.sl.H14_2, headRunB.sl.H20_2, headRunB.sl.v180, headRunB.sl.v204, headRunB.sl.v127, headRunB.sl.v225, View.readCov, View.writes_nil, readAt_whole3, readAt_left64, harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread]
  try exact ⟨trivial, trivial, trivial⟩
  try trivial

set_option backward.isDefEq.respectTransparency.types false in
set_option maxHeartbeats 4000000 in
/-- What the stores before the loop leave is the diagonal's state. -/
theorem headRunB_rel (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (hc : ¬ Scalar.cmpi .ne (Scalar.extui (Scalar.cmpi .eq (BitVec.ofNat 32 (i 1).val) 0#32)) 0#32 = 1#1) (x2 : Vec F S1x16384x80 .bf16) (x3 : Vec F S1x512x80 .bf16) (x4 : Vec F S1x64x512 .bf16) (x5 : Vec F S1x512x128 .bf16) (x6 : Vec F S1x16384x64 .bf16) (x7 : Vec F S1x1x16384 .f32) (x8 : Vec F S1x1x16384 .f32) (x9 : Vec F S1x64x16384 .f32) (x13 : Vec F S1x1x16384 .f32) (x14 : Vec F S2x512x256 .f32) (x15 : Vec F S2x512x256 .f32) (x16 : Vec F S2x512x256 .bf16) (x17 : Vec F S2x512x256 .bf16) (x18 : Vec F S512x80 .f32) (x19 : Vec F S512x64 .f32) (x20 : Vec F S512x1 .f32) (t : ℕ) (ht : t = 2 * (i 1).val) (dq : ℕ → Vec F S1x64x256 .f32) (dfq : ℕ → Vec F S1x1x256 .f32) (hdq : ∀ t, t < 64 → colTile (F := F) x9 t = dq t) (hdfq : ∀ t, t < 64 → colTile (F := F) x13 t = dfq t) :
    Rel (St.head ⟨k0_pay133 x3, k0_pay134 x4, k0_pay135 (left64 x5), x2, x6, x7, x8⟩ t dq dfq)
      (arg9.view.read (Elt F) (arg9.view.writes (Elt F) (harg9.unread x9) (headRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x9 x13 x14 x15 x16 x17 x18 x19 x20).2.1))
      (arg13.view.read (Elt F) (arg13.view.writes (Elt F) (harg13.unread x13) (headRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x9 x13 x14 x15 x16 x17 x18 x19 x20).2.2.1))
      (arg14.view.read (Elt F) (arg14.view.writes (Elt F) (harg14.unread x14) (headRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x9 x13 x14 x15 x16 x17 x18 x19 x20).2.2.2.1))
      (arg15.view.read (Elt F) (arg15.view.writes (Elt F) (harg15.unread x15) (headRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x9 x13 x14 x15 x16 x17 x18 x19 x20).2.2.2.2.1))
      (arg16.view.read (Elt F) (arg16.view.writes (Elt F) (harg16.unread x16) (headRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x9 x13 x14 x15 x16 x17 x18 x19 x20).2.2.2.2.2.1))
      (arg17.view.read (Elt F) (arg17.view.writes (Elt F) (harg17.unread x17) (headRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x9 x13 x14 x15 x16 x17 x18 x19 x20).2.2.2.2.2.2.1))
      (arg18.view.read (Elt F) (arg18.view.writes (Elt F) (harg18.unread x18) (headRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x9 x13 x14 x15 x16 x17 x18 x19 x20).2.2.2.2.2.2.2.1))
      (arg19.view.read (Elt F) (arg19.view.writes (Elt F) (harg19.unread x19) (headRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x9 x13 x14 x15 x16 x17 x18 x19 x20).2.2.2.2.2.2.2.2.1))
      (arg20.view.read (Elt F) (arg20.view.writes (Elt F) (harg20.unread x20) (headRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x9 x13 x14 x15 x16 x17 x18 x19 x20).2.2.2.2.2.2.2.2.2.1))
    := by
  have hi : (i 1).val < 32 := (i 1).isLt
  have e0 : t < 64 := by omega
  have e1 : t + 1 < 64 := by omega
  constructor
  all_goals simp only [headRunB, headRunB.sl.r_1, headRunB.sl.r_4, headRunB.sl.v59, headRunB.sl.H19_1, headRunB.sl.v215, headRunB.sl.v130, headRunB.sl.v22, headRunB.sl.v230, headRunB.sl.v74, headRunB.sl.v108, headRunB.sl.v163, headRunB.sl.r_2, headRunB.sl.v218, headRunB.sl.v128, headRunB.sl.v165, headRunB.sl.r_5, headRunB.sl.v196, headRunB.sl.r_6, headRunB.sl.v90, headRunB.sl.v228, headRunB.sl.v2, headRunB.sl.v132, headRunB.sl.H18_1, headRunB.sl.v143, headRunB.sl.v217, headRunB.sl.r, headRunB.sl.v219, headRunB.sl.v1, headRunB.sl.v226, headRunB.sl.v21, headRunB.sl.v229, headRunB.sl.v214, headRunB.sl.r_7, headRunB.sl.v216, headRunB.sl.H15_3, headRunB.sl.H16_1, headRunB.sl.H14_3, headRunB.sl.H15_2, headRunB.sl.H20_1, headRunB.sl.v231, headRunB.sl.H17_1, headRunB.sl.v213, headRunB.sl.r_3, headRunB.sl.v133, headRunB.sl.v227, headRunB.sl.v0, headRunB.sl.H14_2, headRunB.sl.H20_2, headRunB.sl.v180, headRunB.sl.v204, headRunB.sl.v127, headRunB.sl.v225]
  case kq | dp | pb | ds =>
    intro b hb
    try simp only [View.readCov, View.writes_nil, readAt_slot 0 (by decide), readAt_slot 1 (by decide), readAt_whole2, read_writes_whole2, readAt_rows _ (off1_b i t ht), readAt_rows _ (off2_b i t ht), readAt_rows _ (off3_b i t ht), readAt_rows _ (off4_b i t ht), readAt_cols _ (off5_b i t ht), fun v t' ht' => col_ite (F := F) (D := 64) (κ := .tc) (e := .f32) (sig := sig) (sp := .vmem) (t' := t') v (off5_b i t ht) ht', fun v t' ht' => col_ite (F := F) (D := 1) (κ := .tc) (e := .f32) (sig := sig) (sp := .vmem) (t' := t') v (off5_b i t ht) ht', readAt_rows _ (off6_b i t ht), readAt_rows _ (off7_b i t ht), readAt_rows _ (off8_b i t ht), readAt_rows _ (off9_b i t ht), readAt_cols _ (off10_b i t ht), fun v t' ht' => col_ite (F := F) (D := 64) (κ := .tc) (e := .f32) (sig := sig) (sp := .vmem) (t' := t') v (off10_b i t ht) ht', fun v t' ht' => col_ite (F := F) (D := 1) (κ := .tc) (e := .f32) (sig := sig) (sp := .vmem) (t' := t') v (off10_b i t ht) ht', readAt_cols _ (off11_b i t ht), fun v t' ht' => col_ite (F := F) (D := 64) (κ := .tc) (e := .f32) (sig := sig) (sp := .vmem) (t' := t') v (off11_b i t ht) ht', fun v t' ht' => col_ite (F := F) (D := 1) (κ := .tc) (e := .f32) (sig := sig) (sp := .vmem) (t' := t') v (off11_b i t ht) ht', harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64, slot_ite 0 0 (by decide) (by decide), slot_ite 0 1 (by decide) (by decide), slot_ite 1 0 (by decide) (by decide), slot_ite 1 1 (by decide) (by decide), slot_ite 0 b (by decide) hb, slot_ite 1 b (by decide) hb, if_pos, if_neg, reduceIte, Nat.reduceEqDiff, OfNat.ofNat_ne_zero, one_ne_zero, zero_ne_one, e0, e1, hb]
    try simp only [if_pos, if_neg, reduceIte, Nat.reduceEqDiff, OfNat.ofNat_ne_zero, one_ne_zero, zero_ne_one, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [hdq, hdfq, e0, e1, hb, if_pos, if_neg, reduceIte, Nat.reduceEqDiff, OfNat.ofNat_ne_zero, one_ne_zero, zero_ne_one]
    try simp only [St.trip, St.pair, St.stage, St.products, St.accumulate, St.pointwise, St.head, upd_ap, e0, e1, hb, if_pos, if_neg, reduceIte, Nat.reduceEqDiff, OfNat.ofNat_ne_zero, one_ne_zero, zero_ne_one]
    try simp only [View.readCov, View.writes_nil, readAt_slot 0 (by decide), readAt_slot 1 (by decide), readAt_whole2, read_writes_whole2, readAt_rows _ (off1_b i t ht), readAt_rows _ (off2_b i t ht), readAt_rows _ (off3_b i t ht), readAt_rows _ (off4_b i t ht), readAt_cols _ (off5_b i t ht), fun v t' ht' => col_ite (F := F) (D := 64) (κ := .tc) (e := .f32) (sig := sig) (sp := .vmem) (t' := t') v (off5_b i t ht) ht', fun v t' ht' => col_ite (F := F) (D := 1) (κ := .tc) (e := .f32) (sig := sig) (sp := .vmem) (t' := t') v (off5_b i t ht) ht', readAt_rows _ (off6_b i t ht), readAt_rows _ (off7_b i t ht), readAt_rows _ (off8_b i t ht), readAt_rows _ (off9_b i t ht), readAt_cols _ (off10_b i t ht), fun v t' ht' => col_ite (F := F) (D := 64) (κ := .tc) (e := .f32) (sig := sig) (sp := .vmem) (t' := t') v (off10_b i t ht) ht', fun v t' ht' => col_ite (F := F) (D := 1) (κ := .tc) (e := .f32) (sig := sig) (sp := .vmem) (t' := t') v (off10_b i t ht) ht', readAt_cols _ (off11_b i t ht), fun v t' ht' => col_ite (F := F) (D := 64) (κ := .tc) (e := .f32) (sig := sig) (sp := .vmem) (t' := t') v (off11_b i t ht) ht', fun v t' ht' => col_ite (F := F) (D := 1) (κ := .tc) (e := .f32) (sig := sig) (sp := .vmem) (t' := t') v (off11_b i t ht) ht', harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64, slot_ite 0 0 (by decide) (by decide), slot_ite 0 1 (by decide) (by decide), slot_ite 1 0 (by decide) (by decide), slot_ite 1 1 (by decide) (by decide), slot_ite 0 b (by decide) hb, slot_ite 1 b (by decide) hb, if_pos, if_neg, reduceIte, Nat.reduceEqDiff, OfNat.ofNat_ne_zero, one_ne_zero, zero_ne_one, e0, e1, hb, hdq, hdfq, upd_ap]
    try (obtain rfl | rfl : b = 0 ∨ b = 1 := by omega)
    all_goals try simp only [if_pos, if_neg, reduceIte, Nat.reduceEqDiff, OfNat.ofNat_ne_zero, one_ne_zero, zero_ne_one]
    all_goals try rfl
  case dk | dv | dfk =>
    try simp only [View.readCov, View.writes_nil, readAt_slot 0 (by decide), readAt_slot 1 (by decide), readAt_whole2, read_writes_whole2, readAt_rows _ (off1_b i t ht), readAt_rows _ (off2_b i t ht), readAt_rows _ (off3_b i t ht), readAt_rows _ (off4_b i t ht), readAt_cols _ (off5_b i t ht), fun v t' ht' => col_ite (F := F) (D := 64) (κ := .tc) (e := .f32) (sig := sig) (sp := .vmem) (t' := t') v (off5_b i t ht) ht', fun v t' ht' => col_ite (F := F) (D := 1) (κ := .tc) (e := .f32) (sig := sig) (sp := .vmem) (t' := t') v (off5_b i t ht) ht', readAt_rows _ (off6_b i t ht), readAt_rows _ (off7_b i t ht), readAt_rows _ (off8_b i t ht), readAt_rows _ (off9_b i t ht), readAt_cols _ (off10_b i t ht), fun v t' ht' => col_ite (F := F) (D := 64) (κ := .tc) (e := .f32) (sig := sig) (sp := .vmem) (t' := t') v (off10_b i t ht) ht', fun v t' ht' => col_ite (F := F) (D := 1) (κ := .tc) (e := .f32) (sig := sig) (sp := .vmem) (t' := t') v (off10_b i t ht) ht', readAt_cols _ (off11_b i t ht), fun v t' ht' => col_ite (F := F) (D := 64) (κ := .tc) (e := .f32) (sig := sig) (sp := .vmem) (t' := t') v (off11_b i t ht) ht', fun v t' ht' => col_ite (F := F) (D := 1) (κ := .tc) (e := .f32) (sig := sig) (sp := .vmem) (t' := t') v (off11_b i t ht) ht', harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1]
    try simp only [if_pos, if_neg, reduceIte, Nat.reduceEqDiff, OfNat.ofNat_ne_zero, one_ne_zero, zero_ne_one, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [hdq, hdfq, e0, e1, if_pos, if_neg, reduceIte, Nat.reduceEqDiff, OfNat.ofNat_ne_zero, one_ne_zero, zero_ne_one]
    try simp only [St.trip, St.pair, St.stage, St.products, St.accumulate, St.pointwise, St.head, upd_ap, e0, e1, if_pos, if_neg, reduceIte, Nat.reduceEqDiff, OfNat.ofNat_ne_zero, one_ne_zero, zero_ne_one]
    try simp only [View.readCov, View.writes_nil, readAt_slot 0 (by decide), readAt_slot 1 (by decide), readAt_whole2, read_writes_whole2, readAt_rows _ (off1_b i t ht), readAt_rows _ (off2_b i t ht), readAt_rows _ (off3_b i t ht), readAt_rows _ (off4_b i t ht), readAt_cols _ (off5_b i t ht), fun v t' ht' => col_ite (F := F) (D := 64) (κ := .tc) (e := .f32) (sig := sig) (sp := .vmem) (t' := t') v (off5_b i t ht) ht', fun v t' ht' => col_ite (F := F) (D := 1) (κ := .tc) (e := .f32) (sig := sig) (sp := .vmem) (t' := t') v (off5_b i t ht) ht', readAt_rows _ (off6_b i t ht), readAt_rows _ (off7_b i t ht), readAt_rows _ (off8_b i t ht), readAt_rows _ (off9_b i t ht), readAt_cols _ (off10_b i t ht), fun v t' ht' => col_ite (F := F) (D := 64) (κ := .tc) (e := .f32) (sig := sig) (sp := .vmem) (t' := t') v (off10_b i t ht) ht', fun v t' ht' => col_ite (F := F) (D := 1) (κ := .tc) (e := .f32) (sig := sig) (sp := .vmem) (t' := t') v (off10_b i t ht) ht', readAt_cols _ (off11_b i t ht), fun v t' ht' => col_ite (F := F) (D := 64) (κ := .tc) (e := .f32) (sig := sig) (sp := .vmem) (t' := t') v (off11_b i t ht) ht', fun v t' ht' => col_ite (F := F) (D := 1) (κ := .tc) (e := .f32) (sig := sig) (sp := .vmem) (t' := t') v (off11_b i t ht) ht', harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1, hdq, hdfq, upd_ap]
    all_goals try rfl
  case dq =>
    intro u hu
    try simp only [View.readCov, View.writes_nil, readAt_slot 0 (by decide), readAt_slot 1 (by decide), readAt_whole2, read_writes_whole2, readAt_rows _ (off1_b i t ht), readAt_rows _ (off2_b i t ht), readAt_rows _ (off3_b i t ht), readAt_rows _ (off4_b i t ht), readAt_cols _ (off5_b i t ht), fun v t' ht' => col_ite (F := F) (D := 64) (κ := .tc) (e := .f32) (sig := sig) (sp := .vmem) (t' := t') v (off5_b i t ht) ht', fun v t' ht' => col_ite (F := F) (D := 1) (κ := .tc) (e := .f32) (sig := sig) (sp := .vmem) (t' := t') v (off5_b i t ht) ht', readAt_rows _ (off6_b i t ht), readAt_rows _ (off7_b i t ht), readAt_rows _ (off8_b i t ht), readAt_rows _ (off9_b i t ht), readAt_cols _ (off10_b i t ht), fun v t' ht' => col_ite (F := F) (D := 64) (κ := .tc) (e := .f32) (sig := sig) (sp := .vmem) (t' := t') v (off10_b i t ht) ht', fun v t' ht' => col_ite (F := F) (D := 1) (κ := .tc) (e := .f32) (sig := sig) (sp := .vmem) (t' := t') v (off10_b i t ht) ht', readAt_cols _ (off11_b i t ht), fun v t' ht' => col_ite (F := F) (D := 64) (κ := .tc) (e := .f32) (sig := sig) (sp := .vmem) (t' := t') v (off11_b i t ht) ht', fun v t' ht' => col_ite (F := F) (D := 1) (κ := .tc) (e := .f32) (sig := sig) (sp := .vmem) (t' := t') v (off11_b i t ht) ht', harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1, hu]
    try simp only [if_pos, if_neg, reduceIte, Nat.reduceEqDiff, OfNat.ofNat_ne_zero, one_ne_zero, zero_ne_one, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [hdq, hdfq, e0, e1, hu, if_pos, if_neg, reduceIte, Nat.reduceEqDiff, OfNat.ofNat_ne_zero, one_ne_zero, zero_ne_one]
    try simp only [St.trip, St.pair, St.stage, St.products, St.accumulate, St.pointwise, St.head, upd_ap, e0, e1, hu, if_pos, if_neg, reduceIte, Nat.reduceEqDiff, OfNat.ofNat_ne_zero, one_ne_zero, zero_ne_one]
    try simp only [View.readCov, View.writes_nil, readAt_slot 0 (by decide), readAt_slot 1 (by decide), readAt_whole2, read_writes_whole2, readAt_rows _ (off1_b i t ht), readAt_rows _ (off2_b i t ht), readAt_rows _ (off3_b i t ht), readAt_rows _ (off4_b i t ht), readAt_cols _ (off5_b i t ht), fun v t' ht' => col_ite (F := F) (D := 64) (κ := .tc) (e := .f32) (sig := sig) (sp := .vmem) (t' := t') v (off5_b i t ht) ht', fun v t' ht' => col_ite (F := F) (D := 1) (κ := .tc) (e := .f32) (sig := sig) (sp := .vmem) (t' := t') v (off5_b i t ht) ht', readAt_rows _ (off6_b i t ht), readAt_rows _ (off7_b i t ht), readAt_rows _ (off8_b i t ht), readAt_rows _ (off9_b i t ht), readAt_cols _ (off10_b i t ht), fun v t' ht' => col_ite (F := F) (D := 64) (κ := .tc) (e := .f32) (sig := sig) (sp := .vmem) (t' := t') v (off10_b i t ht) ht', fun v t' ht' => col_ite (F := F) (D := 1) (κ := .tc) (e := .f32) (sig := sig) (sp := .vmem) (t' := t') v (off10_b i t ht) ht', readAt_cols _ (off11_b i t ht), fun v t' ht' => col_ite (F := F) (D := 64) (κ := .tc) (e := .f32) (sig := sig) (sp := .vmem) (t' := t') v (off11_b i t ht) ht', fun v t' ht' => col_ite (F := F) (D := 1) (κ := .tc) (e := .f32) (sig := sig) (sp := .vmem) (t' := t') v (off11_b i t ht) ht', harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1, hu, hdq, hdfq, upd_ap]
    all_goals try rfl
  case dfq =>
    intro u hu
    have n01 : t ≠ t + 1 := by omega
    have n10 : t + 1 ≠ t := by omega
    try simp only [View.readCov, View.writes_nil, readAt_slot 0 (by decide), readAt_slot 1 (by decide), readAt_whole2, read_writes_whole2, readAt_rows _ (off1_b i t ht), readAt_rows _ (off2_b i t ht), readAt_rows _ (off3_b i t ht), readAt_rows _ (off4_b i t ht), readAt_cols _ (off5_b i t ht), fun v t' ht' => col_ite (F := F) (D := 64) (κ := .tc) (e := .f32) (sig := sig) (sp := .vmem) (t' := t') v (off5_b i t ht) ht', fun v t' ht' => col_ite (F := F) (D := 1) (κ := .tc) (e := .f32) (sig := sig) (sp := .vmem) (t' := t') v (off5_b i t ht) ht', readAt_rows _ (off6_b i t ht), readAt_rows _ (off7_b i t ht), readAt_rows _ (off8_b i t ht), readAt_rows _ (off9_b i t ht), readAt_cols _ (off10_b i t ht), fun v t' ht' => col_ite (F := F) (D := 64) (κ := .tc) (e := .f32) (sig := sig) (sp := .vmem) (t' := t') v (off10_b i t ht) ht', fun v t' ht' => col_ite (F := F) (D := 1) (κ := .tc) (e := .f32) (sig := sig) (sp := .vmem) (t' := t') v (off10_b i t ht) ht', readAt_cols _ (off11_b i t ht), fun v t' ht' => col_ite (F := F) (D := 64) (κ := .tc) (e := .f32) (sig := sig) (sp := .vmem) (t' := t') v (off11_b i t ht) ht', fun v t' ht' => col_ite (F := F) (D := 1) (κ := .tc) (e := .f32) (sig := sig) (sp := .vmem) (t' := t') v (off11_b i t ht) ht', harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1, hu, n01, n10]
    try simp only [if_pos, if_neg, reduceIte, Nat.reduceEqDiff, OfNat.ofNat_ne_zero, one_ne_zero, zero_ne_one, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [hdq, hdfq, e0, e1, hu, n01, n10, if_pos, if_neg, reduceIte, Nat.reduceEqDiff, OfNat.ofNat_ne_zero, one_ne_zero, zero_ne_one]
    try simp only [St.trip, St.pair, St.stage, St.products, St.accumulate, St.pointwise, St.head, upd_ap, e0, e1, hu, n01, n10, if_pos, if_neg, reduceIte, Nat.reduceEqDiff, OfNat.ofNat_ne_zero, one_ne_zero, zero_ne_one]
    try simp only [View.readCov, View.writes_nil, readAt_slot 0 (by decide), readAt_slot 1 (by decide), readAt_whole2, read_writes_whole2, readAt_rows _ (off1_b i t ht), readAt_rows _ (off2_b i t ht), readAt_rows _ (off3_b i t ht), readAt_rows _ (off4_b i t ht), readAt_cols _ (off5_b i t ht), fun v t' ht' => col_ite (F := F) (D := 64) (κ := .tc) (e := .f32) (sig := sig) (sp := .vmem) (t' := t') v (off5_b i t ht) ht', fun v t' ht' => col_ite (F := F) (D := 1) (κ := .tc) (e := .f32) (sig := sig) (sp := .vmem) (t' := t') v (off5_b i t ht) ht', readAt_rows _ (off6_b i t ht), readAt_rows _ (off7_b i t ht), readAt_rows _ (off8_b i t ht), readAt_rows _ (off9_b i t ht), readAt_cols _ (off10_b i t ht), fun v t' ht' => col_ite (F := F) (D := 64) (κ := .tc) (e := .f32) (sig := sig) (sp := .vmem) (t' := t') v (off10_b i t ht) ht', fun v t' ht' => col_ite (F := F) (D := 1) (κ := .tc) (e := .f32) (sig := sig) (sp := .vmem) (t' := t') v (off10_b i t ht) ht', readAt_cols _ (off11_b i t ht), fun v t' ht' => col_ite (F := F) (D := 64) (κ := .tc) (e := .f32) (sig := sig) (sp := .vmem) (t' := t') v (off11_b i t ht) ht', fun v t' ht' => col_ite (F := F) (D := 1) (κ := .tc) (e := .f32) (sig := sig) (sp := .vmem) (t' := t') v (off11_b i t ht) ht', harg2.read_unread, harg3.read_unread, harg4.read_unread, harg5.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, e0, e1, hu, n01, n10, hdq, hdfq, upd_ap]
    all_goals try rfl

end Cert.KernelIdeal.Gen

end
-- ==== Proof.StepHeadB.lean ====
/- What is before the loop, in memory. -/
module

public import proofs.«01_k».proof.Proof.HeadStateB
public import proofs.«01_k».proof.Proof.Held

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox

variable {F : FTy → Type} [FloatOps F] [Named F]

local notation "𝕄" => MT nD τ sig Unit (Elt F) ℕ (UR sig nD τ) ℕ

/-- What is before the loop leaves the diagonal's state, and hands on the block of keys and values. -/
theorem headB_wp (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (hc : ¬ Scalar.cmpi .ne (Scalar.extui (Scalar.cmpi .eq (BitVec.ofNat 32 (i 1).val) 0#32)) 0#32 = 1#1) (x2 : Vec F S1x16384x80 .bf16) (x3 : Vec F S1x512x80 .bf16) (x4 : Vec F S1x64x512 .bf16) (x5 : Vec F S1x512x128 .bf16) (x6 : Vec F S1x16384x64 .bf16) (x7 : Vec F S1x1x16384 .f32) (x8 : Vec F S1x1x16384 .f32) (x9 : Vec F S1x64x16384 .f32) (x13 : Vec F S1x1x16384 .f32) (dq : ℕ → Vec F S1x64x256 .f32) (dfq : ℕ → Vec F S1x1x256 .f32) (hdq : ∀ t, t < 64 → colTile (F := F) x9 t = dq t) (hdfq : ∀ t, t < 64 → colTile (F := F) x13 t = dfq t) (E : Set ℕ)
    (K : (Σ' (_ : BitVec 32) (_ : FVec F S512x80 .bf16) (_ : FVec F S64x512 .bf16) (_ : FVec F S512x64 .bf16) (_ : BitVec 32) (_ : BitVec 32) (_ : BitVec 32) (_ : BitVec 32), BitVec 32) → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
      ∗ (∀ r, (⌜r.2.1 = k0_pay133 x3 ∧ r.2.2.1 = k0_pay134 x4 ∧ r.2.2.2.1 = k0_pay135 (left64 x5)⌝ ∗ (owns (c : Thread nD τ) arg3 fullShare x3 ∗ owns (c : Thread nD τ) arg4 fullShare x4 ∗ owns (c : Thread nD τ) arg5 fullShare x5) ∗ Look c arg2 arg6 arg7 arg8 ⟨k0_pay133 x3, k0_pay134 x4, k0_pay135 (left64 x5), x2, x6, x7, x8⟩ ∗ Held c arg9 arg13 arg14 arg15 arg16 arg17 arg18 arg19 arg20 (St.head ⟨k0_pay133 x3, k0_pay134 x4, k0_pay135 (left64 x5), x2, x6, x7, x8⟩ (2 * (i 1).val) dq dfq)) -∗ K r))
      ⊢ wp frame (wpE (defs₀ (F := F)) Variants.none c none) E (headProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold Look Held
  iintro ⟨H2, H3, H4, H5, H6, H7, H8, H9, H13, ⟨%x14, H14⟩, ⟨%x15, H15⟩, ⟨%x16, H16⟩, ⟨%x17, H17⟩, ⟨%x18, H18⟩, ⟨%x19, H19⟩, ⟨%x20, H20⟩, Hk⟩
  have vals := headRunB_vals c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x9 x13 x14 x15 x16 x17 x18 x19 x20
  have run := (headRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x9 x13 x14 x15 x16 x17 x18 x19 x20).2.2.2.2.2.2.2.2.2.2 E K
  iapply run
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H3, H4, H5, H6, H7, H8, H9, H13, H14, H15, H16, H17, H18, H19, H20⟩
  have key := headRunB_rel c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x2 x3 x4 x5 x6 x7 x8 x9 x13 x14 x15 x16 x17 x18 x19 x20 (2 * (i 1).val) rfl dq dfq hdq hdfq
  ihave H9 := (owns_read c arg9 _) $$ H9
  ihave H13 := (owns_read c arg13 _) $$ H13
  ihave H14 := (owns_read c arg14 _) $$ H14
  ihave H15 := (owns_read c arg15 _) $$ H15
  ihave H16 := (owns_read c arg16 _) $$ H16
  ihave H17 := (owns_read c arg17 _) $$ H17
  ihave H18 := (owns_read c arg18 _) $$ H18
  ihave H19 := (owns_read c arg19 _) $$ H19
  ihave H20 := (owns_read c arg20 _) $$ H20
  iapply Hk
  isplitr; · ipureintro; exact vals
  isplitl [H3 H4 H5]
  · isplitl [H3]; · iexact H3
    isplitl [H4]; · iexact H4
    iexact H5
  isplitl [H2 H6 H7 H8]
  · isplitl [H2]; · iexact H2
    isplitl [H6]; · iexact H6
    isplitl [H7]; · iexact H7
    iexact H8
  iexists _
  iexists _
  iexists _
  iexists _
  iexists _
  iexists _
  iexists _
  iexists _
  iexists _
  isplitr; · ipureintro; exact key
  isplitl [H9]; · iexact H9
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

end Cert.KernelIdeal.Gen

end
-- ==== Proof.TailOdd.lean ====
/- After the loop, when a pair of tiles is left over. -/
module

public import proofs.«01_k».proof.Proof.Split
public import proofs.«01_k».proof.Proof.Gen.KernelIdeal.Frame
public import Idealize.ShloMosaic.Lib.Exec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- After the loop, when a pair of tiles is left over. -/
noncomputable def tailRunA (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (v4 : FVec F S512x80 .bf16) (v6 : FVec F S64x512 .bf16) (v8 : FVec F S512x64 .bf16) (hc : k0_cond2 i = 1#1)
    (x2 : Vec F S1x16384x80 .bf16) (x6 : Vec F S1x16384x64 .bf16) (x7 : Vec F S1x1x16384 .f32) (x8 : Vec F S1x1x16384 .f32) (x9 : Vec F S1x64x16384 .f32) (x13 : Vec F S1x1x16384 .f32) (x14 : Vec F S2x512x256 .f32) (x15 : Vec F S2x512x256 .f32) (x16 : Vec F S2x512x256 .bf16) (x17 : Vec F S2x512x256 .bf16) (x18 : Vec F S512x80 .f32) (x19 : Vec F S512x64 .f32) (x20 : Vec F S512x1 .f32) :
    Σ' (L9 : List (View.Piece (Elt F) S1x64x16384 .f32)), Σ' (L13 : List (View.Piece (Elt F) S1x1x16384 .f32)), Σ' (L14 : List (View.Piece (Elt F) S2x512x256 .f32)), Σ' (L15 : List (View.Piece (Elt F) S2x512x256 .f32)), Σ' (L16 : List (View.Piece (Elt F) S2x512x256 .bf16)), Σ' (L17 : List (View.Piece (Elt F) S2x512x256 .bf16)), Σ' (L18 : List (View.Piece (Elt F) S512x80 .f32)), Σ' (L19 : List (View.Piece (Elt F) S512x64 .f32)), Σ' (L20 : List (View.Piece (Elt F) S512x1 .f32)), Σ' (L10 : List (View.Piece (Elt F) S1x512x64 .f32)), Σ' (L11 : List (View.Piece (Elt F) S1x512x64 .f32)), { L12 : List (View.Piece (Elt F) S1x1x512 .f32) //
      ∀ (E : Set ℕ) (K : PUnit → sProp 𝕄),
        iprop(owns (c : Thread nD τ) arg2 fullShare x2 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ (∃ d, owns (c : Thread nD τ) arg10 fullShare d) ∗ (∃ d, owns (c : Thread nD τ) arg11 fullShare d) ∗ (∃ d, owns (c : Thread nD τ) arg12 fullShare d) ∗ ((owns (c : Thread nD τ) arg2 fullShare x2 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
      ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v6 v8) K } := by
  refine ⟨?_, ?_, ?_, ?_, ?_, ?_, ?_, ?_, ?_, ?_, ?_, ?_, fun E K => ?run⟩
  case run =>
    unfold tailProg tailProg0
    simp only [k0_part25_eq_skeleton, k0_part26_eq_skeleton, k0_part27_eq_skeleton, k0_part28_eq_skeleton, k0_part29_eq_skeleton, k0_part38_eq_skeleton]
    unfold owns
    iintro ⟨⟨%f2, %hf2, H2⟩, ⟨%f6, %hf6, H6⟩, ⟨%f7, %hf7, H7⟩, ⟨%f8, %hf8, H8⟩, ⟨%f9, %hf9, H9⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d10, %f10, -, H10⟩, ⟨%d11, %f11, -, H11⟩, ⟨%d12, %f12, -, H12⟩, Hk⟩
    obtain rfl := harg2.eq_unread hf2; obtain rfl := harg6.eq_unread hf6; obtain rfl := harg7.eq_unread hf7; obtain rfl := harg8.eq_unread hf8; obtain rfl := harg9.eq_unread hf9; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc)
    sl_step
    iapply Hk
    isplitl [H2]
    · iexists _; isplitr; · ipureintro; exact harg2.read_unread _
      iexact H2
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H10]; · iexists _; iexact H10
    isplitl [H11]; · iexists _; iexact H11
    iexists _; iexact H12

end Cert.KernelIdeal.Gen

end
-- ==== Proof.TailStateA.lean ====
/- What comes after the loop: the last sums, and the results of the block. -/
module

public import proofs.«01_k».proof.Proof.TailOdd
public import proofs.«01_k».proof.Proof.Steps
public import proofs.«01_k».proof.Proof.Reads

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox

variable {F : FTy → Type} [FloatOps F] [Named F]

local notation "𝕄" => MT nD τ sig Unit (Elt F) ℕ (UR sig nD τ) ℕ

set_option backward.isDefEq.respectTransparency.types false in
set_option maxHeartbeats 4000000 in
/-- What the stores after the loop leave. -/
theorem tailRunA_rel (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (v4 : FVec F S512x80 .bf16) (v6 : FVec F S64x512 .bf16) (v8 : FVec F S512x64 .bf16) (hc : k0_cond2 i = 1#1) (x2 : Vec F S1x16384x80 .bf16) (x6 : Vec F S1x16384x64 .bf16) (x7 : Vec F S1x1x16384 .f32) (x8 : Vec F S1x1x16384 .f32) (x9 : Vec F S1x64x16384 .f32) (x13 : Vec F S1x1x16384 .f32) (x14 : Vec F S2x512x256 .f32) (x15 : Vec F S2x512x256 .f32) (x16 : Vec F S2x512x256 .bf16) (x17 : Vec F S2x512x256 .bf16) (x18 : Vec F S512x80 .f32) (x19 : Vec F S512x64 .f32) (x20 : Vec F S512x1 .f32) (s : St F) (h : Rel s x9 x13 x14 x15 x16 x17 x18 x19 x20) :
    (∀ u, u < 64 → colTile (F := F) (arg9.view.read (Elt F) (arg9.view.writes (Elt F) (harg9.unread x9) (tailRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v6 v8 hc x2 x6 x7 x8 x9 x13 x14 x15 x16 x17 x18 x19 x20).1)) u = ((s.pair ⟨v4, v6, v8, x2, x6, x7, x8⟩ 62).accumulate ⟨v4, v6, v8, x2, x6, x7, x8⟩ 63 1).dq u)
    ∧ (∀ u, u < 64 → colTile (F := F) (arg13.view.read (Elt F) (arg13.view.writes (Elt F) (harg13.unread x13) (tailRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v6 v8 hc x2 x6 x7 x8 x9 x13 x14 x15 x16 x17 x18 x19 x20).2.1)) u = ((s.pair ⟨v4, v6, v8, x2, x6, x7, x8⟩ 62).accumulate ⟨v4, v6, v8, x2, x6, x7, x8⟩ 63 1).dfq u)
    ∧ (∀ f, (arg10.view.read (Elt F) (arg10.view.writes (Elt F) f (tailRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v6 v8 hc x2 x6 x7 x8 x9 x13 x14 x15 x16 x17 x18 x19 x20).2.2.2.2.2.2.2.2.2.1)) = k0_pay174 (left64b (F := F) ((s.pair ⟨v4, v6, v8, x2, x6, x7, x8⟩ 62).accumulate ⟨v4, v6, v8, x2, x6, x7, x8⟩ 63 1).dk))
    ∧ (∀ f, (arg11.view.read (Elt F) (arg11.view.writes (Elt F) f (tailRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v6 v8 hc x2 x6 x7 x8 x9 x13 x14 x15 x16 x17 x18 x19 x20).2.2.2.2.2.2.2.2.2.2.1)) = k0_pay175 ((s.pair ⟨v4, v6, v8, x2, x6, x7, x8⟩ 62).accumulate ⟨v4, v6, v8, x2, x6, x7, x8⟩ 63 1).dv)
    ∧ (∀ f, (arg12.view.read (Elt F) (arg12.view.writes (Elt F) f (tailRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v6 v8 hc x2 x6 x7 x8 x9 x13 x14 x15 x16 x17 x18 x19 x20).2.2.2.2.2.2.2.2.2.2.2.1)) = k0_pay1 (k0_pay176 ((s.pair ⟨v4, v6, v8, x2, x6, x7, x8⟩ 62).accumulate ⟨v4, v6, v8, x2, x6, x7, x8⟩ 63 1).dfk)) := by
  obtain ⟨hkq, hdp, hpb, hds, hdk, hdv, hdfk, hdq, hdfq⟩ := h
  have k0 := hkq 0 (by decide)
  have k1 := hkq 1 (by decide)
  have d0 := hdp 0 (by decide)
  have d1 := hdp 1 (by decide)
  have p0 := hpb 0 (by decide)
  have p1 := hpb 1 (by decide)
  have s0 := hds 0 (by decide)
  have s1 := hds 1 (by decide)
  refine ⟨?dq, ?dfq, ?dk, ?dv, ?dfk⟩
  all_goals simp only [tailRunA, tailRunA.sl.H20_2, tailRunA.sl.v487, tailRunA.sl.v455, tailRunA.sl.H16_2, tailRunA.sl.v370, tailRunA.sl.v252, tailRunA.sl.r_7, tailRunA.sl.v423, tailRunA.sl.H18_1, tailRunA.sl.v421, tailRunA.sl.H18_3, tailRunA.sl.r_6, tailRunA.sl.H14_2, tailRunA.sl.v254, tailRunA.sl.v424, tailRunA.sl.H17_2, tailRunA.sl.r_2, tailRunA.sl.r_8, tailRunA.sl.H19_2, tailRunA.sl.v255, tailRunA.sl.v434, tailRunA.sl.r_3, tailRunA.sl.v444, tailRunA.sl.v479, tailRunA.sl.r_5, tailRunA.sl.r, tailRunA.sl.H15_2, tailRunA.sl.H17_1, tailRunA.sl.H18_2, tailRunA.sl.v463, tailRunA.sl.v291, tailRunA.sl.r_4, tailRunA.sl.v295, tailRunA.sl.H20_1, tailRunA.sl.H16_1, tailRunA.sl.v362, tailRunA.sl.H19_1, tailRunA.sl.v265, tailRunA.sl.r_1, tailRunA.sl.v275, tailRunA.sl.v285, tailRunA.sl.H19_3]
  case dq =>
    intro u hu
    try simp only [View.readCov, View.writes_nil, readAt_slot 0 (by decide), readAt_slot 1 (by decide), readAt_whole2, read_writes_whole2, readAt_rows _ (show (![0, 15616, 0] : Fin 3 → ℕ) = ![0, 256 * 61, 0] from rfl), readAt_rows _ (show (![0, 15872, 0] : Fin 3 → ℕ) = ![0, 256 * 62, 0] from rfl), readAt_rows _ (show (![0, 16128, 0] : Fin 3 → ℕ) = ![0, 256 * 63, 0] from rfl), readAt_cols _ (show (![0, 0, 15616] : Fin 3 → ℕ) = ![0, 0, 256 * 61] from rfl), fun v t' ht' => col_ite (F := F) (D := 64) (κ := .tc) (e := .f32) (sig := sig) (sp := .vmem) (t' := t') v (show (![0, 0, 15616] : Fin 3 → ℕ) = ![0, 0, 256 * 61] from rfl) ht', fun v t' ht' => col_ite (F := F) (D := 1) (κ := .tc) (e := .f32) (sig := sig) (sp := .vmem) (t' := t') v (show (![0, 0, 15616] : Fin 3 → ℕ) = ![0, 0, 256 * 61] from rfl) ht', readAt_cols _ (show (![0, 0, 15872] : Fin 3 → ℕ) = ![0, 0, 256 * 62] from rfl), fun v t' ht' => col_ite (F := F) (D := 64) (κ := .tc) (e := .f32) (sig := sig) (sp := .vmem) (t' := t') v (show (![0, 0, 15872] : Fin 3 → ℕ) = ![0, 0, 256 * 62] from rfl) ht', fun v t' ht' => col_ite (F := F) (D := 1) (κ := .tc) (e := .f32) (sig := sig) (sp := .vmem) (t' := t') v (show (![0, 0, 15872] : Fin 3 → ℕ) = ![0, 0, 256 * 62] from rfl) ht', readAt_cols _ (show (![0, 0, 16128] : Fin 3 → ℕ) = ![0, 0, 256 * 63] from rfl), fun v t' ht' => col_ite (F := F) (D := 64) (κ := .tc) (e := .f32) (sig := sig) (sp := .vmem) (t' := t') v (show (![0, 0, 16128] : Fin 3 → ℕ) = ![0, 0, 256 * 63] from rfl) ht', fun v t' ht' => col_ite (F := F) (D := 1) (κ := .tc) (e := .f32) (sig := sig) (sp := .vmem) (t' := t') v (show (![0, 0, 16128] : Fin 3 → ℕ) = ![0, 0, 256 * 63] from rfl) ht', readAt_rows _ (show k0_off36 63#32 = ![0, 256 * 63, 0] from k0_off36_eq ⟨0, by decide⟩), readAt_rows _ (show k0_off36 64#32 = ![0, 256 * 63, 0] from k0_off36_eq ⟨1, by decide⟩), readAt_rows _ (show k0_off37 63#32 = ![0, 256 * 63, 0] from k0_off37_eq ⟨0, by decide⟩), readAt_rows _ (show k0_off37 64#32 = ![0, 256 * 63, 0] from k0_off37_eq ⟨1, by decide⟩), harg2.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64b, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, Nat.reduceAdd, Nat.reduceSub, Nat.reduceLT, (show min (64 : ℕ) 63 = 63 from rfl), hu]
    try simp only [if_pos, if_neg, reduceIte, Nat.reduceEqDiff, OfNat.ofNat_ne_zero, one_ne_zero, zero_ne_one, Nat.reduceAdd, Nat.reduceSub, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [hkq, hdp, hpb, hds, hdk, hdv, hdfk, hdq, hdfq, k0, k1, d0, d1, p0, p1, s0, s1, Nat.reduceLT, (show min (64 : ℕ) 63 = 63 from rfl), hu, if_pos, if_neg, reduceIte, Nat.reduceEqDiff, OfNat.ofNat_ne_zero, one_ne_zero, zero_ne_one, Nat.reduceAdd, Nat.reduceSub]
    try simp only [St.trip, St.pair, St.stage, St.products, St.accumulate, St.pointwise, St.head, upd_ap, Nat.reduceLT, (show min (64 : ℕ) 63 = 63 from rfl), hu, if_pos, if_neg, reduceIte, Nat.reduceEqDiff, OfNat.ofNat_ne_zero, one_ne_zero, zero_ne_one, Nat.reduceAdd, Nat.reduceSub]
    try simp only [View.readCov, View.writes_nil, readAt_slot 0 (by decide), readAt_slot 1 (by decide), readAt_whole2, read_writes_whole2, readAt_rows _ (show (![0, 15616, 0] : Fin 3 → ℕ) = ![0, 256 * 61, 0] from rfl), readAt_rows _ (show (![0, 15872, 0] : Fin 3 → ℕ) = ![0, 256 * 62, 0] from rfl), readAt_rows _ (show (![0, 16128, 0] : Fin 3 → ℕ) = ![0, 256 * 63, 0] from rfl), readAt_cols _ (show (![0, 0, 15616] : Fin 3 → ℕ) = ![0, 0, 256 * 61] from rfl), fun v t' ht' => col_ite (F := F) (D := 64) (κ := .tc) (e := .f32) (sig := sig) (sp := .vmem) (t' := t') v (show (![0, 0, 15616] : Fin 3 → ℕ) = ![0, 0, 256 * 61] from rfl) ht', fun v t' ht' => col_ite (F := F) (D := 1) (κ := .tc) (e := .f32) (sig := sig) (sp := .vmem) (t' := t') v (show (![0, 0, 15616] : Fin 3 → ℕ) = ![0, 0, 256 * 61] from rfl) ht', readAt_cols _ (show (![0, 0, 15872] : Fin 3 → ℕ) = ![0, 0, 256 * 62] from rfl), fun v t' ht' => col_ite (F := F) (D := 64) (κ := .tc) (e := .f32) (sig := sig) (sp := .vmem) (t' := t') v (show (![0, 0, 15872] : Fin 3 → ℕ) = ![0, 0, 256 * 62] from rfl) ht', fun v t' ht' => col_ite (F := F) (D := 1) (κ := .tc) (e := .f32) (sig := sig) (sp := .vmem) (t' := t') v (show (![0, 0, 15872] : Fin 3 → ℕ) = ![0, 0, 256 * 62] from rfl) ht', readAt_cols _ (show (![0, 0, 16128] : Fin 3 → ℕ) = ![0, 0, 256 * 63] from rfl), fun v t' ht' => col_ite (F := F) (D := 64) (κ := .tc) (e := .f32) (sig := sig) (sp := .vmem) (t' := t') v (show (![0, 0, 16128] : Fin 3 → ℕ) = ![0, 0, 256 * 63] from rfl) ht', fun v t' ht' => col_ite (F := F) (D := 1) (κ := .tc) (e := .f32) (sig := sig) (sp := .vmem) (t' := t') v (show (![0, 0, 16128] : Fin 3 → ℕ) = ![0, 0, 256 * 63] from rfl) ht', readAt_rows _ (show k0_off36 63#32 = ![0, 256 * 63, 0] from k0_off36_eq ⟨0, by decide⟩), readAt_rows _ (show k0_off36 64#32 = ![0, 256 * 63, 0] from k0_off36_eq ⟨1, by decide⟩), readAt_rows _ (show k0_off37 63#32 = ![0, 256 * 63, 0] from k0_off37_eq ⟨0, by decide⟩), readAt_rows _ (show k0_off37 64#32 = ![0, 256 * 63, 0] from k0_off37_eq ⟨1, by decide⟩), harg2.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64b, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, Nat.reduceAdd, Nat.reduceSub, Nat.reduceLT, (show min (64 : ℕ) 63 = 63 from rfl), hu, hkq, hdp, hpb, hds, hdk, hdv, hdfk, hdq, hdfq, k0, k1, d0, d1, p0, p1, s0, s1, upd_ap]
    all_goals try rfl
  case dfq =>
    intro u hu
    try simp only [View.readCov, View.writes_nil, readAt_slot 0 (by decide), readAt_slot 1 (by decide), readAt_whole2, read_writes_whole2, readAt_rows _ (show (![0, 15616, 0] : Fin 3 → ℕ) = ![0, 256 * 61, 0] from rfl), readAt_rows _ (show (![0, 15872, 0] : Fin 3 → ℕ) = ![0, 256 * 62, 0] from rfl), readAt_rows _ (show (![0, 16128, 0] : Fin 3 → ℕ) = ![0, 256 * 63, 0] from rfl), readAt_cols _ (show (![0, 0, 15616] : Fin 3 → ℕ) = ![0, 0, 256 * 61] from rfl), fun v t' ht' => col_ite (F := F) (D := 64) (κ := .tc) (e := .f32) (sig := sig) (sp := .vmem) (t' := t') v (show (![0, 0, 15616] : Fin 3 → ℕ) = ![0, 0, 256 * 61] from rfl) ht', fun v t' ht' => col_ite (F := F) (D := 1) (κ := .tc) (e := .f32) (sig := sig) (sp := .vmem) (t' := t') v (show (![0, 0, 15616] : Fin 3 → ℕ) = ![0, 0, 256 * 61] from rfl) ht', readAt_cols _ (show (![0, 0, 15872] : Fin 3 → ℕ) = ![0, 0, 256 * 62] from rfl), fun v t' ht' => col_ite (F := F) (D := 64) (κ := .tc) (e := .f32) (sig := sig) (sp := .vmem) (t' := t') v (show (![0, 0, 15872] : Fin 3 → ℕ) = ![0, 0, 256 * 62] from rfl) ht', fun v t' ht' => col_ite (F := F) (D := 1) (κ := .tc) (e := .f32) (sig := sig) (sp := .vmem) (t' := t') v (show (![0, 0, 15872] : Fin 3 → ℕ) = ![0, 0, 256 * 62] from rfl) ht', readAt_cols _ (show (![0, 0, 16128] : Fin 3 → ℕ) = ![0, 0, 256 * 63] from rfl), fun v t' ht' => col_ite (F := F) (D := 64) (κ := .tc) (e := .f32) (sig := sig) (sp := .vmem) (t' := t') v (show (![0, 0, 16128] : Fin 3 → ℕ) = ![0, 0, 256 * 63] from rfl) ht', fun v t' ht' => col_ite (F := F) (D := 1) (κ := .tc) (e := .f32) (sig := sig) (sp := .vmem) (t' := t') v (show (![0, 0, 16128] : Fin 3 → ℕ) = ![0, 0, 256 * 63] from rfl) ht', readAt_rows _ (show k0_off36 63#32 = ![0, 256 * 63, 0] from k0_off36_eq ⟨0, by decide⟩), readAt_rows _ (show k0_off36 64#32 = ![0, 256 * 63, 0] from k0_off36_eq ⟨1, by decide⟩), readAt_rows _ (show k0_off37 63#32 = ![0, 256 * 63, 0] from k0_off37_eq ⟨0, by decide⟩), readAt_rows _ (show k0_off37 64#32 = ![0, 256 * 63, 0] from k0_off37_eq ⟨1, by decide⟩), harg2.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64b, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, Nat.reduceAdd, Nat.reduceSub, Nat.reduceLT, (show min (64 : ℕ) 63 = 63 from rfl), hu]
    try simp only [if_pos, if_neg, reduceIte, Nat.reduceEqDiff, OfNat.ofNat_ne_zero, one_ne_zero, zero_ne_one, Nat.reduceAdd, Nat.reduceSub, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [hkq, hdp, hpb, hds, hdk, hdv, hdfk, hdq, hdfq, k0, k1, d0, d1, p0, p1, s0, s1, Nat.reduceLT, (show min (64 : ℕ) 63 = 63 from rfl), hu, if_pos, if_neg, reduceIte, Nat.reduceEqDiff, OfNat.ofNat_ne_zero, one_ne_zero, zero_ne_one, Nat.reduceAdd, Nat.reduceSub]
    try simp only [St.trip, St.pair, St.stage, St.products, St.accumulate, St.pointwise, St.head, upd_ap, Nat.reduceLT, (show min (64 : ℕ) 63 = 63 from rfl), hu, if_pos, if_neg, reduceIte, Nat.reduceEqDiff, OfNat.ofNat_ne_zero, one_ne_zero, zero_ne_one, Nat.reduceAdd, Nat.reduceSub]
    try simp only [View.readCov, View.writes_nil, readAt_slot 0 (by decide), readAt_slot 1 (by decide), readAt_whole2, read_writes_whole2, readAt_rows _ (show (![0, 15616, 0] : Fin 3 → ℕ) = ![0, 256 * 61, 0] from rfl), readAt_rows _ (show (![0, 15872, 0] : Fin 3 → ℕ) = ![0, 256 * 62, 0] from rfl), readAt_rows _ (show (![0, 16128, 0] : Fin 3 → ℕ) = ![0, 256 * 63, 0] from rfl), readAt_cols _ (show (![0, 0, 15616] : Fin 3 → ℕ) = ![0, 0, 256 * 61] from rfl), fun v t' ht' => col_ite (F := F) (D := 64) (κ := .tc) (e := .f32) (sig := sig) (sp := .vmem) (t' := t') v (show (![0, 0, 15616] : Fin 3 → ℕ) = ![0, 0, 256 * 61] from rfl) ht', fun v t' ht' => col_ite (F := F) (D := 1) (κ := .tc) (e := .f32) (sig := sig) (sp := .vmem) (t' := t') v (show (![0, 0, 15616] : Fin 3 → ℕ) = ![0, 0, 256 * 61] from rfl) ht', readAt_cols _ (show (![0, 0, 15872] : Fin 3 → ℕ) = ![0, 0, 256 * 62] from rfl), fun v t' ht' => col_ite (F := F) (D := 64) (κ := .tc) (e := .f32) (sig := sig) (sp := .vmem) (t' := t') v (show (![0, 0, 15872] : Fin 3 → ℕ) = ![0, 0, 256 * 62] from rfl) ht', fun v t' ht' => col_ite (F := F) (D := 1) (κ := .tc) (e := .f32) (sig := sig) (sp := .vmem) (t' := t') v (show (![0, 0, 15872] : Fin 3 → ℕ) = ![0, 0, 256 * 62] from rfl) ht', readAt_cols _ (show (![0, 0, 16128] : Fin 3 → ℕ) = ![0, 0, 256 * 63] from rfl), fun v t' ht' => col_ite (F := F) (D := 64) (κ := .tc) (e := .f32) (sig := sig) (sp := .vmem) (t' := t') v (show (![0, 0, 16128] : Fin 3 → ℕ) = ![0, 0, 256 * 63] from rfl) ht', fun v t' ht' => col_ite (F := F) (D := 1) (κ := .tc) (e := .f32) (sig := sig) (sp := .vmem) (t' := t') v (show (![0, 0, 16128] : Fin 3 → ℕ) = ![0, 0, 256 * 63] from rfl) ht', readAt_rows _ (show k0_off36 63#32 = ![0, 256 * 63, 0] from k0_off36_eq ⟨0, by decide⟩), readAt_rows _ (show k0_off36 64#32 = ![0, 256 * 63, 0] from k0_off36_eq ⟨1, by decide⟩), readAt_rows _ (show k0_off37 63#32 = ![0, 256 * 63, 0] from k0_off37_eq ⟨0, by decide⟩), readAt_rows _ (show k0_off37 64#32 = ![0, 256 * 63, 0] from k0_off37_eq ⟨1, by decide⟩), harg2.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64b, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, Nat.reduceAdd, Nat.reduceSub, Nat.reduceLT, (show min (64 : ℕ) 63 = 63 from rfl), hu, hkq, hdp, hpb, hds, hdk, hdv, hdfk, hdq, hdfq, k0, k1, d0, d1, p0, p1, s0, s1, upd_ap]
    all_goals try rfl
  case dk =>
    intro f
    try simp only [View.readCov, View.writes_nil, readAt_slot 0 (by decide), readAt_slot 1 (by decide), readAt_whole2, read_writes_whole2, readAt_rows _ (show (![0, 15616, 0] : Fin 3 → ℕ) = ![0, 256 * 61, 0] from rfl), readAt_rows _ (show (![0, 15872, 0] : Fin 3 → ℕ) = ![0, 256 * 62, 0] from rfl), readAt_rows _ (show (![0, 16128, 0] : Fin 3 → ℕ) = ![0, 256 * 63, 0] from rfl), readAt_cols _ (show (![0, 0, 15616] : Fin 3 → ℕ) = ![0, 0, 256 * 61] from rfl), fun v t' ht' => col_ite (F := F) (D := 64) (κ := .tc) (e := .f32) (sig := sig) (sp := .vmem) (t' := t') v (show (![0, 0, 15616] : Fin 3 → ℕ) = ![0, 0, 256 * 61] from rfl) ht', fun v t' ht' => col_ite (F := F) (D := 1) (κ := .tc) (e := .f32) (sig := sig) (sp := .vmem) (t' := t') v (show (![0, 0, 15616] : Fin 3 → ℕ) = ![0, 0, 256 * 61] from rfl) ht', readAt_cols _ (show (![0, 0, 15872] : Fin 3 → ℕ) = ![0, 0, 256 * 62] from rfl), fun v t' ht' => col_ite (F := F) (D := 64) (κ := .tc) (e := .f32) (sig := sig) (sp := .vmem) (t' := t') v (show (![0, 0, 15872] : Fin 3 → ℕ) = ![0, 0, 256 * 62] from rfl) ht', fun v t' ht' => col_ite (F := F) (D := 1) (κ := .tc) (e := .f32) (sig := sig) (sp := .vmem) (t' := t') v (show (![0, 0, 15872] : Fin 3 → ℕ) = ![0, 0, 256 * 62] from rfl) ht', readAt_cols _ (show (![0, 0, 16128] : Fin 3 → ℕ) = ![0, 0, 256 * 63] from rfl), fun v t' ht' => col_ite (F := F) (D := 64) (κ := .tc) (e := .f32) (sig := sig) (sp := .vmem) (t' := t') v (show (![0, 0, 16128] : Fin 3 → ℕ) = ![0, 0, 256 * 63] from rfl) ht', fun v t' ht' => col_ite (F := F) (D := 1) (κ := .tc) (e := .f32) (sig := sig) (sp := .vmem) (t' := t') v (show (![0, 0, 16128] : Fin 3 → ℕ) = ![0, 0, 256 * 63] from rfl) ht', readAt_rows _ (show k0_off36 63#32 = ![0, 256 * 63, 0] from k0_off36_eq ⟨0, by decide⟩), readAt_rows _ (show k0_off36 64#32 = ![0, 256 * 63, 0] from k0_off36_eq ⟨1, by decide⟩), readAt_rows _ (show k0_off37 63#32 = ![0, 256 * 63, 0] from k0_off37_eq ⟨0, by decide⟩), readAt_rows _ (show k0_off37 64#32 = ![0, 256 * 63, 0] from k0_off37_eq ⟨1, by decide⟩), harg2.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64b, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, Nat.reduceAdd, Nat.reduceSub, Nat.reduceLT, (show min (64 : ℕ) 63 = 63 from rfl)]
    try simp only [if_pos, if_neg, reduceIte, Nat.reduceEqDiff, OfNat.ofNat_ne_zero, one_ne_zero, zero_ne_one, Nat.reduceAdd, Nat.reduceSub, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [hkq, hdp, hpb, hds, hdk, hdv, hdfk, hdq, hdfq, k0, k1, d0, d1, p0, p1, s0, s1, Nat.reduceLT, (show min (64 : ℕ) 63 = 63 from rfl), if_pos, if_neg, reduceIte, Nat.reduceEqDiff, OfNat.ofNat_ne_zero, one_ne_zero, zero_ne_one, Nat.reduceAdd, Nat.reduceSub]
    try simp only [St.trip, St.pair, St.stage, St.products, St.accumulate, St.pointwise, St.head, upd_ap, Nat.reduceLT, (show min (64 : ℕ) 63 = 63 from rfl), if_pos, if_neg, reduceIte, Nat.reduceEqDiff, OfNat.ofNat_ne_zero, one_ne_zero, zero_ne_one, Nat.reduceAdd, Nat.reduceSub]
    try simp only [View.readCov, View.writes_nil, readAt_slot 0 (by decide), readAt_slot 1 (by decide), readAt_whole2, read_writes_whole2, readAt_rows _ (show (![0, 15616, 0] : Fin 3 → ℕ) = ![0, 256 * 61, 0] from rfl), readAt_rows _ (show (![0, 15872, 0] : Fin 3 → ℕ) = ![0, 256 * 62, 0] from rfl), readAt_rows _ (show (![0, 16128, 0] : Fin 3 → ℕ) = ![0, 256 * 63, 0] from rfl), readAt_cols _ (show (![0, 0, 15616] : Fin 3 → ℕ) = ![0, 0, 256 * 61] from rfl), fun v t' ht' => col_ite (F := F) (D := 64) (κ := .tc) (e := .f32) (sig := sig) (sp := .vmem) (t' := t') v (show (![0, 0, 15616] : Fin 3 → ℕ) = ![0, 0, 256 * 61] from rfl) ht', fun v t' ht' => col_ite (F := F) (D := 1) (κ := .tc) (e := .f32) (sig := sig) (sp := .vmem) (t' := t') v (show (![0, 0, 15616] : Fin 3 → ℕ) = ![0, 0, 256 * 61] from rfl) ht', readAt_cols _ (show (![0, 0, 15872] : Fin 3 → ℕ) = ![0, 0, 256 * 62] from rfl), fun v t' ht' => col_ite (F := F) (D := 64) (κ := .tc) (e := .f32) (sig := sig) (sp := .vmem) (t' := t') v (show (![0, 0, 15872] : Fin 3 → ℕ) = ![0, 0, 256 * 62] from rfl) ht', fun v t' ht' => col_ite (F := F) (D := 1) (κ := .tc) (e := .f32) (sig := sig) (sp := .vmem) (t' := t') v (show (![0, 0, 15872] : Fin 3 → ℕ) = ![0, 0, 256 * 62] from rfl) ht', readAt_cols _ (show (![0, 0, 16128] : Fin 3 → ℕ) = ![0, 0, 256 * 63] from rfl), fun v t' ht' => col_ite (F := F) (D := 64) (κ := .tc) (e := .f32) (sig := sig) (sp := .vmem) (t' := t') v (show (![0, 0, 16128] : Fin 3 → ℕ) = ![0, 0, 256 * 63] from rfl) ht', fun v t' ht' => col_ite (F := F) (D := 1) (κ := .tc) (e := .f32) (sig := sig) (sp := .vmem) (t' := t') v (show (![0, 0, 16128] : Fin 3 → ℕ) = ![0, 0, 256 * 63] from rfl) ht', readAt_rows _ (show k0_off36 63#32 = ![0, 256 * 63, 0] from k0_off36_eq ⟨0, by decide⟩), readAt_rows _ (show k0_off36 64#32 = ![0, 256 * 63, 0] from k0_off36_eq ⟨1, by decide⟩), readAt_rows _ (show k0_off37 63#32 = ![0, 256 * 63, 0] from k0_off37_eq ⟨0, by decide⟩), readAt_rows _ (show k0_off37 64#32 = ![0, 256 * 63, 0] from k0_off37_eq ⟨1, by decide⟩), harg2.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64b, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, Nat.reduceAdd, Nat.reduceSub, Nat.reduceLT, (show min (64 : ℕ) 63 = 63 from rfl), hkq, hdp, hpb, hds, hdk, hdv, hdfk, hdq, hdfq, k0, k1, d0, d1, p0, p1, s0, s1, upd_ap]
    all_goals try rfl
  case dv =>
    intro f
    try simp only [View.readCov, View.writes_nil, readAt_slot 0 (by decide), readAt_slot 1 (by decide), readAt_whole2, read_writes_whole2, readAt_rows _ (show (![0, 15616, 0] : Fin 3 → ℕ) = ![0, 256 * 61, 0] from rfl), readAt_rows _ (show (![0, 15872, 0] : Fin 3 → ℕ) = ![0, 256 * 62, 0] from rfl), readAt_rows _ (show (![0, 16128, 0] : Fin 3 → ℕ) = ![0, 256 * 63, 0] from rfl), readAt_cols _ (show (![0, 0, 15616] : Fin 3 → ℕ) = ![0, 0, 256 * 61] from rfl), fun v t' ht' => col_ite (F := F) (D := 64) (κ := .tc) (e := .f32) (sig := sig) (sp := .vmem) (t' := t') v (show (![0, 0, 15616] : Fin 3 → ℕ) = ![0, 0, 256 * 61] from rfl) ht', fun v t' ht' => col_ite (F := F) (D := 1) (κ := .tc) (e := .f32) (sig := sig) (sp := .vmem) (t' := t') v (show (![0, 0, 15616] : Fin 3 → ℕ) = ![0, 0, 256 * 61] from rfl) ht', readAt_cols _ (show (![0, 0, 15872] : Fin 3 → ℕ) = ![0, 0, 256 * 62] from rfl), fun v t' ht' => col_ite (F := F) (D := 64) (κ := .tc) (e := .f32) (sig := sig) (sp := .vmem) (t' := t') v (show (![0, 0, 15872] : Fin 3 → ℕ) = ![0, 0, 256 * 62] from rfl) ht', fun v t' ht' => col_ite (F := F) (D := 1) (κ := .tc) (e := .f32) (sig := sig) (sp := .vmem) (t' := t') v (show (![0, 0, 15872] : Fin 3 → ℕ) = ![0, 0, 256 * 62] from rfl) ht', readAt_cols _ (show (![0, 0, 16128] : Fin 3 → ℕ) = ![0, 0, 256 * 63] from rfl), fun v t' ht' => col_ite (F := F) (D := 64) (κ := .tc) (e := .f32) (sig := sig) (sp := .vmem) (t' := t') v (show (![0, 0, 16128] : Fin 3 → ℕ) = ![0, 0, 256 * 63] from rfl) ht', fun v t' ht' => col_ite (F := F) (D := 1) (κ := .tc) (e := .f32) (sig := sig) (sp := .vmem) (t' := t') v (show (![0, 0, 16128] : Fin 3 → ℕ) = ![0, 0, 256 * 63] from rfl) ht', readAt_rows _ (show k0_off36 63#32 = ![0, 256 * 63, 0] from k0_off36_eq ⟨0, by decide⟩), readAt_rows _ (show k0_off36 64#32 = ![0, 256 * 63, 0] from k0_off36_eq ⟨1, by decide⟩), readAt_rows _ (show k0_off37 63#32 = ![0, 256 * 63, 0] from k0_off37_eq ⟨0, by decide⟩), readAt_rows _ (show k0_off37 64#32 = ![0, 256 * 63, 0] from k0_off37_eq ⟨1, by decide⟩), harg2.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64b, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, Nat.reduceAdd, Nat.reduceSub, Nat.reduceLT, (show min (64 : ℕ) 63 = 63 from rfl)]
    try simp only [if_pos, if_neg, reduceIte, Nat.reduceEqDiff, OfNat.ofNat_ne_zero, one_ne_zero, zero_ne_one, Nat.reduceAdd, Nat.reduceSub, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [hkq, hdp, hpb, hds, hdk, hdv, hdfk, hdq, hdfq, k0, k1, d0, d1, p0, p1, s0, s1, Nat.reduceLT, (show min (64 : ℕ) 63 = 63 from rfl), if_pos, if_neg, reduceIte, Nat.reduceEqDiff, OfNat.ofNat_ne_zero, one_ne_zero, zero_ne_one, Nat.reduceAdd, Nat.reduceSub]
    try simp only [St.trip, St.pair, St.stage, St.products, St.accumulate, St.pointwise, St.head, upd_ap, Nat.reduceLT, (show min (64 : ℕ) 63 = 63 from rfl), if_pos, if_neg, reduceIte, Nat.reduceEqDiff, OfNat.ofNat_ne_zero, one_ne_zero, zero_ne_one, Nat.reduceAdd, Nat.reduceSub]
    try simp only [View.readCov, View.writes_nil, readAt_slot 0 (by decide), readAt_slot 1 (by decide), readAt_whole2, read_writes_whole2, readAt_rows _ (show (![0, 15616, 0] : Fin 3 → ℕ) = ![0, 256 * 61, 0] from rfl), readAt_rows _ (show (![0, 15872, 0] : Fin 3 → ℕ) = ![0, 256 * 62, 0] from rfl), readAt_rows _ (show (![0, 16128, 0] : Fin 3 → ℕ) = ![0, 256 * 63, 0] from rfl), readAt_cols _ (show (![0, 0, 15616] : Fin 3 → ℕ) = ![0, 0, 256 * 61] from rfl), fun v t' ht' => col_ite (F := F) (D := 64) (κ := .tc) (e := .f32) (sig := sig) (sp := .vmem) (t' := t') v (show (![0, 0, 15616] : Fin 3 → ℕ) = ![0, 0, 256 * 61] from rfl) ht', fun v t' ht' => col_ite (F := F) (D := 1) (κ := .tc) (e := .f32) (sig := sig) (sp := .vmem) (t' := t') v (show (![0, 0, 15616] : Fin 3 → ℕ) = ![0, 0, 256 * 61] from rfl) ht', readAt_cols _ (show (![0, 0, 15872] : Fin 3 → ℕ) = ![0, 0, 256 * 62] from rfl), fun v t' ht' => col_ite (F := F) (D := 64) (κ := .tc) (e := .f32) (sig := sig) (sp := .vmem) (t' := t') v (show (![0, 0, 15872] : Fin 3 → ℕ) = ![0, 0, 256 * 62] from rfl) ht', fun v t' ht' => col_ite (F := F) (D := 1) (κ := .tc) (e := .f32) (sig := sig) (sp := .vmem) (t' := t') v (show (![0, 0, 15872] : Fin 3 → ℕ) = ![0, 0, 256 * 62] from rfl) ht', readAt_cols _ (show (![0, 0, 16128] : Fin 3 → ℕ) = ![0, 0, 256 * 63] from rfl), fun v t' ht' => col_ite (F := F) (D := 64) (κ := .tc) (e := .f32) (sig := sig) (sp := .vmem) (t' := t') v (show (![0, 0, 16128] : Fin 3 → ℕ) = ![0, 0, 256 * 63] from rfl) ht', fun v t' ht' => col_ite (F := F) (D := 1) (κ := .tc) (e := .f32) (sig := sig) (sp := .vmem) (t' := t') v (show (![0, 0, 16128] : Fin 3 → ℕ) = ![0, 0, 256 * 63] from rfl) ht', readAt_rows _ (show k0_off36 63#32 = ![0, 256 * 63, 0] from k0_off36_eq ⟨0, by decide⟩), readAt_rows _ (show k0_off36 64#32 = ![0, 256 * 63, 0] from k0_off36_eq ⟨1, by decide⟩), readAt_rows _ (show k0_off37 63#32 = ![0, 256 * 63, 0] from k0_off37_eq ⟨0, by decide⟩), readAt_rows _ (show k0_off37 64#32 = ![0, 256 * 63, 0] from k0_off37_eq ⟨1, by decide⟩), harg2.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64b, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, Nat.reduceAdd, Nat.reduceSub, Nat.reduceLT, (show min (64 : ℕ) 63 = 63 from rfl), hkq, hdp, hpb, hds, hdk, hdv, hdfk, hdq, hdfq, k0, k1, d0, d1, p0, p1, s0, s1, upd_ap]
    all_goals try rfl
  case dfk =>
    intro f
    try simp only [View.readCov, View.writes_nil, readAt_slot 0 (by decide), readAt_slot 1 (by decide), readAt_whole2, read_writes_whole2, readAt_rows _ (show (![0, 15616, 0] : Fin 3 → ℕ) = ![0, 256 * 61, 0] from rfl), readAt_rows _ (show (![0, 15872, 0] : Fin 3 → ℕ) = ![0, 256 * 62, 0] from rfl), readAt_rows _ (show (![0, 16128, 0] : Fin 3 → ℕ) = ![0, 256 * 63, 0] from rfl), readAt_cols _ (show (![0, 0, 15616] : Fin 3 → ℕ) = ![0, 0, 256 * 61] from rfl), fun v t' ht' => col_ite (F := F) (D := 64) (κ := .tc) (e := .f32) (sig := sig) (sp := .vmem) (t' := t') v (show (![0, 0, 15616] : Fin 3 → ℕ) = ![0, 0, 256 * 61] from rfl) ht', fun v t' ht' => col_ite (F := F) (D := 1) (κ := .tc) (e := .f32) (sig := sig) (sp := .vmem) (t' := t') v (show (![0, 0, 15616] : Fin 3 → ℕ) = ![0, 0, 256 * 61] from rfl) ht', readAt_cols _ (show (![0, 0, 15872] : Fin 3 → ℕ) = ![0, 0, 256 * 62] from rfl), fun v t' ht' => col_ite (F := F) (D := 64) (κ := .tc) (e := .f32) (sig := sig) (sp := .vmem) (t' := t') v (show (![0, 0, 15872] : Fin 3 → ℕ) = ![0, 0, 256 * 62] from rfl) ht', fun v t' ht' => col_ite (F := F) (D := 1) (κ := .tc) (e := .f32) (sig := sig) (sp := .vmem) (t' := t') v (show (![0, 0, 15872] : Fin 3 → ℕ) = ![0, 0, 256 * 62] from rfl) ht', readAt_cols _ (show (![0, 0, 16128] : Fin 3 → ℕ) = ![0, 0, 256 * 63] from rfl), fun v t' ht' => col_ite (F := F) (D := 64) (κ := .tc) (e := .f32) (sig := sig) (sp := .vmem) (t' := t') v (show (![0, 0, 16128] : Fin 3 → ℕ) = ![0, 0, 256 * 63] from rfl) ht', fun v t' ht' => col_ite (F := F) (D := 1) (κ := .tc) (e := .f32) (sig := sig) (sp := .vmem) (t' := t') v (show (![0, 0, 16128] : Fin 3 → ℕ) = ![0, 0, 256 * 63] from rfl) ht', readAt_rows _ (show k0_off36 63#32 = ![0, 256 * 63, 0] from k0_off36_eq ⟨0, by decide⟩), readAt_rows _ (show k0_off36 64#32 = ![0, 256 * 63, 0] from k0_off36_eq ⟨1, by decide⟩), readAt_rows _ (show k0_off37 63#32 = ![0, 256 * 63, 0] from k0_off37_eq ⟨0, by decide⟩), readAt_rows _ (show k0_off37 64#32 = ![0, 256 * 63, 0] from k0_off37_eq ⟨1, by decide⟩), harg2.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64b, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, Nat.reduceAdd, Nat.reduceSub, Nat.reduceLT, (show min (64 : ℕ) 63 = 63 from rfl)]
    try simp only [if_pos, if_neg, reduceIte, Nat.reduceEqDiff, OfNat.ofNat_ne_zero, one_ne_zero, zero_ne_one, Nat.reduceAdd, Nat.reduceSub, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [hkq, hdp, hpb, hds, hdk, hdv, hdfk, hdq, hdfq, k0, k1, d0, d1, p0, p1, s0, s1, Nat.reduceLT, (show min (64 : ℕ) 63 = 63 from rfl), if_pos, if_neg, reduceIte, Nat.reduceEqDiff, OfNat.ofNat_ne_zero, one_ne_zero, zero_ne_one, Nat.reduceAdd, Nat.reduceSub]
    try simp only [St.trip, St.pair, St.stage, St.products, St.accumulate, St.pointwise, St.head, upd_ap, Nat.reduceLT, (show min (64 : ℕ) 63 = 63 from rfl), if_pos, if_neg, reduceIte, Nat.reduceEqDiff, OfNat.ofNat_ne_zero, one_ne_zero, zero_ne_one, Nat.reduceAdd, Nat.reduceSub]
    try simp only [View.readCov, View.writes_nil, readAt_slot 0 (by decide), readAt_slot 1 (by decide), readAt_whole2, read_writes_whole2, readAt_rows _ (show (![0, 15616, 0] : Fin 3 → ℕ) = ![0, 256 * 61, 0] from rfl), readAt_rows _ (show (![0, 15872, 0] : Fin 3 → ℕ) = ![0, 256 * 62, 0] from rfl), readAt_rows _ (show (![0, 16128, 0] : Fin 3 → ℕ) = ![0, 256 * 63, 0] from rfl), readAt_cols _ (show (![0, 0, 15616] : Fin 3 → ℕ) = ![0, 0, 256 * 61] from rfl), fun v t' ht' => col_ite (F := F) (D := 64) (κ := .tc) (e := .f32) (sig := sig) (sp := .vmem) (t' := t') v (show (![0, 0, 15616] : Fin 3 → ℕ) = ![0, 0, 256 * 61] from rfl) ht', fun v t' ht' => col_ite (F := F) (D := 1) (κ := .tc) (e := .f32) (sig := sig) (sp := .vmem) (t' := t') v (show (![0, 0, 15616] : Fin 3 → ℕ) = ![0, 0, 256 * 61] from rfl) ht', readAt_cols _ (show (![0, 0, 15872] : Fin 3 → ℕ) = ![0, 0, 256 * 62] from rfl), fun v t' ht' => col_ite (F := F) (D := 64) (κ := .tc) (e := .f32) (sig := sig) (sp := .vmem) (t' := t') v (show (![0, 0, 15872] : Fin 3 → ℕ) = ![0, 0, 256 * 62] from rfl) ht', fun v t' ht' => col_ite (F := F) (D := 1) (κ := .tc) (e := .f32) (sig := sig) (sp := .vmem) (t' := t') v (show (![0, 0, 15872] : Fin 3 → ℕ) = ![0, 0, 256 * 62] from rfl) ht', readAt_cols _ (show (![0, 0, 16128] : Fin 3 → ℕ) = ![0, 0, 256 * 63] from rfl), fun v t' ht' => col_ite (F := F) (D := 64) (κ := .tc) (e := .f32) (sig := sig) (sp := .vmem) (t' := t') v (show (![0, 0, 16128] : Fin 3 → ℕ) = ![0, 0, 256 * 63] from rfl) ht', fun v t' ht' => col_ite (F := F) (D := 1) (κ := .tc) (e := .f32) (sig := sig) (sp := .vmem) (t' := t') v (show (![0, 0, 16128] : Fin 3 → ℕ) = ![0, 0, 256 * 63] from rfl) ht', readAt_rows _ (show k0_off36 63#32 = ![0, 256 * 63, 0] from k0_off36_eq ⟨0, by decide⟩), readAt_rows _ (show k0_off36 64#32 = ![0, 256 * 63, 0] from k0_off36_eq ⟨1, by decide⟩), readAt_rows _ (show k0_off37 63#32 = ![0, 256 * 63, 0] from k0_off37_eq ⟨0, by decide⟩), readAt_rows _ (show k0_off37 64#32 = ![0, 256 * 63, 0] from k0_off37_eq ⟨1, by decide⟩), harg2.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64b, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, Nat.reduceAdd, Nat.reduceSub, Nat.reduceLT, (show min (64 : ℕ) 63 = 63 from rfl), hkq, hdp, hpb, hds, hdk, hdv, hdfk, hdq, hdfq, k0, k1, d0, d1, p0, p1, s0, s1, upd_ap]
    all_goals try rfl

end Cert.KernelIdeal.Gen

end
-- ==== Proof.StepTailA.lean ====
/- What comes after the loop, in memory. -/
module

public import proofs.«01_k».proof.Proof.TailStateA
public import proofs.«01_k».proof.Proof.Held

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox

variable {F : FTy → Type} [FloatOps F] [Named F]

local notation "𝕄" => MT nD τ sig Unit (Elt F) ℕ (UR sig nD τ) ℕ

/-- What comes after the loop adds the last tile and leaves the results of the block. -/
theorem tailA_wp (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (I : Ins F) (hc : k0_cond2 i = 1#1) (s : St F) (E : Set ℕ) (K : PUnit → sProp 𝕄) :
    iprop(Look c arg2 arg6 arg7 arg8 I ∗ Held c arg9 arg13 arg14 arg15 arg16 arg17 arg18 arg19 arg20 s ∗ (∃ d, owns (c : Thread nD τ) arg10 fullShare d) ∗ (∃ d, owns (c : Thread nD τ) arg11 fullShare d) ∗ (∃ d, owns (c : Thread nD τ) arg12 fullShare d)
      ∗ ((Look c arg2 arg6 arg7 arg8 I ∗ Done c arg9 arg10 arg11 arg12 arg13 ((s.pair I 62).accumulate I 63 1) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.kA I.kT I.vA) K := by
  unfold Look Held Done
  iintro ⟨⟨H2, H6, H7, H8⟩, ⟨%x9, %x13, %x14, %x15, %x16, %x17, %x18, %x19, %x20, %hrel, H9, H13, H14, H15, H16, H17, H18, H19, H20⟩, H10, H11, H12, Hk⟩
  obtain ⟨kdq, kdfq, kdk, kdv, kdfk⟩ := tailRunA_rel c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.kA I.kT I.vA hc I.q I.g I.lse I.dl x9 x13 x14 x15 x16 x17 x18 x19 x20 s hrel
  have run := (tailRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.kA I.kT I.vA hc I.q I.g I.lse I.dl x9 x13 x14 x15 x16 x17 x18 x19 x20).2.2.2.2.2.2.2.2.2.2.2.2 E K
  iapply run
  isplitl [H2]; · iexact H2
  isplitl [H6]; · iexact H6
  isplitl [H7]; · iexact H7
  isplitl [H8]; · iexact H8
  isplitl [H9]; · iexact H9
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H10]; · iexact H10
  isplitl [H11]; · iexact H11
  isplitl [H12]; · iexact H12
  iintro ⟨H2, H6, H7, H8, H9, H13, H14, H15, H16, H17, H18, H19, H20, ⟨%f10, H10⟩, ⟨%f11, H11⟩, ⟨%f12, H12⟩⟩
  ihave H9 := (owns_read c arg9 _) $$ H9
  ihave H13 := (owns_read c arg13 _) $$ H13
  ihave H14 := (owns_read c arg14 _) $$ H14
  ihave H15 := (owns_read c arg15 _) $$ H15
  ihave H16 := (owns_read c arg16 _) $$ H16
  ihave H17 := (owns_read c arg17 _) $$ H17
  ihave H18 := (owns_read c arg18 _) $$ H18
  ihave H19 := (owns_read c arg19 _) $$ H19
  ihave H20 := (owns_read c arg20 _) $$ H20
  ihave H10 := (owns_eq c arg10 _ _ (kdk f10)) $$ H10
  ihave H11 := (owns_eq c arg11 _ _ (kdv f11)) $$ H11
  ihave H12 := (owns_eq c arg12 _ _ (kdfk f12)) $$ H12
  iapply Hk
  isplitl [H2 H6 H7 H8]
  · isplitl [H2]; · iexact H2
    isplitl [H6]; · iexact H6
    isplitl [H7]; · iexact H7
    iexact H8
  isplitl [H9 H10 H11 H12 H13]
  · iexists _
    iexists _
    isplitr; · ipureintro; exact ⟨kdq, kdfq⟩
    isplitl [H9]; · iexact H9
    isplitl [H13]; · iexact H13
    isplitl [H10]; · iexact H10
    isplitl [H11]; · iexact H11
    iexact H12
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  iexists _; iexact H20

end Cert.KernelIdeal.Gen

end
-- ==== Proof.TailEven.lean ====
/- After the loop, when no pair of tiles is left over. -/
module

public import proofs.«01_k».proof.Proof.Split
public import proofs.«01_k».proof.Proof.Gen.KernelIdeal.Frame
public import Idealize.ShloMosaic.Lib.Exec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- After the loop, when no pair of tiles is left over. -/
noncomputable def tailRunB (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (v4 : FVec F S512x80 .bf16) (v6 : FVec F S64x512 .bf16) (v8 : FVec F S512x64 .bf16) (hc : ¬ k0_cond2 i = 1#1)
    (x2 : Vec F S1x16384x80 .bf16) (x6 : Vec F S1x16384x64 .bf16) (x7 : Vec F S1x1x16384 .f32) (x8 : Vec F S1x1x16384 .f32) (x13 : Vec F S1x1x16384 .f32) (x14 : Vec F S2x512x256 .f32) (x15 : Vec F S2x512x256 .f32) (x16 : Vec F S2x512x256 .bf16) (x17 : Vec F S2x512x256 .bf16) (x20 : Vec F S512x1 .f32) (x9 : Vec F S1x64x16384 .f32) (x18 : Vec F S512x80 .f32) (x19 : Vec F S512x64 .f32) :
    Σ' (L9 : List (View.Piece (Elt F) S1x64x16384 .f32)), Σ' (L18 : List (View.Piece (Elt F) S512x80 .f32)), Σ' (L19 : List (View.Piece (Elt F) S512x64 .f32)), Σ' (L10 : List (View.Piece (Elt F) S1x512x64 .f32)), Σ' (L11 : List (View.Piece (Elt F) S1x512x64 .f32)), { L12 : List (View.Piece (Elt F) S1x1x512 .f32) //
      ∀ (E : Set ℕ) (K : PUnit → sProp 𝕄),
        iprop(owns (c : Thread nD τ) arg2 fullShare x2 ∗ owns (c : Thread nD τ) arg6 fullShare x6 ∗ owns (c : Thread nD τ) arg7 fullShare x7 ∗ owns (c : Thread nD τ) arg8 fullShare x8 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg20 fullShare x20 ∗ owns (c : Thread nD τ) arg9 fullShare x9 ∗ owns (c : Thread nD τ) arg18 fullShare x18 ∗ owns (c : Thread nD τ) arg19 fullShare x19 ∗ (∃ d, owns (c : Thread nD τ) arg10 fullShare d) ∗ (∃ d, owns (c : Thread nD τ) arg11 fullShare d) ∗ (∃ d, owns (c : Thread nD τ) arg12 fullShare d) ∗ ((owns (c : Thread nD τ) arg2 fullShare x2 ∗ owns (c : Thread nD τ) arg6 fullShare x6 ∗ owns (c : Thread nD τ) arg7 fullShare x7 ∗ owns (c : Thread nD τ) arg8 fullShare x8 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg20 fullShare x20 ∗ (arg9.view.loc (c : Thread nD τ) ↦[arg9.view.set]{fullShare} arg9.view.writes (Elt F) (harg9.unread x9) L9) ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
      ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v6 v8) K } := by
  refine ⟨?_, ?_, ?_, ?_, ?_, ?_, fun E K => ?run⟩
  case run =>
    unfold tailProg tailProg0
    simp only [k0_part38_eq_skeleton]
    unfold owns
    iintro ⟨⟨%f2, %hf2, H2⟩, ⟨%f6, %hf6, H6⟩, ⟨%f7, %hf7, H7⟩, ⟨%f8, %hf8, H8⟩, ⟨%f13, %hf13, H13⟩, ⟨%f14, %hf14, H14⟩, ⟨%f15, %hf15, H15⟩, ⟨%f16, %hf16, H16⟩, ⟨%f17, %hf17, H17⟩, ⟨%f20, %hf20, H20⟩, ⟨%f9, %hf9, H9⟩, ⟨%f18, %hf18, H18⟩, ⟨%f19, %hf19, H19⟩, ⟨%d10, %f10, -, H10⟩, ⟨%d11, %f11, -, H11⟩, ⟨%d12, %f12, -, H12⟩, Hk⟩
    obtain rfl := harg2.eq_unread hf2; obtain rfl := harg6.eq_unread hf6; obtain rfl := harg7.eq_unread hf7; obtain rfl := harg8.eq_unread hf8; obtain rfl := harg13.eq_unread hf13; obtain rfl := harg14.eq_unread hf14; obtain rfl := harg15.eq_unread hf15; obtain rfl := harg16.eq_unread hf16; obtain rfl := harg17.eq_unread hf17; obtain rfl := harg20.eq_unread hf20; obtain rfl := harg9.eq_unread hf9; obtain rfl := harg18.eq_unread hf18; obtain rfl := harg19.eq_unread hf19
    sl_exec (disch := first | sl_exact hc)
    sl_step
    iapply Hk
    isplitl [H2]
    · iexists _; isplitr; · ipureintro; exact harg2.read_unread _
      iexact H2
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H20]
    · iexists _; isplitr; · ipureintro; exact harg20.read_unread _
      iexact H20
    isplitl [H9]; · iexact H9
    isplitl [H18]; · iexact H18
    isplitl [H19]; · iexact H19
    isplitl [H10]; · iexists _; iexact H10
    isplitl [H11]; · iexists _; iexact H11
    iexists _; iexact H12

end Cert.KernelIdeal.Gen

end
-- ==== Proof.TailStateB.lean ====
/- What comes after the loop: the last sums, and the results of the block. -/
module

public import proofs.«01_k».proof.Proof.TailEven
public import proofs.«01_k».proof.Proof.Steps
public import proofs.«01_k».proof.Proof.Reads

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox

variable {F : FTy → Type} [FloatOps F] [Named F]

local notation "𝕄" => MT nD τ sig Unit (Elt F) ℕ (UR sig nD τ) ℕ

set_option backward.isDefEq.respectTransparency.types false in
set_option maxHeartbeats 4000000 in
/-- What the stores after the loop leave. -/
theorem tailRunB_rel (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (v4 : FVec F S512x80 .bf16) (v6 : FVec F S64x512 .bf16) (v8 : FVec F S512x64 .bf16) (hc : ¬ k0_cond2 i = 1#1) (x2 : Vec F S1x16384x80 .bf16) (x6 : Vec F S1x16384x64 .bf16) (x7 : Vec F S1x1x16384 .f32) (x8 : Vec F S1x1x16384 .f32) (x13 : Vec F S1x1x16384 .f32) (x14 : Vec F S2x512x256 .f32) (x15 : Vec F S2x512x256 .f32) (x16 : Vec F S2x512x256 .bf16) (x17 : Vec F S2x512x256 .bf16) (x20 : Vec F S512x1 .f32) (x9 : Vec F S1x64x16384 .f32) (x18 : Vec F S512x80 .f32) (x19 : Vec F S512x64 .f32) (s : St F) (h : Rel s x9 x13 x14 x15 x16 x17 x18 x19 x20) :
    (∀ u, u < 64 → colTile (F := F) (arg9.view.read (Elt F) (arg9.view.writes (Elt F) (harg9.unread x9) (tailRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v6 v8 hc x2 x6 x7 x8 x13 x14 x15 x16 x17 x20 x9 x18 x19).1)) u = (s.accumulate ⟨v4, v6, v8, x2, x6, x7, x8⟩ 63 1).dq u)
    ∧ (∀ u, u < 64 → colTile (F := F) x13 u = (s.accumulate ⟨v4, v6, v8, x2, x6, x7, x8⟩ 63 1).dfq u)
    ∧ (∀ f, (arg10.view.read (Elt F) (arg10.view.writes (Elt F) f (tailRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v6 v8 hc x2 x6 x7 x8 x13 x14 x15 x16 x17 x20 x9 x18 x19).2.2.2.1)) = k0_pay174 (left64b (F := F) (s.accumulate ⟨v4, v6, v8, x2, x6, x7, x8⟩ 63 1).dk))
    ∧ (∀ f, (arg11.view.read (Elt F) (arg11.view.writes (Elt F) f (tailRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v6 v8 hc x2 x6 x7 x8 x13 x14 x15 x16 x17 x20 x9 x18 x19).2.2.2.2.1)) = k0_pay175 (s.accumulate ⟨v4, v6, v8, x2, x6, x7, x8⟩ 63 1).dv)
    ∧ (∀ f, (arg12.view.read (Elt F) (arg12.view.writes (Elt F) f (tailRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v6 v8 hc x2 x6 x7 x8 x13 x14 x15 x16 x17 x20 x9 x18 x19).2.2.2.2.2.1)) = k0_pay1 (k0_pay176 (s.accumulate ⟨v4, v6, v8, x2, x6, x7, x8⟩ 63 1).dfk)) := by
  obtain ⟨hkq, hdp, hpb, hds, hdk, hdv, hdfk, hdq, hdfq⟩ := h
  have k0 := hkq 0 (by decide)
  have k1 := hkq 1 (by decide)
  have d0 := hdp 0 (by decide)
  have d1 := hdp 1 (by decide)
  have p0 := hpb 0 (by decide)
  have p1 := hpb 1 (by decide)
  have s0 := hds 0 (by decide)
  have s1 := hds 1 (by decide)
  refine ⟨?dq, ?dfq, ?dk, ?dv, ?dfk⟩
  case dq =>
    intro u hu
    simp only [tailRunB, tailRunB.sl.H19_1, tailRunB.sl.v291, tailRunB.sl.r, tailRunB.sl.H18_1, tailRunB.sl.v285]
    try simp only [View.readCov, View.writes_nil, readAt_slot 0 (by decide), readAt_slot 1 (by decide), readAt_whole2, read_writes_whole2, readAt_rows _ (show (![0, 15616, 0] : Fin 3 → ℕ) = ![0, 256 * 61, 0] from rfl), readAt_rows _ (show (![0, 15872, 0] : Fin 3 → ℕ) = ![0, 256 * 62, 0] from rfl), readAt_rows _ (show (![0, 16128, 0] : Fin 3 → ℕ) = ![0, 256 * 63, 0] from rfl), readAt_cols _ (show (![0, 0, 15616] : Fin 3 → ℕ) = ![0, 0, 256 * 61] from rfl), fun v t' ht' => col_ite (F := F) (D := 64) (κ := .tc) (e := .f32) (sig := sig) (sp := .vmem) (t' := t') v (show (![0, 0, 15616] : Fin 3 → ℕ) = ![0, 0, 256 * 61] from rfl) ht', fun v t' ht' => col_ite (F := F) (D := 1) (κ := .tc) (e := .f32) (sig := sig) (sp := .vmem) (t' := t') v (show (![0, 0, 15616] : Fin 3 → ℕ) = ![0, 0, 256 * 61] from rfl) ht', readAt_cols _ (show (![0, 0, 15872] : Fin 3 → ℕ) = ![0, 0, 256 * 62] from rfl), fun v t' ht' => col_ite (F := F) (D := 64) (κ := .tc) (e := .f32) (sig := sig) (sp := .vmem) (t' := t') v (show (![0, 0, 15872] : Fin 3 → ℕ) = ![0, 0, 256 * 62] from rfl) ht', fun v t' ht' => col_ite (F := F) (D := 1) (κ := .tc) (e := .f32) (sig := sig) (sp := .vmem) (t' := t') v (show (![0, 0, 15872] : Fin 3 → ℕ) = ![0, 0, 256 * 62] from rfl) ht', readAt_cols _ (show (![0, 0, 16128] : Fin 3 → ℕ) = ![0, 0, 256 * 63] from rfl), fun v t' ht' => col_ite (F := F) (D := 64) (κ := .tc) (e := .f32) (sig := sig) (sp := .vmem) (t' := t') v (show (![0, 0, 16128] : Fin 3 → ℕ) = ![0, 0, 256 * 63] from rfl) ht', fun v t' ht' => col_ite (F := F) (D := 1) (κ := .tc) (e := .f32) (sig := sig) (sp := .vmem) (t' := t') v (show (![0, 0, 16128] : Fin 3 → ℕ) = ![0, 0, 256 * 63] from rfl) ht', harg2.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64b, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, Nat.reduceAdd, Nat.reduceSub, Nat.reduceLT, (show min (64 : ℕ) 63 = 63 from rfl), hu]
    try simp only [if_pos, if_neg, reduceIte, Nat.reduceEqDiff, OfNat.ofNat_ne_zero, one_ne_zero, zero_ne_one, Nat.reduceAdd, Nat.reduceSub, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [hkq, hdp, hpb, hds, hdk, hdv, hdfk, hdq, hdfq, k0, k1, d0, d1, p0, p1, s0, s1, Nat.reduceLT, (show min (64 : ℕ) 63 = 63 from rfl), hu, if_pos, if_neg, reduceIte, Nat.reduceEqDiff, OfNat.ofNat_ne_zero, one_ne_zero, zero_ne_one, Nat.reduceAdd, Nat.reduceSub]
    try simp only [St.trip, St.pair, St.stage, St.products, St.accumulate, St.pointwise, St.head, upd_ap, Nat.reduceLT, (show min (64 : ℕ) 63 = 63 from rfl), hu, if_pos, if_neg, reduceIte, Nat.reduceEqDiff, OfNat.ofNat_ne_zero, one_ne_zero, zero_ne_one, Nat.reduceAdd, Nat.reduceSub]
    try simp only [View.readCov, View.writes_nil, readAt_slot 0 (by decide), readAt_slot 1 (by decide), readAt_whole2, read_writes_whole2, readAt_rows _ (show (![0, 15616, 0] : Fin 3 → ℕ) = ![0, 256 * 61, 0] from rfl), readAt_rows _ (show (![0, 15872, 0] : Fin 3 → ℕ) = ![0, 256 * 62, 0] from rfl), readAt_rows _ (show (![0, 16128, 0] : Fin 3 → ℕ) = ![0, 256 * 63, 0] from rfl), readAt_cols _ (show (![0, 0, 15616] : Fin 3 → ℕ) = ![0, 0, 256 * 61] from rfl), fun v t' ht' => col_ite (F := F) (D := 64) (κ := .tc) (e := .f32) (sig := sig) (sp := .vmem) (t' := t') v (show (![0, 0, 15616] : Fin 3 → ℕ) = ![0, 0, 256 * 61] from rfl) ht', fun v t' ht' => col_ite (F := F) (D := 1) (κ := .tc) (e := .f32) (sig := sig) (sp := .vmem) (t' := t') v (show (![0, 0, 15616] : Fin 3 → ℕ) = ![0, 0, 256 * 61] from rfl) ht', readAt_cols _ (show (![0, 0, 15872] : Fin 3 → ℕ) = ![0, 0, 256 * 62] from rfl), fun v t' ht' => col_ite (F := F) (D := 64) (κ := .tc) (e := .f32) (sig := sig) (sp := .vmem) (t' := t') v (show (![0, 0, 15872] : Fin 3 → ℕ) = ![0, 0, 256 * 62] from rfl) ht', fun v t' ht' => col_ite (F := F) (D := 1) (κ := .tc) (e := .f32) (sig := sig) (sp := .vmem) (t' := t') v (show (![0, 0, 15872] : Fin 3 → ℕ) = ![0, 0, 256 * 62] from rfl) ht', readAt_cols _ (show (![0, 0, 16128] : Fin 3 → ℕ) = ![0, 0, 256 * 63] from rfl), fun v t' ht' => col_ite (F := F) (D := 64) (κ := .tc) (e := .f32) (sig := sig) (sp := .vmem) (t' := t') v (show (![0, 0, 16128] : Fin 3 → ℕ) = ![0, 0, 256 * 63] from rfl) ht', fun v t' ht' => col_ite (F := F) (D := 1) (κ := .tc) (e := .f32) (sig := sig) (sp := .vmem) (t' := t') v (show (![0, 0, 16128] : Fin 3 → ℕ) = ![0, 0, 256 * 63] from rfl) ht', harg2.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64b, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, Nat.reduceAdd, Nat.reduceSub, Nat.reduceLT, (show min (64 : ℕ) 63 = 63 from rfl), hu, hkq, hdp, hpb, hds, hdk, hdv, hdfk, hdq, hdfq, k0, k1, d0, d1, p0, p1, s0, s1, upd_ap]
    all_goals try rfl
  case dfq =>
    intro u hu
    exact hdfq u hu
  case dk | dv | dfk =>
    intro f
    simp only [tailRunB, tailRunB.sl.H19_1, tailRunB.sl.v291, tailRunB.sl.r, tailRunB.sl.H18_1, tailRunB.sl.v285]
    try simp only [View.readCov, View.writes_nil, readAt_slot 0 (by decide), readAt_slot 1 (by decide), readAt_whole2, read_writes_whole2, readAt_rows _ (show (![0, 15616, 0] : Fin 3 → ℕ) = ![0, 256 * 61, 0] from rfl), readAt_rows _ (show (![0, 15872, 0] : Fin 3 → ℕ) = ![0, 256 * 62, 0] from rfl), readAt_rows _ (show (![0, 16128, 0] : Fin 3 → ℕ) = ![0, 256 * 63, 0] from rfl), readAt_cols _ (show (![0, 0, 15616] : Fin 3 → ℕ) = ![0, 0, 256 * 61] from rfl), fun v t' ht' => col_ite (F := F) (D := 64) (κ := .tc) (e := .f32) (sig := sig) (sp := .vmem) (t' := t') v (show (![0, 0, 15616] : Fin 3 → ℕ) = ![0, 0, 256 * 61] from rfl) ht', fun v t' ht' => col_ite (F := F) (D := 1) (κ := .tc) (e := .f32) (sig := sig) (sp := .vmem) (t' := t') v (show (![0, 0, 15616] : Fin 3 → ℕ) = ![0, 0, 256 * 61] from rfl) ht', readAt_cols _ (show (![0, 0, 15872] : Fin 3 → ℕ) = ![0, 0, 256 * 62] from rfl), fun v t' ht' => col_ite (F := F) (D := 64) (κ := .tc) (e := .f32) (sig := sig) (sp := .vmem) (t' := t') v (show (![0, 0, 15872] : Fin 3 → ℕ) = ![0, 0, 256 * 62] from rfl) ht', fun v t' ht' => col_ite (F := F) (D := 1) (κ := .tc) (e := .f32) (sig := sig) (sp := .vmem) (t' := t') v (show (![0, 0, 15872] : Fin 3 → ℕ) = ![0, 0, 256 * 62] from rfl) ht', readAt_cols _ (show (![0, 0, 16128] : Fin 3 → ℕ) = ![0, 0, 256 * 63] from rfl), fun v t' ht' => col_ite (F := F) (D := 64) (κ := .tc) (e := .f32) (sig := sig) (sp := .vmem) (t' := t') v (show (![0, 0, 16128] : Fin 3 → ℕ) = ![0, 0, 256 * 63] from rfl) ht', fun v t' ht' => col_ite (F := F) (D := 1) (κ := .tc) (e := .f32) (sig := sig) (sp := .vmem) (t' := t') v (show (![0, 0, 16128] : Fin 3 → ℕ) = ![0, 0, 256 * 63] from rfl) ht', harg2.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64b, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, Nat.reduceAdd, Nat.reduceSub, Nat.reduceLT, (show min (64 : ℕ) 63 = 63 from rfl)]
    try simp only [if_pos, if_neg, reduceIte, Nat.reduceEqDiff, OfNat.ofNat_ne_zero, one_ne_zero, zero_ne_one, Nat.reduceAdd, Nat.reduceSub, step_2, step_16, step_30, step_43, step_55, step_69, step_83, step_96, step_108, step_122, step_142, step_151, step_140, step_3, step_17, step_31, step_44, step_56, step_70, step_84, step_97, step_109, step_123, step_141, step_143, step_152, step_5, step_19, step_33, step_46, step_58, step_72, step_86, step_99, step_125, step_154, step_171, step_112, step_6, step_7, step_20, step_21, step_34, step_35, step_47, step_48, step_59, step_60, step_73, step_74, step_87, step_88, step_100, step_101, step_113, step_114, step_126, step_127, step_172, step_173, step_155, step_157, step_11, step_12, step_13, step_14, step_25, step_26, step_27, step_28, step_64, step_65, step_66, step_67, step_78, step_79, step_80, step_81, step_38, step_39, step_40, step_41, step_51, step_52, step_53, step_54, step_91, step_92, step_93, step_94, step_104, step_105, step_106, step_107, step_118, step_119, step_120, step_121, step_166, step_167, step_168, step_169, step_146, step_147, step_149, step_150, step_160, step_161, step_162, step_163]
    try simp only [hkq, hdp, hpb, hds, hdk, hdv, hdfk, hdq, hdfq, k0, k1, d0, d1, p0, p1, s0, s1, Nat.reduceLT, (show min (64 : ℕ) 63 = 63 from rfl), if_pos, if_neg, reduceIte, Nat.reduceEqDiff, OfNat.ofNat_ne_zero, one_ne_zero, zero_ne_one, Nat.reduceAdd, Nat.reduceSub]
    try simp only [St.trip, St.pair, St.stage, St.products, St.accumulate, St.pointwise, St.head, upd_ap, Nat.reduceLT, (show min (64 : ℕ) 63 = 63 from rfl), if_pos, if_neg, reduceIte, Nat.reduceEqDiff, OfNat.ofNat_ne_zero, one_ne_zero, zero_ne_one, Nat.reduceAdd, Nat.reduceSub]
    try simp only [View.readCov, View.writes_nil, readAt_slot 0 (by decide), readAt_slot 1 (by decide), readAt_whole2, read_writes_whole2, readAt_rows _ (show (![0, 15616, 0] : Fin 3 → ℕ) = ![0, 256 * 61, 0] from rfl), readAt_rows _ (show (![0, 15872, 0] : Fin 3 → ℕ) = ![0, 256 * 62, 0] from rfl), readAt_rows _ (show (![0, 16128, 0] : Fin 3 → ℕ) = ![0, 256 * 63, 0] from rfl), readAt_cols _ (show (![0, 0, 15616] : Fin 3 → ℕ) = ![0, 0, 256 * 61] from rfl), fun v t' ht' => col_ite (F := F) (D := 64) (κ := .tc) (e := .f32) (sig := sig) (sp := .vmem) (t' := t') v (show (![0, 0, 15616] : Fin 3 → ℕ) = ![0, 0, 256 * 61] from rfl) ht', fun v t' ht' => col_ite (F := F) (D := 1) (κ := .tc) (e := .f32) (sig := sig) (sp := .vmem) (t' := t') v (show (![0, 0, 15616] : Fin 3 → ℕ) = ![0, 0, 256 * 61] from rfl) ht', readAt_cols _ (show (![0, 0, 15872] : Fin 3 → ℕ) = ![0, 0, 256 * 62] from rfl), fun v t' ht' => col_ite (F := F) (D := 64) (κ := .tc) (e := .f32) (sig := sig) (sp := .vmem) (t' := t') v (show (![0, 0, 15872] : Fin 3 → ℕ) = ![0, 0, 256 * 62] from rfl) ht', fun v t' ht' => col_ite (F := F) (D := 1) (κ := .tc) (e := .f32) (sig := sig) (sp := .vmem) (t' := t') v (show (![0, 0, 15872] : Fin 3 → ℕ) = ![0, 0, 256 * 62] from rfl) ht', readAt_cols _ (show (![0, 0, 16128] : Fin 3 → ℕ) = ![0, 0, 256 * 63] from rfl), fun v t' ht' => col_ite (F := F) (D := 64) (κ := .tc) (e := .f32) (sig := sig) (sp := .vmem) (t' := t') v (show (![0, 0, 16128] : Fin 3 → ℕ) = ![0, 0, 256 * 63] from rfl) ht', fun v t' ht' => col_ite (F := F) (D := 1) (κ := .tc) (e := .f32) (sig := sig) (sp := .vmem) (t' := t') v (show (![0, 0, 16128] : Fin 3 → ℕ) = ![0, 0, 256 * 63] from rfl) ht', harg2.read_unread, harg6.read_unread, harg7.read_unread, harg8.read_unread, harg9.read_unread, harg13.read_unread, harg14.read_unread, harg15.read_unread, harg16.read_unread, harg17.read_unread, harg18.read_unread, harg19.read_unread, harg20.read_unread, readAt_whole3, read_writes_whole3, readAt_left64b, slot_ite 0 0 (by decide) (by decide), slot_ite 0 1 (by decide) (by decide), slot_ite 1 0 (by decide) (by decide), slot_ite 1 1 (by decide) (by decide), if_pos, if_neg, reduceIte, Nat.reduceEqDiff, OfNat.ofNat_ne_zero, one_ne_zero, zero_ne_one, Nat.reduceAdd, Nat.reduceSub, Nat.reduceLT, (show min (64 : ℕ) 63 = 63 from rfl), hkq, hdp, hpb, hds, hdk, hdv, hdfk, hdq, hdfq, k0, k1, d0, d1, p0, p1, s0, s1, upd_ap]
    all_goals try rfl

end Cert.KernelIdeal.Gen

end
-- ==== Proof.StepTailB.lean ====
/- What comes after the loop, in memory. -/
module

public import proofs.«01_k».proof.Proof.TailStateB
public import proofs.«01_k».proof.Proof.Held

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox

variable {F : FTy → Type} [FloatOps F] [Named F]

local notation "𝕄" => MT nD τ sig Unit (Elt F) ℕ (UR sig nD τ) ℕ

/-- What comes after the loop adds the last tile and leaves the results of the block. -/
theorem tailB_wp (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (I : Ins F) (hc : ¬ k0_cond2 i = 1#1) (s : St F) (E : Set ℕ) (K : PUnit → sProp 𝕄) :
    iprop(Look c arg2 arg6 arg7 arg8 I ∗ Held c arg9 arg13 arg14 arg15 arg16 arg17 arg18 arg19 arg20 s ∗ (∃ d, owns (c : Thread nD τ) arg10 fullShare d) ∗ (∃ d, owns (c : Thread nD τ) arg11 fullShare d) ∗ (∃ d, owns (c : Thread nD τ) arg12 fullShare d)
      ∗ ((Look c arg2 arg6 arg7 arg8 I ∗ Done c arg9 arg10 arg11 arg12 arg13 (s.accumulate I 63 1) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.kA I.kT I.vA) K := by
  unfold Look Held Done
  iintro ⟨⟨H2, H6, H7, H8⟩, ⟨%x9, %x13, %x14, %x15, %x16, %x17, %x18, %x19, %x20, %hrel, H9, H13, H14, H15, H16, H17, H18, H19, H20⟩, H10, H11, H12, Hk⟩
  obtain ⟨kdq, kdfq, kdk, kdv, kdfk⟩ := tailRunB_rel c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.kA I.kT I.vA hc I.q I.g I.lse I.dl x13 x14 x15 x16 x17 x20 x9 x18 x19 s hrel
  have run := (tailRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.kA I.kT I.vA hc I.q I.g I.lse I.dl x13 x14 x15 x16 x17 x20 x9 x18 x19).2.2.2.2.2.2 E K
  iapply run
  isplitl [H2]; · iexact H2
  isplitl [H6]; · iexact H6
  isplitl [H7]; · iexact H7
  isplitl [H8]; · iexact H8
  isplitl [H13]; · iexact H13
  isplitl [H14]; · iexact H14
  isplitl [H15]; · iexact H15
  isplitl [H16]; · iexact H16
  isplitl [H17]; · iexact H17
  isplitl [H20]; · iexact H20
  isplitl [H9]; · iexact H9
  isplitl [H18]; · iexact H18
  isplitl [H19]; · iexact H19
  isplitl [H10]; · iexact H10
  isplitl [H11]; · iexact H11
  isplitl [H12]; · iexact H12
  iintro ⟨H2, H6, H7, H8, H13, H14, H15, H16, H17, H20, H9, H18, H19, ⟨%f10, H10⟩, ⟨%f11, H11⟩, ⟨%f12, H12⟩⟩
  ihave H9 := (owns_read c arg9 _) $$ H9
  ihave H18 := (owns_read c arg18 _) $$ H18
  ihave H19 := (owns_read c arg19 _) $$ H19
  ihave H10 := (owns_eq c arg10 _ _ (kdk f10)) $$ H10
  ihave H11 := (owns_eq c arg11 _ _ (kdv f11)) $$ H11
  ihave H12 := (owns_eq c arg12 _ _ (kdfk f12)) $$ H12
  iapply Hk
  isplitl [H2 H6 H7 H8]
  · isplitl [H2]; · iexact H2
    isplitl [H6]; · iexact H6
    isplitl [H7]; · iexact H7
    iexact H8
  isplitl [H9 H10 H11 H12 H13]
  · iexists _
    iexists _
    isplitr; · ipureintro; exact ⟨kdq, kdfq⟩
    isplitl [H9]; · iexact H9
    isplitl [H13]; · iexact H13
    isplitl [H10]; · iexact H10
    isplitl [H11]; · iexact H11
    iexact H12
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  iexists _; iexact H20

end Cert.KernelIdeal.Gen

end
-- ==== Proof.Block.lean ====
/- One block of keys and values, in memory: the body of the kernel moves the state on by the block. -/
module

public import proofs.«01_k».proof.Proof.Split
public import proofs.«01_k».proof.Proof.OffsetsMore
public import proofs.«01_k».proof.Proof.StepTrip
public import proofs.«01_k».proof.Proof.StepHeadA
public import proofs.«01_k».proof.Proof.StepHeadB
public import proofs.«01_k».proof.Proof.StepTailA
public import proofs.«01_k».proof.Proof.StepTailB
public import Idealize.ShloMosaic.Lib.LoopRemainder

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox

variable {F : FTy → Type} [FloatOps F] [Named F]

local notation "𝕄" => MT nD τ sig Unit (Elt F) ℕ (UR sig nD τ) ℕ

/-- The loop left over by the unrolling makes no trip. -/
theorem trips2_eq : ∀ i : grid0.Coords, (k0_t2_loop i).trips = 0 := by decide +kernel

/-- The first branch is taken in the first block of a head. -/
theorem cond_first : ∀ i : grid0.Coords, (Scalar.cmpi .ne (Scalar.extui (Scalar.cmpi .eq (BitVec.ofNat 32 (i 1).val) 0#32)) 0#32 = 1#1) ↔ (i 1).val = 0 := by decide +kernel

/-- The last branch is taken when the number of pairs behind the diagonal is odd. -/
theorem cond_odd : ∀ i : grid0.Coords, k0_cond2 i = 1#1 ↔ (31 - (i 1).val) % 2 = 1 := by decide +kernel

/-- The loop and what comes after it. -/
theorem rest_wp (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (arg1 : BitVec 32) (I : Ins F) (v213 c0_i32_152 c0_i32_153 v231 c1_i32_154 : BitVec 32)
    (s : St F) (E : Set ℕ) (K : PUnit → sProp 𝕄) :
    iprop(Look c arg2 arg6 arg7 arg8 I ∗ Held c arg9 arg13 arg14 arg15 arg16 arg17 arg18 arg19 arg20 s ∗ (∃ d, owns (c : Thread nD τ) arg10 fullShare d) ∗ (∃ d, owns (c : Thread nD τ) arg11 fullShare d) ∗ (∃ d, owns (c : Thread nD τ) arg12 fullShare d)
      ∗ ((Look c arg2 arg6 arg7 arg8 I ∗ Done c arg9 arg10 arg11 arg12 arg13 ((if (31 - (i 1).val) % 2 = 1 then (St.trips I (2 * (i 1).val + 2) ((31 - (i 1).val) / 2) s).pair I 62 else St.trips I (2 * (i 1).val + 2) ((31 - (i 1).val) / 2) s).accumulate I 63 1) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) E (Scf.Loop.for (k0_t1_loop i) (k0_t1_ok i) c0_i32_153 (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 I.kA I.kT I.vA v213 c0_i32_152 c0_i32_153 v231 c1_i32_154) >>= fun v236 =>
          Scf.Loop.for (k0_t2_loop i) (k0_t2_ok i) v236 (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 I.kA I.kT I.vA v213 c0_i32_152 c0_i32_153 v231 c1_i32_154 (Scalar.addi c0_i32_152 (Scalar.muli (Scalar.divsi v231 c1_i32_154) c1_i32_154))) >>= fun _ =>
          tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.kA I.kT I.vA) K := by
  have hi : (i 1).val < 32 := (i 1).isLt
  have h2 : ∀ (init : BitVec 32) (body : Fin (k0_t2_loop i).trips → BitVec 32 → Prog (TpuEff nD τ sig (Elt F) Λ₀ .tc) (BitVec 32)) (k : Prog (TpuEff nD τ sig (Elt F) Λ₀ .tc) PUnit),
      (Scf.Loop.for (k0_t2_loop i) (k0_t2_ok i) init body >>= fun _ => k) = k := by
    intro init body k
    rw [show Scf.Loop.for (k0_t2_loop i) (k0_t2_ok i) init body = .ret init from Scf.for_eq_ret _ _ _ _ init body (trips2_eq i)]
    rfl
  have step : ∀ (k : Fin (k0_t1_loop i).trips) (acc : BitVec 32),
      iprop(Look c arg2 arg6 arg7 arg8 I ∗ Held c arg9 arg13 arg14 arg15 arg16 arg17 arg18 arg19 arg20 (St.trips I (2 * (i 1).val + 2) k.val s))
        ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 I.kA I.kT I.vA v213 c0_i32_152 c0_i32_153 v231 c1_i32_154 k acc) (fun _ => iprop(Look c arg2 arg6 arg7 arg8 I ∗ Held c arg9 arg13 arg14 arg15 arg16 arg17 arg18 arg19 arg20 (St.trips I (2 * (i 1).val + 2) (k.val + 1) s))) := by
    intro k acc
    have hk : k.val < (31 - (i 1).val) / 2 := lt_of_lt_of_eq k.isLt (trips_eq i)
    iintro ⟨HL, HH⟩
    iapply (trip_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 I v213 c0_i32_152 c0_i32_153 v231 c1_i32_154 acc k (2 * (i 1).val + 2 + 4 * k.val) rfl (by omega) (St.trips I (2 * (i 1).val + 2) k.val s) E _)
    isplitl [HL]; · iexact HL
    isplitl [HH]; · iexact HH
    iintro %r H
    iexact H
  iintro ⟨HL, HH, H10, H11, H12, Hk⟩
  iapply (Scf.wp_for_bind frame (wpE (defs₀ (F := F)) Variants.none c none) E (k0_t1_loop i).lb (k0_t1_loop i).ub (k0_t1_loop i).st (k0_t1_ok i) c0_i32_153
    (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 I.kA I.kT I.vA v213 c0_i32_152 c0_i32_153 v231 c1_i32_154) (fun n _ => iprop(Look c arg2 arg6 arg7 arg8 I ∗ Held c arg9 arg13 arg14 arg15 arg16 arg17 arg18 arg19 arg20 (St.trips I (2 * (i 1).val + 2) n s))) step) $$ [HL HH]
  · isplitl [HL]; · iexact HL
    iexact HH
  iintro %acc ⟨HL, HH⟩
  rw [h2]
  rw [show Scf.trips (k0_t1_loop i).lb (k0_t1_loop i).ub (k0_t1_loop i).st = (31 - (i 1).val) / 2 from trips_eq i]
  by_cases hodd : (31 - (i 1).val) % 2 = 1
  · rw [if_pos hodd]
    iapply (tailA_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I ((cond_odd i).mpr hodd) _ E K)
    isplitl [HL]; · iexact HL
    isplitl [HH]; · iexact HH
    isplitl [H10]; · iexact H10
    isplitl [H11]; · iexact H11
    isplitl [H12]; · iexact H12
    iexact Hk
  · rw [if_neg hodd]
    iapply (tailB_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I (fun h => hodd ((cond_odd i).mp h)) _ E K)
    isplitl [HL]; · iexact HL
    isplitl [HH]; · iexact HH
    isplitl [H10]; · iexact H10
    isplitl [H11]; · iexact H11
    isplitl [H12]; · iexact H12
    iexact Hk

/-- The body, in the first block of a head. -/
theorem blockA_wp (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (hj : (i 1).val = 0) (x2 : Vec F S1x16384x80 .bf16) (x3 : Vec F S1x512x80 .bf16) (x4 : Vec F S1x64x512 .bf16) (x5 : Vec F S1x512x128 .bf16) (x6 : Vec F S1x16384x64 .bf16) (x7 : Vec F S1x1x16384 .f32) (x8 : Vec F S1x1x16384 .f32)  (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
      ∗ (((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8) ∗ Done c arg9 arg10 arg11 arg12 arg13 (St.block ⟨k0_pay133 x3, k0_pay134 x4, k0_pay135 (left64 x5), x2, x6, x7, x8⟩ (i 1).val (fun t => colTile (F := F) k0_pay131 t) (fun t => colTile (F := F) k0_pay132 t)) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) E (cc0_fox_bwd_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rw [body_split, wp_bind]
  iintro ⟨H2, H3, H4, H5, H6, H7, H8, H9, H10, H11, H12, H13, H14, H15, H16, H17, H18, H19, H20, Hk⟩
  iapply (headA_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ((cond_first i).mpr hj) x2 x3 x4 x5 x6 x7 x8  E _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro %r ⟨%hr, ⟨H3, H4, H5⟩, HL, HH⟩
  obtain ⟨arg1, v4, v6, v8, v213, c0_i32_152, c0_i32_153, v231, c1_i32_154⟩ := r
  obtain ⟨rfl, rfl, rfl⟩ := hr
  iapply (rest_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 ⟨k0_pay133 x3, k0_pay134 x4, k0_pay135 (left64 x5), x2, x6, x7, x8⟩ v213 c0_i32_152 c0_i32_153 v231 c1_i32_154 _ E K)
  isplitl [HL]; · iexact HL
  isplitl [HH]; · iexact HH
  isplitl [H10]; · iexact H10
  isplitl [H11]; · iexact H11
  isplitl [H12]; · iexact H12
  unfold Look
  iintro ⟨⟨H2, H6, H7, H8⟩, HD, HS⟩
  iapply Hk
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [HD]; · iexact HD
  iexact HS

/-- The body, in a later block of a head. -/
theorem blockB_wp (c : Dev nD) (i : grid0.Coords) (arg2 : Memref sig .tc .vmem S1x16384x80 .bf16) (harg2 : arg2.IsWhole) (arg3 : Memref sig .tc .vmem S1x512x80 .bf16) (harg3 : arg3.IsWhole) (arg4 : Memref sig .tc .vmem S1x64x512 .bf16) (harg4 : arg4.IsWhole) (arg5 : Memref sig .tc .vmem S1x512x128 .bf16) (harg5 : arg5.IsWhole) (arg6 : Memref sig .tc .vmem S1x16384x64 .bf16) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x64x16384 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S1x1x16384 .f32) (harg13 : arg13.IsWhole) (arg14 : Memref sig .tc .vmem S2x512x256 .f32) (harg14 : arg14.IsWhole) (arg15 : Memref sig .tc .vmem S2x512x256 .f32) (harg15 : arg15.IsWhole) (arg16 : Memref sig .tc .vmem S2x512x256 .bf16) (harg16 : arg16.IsWhole) (arg17 : Memref sig .tc .vmem S2x512x256 .bf16) (harg17 : arg17.IsWhole) (arg18 : Memref sig .tc .vmem S512x80 .f32) (harg18 : arg18.IsWhole) (arg19 : Memref sig .tc .vmem S512x64 .f32) (harg19 : arg19.IsWhole) (arg20 : Memref sig .tc .vmem S512x1 .f32) (harg20 : arg20.IsWhole) (hj : ¬ (i 1).val = 0) (x2 : Vec F S1x16384x80 .bf16) (x3 : Vec F S1x512x80 .bf16) (x4 : Vec F S1x64x512 .bf16) (x5 : Vec F S1x512x128 .bf16) (x6 : Vec F S1x16384x64 .bf16) (x7 : Vec F S1x1x16384 .f32) (x8 : Vec F S1x1x16384 .f32) (x9 : Vec F S1x64x16384 .f32) (x13 : Vec F S1x1x16384 .f32) (dq : ℕ → Vec F S1x64x256 .f32) (dfq : ℕ → Vec F S1x1x256 .f32) (hdq : ∀ t, t < 64 → colTile (F := F) x9 t = dq t) (hdfq : ∀ t, t < 64 → colTile (F := F) x13 t = dfq t) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
      ∗ (((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8) ∗ Done c arg9 arg10 arg11 arg12 arg13 (St.block ⟨k0_pay133 x3, k0_pay134 x4, k0_pay135 (left64 x5), x2, x6, x7, x8⟩ (i 1).val dq dfq) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) E (cc0_fox_bwd_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rw [body_split, wp_bind]
  iintro ⟨H2, H3, H4, H5, H6, H7, H8, H9, H10, H11, H12, H13, H14, H15, H16, H17, H18, H19, H20, Hk⟩
  iapply (headB_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (fun h => hj ((cond_first i).mp h)) x2 x3 x4 x5 x6 x7 x8 x9 x13 dq dfq hdq hdfq E _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro %r ⟨%hr, ⟨H3, H4, H5⟩, HL, HH⟩
  obtain ⟨arg1, v4, v6, v8, v213, c0_i32_152, c0_i32_153, v231, c1_i32_154⟩ := r
  obtain ⟨rfl, rfl, rfl⟩ := hr
  iapply (rest_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 ⟨k0_pay133 x3, k0_pay134 x4, k0_pay135 (left64 x5), x2, x6, x7, x8⟩ v213 c0_i32_152 c0_i32_153 v231 c1_i32_154 _ E K)
  isplitl [HL]; · iexact HL
  isplitl [HH]; · iexact HH
  isplitl [H10]; · iexact H10
  isplitl [H11]; · iexact H11
  isplitl [H12]; · iexact H12
  unfold Look
  iintro ⟨⟨H2, H6, H7, H8⟩, HD, HS⟩
  iapply Hk
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [HD]; · iexact HD
  iexact HS

end Cert.KernelIdeal.Gen

end
-- ==== Proof.Glue.lean ====
/- Tiles put back together into a whole array. -/
module

public import proofs.«01_k».proof.Proof.Tiles

@[expose] public section

noncomputable section

namespace Cert.Fox

open Idealize.ShloMosaic
open Idealize.ShloMosaic.ValueIdx

variable {F : FTy → Type} {e : EltTy}

/-- The array of 16384 columns whose tiles are `f 0`, …, `f 63`. -/
def glue {D : ℕ} (f : ℕ → Vec F ⟨3, ![1, D, 256]⟩ e) : Vec F ⟨3, ![1, D, 16384]⟩ e :=
  fun y => f ((y 2).val / 256) (ix3 (y 0) (y 1) ⟨(y 2).val % 256, Nat.mod_lt _ (by decide)⟩)

/-- Its tiles are those. -/
theorem colTile_glue {D : ℕ} (f : ℕ → Vec F ⟨3, ![1, D, 256]⟩ e) (t : ℕ) (ht : t < 64) :
    colTile (F := F) (glue f) t = f t := by
  funext y
  have hy : (y 2).val < 256 := (y 2).isLt
  have h1 : (256 * t + (y 2).val) % 16384 = 256 * t + (y 2).val := Nat.mod_eq_of_lt (by omega)
  show f ((256 * t + (y 2).val) % 16384 / 256) (ix3 (y 0) (y 1) ⟨(256 * t + (y 2).val) % 16384 % 256, _⟩) = f t y
  have h2 : (256 * t + (y 2).val) % 16384 / 256 = t := by rw [h1]; omega
  rw [h2]
  congr 1
  funext a
  apply Fin.ext
  fin_cases a
  · rfl
  · rfl
  · show (256 * t + (y 2).val) % 16384 % 256 = (y 2).val
    rw [h1]; omega

/-- An array is known by its tiles. -/
theorem eq_glue {D : ℕ} (x : Vec F ⟨3, ![1, D, 16384]⟩ e) (f : ℕ → Vec F ⟨3, ![1, D, 256]⟩ e)
    (h : ∀ t, t < 64 → colTile (F := F) x t = f t) : x = glue f := by
  funext y
  have hy : (y 2).val < 16384 := (y 2).isLt
  show x y = f ((y 2).val / 256) _
  rw [← h ((y 2).val / 256) (by omega)]
  show x y = x _
  congr 1
  funext a
  apply Fin.ext
  fin_cases a
  · rfl
  · rfl
  · show (y 2).val = (256 * ((y 2).val / 256) + (y 2).val % 256) % 16384
    omega

end Cert.Fox

end
-- ==== Proof.Run.lean ====
/- The kernel from its launch to its end: what its outputs hold after each point of the grid, and the run. -/
module

public import proofs.«01_k».proof.Proof.Block
public import proofs.«01_k».proof.Proof.Glue
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Window 0's staging buffer at point `t`. -/
abbrev stage0 (t : Fin cfg0.N) : Memref sig .tc .vmem S1x16384x80 .bf16 := win0_0.stage (cfg0.slots t 0)
/-- Window 1's staging buffer at point `t`. -/
abbrev stage1 (t : Fin cfg0.N) : Memref sig .tc .vmem S1x512x80 .bf16 := win0_1.stage (cfg0.slots t 1)
/-- Window 2's staging buffer at point `t`. -/
abbrev stage2 (t : Fin cfg0.N) : Memref sig .tc .vmem S1x64x512 .bf16 := win0_2.stage (cfg0.slots t 2)
/-- Window 3's staging buffer at point `t`. -/
abbrev stage3 (t : Fin cfg0.N) : Memref sig .tc .vmem S1x512x128 .bf16 := win0_3.stage (cfg0.slots t 3)
/-- Window 4's staging buffer at point `t`. -/
abbrev stage4 (t : Fin cfg0.N) : Memref sig .tc .vmem S1x16384x64 .bf16 := win0_4.stage (cfg0.slots t 4)
/-- Window 5's staging buffer at point `t`. -/
abbrev stage5 (t : Fin cfg0.N) : Memref sig .tc .vmem S1x1x16384 .f32 := win0_5.stage (cfg0.slots t 5)
/-- Window 6's staging buffer at point `t`. -/
abbrev stage6 (t : Fin cfg0.N) : Memref sig .tc .vmem S1x1x16384 .f32 := win0_6.stage (cfg0.slots t 6)
/-- Window 7's staging buffer at point `t`. -/
abbrev stage7 (t : Fin cfg0.N) : Memref sig .tc .vmem S1x64x16384 .f32 := win0_7.stage (cfg0.slots t 7)
/-- Window 8's staging buffer at point `t`. -/
abbrev stage8 (t : Fin cfg0.N) : Memref sig .tc .vmem S1x512x64 .f32 := win0_8.stage (cfg0.slots t 8)
/-- Window 9's staging buffer at point `t`. -/
abbrev stage9 (t : Fin cfg0.N) : Memref sig .tc .vmem S1x512x64 .f32 := win0_9.stage (cfg0.slots t 9)
/-- Window 10's staging buffer at point `t`. -/
abbrev stage10 (t : Fin cfg0.N) : Memref sig .tc .vmem S1x1x512 .f32 := win0_10.stage (cfg0.slots t 10)
/-- Window 11's staging buffer at point `t`. -/
abbrev stage11 (t : Fin cfg0.N) : Memref sig .tc .vmem S1x1x16384 .f32 := win0_11.stage (cfg0.slots t 11)
/-- Scratch buffer 0. -/
abbrev scratch0 : Memref sig .tc .vmem S2x512x256 .f32 := Memref.whole cc0_scratch0
/-- Scratch buffer 1. -/
abbrev scratch1 : Memref sig .tc .vmem S2x512x256 .f32 := Memref.whole cc0_scratch1
/-- Scratch buffer 2. -/
abbrev scratch2 : Memref sig .tc .vmem S2x512x256 .bf16 := Memref.whole cc0_scratch2
/-- Scratch buffer 3. -/
abbrev scratch3 : Memref sig .tc .vmem S2x512x256 .bf16 := Memref.whole cc0_scratch3
/-- Scratch buffer 4. -/
abbrev scratch4 : Memref sig .tc .vmem S512x80 .f32 := Memref.whole cc0_scratch4
/-- Scratch buffer 5. -/
abbrev scratch5 : Memref sig .tc .vmem S512x64 .f32 := Memref.whole cc0_scratch5
/-- Scratch buffer 6. -/
abbrev scratch6 : Memref sig .tc .vmem S512x1 .f32 := Memref.whole cc0_scratch6

/-- What the launch hands the body besides the windows: the scratch buffers, at any contents. -/
theorem rest_eq (c : Dev nD) :
    (Pipeline.ΦA spec0 c : sProp 𝕄)
      = iprop(((∃ d, owns (c : Thread nD τ) scratch0 fullShare d) ∗ (∃ d, owns (c : Thread nD τ) scratch1 fullShare d) ∗ (∃ d, owns (c : Thread nD τ) scratch2 fullShare d) ∗ (∃ d, owns (c : Thread nD τ) scratch3 fullShare d) ∗ (∃ d, owns (c : Thread nD τ) scratch4 fullShare d) ∗ (∃ d, owns (c : Thread nD τ) scratch5 fullShare d) ∗ (∃ d, owns (c : Thread nD τ) scratch6 fullShare d)) ∗ (∃ r, prngReg c r)) := by
  unfold Pipeline.ΦA; rw [scopedRest0_eq]; simp only [scratch0, scratch1, scratch2, scratch3, scratch4, scratch5, scratch6, owns_whole]; try rfl

/-- A point's block of keys is its number within the head. -/
theorem coord_one (t : Fin cfg0.N) : ((grid0.coords t) 1).val = t.val % 32 := by
  have h : ((grid0.coords t) 1).val = t.val / 1 % 32 := Pipeline.Grid.coords_val t 1 (by decide) rfl
  rw [h, Nat.div_one]

/-! ## What the outputs hold, point by point -/

/-- The block of keys and values of a point and its head's inputs. -/
def insAt (c : Dev nD) (t : Fin cfg0.N) : Ins F :=
  ⟨k0_pay133 (iblk m c 1 t), k0_pay134 (X0_2 m c t), k0_pay135 (left64 (F := F) (iblk m c 3 t)), iblk m c 0 t, iblk m c 4 t,
    iblk m c 5 t, iblk m c 6 t⟩

/-- The state after a point: the block run from the queries' gradients of the point before, or from zero in the
    first block of a head. -/
def stateAt (c : Dev nD) : (n : ℕ) → n < cfg0.N → St F
  | 0, hn => St.block (insAt m c ⟨0, hn⟩) 0 (fun t => colTile (F := F) k0_pay131 t) (fun t => colTile (F := F) k0_pay132 t)
  | n + 1, hn =>
    if (n + 1) % 32 = 0 then
      St.block (insAt m c ⟨n + 1, hn⟩) 0 (fun t => colTile (F := F) k0_pay131 t) (fun t => colTile (F := F) k0_pay132 t)
    else
      St.block (insAt m c ⟨n + 1, hn⟩) ((n + 1) % 32) (stateAt c n (Nat.lt_of_succ_lt hn)).dq (stateAt c n (Nat.lt_of_succ_lt hn)).dfq

/-- The state in the first block of a head. -/
theorem stateAt_first (c : Dev nD) (t : Fin cfg0.N) (h : t.val % 32 = 0) :
    stateAt m c t.val t.isLt
      = St.block (insAt m c t) 0 (fun t => colTile (F := F) k0_pay131 t) (fun t => colTile (F := F) k0_pay132 t) := by
  obtain ⟨n, hn⟩ := t
  cases n with
  | zero => exact rfl
  | succ n => exact (if_pos h).trans rfl

/-- The state in a later block. -/
theorem stateAt_next (c : Dev nD) (t : Fin cfg0.N) (h : ¬ t.val % 32 = 0) :
    stateAt m c t.val t.isLt
      = St.block (insAt m c t) (t.val % 32) (stateAt m c (t.val - 1) (Nat.lt_of_le_of_lt (Nat.sub_le _ _) t.isLt)).dq
          (stateAt m c (t.val - 1) (Nat.lt_of_le_of_lt (Nat.sub_le _ _) t.isLt)).dfq := by
  obtain ⟨n, hn⟩ := t
  cases n with
  | zero => exact absurd (Nat.zero_mod _) h
  | succ n => exact (if_neg h).trans rfl

/-- The proof data of the pipeline: the arrays as the launch finds them; after a point the inputs' buffers at their
    blocks and the outputs' at the state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => glue (F := F) (e := .f32) (D := 64) (stateAt m c t.val t.isLt).dq
    | ⟨8, _⟩ => k0_pay174 (left64b (F := F) (stateAt m c t.val t.isLt).dk)
    | ⟨9, _⟩ => k0_pay175 (stateAt m c t.val t.isLt).dv
    | ⟨10, _⟩ => k0_pay1 (k0_pay176 (stateAt m c t.val t.isLt).dfk)
    | ⟨11, _⟩ => glue (F := F) (e := .f32) (D := 1) (stateAt m c t.val t.isLt).dfq
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = glue (F := F) (e := .f32) (D := 64) (stateAt m c t.val t.isLt).dq := by dsimp only [dats]
theorem after_8 (c : Dev nD) (t : Fin cfg0.N) : (dats m 0 c).after 8 t = k0_pay174 (left64b (F := F) (stateAt m c t.val t.isLt).dk) := by dsimp only [dats]
theorem after_9 (c : Dev nD) (t : Fin cfg0.N) : (dats m 0 c).after 9 t = k0_pay175 (stateAt m c t.val t.isLt).dv := by dsimp only [dats]
theorem after_10 (c : Dev nD) (t : Fin cfg0.N) : (dats m 0 c).after 10 t = k0_pay1 (k0_pay176 (stateAt m c t.val t.isLt).dfk) := by dsimp only [dats]
theorem after_11 (c : Dev nD) (t : Fin cfg0.N) : (dats m 0 c).after 11 t = glue (F := F) (e := .f32) (D := 1) (stateAt m c t.val t.isLt).dfq := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
/-- In a later block output 7's buffer holds what the point before left. -/
theorem before_7 (c : Dev nD) (t : Fin cfg0.N) (h0 : ¬ t.val % 32 = 0) (d) :
    (dats m 0 c).before 7 t d = glue (F := F) (e := .f32) (D := 64) (stateAt m c (t.val - 1) (Nat.lt_of_le_of_lt (Nat.sub_le _ _) t.isLt)).dq := by
  have hN : t.val < 256 := lt_of_lt_of_eq t.isLt (show cfg0.N = 256 from N_0)
  rw [Dat.before_out_kept _ 7 rfl t (by omega) (Bool.eq_false_iff.mpr fun h => by have := (flush0_7 _).mp h; dsimp only at this; omega)
    (fun _ => rfl) (fun _ _ => rfl)]
  dsimp only [dats]
/-- In a later block output 11's buffer holds what the point before left. -/
theorem before_11 (c : Dev nD) (t : Fin cfg0.N) (h0 : ¬ t.val % 32 = 0) (d) :
    (dats m 0 c).before 11 t d = glue (F := F) (e := .f32) (D := 1) (stateAt m c (t.val - 1) (Nat.lt_of_le_of_lt (Nat.sub_le _ _) t.isLt)).dfq := by
  have hN : t.val < 256 := lt_of_lt_of_eq t.isLt (show cfg0.N = 256 from N_0)
  rw [Dat.before_out_kept _ 11 rfl t (by omega) (Bool.eq_false_iff.mpr fun h => by have := (flush0_11 _).mp h; dsimp only at this; omega)
    (fun _ => rfl) (fun _ _ => rfl)]
  dsimp only [dats]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d))
    ∗ (∃ d, owns (c : Thread nD τ) (stage8 t) fullShare ((dats m 0 c).before 8 t d))
    ∗ (∃ d, owns (c : Thread nD τ) (stage9 t) fullShare ((dats m 0 c).before 9 t d))
    ∗ (∃ d, owns (c : Thread nD τ) (stage10 t) fullShare ((dats m 0 c).before 10 t d))
    ∗ (∃ d, owns (c : Thread nD τ) (stage11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ owns (c : Thread nD τ) (stage6 t) fullShare ((dats m 0 c).after 6 t)
    ∗ owns (c : Thread nD τ) (stage7 t) fullShare ((dats m 0 c).after 7 t)
    ∗ owns (c : Thread nD τ) (stage8 t) fullShare ((dats m 0 c).after 8 t)
    ∗ owns (c : Thread nD τ) (stage9 t) fullShare ((dats m 0 c).after 9 t)
    ∗ owns (c : Thread nD τ) (stage10 t) fullShare ((dats m 0 c).after 10 t)
    ∗ owns (c : Thread nD τ) (stage11 t) fullShare ((dats m 0 c).after 11 t))

set_option maxHeartbeats 1000000 in
/-- The body at any point does what the state says. -/
theorem body_wp (c : Dev nD) (t : Fin cfg0.N) :
    bodyPre m c t ⊢ wp frame (wpE (defs₀ (F := F)) Variants.none c none) Set.univ (bodyAt0 t) (fun _ => bodyPost m c t) := by
  unfold bodyPre bodyPost bodyAt0
  rw [cc0_fox_bwd_eq_skeleton]
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  rw [show (dats m 0 c).Φ t.castSucc = Pipeline.ΦA spec0 c from rfl, rest_eq]
  have hj := coord_one t
  by_cases h0 : t.val % 32 = 0
  · rw [stateAt_first m c t h0]
    iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hz : ((grid0.coords t) 1).val = 0 := hj.trans h0
    iapply (blockA_wp c (grid0.coords t) (stage0 t) (hstage0_0 ((cfg0.slots t 0).cast nbuf0_0)) (stage1 t) (hstage0_1 ((cfg0.slots t 1).cast nbuf0_1)) (stage2 t) (hstage0_2 ((cfg0.slots t 2).cast nbuf0_2)) (stage3 t) (hstage0_3 ((cfg0.slots t 3).cast nbuf0_3)) (stage4 t) (hstage0_4 ((cfg0.slots t 4).cast nbuf0_4)) (stage5 t) (hstage0_5 ((cfg0.slots t 5).cast nbuf0_5)) (stage6 t) (hstage0_6 ((cfg0.slots t 6).cast nbuf0_6)) (stage7 t) (hstage0_7 ((cfg0.slots t 7).cast nbuf0_7)) (stage8 t) (hstage0_8 ((cfg0.slots t 8).cast nbuf0_8)) (stage9 t) (hstage0_9 ((cfg0.slots t 9).cast nbuf0_9)) (stage10 t) (hstage0_10 ((cfg0.slots t 10).cast nbuf0_10)) (stage11 t) (hstage0_11 ((cfg0.slots t 11).cast nbuf0_11)) scratch0 (Memref.isWhole_whole _) scratch1 (Memref.isWhole_whole _) scratch2 (Memref.isWhole_whole _) scratch3 (Memref.isWhole_whole _) scratch4 (Memref.isWhole_whole _) scratch5 (Memref.isWhole_whole _) scratch6 (Memref.isWhole_whole _) hz (iblk m c 0 t) (iblk m c 1 t) (X0_2 m c t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    unfold Done
    iintro ⟨⟨H0, H1, H2, H3, H4, H5, H6⟩, ⟨%x9, %x13, %hx, H7, H11, H8, H9, H10⟩, HS⟩
    obtain ⟨hx9, hx13⟩ := hx
    obtain rfl := eq_glue x9 _ hx9
    obtain rfl := eq_glue x13 _ hx13
    rw [hz]
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · simp only [before_7 m c t h0, before_11 m c t h0]
    rw [stateAt_next m c t h0, ← hj]
    iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (blockB_wp c (grid0.coords t) (stage0 t) (hstage0_0 ((cfg0.slots t 0).cast nbuf0_0)) (stage1 t) (hstage0_1 ((cfg0.slots t 1).cast nbuf0_1)) (stage2 t) (hstage0_2 ((cfg0.slots t 2).cast nbuf0_2)) (stage3 t) (hstage0_3 ((cfg0.slots t 3).cast nbuf0_3)) (stage4 t) (hstage0_4 ((cfg0.slots t 4).cast nbuf0_4)) (stage5 t) (hstage0_5 ((cfg0.slots t 5).cast nbuf0_5)) (stage6 t) (hstage0_6 ((cfg0.slots t 6).cast nbuf0_6)) (stage7 t) (hstage0_7 ((cfg0.slots t 7).cast nbuf0_7)) (stage8 t) (hstage0_8 ((cfg0.slots t 8).cast nbuf0_8)) (stage9 t) (hstage0_9 ((cfg0.slots t 9).cast nbuf0_9)) (stage10 t) (hstage0_10 ((cfg0.slots t 10).cast nbuf0_10)) (stage11 t) (hstage0_11 ((cfg0.slots t 11).cast nbuf0_11)) scratch0 (Memref.isWhole_whole _) scratch1 (Memref.isWhole_whole _) scratch2 (Memref.isWhole_whole _) scratch3 (Memref.isWhole_whole _) scratch4 (Memref.isWhole_whole _) scratch5 (Memref.isWhole_whole _) scratch6 (Memref.isWhole_whole _) (fun h => h0 (hj.symm.trans h)) (iblk m c 0 t) (iblk m c 1 t) (X0_2 m c t) (iblk m c 3 t) (iblk m c 4 t) (iblk m c 5 t) (iblk m c 6 t) _ _ _ _ (fun u hu => colTile_glue _ u hu) (fun u hu => colTile_glue _ u hu) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    unfold Done
    iintro ⟨⟨H0, H1, H2, H3, H4, H5, H6⟩, ⟨%x9, %x13, %hx, H7, H11, H8, H9, H10⟩, HS⟩
    obtain ⟨hx9, hx13⟩ := hx
    obtain rfl := eq_glue x9 _ hx9
    obtain rfl := eq_glue x13 _ hx13
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The pipeline's obligation for its body. -/
theorem body_obligation (c : Dev nD) : BodyObligation (dats (F := F) m 0 c) (defs₀ (F := F)) Variants.none () Set.univ := fun t => by
  rw [bigSep_W0, bigSep_W0, defs₀_row]
  exact triple_restated (body_wp m c t) rfl .rfl fun _ => .rfl

/-! ## The run -/

set_option backward.isDefEq.respectTransparency.types false in
/-- Every execution ends, with every array of the pipeline at what the proof data gives and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- Every execution ends, the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.KernelIdeal.Gen

end
-- ==== Proof.FrameWords.lean ====
/- The frame of the program at words, from the run over any float values. -/
module

public import proofs.«01_k».proof.Proof.SameText
public import proofs.«01_k».proof.Proof.Run

@[expose] public section

set_option maxRecDepth 100000
set_option maxHeartbeats 4000000

noncomputable section

namespace Cert.Words

open Idealize.ShloMosaic Idealize.SL.Sem

/-- The tables of bodies are the same. -/
theorem defs_same : Cert.Kernel.defs (F := Bits) = Cert.KernelIdeal.defs (F := Bits) := by
  unfold Cert.Kernel.defs Cert.KernelIdeal.defs
  rw [defs₀_same]
  rfl

/-- The program at words runs to its end, its arguments unchanged and every counter at zero. -/
theorem frame_kernel : Cert.quiescent_Kernel := by
  intro m ρ _
  rw [defs_same, main_same]
  exact Cert.KernelIdeal.Gen.run_frame (F := Bits) m ρ

end Cert.Words

end
-- ==== Proof.RefRun.lean ====
/- The reference runs to its end. -/
module

public import proofs.«01_k».proof.Defs
public import proofs.«01_k».proof.Proof.Gen.ReferenceIdeal
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Ref

open Idealize.ShloMosaic Idealize.SL.Sem

set_option maxHeartbeats 4000000 in
/-- The reference runs to its end, its arguments unchanged and every counter at zero. -/
theorem frame_reference : Cert.quiescent_ReferenceIdeal := by
  intro m g _
  hlo_run
  · exact fun _ => ⟨trivial, trivial, trivial, trivial, trivial⟩
  · exact sem_eq_zero_of_no_sems rfl _

end Cert.Ref

end
-- ==== Proof.RefVal.lean ====
/- The reference's stages, and its run to them. -/
module

public import proofs.«01_k».proof.Defs
public import proofs.«01_k».proof.Proof.Gen.ReferenceIdeal
public import Idealize.ShloMosaic.Adequacy
public import Idealize.ShloMosaic.Init
public import Idealize.ShloMosaic.Lib.Claim
public import Idealize.ShloMosaic.Lib.Pipeline.ValueKit
public import Idealize.ShloMosaic.Lib.StableHlo.ReadAt

@[expose] public section

set_option maxRecDepth 16384

noncomputable section

namespace Cert.Ref

open Idealize.ShloMosaic Idealize.SL.Sem Cert.ReferenceIdeal Cert.ReferenceIdeal.Facts₀ Cert.ReferenceIdeal.Facts

/-- Where a key does not come after the query. -/
def maskR : IVec S8x16384x16384 1 :=
  broadcastInDim S8x16384x16384 ![0, 1, 2] bcast_S1x16384x16384_S8x16384x16384_0_1_2
      (cmpi .sle (broadcastInDim S1x16384x16384 ![0, 1, 2] bcast_S1x1x16384_S1x16384x16384_0_1_2 (broadcastInDim S1x1x16384 ![2] bcast_S16384_S1x1x16384_2 (iotaInDim S16384 32 0)))
        (broadcastInDim S1x16384x16384 ![0, 1, 2] bcast_S1x16384x1_S1x16384x16384_0_1_2 (broadcastInDim S1x16384x1 ![1] bcast_S16384_S1x16384x1_1 (iotaInDim S16384 32 0))))

/-- The masked scores. -/
def scoreR (q k : FVec Ideal S16384x8x64 .f32) (f : FVec Ideal S8x16384 .f32) : FVec Ideal S8x16384x16384 .f32 :=
  select maskR
    (subf (addf (mulf (Host.dotGeneral dot_S16384x8x64_S16384x8x64_S8x16384x16384_2_2_0_0_1_1 none q k) (broadcastInDim S8x16384x16384 ![] bcast_S_S8x16384x16384 (constant S_ .f32 0x3E000000#32)))
        (broadcastInDim S8x16384x16384 ![0, 1, 2] bcast_S8x16384x1_S8x16384x16384_0_1_2 (broadcastInDim S8x16384x1 ![0, 1] bcast_S8x16384_S8x16384x1_0_1 f)))
      (broadcastInDim S8x16384x16384 ![0, 1, 2] bcast_S8x1x16384_S8x16384x16384_0_1_2 (broadcastInDim S8x1x16384 ![0, 2] bcast_S8x16384_S8x1x16384_0_2 f)))
    (broadcastInDim S8x16384x16384 ![] bcast_S_S8x16384x16384 (constant S_ .f32 0xFF800000#32))

/-- Each row's maximum. -/
def maxR (s : FVec Ideal S8x16384x16384 .f32) : FVec Ideal S8x16384x1 .f32 :=
  broadcastInDim S8x16384x1 ![0, 1] bcast_S8x16384_S8x16384x1_0_1 (maximumf (broadcastInDim S8x16384 ![] bcast_S_S8x16384 (constant S_ .f32 0xFF800000#32))
    (Host.reduce FloatOps.maximumf s (constant S_ .f32 0xFF800000#32) reducesTo_S8x16384x16384_S8x16384_d2 h_S_))

/-- The exponentials of the scores, off their row's maximum. -/
def expoR (s : FVec Ideal S8x16384x16384 .f32) (t : FVec Ideal S8x16384x1 .f32) : FVec Ideal S8x16384x16384 .f32 :=
  Host.exp (subf s (broadcastInDim S8x16384x16384 ![0, 1, 2] bcast_S8x16384x1_S8x16384x16384_0_1_2 t))

/-- Each row's sum of exponentials. -/
def massR (e : FVec Ideal S8x16384x16384 .f32) : FVec Ideal S8x16384x1 .f32 :=
  broadcastInDim S8x16384x1 ![0, 1] bcast_S8x16384_S8x16384x1_0_1 (Host.reduceAdd e (constant S_ .f32 0x00000000#32) reducesTo_S8x16384x16384_S8x16384_d2 h_S_)

/-- The cotangents against the values. -/
def dprobR (g v : FVec Ideal S16384x8x64 .f32) : FVec Ideal S8x16384x16384 .f32 :=
  Host.dotGeneral dot_S8x64x16384_S16384x8x64_S8x16384x16384_1_2_2_0_0_1 none (transpose S8x64x16384 [1, 2, 0] g transposes_S16384x8x64_S8x64x16384_1_2_0) v

/-- What a row's sum of exponentials takes from its gradient. -/
def meanR (p e : FVec Ideal S8x16384x16384 .f32) (l : FVec Ideal S8x16384x1 .f32) : FVec Ideal S8x16384 .f32 :=
  Host.reduceAdd (Host.negf (shapeCast S8x16384x1 (Host.reduceAdd (mulf (mulf p (broadcastInDim S8x16384x16384 ![0, 1, 2] bcast_S8x16384x1_S8x16384x16384_0_1_2
      (Host.divf (broadcastInDim S8x16384x1 ![] bcast_S_S8x16384x1 (constant S_ .f32 0x3F800000#32)) (mulf l l)))) e)
    (constant S_ .f32 0x00000000#32) reducesTo_S8x16384x16384_S8x16384_d2 h_S_) shapeCasts_S8x16384_S8x16384x1)) (constant S_ .f32 0x00000000#32) reducesTo_S8x16384x1_S8x16384_d2 h_S_

/-- The gradient of the scores. -/
def dscoreR (p e : FVec Ideal S8x16384x16384 .f32) (l : FVec Ideal S8x16384x1 .f32) (w : FVec Ideal S8x16384 .f32) : FVec Ideal S8x16384x16384 .f32 :=
  select maskR (mulf (addf (Host.divf p (broadcastInDim S8x16384x16384 ![0, 1, 2] bcast_S8x16384x1_S8x16384x16384_0_1_2 l))
    (broadcastInDim S8x16384x16384 ![0, 1] bcast_S8x16384_S8x16384x16384_0_1 w)) e) (broadcastInDim S8x16384x16384 ![] bcast_S_S8x16384x16384 (constant S_ .f32 0x00000000#32))

/-- The gradient of the scores, scaled. -/
def scaledR (s : FVec Ideal S8x16384x16384 .f32) : FVec Ideal S8x16384x16384 .f32 :=
  mulf s (broadcastInDim S8x16384x16384 ![] bcast_S_S8x16384x16384 (constant S_ .f32 0x3E000000#32))

/-- The gradient of the queries. -/
def dqR (s : FVec Ideal S8x16384x16384 .f32) (k : FVec Ideal S16384x8x64 .f32) : FVec Ideal S8x64x16384 .f32 :=
  transpose S8x64x16384 [1, 2, 0] (transpose S16384x8x64 [1, 0, 2] (Host.dotGeneral dot_S8x16384x16384_S16384x8x64_S8x16384x64_2_0_1_2_0_1 none (scaledR s) k)
    transposes_S8x16384x64_S16384x8x64_1_0_2) transposes_S16384x8x64_S8x64x16384_1_2_0

/-- The gradient of the keys. -/
def dkR (s : FVec Ideal S8x16384x16384 .f32) (q : FVec Ideal S16384x8x64 .f32) : FVec Ideal S8x16384x64 .f32 :=
  transpose S8x16384x64 [1, 0, 2] (transpose S16384x8x64 [1, 0, 2] (Host.dotGeneral dot_S8x16384x16384_S16384x8x64_S8x16384x64_1_0_2_2_0_1 none (scaledR s) q)
    transposes_S8x16384x64_S16384x8x64_1_0_2) transposes_S16384x8x64_S8x16384x64_1_0_2

/-- The gradient of the values. -/
def dvR (g : FVec Ideal S16384x8x64 .f32) (e : FVec Ideal S8x16384x16384 .f32) (l : FVec Ideal S8x16384x1 .f32) : FVec Ideal S8x16384x64 .f32 :=
  transpose S8x16384x64 [1, 0, 2] (transpose S16384x8x64 [2, 0, 1] (Host.dotGeneral dot_S8x64x16384_S8x16384x16384_S8x64x16384_2_1_1_2_0_0 none
    (transpose S8x64x16384 [1, 2, 0] g transposes_S16384x8x64_S8x64x16384_1_2_0) (Host.divf e (broadcastInDim S8x16384x16384 ![0, 1, 2] bcast_S8x16384x1_S8x16384x16384_0_1_2 l)))
    transposes_S8x64x16384_S16384x8x64_2_0_1) transposes_S16384x8x64_S8x16384x64_1_0_2

/-- The gradient of the keys' gates. -/
def dfkR (s : FVec Ideal S8x16384x16384 .f32) : FVec Ideal S8x1x16384 .f32 :=
  broadcastInDim S8x1x16384 ![0, 2] bcast_S8x16384_S8x1x16384_0_2 (Host.reduceAdd (shapeCast S8x1x16384
    (Host.reduceAdd (Host.negf s) (constant S_ .f32 0x00000000#32) reducesTo_S8x16384x16384_S8x16384_d1 h_S_) shapeCasts_S8x16384_S8x1x16384)
    (constant S_ .f32 0x00000000#32) reducesTo_S8x1x16384_S8x16384_d1 h_S_)

/-- The gradient of the queries' gates. -/
def dfqR (s : FVec Ideal S8x16384x16384 .f32) : FVec Ideal S8x1x16384 .f32 :=
  broadcastInDim S8x1x16384 ![0, 2] bcast_S8x16384_S8x1x16384_0_2 (Host.reduceAdd (shapeCast S8x16384x1
    (Host.reduceAdd s (constant S_ .f32 0x00000000#32) reducesTo_S8x16384x16384_S8x16384_d2 h_S_) shapeCasts_S8x16384_S8x16384x1)
    (constant S_ .f32 0x00000000#32) reducesTo_S8x16384x1_S8x16384_d2 h_S_)

/-- The exponentials from the arguments. -/
def expoOf (q k : FVec Ideal S16384x8x64 .f32) (f : FVec Ideal S8x16384 .f32) : FVec Ideal S8x16384x16384 .f32 :=
  expoR (scoreR q k f) (maxR (scoreR q k f))

/-- The gradient of the scores from the arguments. -/
def dscoreOf (q k v : FVec Ideal S16384x8x64 .f32) (f : FVec Ideal S8x16384 .f32) (g : FVec Ideal S16384x8x64 .f32) : FVec Ideal S8x16384x16384 .f32 :=
  dscoreR (dprobR g v) (expoOf q k f) (massR (expoOf q k f)) (meanR (dprobR g v) (expoOf q k f) (massR (expoOf q k f)))

set_option maxHeartbeats 4000000 in
/-- The reference ends with its five results at its stages, its arguments unchanged. -/
theorem run_value (m' : (ℓ : Loc nD τ sig) → Buf (Elt Ideal) ℓ) (g' : Dev nD → PrngReg) :
    θ_run (defs (F := Ideal)) (onTc (τ := τ) (main (F := Ideal))) ⟨m', fun _ => 0, g'⟩ (fun r => ∀ c : Dev nD,
      r.2.mem ((c.tc : Thread nD τ).loc main_v76) = dqR (dscoreOf (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) (m' ((c.tc : Thread nD τ).loc main_arg1))
      ∧ r.2.mem ((c.tc : Thread nD τ).loc main_v77) = dkR (dscoreOf (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) (m' ((c.tc : Thread nD τ).loc main_arg0))
      ∧ r.2.mem ((c.tc : Thread nD τ).loc main_v78) = dvR (m' ((c.tc : Thread nD τ).loc main_arg4)) (expoOf (m' ((c.tc : Thread nD τ).loc main_arg0)) (m' ((c.tc : Thread nD τ).loc main_arg1)) (m' ((c.tc : Thread nD τ).loc main_arg3))) (massR (expoOf (m' ((c.tc : Thread nD τ).loc main_arg0)) (m' ((c.tc : Thread nD τ).loc main_arg1)) (m' ((c.tc : Thread nD τ).loc main_arg3))))
      ∧ r.2.mem ((c.tc : Thread nD τ).loc main_v79) = dfkR (dscoreOf (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)))
      ∧ r.2.mem ((c.tc : Thread nD τ).loc main_v80) = dfqR (dscoreOf (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) := by
  hlo_run
  all_goals (try simp -implicitDefEqProofs only [StableHlo.TRef.toBuf, StableHlo.TRef.ofBuf, cast_cast, cast_eq])
  all_goals (try rfl)

end Cert.Ref

end
-- ==== Proof.Host.lean ====
/- The host's stages of the idealized program: what each array that the kernel is launched on is computed by. -/
module

public import proofs.«01_k».proof.Proof.Gen.KernelIdeal.Frame
public import Idealize.ShloMosaic.Lib.Pipeline.ValueKit
public import Idealize.ShloMosaic.Lib.StableHlo.ReadAt

@[expose] public section

set_option maxRecDepth 16384

noncomputable section

namespace Cert.KernelIdeal.Gen

open Idealize.ShloMosaic Idealize.ShloMosaic.TcCoe

/-- The masked scores. -/
def scoreW (q k : FVec Ideal S16384x8x64 .f32) (f : FVec Ideal S8x16384 .f32) : FVec Ideal S8x16384x16384 .f32 :=
  select (broadcastInDim S8x16384x16384 ![0, 1, 2] bcast_S1x16384x16384_S8x16384x16384_0_1_2
      (cmpi .sle (broadcastInDim S1x16384x16384 ![0, 1, 2] bcast_S1x1x16384_S1x16384x16384_0_1_2 (broadcastInDim S1x1x16384 ![2] bcast_S16384_S1x1x16384_2 (iotaInDim S16384 32 0)))
        (broadcastInDim S1x16384x16384 ![0, 1, 2] bcast_S1x16384x1_S1x16384x16384_0_1_2 (broadcastInDim S1x16384x1 ![1] bcast_S16384_S1x16384x1_1 (iotaInDim S16384 32 0)))))
    (subf (addf (mulf (Host.dotGeneral dot_S16384x8x64_S16384x8x64_S8x16384x16384_2_2_0_0_1_1 none q k) (broadcastInDim S8x16384x16384 ![] bcast_S_S8x16384x16384 (constant S_ .f32 0x3E000000#32)))
        (broadcastInDim S8x16384x16384 ![0, 1, 2] bcast_S8x16384x1_S8x16384x16384_0_1_2 (broadcastInDim S8x16384x1 ![0, 1] bcast_S8x16384_S8x16384x1_0_1 f)))
      (broadcastInDim S8x16384x16384 ![0, 1, 2] bcast_S8x1x16384_S8x16384x16384_0_1_2 (broadcastInDim S8x1x16384 ![0, 2] bcast_S8x16384_S8x1x16384_0_2 f)))
    (broadcastInDim S8x16384x16384 ![] bcast_S_S8x16384x16384 (constant S_ .f32 0xFF800000#32))

/-- Each row's maximum. -/
def maxW (s : FVec Ideal S8x16384x16384 .f32) : FVec Ideal S8x16384x1 .f32 :=
  broadcastInDim S8x16384x1 ![0, 1] bcast_S8x16384_S8x16384x1_0_1 (Host.reduce FloatOps.maximumf s (constant S_ .f32 0xFF800000#32) reducesTo_S8x16384x16384_S8x16384_d2 h_S_)

/-- The exponentials of the scores, off their row's maximum. -/
def expoW (s : FVec Ideal S8x16384x16384 .f32) (t : FVec Ideal S8x16384x1 .f32) : FVec Ideal S8x16384x16384 .f32 :=
  Host.exp (subf s (broadcastInDim S8x16384x16384 ![0, 1, 2] bcast_S8x16384x1_S8x16384x16384_0_1_2 t))

/-- Each row's sum of exponentials. -/
def massW (e : FVec Ideal S8x16384x16384 .f32) : FVec Ideal S8x16384x1 .f32 :=
  broadcastInDim S8x16384x1 ![0, 1] bcast_S8x16384_S8x16384x1_0_1 (Host.reduceAdd e (constant S_ .f32 0x00000000#32) reducesTo_S8x16384x16384_S8x16384_d2 h_S_)

/-- The output of the attention. -/
def outW (v : FVec Ideal S16384x8x64 .f32) (e : FVec Ideal S8x16384x16384 .f32) (l : FVec Ideal S8x16384x1 .f32) : FVec Ideal S16384x8x64 .f32 :=
  transpose S16384x8x64 [2, 0, 1] (Host.dotGeneral dot_S16384x8x64_S8x16384x16384_S8x64x16384_0_2_2_1_1_0 none v
    (Host.divf e (broadcastInDim S8x16384x16384 ![0, 1, 2] bcast_S8x16384x1_S8x16384x16384_0_1_2 l))) transposes_S8x64x16384_S16384x8x64_2_0_1

/-- The logarithm of each row's sum, to the base two. -/
def lseW (t l : FVec Ideal S8x16384x1 .f32) : FVec Ideal S8x1x16384 .f32 :=
  broadcastInDim S8x1x16384 ![0, 2] bcast_S8x16384_S8x1x16384_0_2 (shapeCast S8x16384
    (Host.divf (addf t (Host.log l)) (broadcastInDim S8x16384x1 ![] bcast_S_S8x16384x1 (Host.log (constant S_ .f32 0x40000000#32)))) shapeCasts_S8x16384x1_S8x16384)

/-- Each row's cotangent against its output. -/
def deltaW (g o : FVec Ideal S16384x8x64 .f32) : FVec Ideal S8x1x16384 .f32 :=
  broadcastInDim S8x1x16384 ![0, 2] bcast_S8x16384_S8x1x16384_0_2 (transpose S8x16384 [1, 0]
    (Host.reduceAdd (mulf g o) (constant S_ .f32 0x00000000#32) reducesTo_S16384x8x64_S16384x8_d2 h_S_) transposes_S16384x8_S8x16384_1_0)

variable (m : (ℓ : Loc nD τ sig) → Buf (Elt Ideal) ℓ) (c : Dev nD)

/-- The array of the rows' logarithms. -/
theorem V_lse : V m c main_v69
    = lseW (maxW (scoreW (m ((c : Thread nD τ).loc main_arg0)) (m ((c : Thread nD τ).loc main_arg1)) (m ((c : Thread nD τ).loc main_arg3))))
        (massW (expoW (scoreW (m ((c : Thread nD τ).loc main_arg0)) (m ((c : Thread nD τ).loc main_arg1)) (m ((c : Thread nD τ).loc main_arg3)))
          (maxW (scoreW (m ((c : Thread nD τ).loc main_arg0)) (m ((c : Thread nD τ).loc main_arg1)) (m ((c : Thread nD τ).loc main_arg3)))))) := by
  show StableHlo.after (List.flatten [hostOps0, hostOps0_1, hostOps0_2, hostOps0_3, hostOps0_4]) (fun b => m (c, b)) _ = _
  after_reads_simp
  simp -implicitDefEqProofs only [StableHlo.TRef.toBuf, StableHlo.TRef.ofBuf, cast_cast, cast_eq]
  rfl

/-- The array of the cotangents against the outputs. -/
theorem V_delta : V m c main_v84
    = deltaW (m ((c : Thread nD τ).loc main_arg4)) (outW (m ((c : Thread nD τ).loc main_arg2))
        (expoW (scoreW (m ((c : Thread nD τ).loc main_arg0)) (m ((c : Thread nD τ).loc main_arg1)) (m ((c : Thread nD τ).loc main_arg3)))
          (maxW (scoreW (m ((c : Thread nD τ).loc main_arg0)) (m ((c : Thread nD τ).loc main_arg1)) (m ((c : Thread nD τ).loc main_arg3)))))
        (massW (expoW (scoreW (m ((c : Thread nD τ).loc main_arg0)) (m ((c : Thread nD τ).loc main_arg1)) (m ((c : Thread nD τ).loc main_arg3)))
          (maxW (scoreW (m ((c : Thread nD τ).loc main_arg0)) (m ((c : Thread nD τ).loc main_arg1)) (m ((c : Thread nD τ).loc main_arg3))))))) := by
  show StableHlo.after (List.flatten [hostOps0, hostOps0_1, hostOps0_2, hostOps0_3, hostOps0_4]) (fun b => m (c, b)) _ = _
  after_reads_simp
  simp -implicitDefEqProofs only [StableHlo.TRef.toBuf, StableHlo.TRef.ofBuf, cast_cast, cast_eq]
  rfl

end Cert.KernelIdeal.Gen

end
-- ==== Proof.Spec.lean ====
/- The mathematics: forgetting attention over real numbers, its gradient, and how sums over rows are cut
   into tiles and blocks. -/
module

public import Mathlib.Analysis.SpecialFunctions.Log.Basic
public import Mathlib.Analysis.SpecialFunctions.Pow.Real
public import Mathlib.Data.EReal.Basic
public import Mathlib.Data.EReal.Operations
public import Mathlib.Algebra.BigOperators.Fin

@[expose] public section

noncomputable section

namespace Cert.Spec

/-- The arguments as real numbers: queries, keys, values, accumulated gates, cotangents. -/
structure Args where
  q : Fin 16384 → Fin 8 → Fin 64 → ℝ
  k : Fin 16384 → Fin 8 → Fin 64 → ℝ
  v : Fin 16384 → Fin 8 → Fin 64 → ℝ
  f : Fin 8 → Fin 16384 → ℝ
  c : Fin 16384 → Fin 8 → Fin 64 → ℝ

variable (A : Args) (h : Fin 8)

/-- The score of query `i` against key `j`. -/
def score (i j : Fin 16384) : ℝ := (∑ d : Fin 64, A.q i h d * A.k j h d) * (1 / 8) + A.f h i - A.f h j

/-- The exponential of a score taken off a level `M`; a key after the query counts for nothing. -/
def expo (M : ℝ) (i j : Fin 16384) : ℝ := if j ≤ i then Real.exp (score A h i j - M) else 0

/-- The sum of a row's exponentials. -/
def mass (M : ℝ) (i : Fin 16384) : ℝ := ∑ j : Fin 16384, expo A h M i j

/-- The logarithm of a row's sum of exponentials. -/
def lse (i : Fin 16384) : ℝ := Real.log (mass A h 0 i)

/-- The probability of key `j` for query `i`. -/
def prob (i j : Fin 16384) : ℝ := expo A h (lse A h i) i j

/-- The product of a cotangent and a value. -/
def dprob (i j : Fin 16384) : ℝ := ∑ d : Fin 64, A.c i h d * A.v j h d

/-- A row's mean of those products. -/
def delta (i : Fin 16384) : ℝ := ∑ j : Fin 16384, prob A h i j * dprob A h i j

/-- The gradient of the scores. -/
def dscore (i j : Fin 16384) : ℝ := prob A h i j * (dprob A h i j - delta A h i)

/-- The gradient of the queries. -/
def dq (i : Fin 16384) (d : Fin 64) : ℝ := (∑ j : Fin 16384, A.k j h d * dscore A h i j) * (1 / 8)
/-- The gradient of the keys. -/
def dk (j : Fin 16384) (d : Fin 64) : ℝ := (∑ i : Fin 16384, dscore A h i j * A.q i h d) * (1 / 8)
/-- The gradient of the values. -/
def dv (j : Fin 16384) (d : Fin 64) : ℝ := ∑ i : Fin 16384, prob A h i j * A.c i h d
/-- The gradient of the keys' gates. -/
def dfk (j : Fin 16384) : ℝ := -∑ i : Fin 16384, dscore A h i j
/-- The gradient of the queries' gates. -/
def dfq (i : Fin 16384) : ℝ := ∑ j : Fin 16384, dscore A h i j

theorem mass_pos (M : ℝ) (i : Fin 16384) : 0 < mass A h M i := by
  refine Finset.sum_pos' (fun j _ => ?_) ⟨i, Finset.mem_univ _, ?_⟩
  · unfold expo; split
    · exact (Real.exp_pos _).le
    · exact le_rfl
  · unfold expo; rw [if_pos le_rfl]; exact Real.exp_pos _

theorem expo_shift (M : ℝ) (i j : Fin 16384) : expo A h M i j = expo A h 0 i j * Real.exp (-M) := by
  unfold expo; split
  · rw [← Real.exp_add]; congr 1; ring
  · rw [zero_mul]

theorem mass_shift (M : ℝ) (i : Fin 16384) : mass A h M i = mass A h 0 i * Real.exp (-M) := by
  unfold mass; rw [Finset.sum_mul]; exact Finset.sum_congr rfl fun j _ => expo_shift A h M i j

/-- The level does not matter to the logarithm of the sum. -/
theorem lse_eq (M : ℝ) (i : Fin 16384) : M + Real.log (mass A h M i) = lse A h i := by
  rw [mass_shift, Real.log_mul (mass_pos A h 0 i).ne' (Real.exp_pos _).ne', Real.log_exp]; unfold lse; ring

/-- The level does not matter to the probabilities. -/
theorem prob_eq (M : ℝ) (i j : Fin 16384) : expo A h M i j / mass A h M i = prob A h i j := by
  have hp := mass_pos A h 0 i
  rw [mass_shift, expo_shift, mul_div_mul_right _ _ (Real.exp_pos _).ne']
  unfold prob; rw [expo_shift A h (lse A h i), Real.exp_neg]; unfold lse; rw [Real.exp_log hp]; rfl

theorem prob_after (i j : Fin 16384) (hj : ¬ j ≤ i) : prob A h i j = 0 := by
  unfold prob expo; rw [if_neg hj]

theorem dscore_after (i j : Fin 16384) (hj : ¬ j ≤ i) : dscore A h i j = 0 := by
  unfold dscore; rw [prob_after A h i j hj, zero_mul]

/-- A power of two of a quotient by the logarithm of two is an exponential. -/
theorem rpow_two (x : ℝ) : Real.rpow 2 (x / Real.log 2) = Real.exp x := by
  show (2 : ℝ) ^ (x / Real.log 2) = Real.exp x
  have h2 : Real.log 2 ≠ 0 := (Real.log_pos (by norm_num)).ne'
  rw [Real.rpow_def_of_pos (by norm_num)]; congr 1; field_simp

/-- The mean of the products is the cotangent against the output. -/
theorem delta_eq (i : Fin 16384) : ∑ d : Fin 64, A.c i h d * (∑ j : Fin 16384, A.v j h d * prob A h i j) = delta A h i := by
  unfold delta dprob
  simp only [Finset.mul_sum]
  rw [Finset.sum_comm]
  refine Finset.sum_congr rfl fun j _ => Finset.sum_congr rfl fun d _ => ?_
  ring

/-! ## Rows in tiles, keys in blocks -/

/-- Row `x` of tile `t`. -/
def row (t : ℕ) (x : Fin 256) : Fin 16384 := ⟨(256 * t + x.val) % 16384, Nat.mod_lt _ (by decide)⟩
/-- Row `k` of block `j`. -/
def key (j : ℕ) (k : Fin 512) : Fin 16384 := ⟨(512 * j + k.val) % 16384, Nat.mod_lt _ (by decide)⟩

theorem row_val (t : ℕ) (ht : t < 64) (x : Fin 256) : (row t x).val = 256 * t + x.val :=
  Nat.mod_eq_of_lt (by have := x.isLt; omega)
theorem key_val (j : ℕ) (hj : j < 32) (k : Fin 512) : (key j k).val = 512 * j + k.val :=
  Nat.mod_eq_of_lt (by have := k.isLt; omega)

/-- A sum over the rows, tile by tile. -/
theorem sum_rows (g : Fin 16384 → ℝ) : ∑ t ∈ Finset.range 64, ∑ x : Fin 256, g (row t x) = ∑ i : Fin 16384, g i := by
  rw [Finset.sum_range (fun t => ∑ x : Fin 256, g (row t x))]
  refine (Fintype.sum_prod_type' (fun (t : Fin 64) (x : Fin 256) => g (row t x))).symm.trans ?_
  refine Fintype.sum_equiv (finProdFinEquiv (m := 64) (n := 256)) _ _ fun p => ?_
  congr 1
  apply Fin.ext
  rw [row_val _ p.1.isLt]
  show _ = p.2.val + 256 * p.1.val
  omega

/-- A sum over the keys, block by block. -/
theorem sum_keys (g : Fin 16384 → ℝ) : ∑ j ∈ Finset.range 32, ∑ k : Fin 512, g (key j k) = ∑ i : Fin 16384, g i := by
  rw [Finset.sum_range (fun j => ∑ k : Fin 512, g (key j k))]
  refine (Fintype.sum_prod_type' (fun (j : Fin 32) (k : Fin 512) => g (key j k))).symm.trans ?_
  refine Fintype.sum_equiv (finProdFinEquiv (m := 32) (n := 512)) _ _ fun p => ?_
  congr 1
  apply Fin.ext
  rw [key_val _ p.1.isLt]
  show _ = p.2.val + 512 * p.1.val
  omega

/-- A sum over the rows that vanishes before block `j`, from the block's first tile on. -/
theorem sum_rows_from (j : ℕ) (hj : j < 32) (g : Fin 16384 → ℝ) (hg : ∀ i : Fin 16384, i.val < 512 * j → g i = 0) :
    ∑ n ∈ Finset.range (64 - 2 * j), ∑ x : Fin 256, g (row (2 * j + n) x) = ∑ i : Fin 16384, g i := by
  rw [← sum_rows g]
  have h64 : 64 = 2 * j + (64 - 2 * j) := by omega
  conv_rhs => rw [h64]
  rw [Finset.sum_range_add]
  rw [Finset.sum_eq_zero (s := Finset.range (2 * j)) (fun t ht => Finset.sum_eq_zero fun x _ => hg _ ?_), zero_add]
  have := Finset.mem_range.mp ht
  rw [row_val _ (by omega)]
  have := x.isLt
  omega

/-- A finite sum of real numbers among the extended reals. -/
theorem coe_sum {ι : Type} (s : Finset ι) (g : ι → ℝ) : ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

end Cert.Spec

end
-- ==== Proof.HostAt.lean ====
/- The host's stages at an index, where the arguments are finite: real numbers, those of the mathematics. -/
module

public import proofs.«01_k».proof.Proof.Host
public import proofs.«01_k».proof.Proof.Spec

@[expose] public section

set_option maxRecDepth 16384

noncomputable section

namespace Cert.KernelIdeal.Gen

open Idealize.ShloMosaic Idealize.ShloMosaic.TcCoe Cert.Spec

/-- The arguments' entries are the real numbers of `A`. -/
structure Holds (A : Args) (q k v : FVec Ideal S16384x8x64 .f32) (f : FVec Ideal S8x16384 .f32) (g : FVec Ideal S16384x8x64 .f32) : Prop where
  q : ∀ s h d, q (ix3 s h d) = ((A.q s h d : ℝ) : EReal)
  k : ∀ s h d, k (ix3 s h d) = ((A.k s h d : ℝ) : EReal)
  v : ∀ s h d, v (ix3 s h d) = ((A.v s h d : ℝ) : EReal)
  f : ∀ h s, f (ix2 h s) = ((A.f h s : ℝ) : EReal)
  g : ∀ s h d, g (ix3 s h d) = ((A.c s h d : ℝ) : EReal)

theorem eighth32 : Ideal.ofBits .f32 0x3E000000#32 = (((1 / 8 : ℝ)) : EReal) := by
  simp [Ideal.ofBits, Ideal.ieee, -EReal.coe_mul]; norm_num

theorem two32 : Ideal.ofBits .f32 0x40000000#32 = ((2 : ℝ) : EReal) := by
  simp [Ideal.ofBits, Ideal.ieee, -EReal.coe_mul]; norm_num

theorem bot32 : Ideal.ofBits .f32 0xFF800000#32 = (⊥ : EReal) := by
  simp [Ideal.ofBits, Ideal.ieee, -EReal.coe_mul]

theorem one32 : Ideal.ofBits .f32 0x3F800000#32 = ((1 : ℝ) : EReal) := by
  simp [Ideal.ofBits, Ideal.ieee, -EReal.coe_mul]; norm_num

/-- The logarithm of two is not zero. -/
theorem ln2_ne : Real.log 2 ≠ 0 := (Real.log_pos (by norm_num)).ne'

theorem log_two32 : Ideal.log (Ideal.ofBits .f32 0x40000000#32) = ((Real.log 2 : ℝ) : EReal) := by
  rw [two32, Ideal.log_coe, if_neg (by norm_num)]

/-- A quotient of real numbers. -/
theorem div_real (a b : ℝ) (hb : b ≠ 0) : Ideal.div (a : EReal) (b : EReal) = ((a / b : ℝ) : EReal) := by
  rw [Ideal.div_coe hb, ← EReal.coe_mul]; congr 1; ring

/-- Comparing two row numbers as 32-bit words compares them as numbers. -/
theorem sle_rows (a b : ℕ) (ha : a < 16384) (hb : b < 16384) :
    IntOp.cmpi CmpIPredicate.sle (BitVec.ofNat 32 a) (BitVec.ofNat 32 b) = BitVec.ofBool (decide (a ≤ b)) := by
  show BitVec.ofBool ((BitVec.ofNat 32 a).sle (BitVec.ofNat 32 b)) = _
  congr 1
  rw [BitVec.sle_eq_decide]
  have h : ∀ a : ℕ, a < 16384 → (BitVec.ofNat 32 a).toInt = a := fun a ha => by
    have h : (BitVec.ofNat 32 a).toNat = a := by rw [BitVec.toNat_ofNat]; exact Nat.mod_eq_of_lt (by omega)
    rw [BitVec.toInt_eq_toNat_of_lt (by omega), h]
  rw [h a ha, h b hb]
  simp only [Nat.cast_le]

theorem select_bool {α : Type} (c : Prop) [Decidable c] (x y : α) :
    Scalar.select (BitVec.ofBool (decide c)) x y = if c then x else y := by
  by_cases h : c <;> simp [Scalar.select, h]

variable {A : Args} {q k v : FVec Ideal S16384x8x64 .f32} {f : FVec Ideal S8x16384 .f32} {g : FVec Ideal S16384x8x64 .f32}

/-- A score, or minus infinity where the key comes after the query. -/
theorem scoreW_at (H : Holds A q k v f g) (h : Fin 8) (i j : Fin 16384) :
    scoreW q k f (ix3 h i j) = if j ≤ i then ((score A h i j : ℝ) : EReal) else ⊥ := by
  pointwise [scoreW]
  rw [sle_rows _ _ j.isLt i.isLt, select_bool, bot32, eighth32, H.f, H.f]
  simp only [H.q, H.k]
  simp only [← EReal.coe_mul, ← coe_sum, ← EReal.coe_add, ← EReal.coe_sub]
  rfl

/-- A row's maximum is a real number. -/
theorem maxW_real (H : Holds A q k v f g) (h : Fin 8) (i : Fin 16384) :
    ∃ M : ℝ, maxW (scoreW q k f) (ix3 h i 0) = ((M : ℝ) : EReal) := by
  have hm : maxW (scoreW q k f) (ix3 h i 0) = Finset.univ.sup fun j : Fin 16384 => (if j ≤ i then ((score A h i j : ℝ) : EReal) else ⊥) := by
    have h1 : maxW (scoreW q k f) (ix3 h i 0) = Finset.fold max (Ideal.ofBits FTy.f32 0xFF800000#32) (fun j : Fin 16384 => scoreW q k f (ix3 h i j)) Finset.univ := by
      pointwise [maxW]
    rw [h1, bot32]
    simp only [scoreW_at H]
    rfl
  obtain ⟨j, _, hj⟩ := Finset.exists_mem_eq_sup (Finset.univ : Finset (Fin 16384)) ⟨i, Finset.mem_univ _⟩
    (fun j : Fin 16384 => (if j ≤ i then ((score A h i j : ℝ) : EReal) else ⊥))
  by_cases hji : j ≤ i
  · exact ⟨score A h i j, by rw [hm, hj, if_pos hji]⟩
  · exfalso
    rw [if_neg hji] at hj
    have := Finset.le_sup (f := fun j : Fin 16384 => (if j ≤ i then ((score A h i j : ℝ) : EReal) else ⊥)) (Finset.mem_univ i)
    rw [hj, if_pos le_rfl, le_bot_iff] at this
    exact EReal.coe_ne_bot _ this

/-- An exponential off a real level. -/
theorem expoW_at (H : Holds A q k v f g) (t : FVec Ideal S8x16384x1 .f32) (h : Fin 8) (i j : Fin 16384) (M : ℝ) (hM : t (ix3 h i 0) = ((M : ℝ) : EReal)) :
    expoW (scoreW q k f) t (ix3 h i j) = ((expo A h M i j : ℝ) : EReal) := by
  have h1 : expoW (scoreW q k f) t (ix3 h i j) = Ideal.exp (scoreW q k f (ix3 h i j) - t (ix3 h i 0)) := by
    pointwise [expoW]
  rw [h1, scoreW_at H, hM]
  unfold expo
  split
  · rw [← EReal.coe_sub, Ideal.exp_coe]
  · rw [EReal.bot_sub, Ideal.exp_bot]; rfl

/-- A row's sum of exponentials. -/
theorem massW_at (e : FVec Ideal S8x16384x16384 .f32) (h : Fin 8) (i : Fin 16384) (M : ℝ) (he : ∀ j, e (ix3 h i j) = ((expo A h M i j : ℝ) : EReal)) :
    massW e (ix3 h i 0) = ((mass A h M i : ℝ) : EReal) := by
  have h1 : massW e (ix3 h i 0) = ∑ j : Fin 16384, e (ix3 h i j) := by
    pointwise [massW]
  rw [h1]; simp only [he]; rw [← coe_sum]; rfl

/-- An entry of the output. -/
theorem outW_at (H : Holds A q k v f g) (e : FVec Ideal S8x16384x16384 .f32) (l : FVec Ideal S8x16384x1 .f32) (h : Fin 8) (i : Fin 16384) (d : Fin 64) (M : ℝ)
    (he : ∀ j, e (ix3 h i j) = ((expo A h M i j : ℝ) : EReal)) (hl : l (ix3 h i 0) = ((mass A h M i : ℝ) : EReal)) :
    outW v e l (ix3 i h d) = ((∑ j : Fin 16384, A.v j h d * prob A h i j : ℝ) : EReal) := by
  have h1 : outW v e l (ix3 i h d) = ∑ j : Fin 16384, v (ix3 j h d) * Ideal.div (e (ix3 h i j)) (l (ix3 h i 0)) := by
    pointwise [outW]
  rw [h1]
  simp only [he, hl, H.v, div_real _ _ (mass_pos A h M i).ne', prob_eq]
  simp only [← EReal.coe_mul, ← coe_sum]

/-- The logarithm of a row's sum, to the base two. -/
theorem lseW_at (t l : FVec Ideal S8x16384x1 .f32) (h : Fin 8) (i : Fin 16384) (M : ℝ)
    (ht : t (ix3 h i 0) = ((M : ℝ) : EReal)) (hl : l (ix3 h i 0) = ((mass A h M i : ℝ) : EReal)) :
    lseW t l (ix3 h 0 i) = ((lse A h i / Real.log 2 : ℝ) : EReal) := by
  have h1 : lseW t l (ix3 h 0 i) = Ideal.div (t (ix3 h i 0) + Ideal.log (l (ix3 h i 0))) (Ideal.log (Ideal.ofBits FTy.f32 0x40000000#32)) := by
    pointwise [lseW]
  rw [h1, ht, hl, log_two32, Ideal.log_coe, if_neg (not_le.mpr (mass_pos A h M i)), ← EReal.coe_add, div_real _ _ ln2_ne, lse_eq]

/-- A row's cotangent against its output. -/
theorem deltaW_at (H : Holds A q k v f g) (o : FVec Ideal S16384x8x64 .f32) (h : Fin 8) (i : Fin 16384)
    (ho : ∀ d, o (ix3 i h d) = ((∑ j : Fin 16384, A.v j h d * prob A h i j : ℝ) : EReal)) :
    deltaW g o (ix3 h 0 i) = ((delta A h i : ℝ) : EReal) := by
  have h1 : deltaW g o (ix3 h 0 i) = ∑ d : Fin 64, g (ix3 i h d) * o (ix3 i h d) := by
    pointwise [deltaW]
  rw [h1]
  simp only [ho, H.g, ← EReal.coe_mul, ← coe_sum]
  rw [delta_eq]

/-! ## The arrays that the kernel is launched on -/

/-- A query's augmented row: scaled, then its gate's pieces, ones and zeros. -/
def augQ (A : Args) (h : Fin 8) (s : Fin 16384) (a : Fin 80) : ℝ :=
  if ha : a.val < 64 then A.q s h ⟨a.val, ha⟩ * (1 / 8 / Real.log 2) else if a.val = 64 then A.f h s / Real.log 2 else if a.val < 67 then 0 else if a.val < 70 then 1 else 0

/-- A key's augmented row: the key, ones, its gate's pieces taken away, and zeros. -/
def augK (A : Args) (h : Fin 8) (s : Fin 16384) (a : Fin 80) : ℝ :=
  if ha : a.val < 64 then A.k s h ⟨a.val, ha⟩ else if a.val < 67 then 1 else if a.val = 67 then -(A.f h s / Real.log 2) else 0

/-- A sum of which only two terms are left. -/
theorem sum_two (x y : ℝ) : ∑ b : Fin 16, (if b.val = 0 then x else if b.val = 3 then y else 0) = x + y := by
  simp only [Fin.sum_univ_succ, Fin.val_zero, Fin.val_succ, Finset.univ_eq_empty, Finset.sum_empty]
  norm_num

/-- The product of the two augmented rows is the score, to the base two. -/
theorem aug_score (A : Args) (h : Fin 8) (i j : Fin 16384) : ∑ a : Fin 80, augK A h j a * augQ A h i a = score A h i j / Real.log 2 := by
  rw [Fin.sum_univ_add (a := 64) (b := 16) (fun a => augK A h j a * augQ A h i a)]
  have h1 : ∀ d : Fin 64, augK A h j (Fin.castAdd 16 d) * augQ A h i (Fin.castAdd 16 d) = A.q i h d * A.k j h d * (1 / 8 / Real.log 2) := fun d => by
    have hd : (Fin.castAdd 16 d).val < 64 := d.isLt
    unfold augK augQ
    rw [dif_pos hd, dif_pos hd]
    show A.k j h d * (A.q i h d * (1 / 8 / Real.log 2)) = _
    ring
  simp only [h1, ← Finset.sum_mul]
  have h2 : ∀ b : Fin 16, augK A h j (Fin.natAdd 64 b) * augQ A h i (Fin.natAdd 64 b)
      = if b.val = 0 then A.f h i / Real.log 2 else if b.val = 3 then -(A.f h j / Real.log 2) else 0 := fun b => by
    unfold augK augQ
    have hb : (Fin.natAdd 64 b).val = 64 + b.val := rfl
    simp only [hb]
    rw [dif_neg (by omega), dif_neg (by omega)]
    have hlt := b.isLt
    by_cases h0 : b.val = 0
    · rw [if_pos (by omega), if_pos (by omega), if_pos h0, one_mul]
    · rw [if_neg h0]
      by_cases h3 : b.val = 3
      · rw [if_neg (by omega), if_pos (by omega), if_neg (by omega), if_neg (by omega), if_pos (by omega), if_pos h3, mul_one]
      · rw [if_neg h3]
        by_cases hl : b.val < 3
        · rw [if_pos (by omega), if_neg (by omega), if_pos (by omega), mul_zero]
        · rw [if_neg (by omega), if_neg (by omega), zero_mul]
  simp only [h2]
  rw [sum_two]
  unfold score
  have := ln2_ne
  field_simp
  ring

variable (m : (ℓ : Loc nD τ sig) → Buf (Elt Ideal) ℓ) (c : Dev nD)

/-- The launch's arguments are the real numbers of `A`. -/
abbrev Real' (A : Args) : Prop :=
  Holds A (m ((c : Thread nD τ).loc main_arg0)) (m ((c : Thread nD τ).loc main_arg1)) (m ((c : Thread nD τ).loc main_arg2)) (m ((c : Thread nD τ).loc main_arg3)) (m ((c : Thread nD τ).loc main_arg4))

variable {m c}

theorem lse_at (H : Real' m c A) (h : Fin 8) (i : Fin 16384) : V m c main_v69 (ix3 h 0 i) = ((lse A h i / Real.log 2 : ℝ) : EReal) := by
  obtain ⟨M, hM⟩ := maxW_real H h i
  rw [V_lse]
  exact lseW_at _ _ h i M hM (massW_at _ h i M fun j => expoW_at H _ h i j M hM)

theorem delta_at (H : Real' m c A) (h : Fin 8) (i : Fin 16384) : V m c main_v84 (ix3 h 0 i) = ((delta A h i : ℝ) : EReal) := by
  obtain ⟨M, hM⟩ := maxW_real H h i
  rw [V_delta]
  exact deltaW_at H _ h i fun d => outW_at H _ _ h i d M (fun j => expoW_at H _ h i j M hM) (massW_at _ h i M fun j => expoW_at H _ h i j M hM)

theorem do_at (H : Real' m c A) (h : Fin 8) (s : Fin 16384) (d : Fin 64) : V m c main_v80 (ix3 h s d) = ((A.c s h d : ℝ) : EReal) := by
  show StableHlo.after (List.flatten [hostOps0, hostOps0_1, hostOps0_2, hostOps0_3, hostOps0_4]) (fun b => m (c, b)) _ _ = _
  after_reads_at
  exact H.g s h d

theorem v_at (H : Real' m c A) (h : Fin 8) (s : Fin 16384) (d : Fin 128) (hd : d.val < 64) : V m c main_v35 (ix3 h s d) = ((A.v s h ⟨d.val, hd⟩ : ℝ) : EReal) := by
  show StableHlo.after (List.flatten [hostOps0, hostOps0_1, hostOps0_2, hostOps0_3, hostOps0_4]) (fun b => m (c, b)) _ _ = _
  after_reads_at
  rw [dif_pos hd]
  after_reads_at
  exact H.v s h ⟨d.val, hd⟩

theorem kT_at (H : Real' m c A) (h : Fin 8) (s : Fin 16384) (d : Fin 80) (hd : d.val < 64) : V m c main_v32 (ix3 h d s) = ((A.k s h ⟨d.val, hd⟩ : ℝ) : EReal) := by
  show StableHlo.after (List.flatten [hostOps0, hostOps0_1, hostOps0_2, hostOps0_3, hostOps0_4]) (fun b => m (c, b)) _ _ = _
  after_reads_at
  rw [dif_pos hd]
  after_reads_at
  exact H.k s h ⟨d.val, hd⟩

/-- A number taken away from itself, and so on: what is left of a gate after its first piece. -/
theorem left_over (r : ℝ) : ((r : ℝ) : EReal) - ((r : ℝ) : EReal) = ((0 : ℝ) : EReal) := by rw [← EReal.coe_sub, sub_self]

theorem gate_div (H : Real' m c A) (h : Fin 8) (s : Fin 16384) :
    Ideal.div (m (c, Proc.tc.devRef main_arg3) (ix2 h s)) (Ideal.log (Ideal.ofBits FTy.f32 0x40000000#32)) = ((A.f h s / Real.log 2 : ℝ) : EReal) := by
  have h1 : (m (c, Proc.tc.devRef main_arg3) (ix2 h s) : EReal) = ((A.f h s : ℝ) : EReal) := H.f h s
  rw [h1, log_two32, div_real _ _ ln2_ne]

theorem k_at (H : Real' m c A) (h : Fin 8) (s : Fin 16384) (d : Fin 80) : V m c main_v27 (ix3 h s d) = ((augK A h s d : ℝ) : EReal) := by
  show StableHlo.after (List.flatten [hostOps0, hostOps0_1, hostOps0_2, hostOps0_3, hostOps0_4]) (fun b => m (c, b)) _ _ = _
  (try after_reads_at)
  (try after_reads_at)
  (try after_reads_at)
  (try after_reads_at)
  rw [gate_div H, left_over, left_over]
  unfold augK
  by_cases h1 : d.val < 64
  · rw [dif_pos h1, dif_pos h1]; exact H.k s h ⟨d.val, h1⟩
  · rw [dif_neg h1, dif_neg h1]
    by_cases h2 : d.val < 67
    · rw [dif_pos (show d.val - 64 < 3 by omega), if_pos h2]; rfl
    · rw [dif_neg (show ¬ d.val - 64 < 3 by omega), if_neg h2]
      by_cases h3 : d.val = 67
      · rw [dif_pos (show d.val - 64 - 3 < 3 by omega), dif_pos (show d.val - 64 - 3 < 1 by omega), if_pos h3]; exact (EReal.coe_neg _).symm
      · rw [if_neg h3]
        by_cases h4 : d.val - 64 - 3 < 3
        · rw [dif_pos h4, dif_neg (show ¬ d.val - 64 - 3 < 1 by omega)]
          have e : -((0 : ℝ) : EReal) = ((0 : ℝ) : EReal) := by rw [← EReal.coe_neg, neg_zero]
          split <;> exact e
        · rw [dif_neg h4]; rfl

theorem q_at (H : Real' m c A) (h : Fin 8) (s : Fin 16384) (d : Fin 80) : V m c main_v78 (ix3 h s d) = ((augQ A h s d : ℝ) : EReal) := by
  show StableHlo.after (List.flatten [hostOps0, hostOps0_1, hostOps0_2, hostOps0_3, hostOps0_4]) (fun b => m (c, b)) _ _ = _
  (try after_reads_at)
  (try after_reads_at)
  (try after_reads_at)
  (try after_reads_at)
  rw [gate_div H, left_over, left_over, log_two32, eighth32, div_real _ _ ln2_ne]
  unfold augQ
  have hs : IntOp.cmpi CmpIPredicate.slt (BitVec.ofNat 32 d.val) 64#32 = BitVec.ofBool (decide (d.val < 64)) := by
    revert d; decide +kernel
  have h1c : (id (constant (F := Ideal) S_ FTy.f32 1065353216#32) ix0 : EReal) = ((1 : ℝ) : EReal) := one32
  rw [hs, select_bool, h1c]
  by_cases h1 : d.val < 64
  · rw [dif_pos h1, dif_pos h1, if_pos h1, EReal.coe_mul]; exact congrArg (· * _) (H.q s h ⟨d.val, h1⟩)
  · rw [dif_neg h1, dif_neg h1, if_neg h1]
    have one_r : ∀ r : ℝ, (r : EReal) * ((1 : ℝ) : EReal) = (r : EReal) := fun r => by rw [← EReal.coe_mul, mul_one]
    by_cases h2 : d.val < 67
    · rw [dif_pos (show d.val - 64 < 3 by omega)]
      by_cases h3 : d.val = 64
      · rw [dif_pos (show d.val - 64 < 1 by omega), if_pos h3, one_r]
      · rw [dif_neg (show ¬ d.val - 64 < 1 by omega), if_neg h3, if_pos h2]
        split <;> exact one_r 0
    · rw [dif_neg (show ¬ d.val - 64 < 3 by omega), if_neg (show ¬ d.val = 64 by omega), if_neg h2]
      by_cases h4 : d.val < 70
      · rw [dif_pos (show d.val - 64 - 3 < 3 by omega), if_pos h4]; exact one_r 1
      · rw [dif_neg (show ¬ d.val - 64 - 3 < 3 by omega), if_neg h4]; exact one_r 0

end Cert.KernelIdeal.Gen

end
-- ==== Proof.Point.lean ====
/- The steps of the kernel's body at an index, over the extended reals. -/
module

public import proofs.«01_k».proof.Proof.Steps
public import Idealize.ShloMosaic.Lib.Pipeline.ValueKit

@[expose] public section

set_option maxRecDepth 16384

noncomputable section

namespace Cert.KernelIdeal.Gen

open Idealize.ShloMosaic Cert.Fox

/-- One eighth. -/
theorem eighth : Ideal.ofBits .f32 0x3E000000#32 = (((1 / 8 : ℝ)) : EReal) := by
  simp [Ideal.ofBits, Ideal.ieee, -EReal.coe_mul]; norm_num

/-- The stand-in for minus infinity is minus infinity. -/
theorem named_mask : Named.named (F := Ideal) κ "mask" (φ := .f32) 0xF149F2CA#32 = (⊥ : EReal) :=
  IdealRules.named_const.ideal_named_scalar _ _ _ _ rfl

/-- The named logarithm of two. -/
theorem named_ln2 : Named.named (F := Ideal) κ "ln2" (φ := .f32) 0x3F317218#32 = ((Real.log 2 : ℝ) : EReal) :=
  IdealRules.named_const.ideal_named_scalar _ _ _ _ rfl

/-- Comparing two small row numbers as 32-bit words compares them as numbers. -/
theorem sle_small (a b o : ℕ) (ha : a < 512) (hb : b < 256) (ho : o ≤ 256) :
    IntOp.cmpi CmpIPredicate.sle (BitVec.ofNat 32 a) (IntOp.addi (BitVec.ofNat 32 b) (BitVec.ofNat 32 o)) = BitVec.ofBool (decide (a ≤ b + o)) := by
  show BitVec.ofBool ((BitVec.ofNat 32 a).sle (BitVec.ofNat 32 b + BitVec.ofNat 32 o)) = _
  congr 1
  rw [BitVec.sle_eq_decide]
  have h1 : (BitVec.ofNat 32 a).toInt = a := by
    have h : (BitVec.ofNat 32 a).toNat = a := by rw [BitVec.toNat_ofNat]; exact Nat.mod_eq_of_lt (by omega)
    rw [BitVec.toInt_eq_toNat_of_lt (by omega), h]
  have h2 : (BitVec.ofNat 32 b + BitVec.ofNat 32 o).toInt = ((b + o : ℕ) : ℤ) := by
    have h : (BitVec.ofNat 32 (b + o)).toNat = b + o := by rw [BitVec.toNat_ofNat]; exact Nat.mod_eq_of_lt (by omega)
    rw [← BitVec.ofNat_add, BitVec.toInt_eq_toNat_of_lt (by omega), h]
  rw [h1, h2]
  simp only [Nat.cast_le]

/-- Choosing by a word of one bit made of a truth value. -/
theorem select_ofBool {α : Type} (c : Prop) [Decidable c] (x y : α) :
    Scalar.select (BitVec.ofBool (decide c)) x y = if c then x else y := by
  by_cases h : c <;> simp [Scalar.select, h]

theorem prodKq_at (A : FVec Ideal S512x80 .bf16) (q : Vec Ideal S1x256x80 .bf16) (k : Fin 512) (x : Fin 256) :
    prodKq A q (ix3 0 k x) = ∑ a : Fin 80, A (ix2 k a) * q (ix3 0 x a) := by
  pointwise [prodKq, k0_pay2]

theorem prodDp_at (A : FVec Ideal S512x64 .bf16) (q : Vec Ideal S1x256x64 .bf16) (k : Fin 512) (x : Fin 256) :
    prodDp A q (ix3 0 k x) = ∑ a : Fin 64, A (ix2 k a) * q (ix3 0 x a) := by
  pointwise [prodDp, k0_pay3]

theorem narrow_at (p : FVec Ideal S512x256 .f32) (k : Fin 512) (x : Fin 256) :
    narrow p (ix3 0 k x) = p (ix2 k x) := by
  pointwise [narrow, k0_pay118]

theorem probs_at (s : Vec Ideal S1x512x256 .f32) (l : Vec Ideal S1x1x256 .f32) (k : Fin 512) (x : Fin 256) :
    probs s l (ix2 k x) = FloatOps.exp2 (F := Ideal) (φ := .f32) (s (ix3 0 k x) - l (ix3 0 0 x)) := by
  pointwise [probs, k0_pay9, k0_pay8]

theorem probsLo_at (s : Vec Ideal S1x512x256 .f32) (l : Vec Ideal S1x1x256 .f32) (k : Fin 512) (x : Fin 256) :
    probsLo s l (ix2 k x) = FloatOps.exp2 (F := Ideal) (φ := .f32) ((if k.val ≤ x.val then s (ix3 0 k x) else ⊥) - l (ix3 0 0 x)) := by
  pointwise [probsLo, k0_pay144]
  rw [named_mask, show (0#32 : BitVec 32) = BitVec.ofNat 32 0 from rfl, sle_small _ _ _ k.isLt x.isLt (by omega), select_ofBool]
  rfl

theorem probsHi_at (s : Vec Ideal S1x512x256 .f32) (l : Vec Ideal S1x1x256 .f32) (k : Fin 512) (x : Fin 256) :
    probsHi s l (ix2 k x) = FloatOps.exp2 (F := Ideal) (φ := .f32) ((if k.val ≤ x.val + 256 then s (ix3 0 k x) else ⊥) - l (ix3 0 0 x)) := by
  pointwise [probsHi, k0_pay158]
  rw [named_mask, show (256#32 : BitVec 32) = BitVec.ofNat 32 256 from rfl, sle_small _ _ _ k.isLt x.isLt (by omega), select_ofBool]

theorem gradS_at (p : FVec Ideal S512x256 .f32) (dp : Vec Ideal S1x512x256 .f32) (l : Vec Ideal S1x1x256 .f32) (k : Fin 512) (x : Fin 256) :
    gradS p dp l (ix2 k x) = p (ix2 k x) * (dp (ix3 0 k x) - l (ix3 0 0 x)) := by
  pointwise [gradS, k0_pay117, k0_pay8]

theorem accDv_at (a : Vec Ideal S512x64 .f32) (p : Vec Ideal S1x512x256 .bf16) (g : Vec Ideal S1x256x64 .bf16) (k : Fin 512) (d : Fin 64) :
    accDv a p g (ix2 k d) = a (ix2 k d) + ∑ x : Fin 256, p (ix3 0 k x) * g (ix3 0 x d) := by
  pointwise [accDv, k0_pay5]

theorem accDk_at (a : Vec Ideal S512x80 .f32) (p : Vec Ideal S1x512x256 .bf16) (g : Vec Ideal S1x256x80 .bf16) (k : Fin 512) (d : Fin 80) :
    accDk a p g (ix2 k d) = a (ix2 k d) + ∑ x : Fin 256, p (ix3 0 k x) * g (ix3 0 x d) := by
  pointwise [accDk, k0_pay6, k0_pay4]

theorem accDq_at (A : FVec Ideal S64x512 .bf16) (a : Vec Ideal S1x64x256 .f32) (p : Vec Ideal S1x512x256 .bf16) (d : Fin 64) (x : Fin 256) :
    accDq A a p (ix3 0 d x) = a (ix3 0 d x) + (∑ k : Fin 512, A (ix2 d k) * p (ix3 0 k x)) * (((1 / 8 : ℝ)) : EReal) := by
  pointwise [accDq, k0_pay7, k0_pay4]
  rw [eighth]

theorem accDfk_at (f : Vec Ideal S512x1 .f32) (s : FVec Ideal S512x256 .f32) (k : Fin 512) :
    accDfk f s (ix2 k 0) = f (ix2 k 0) - ∑ x : Fin 256, s (ix2 k x) := by
  pointwise [accDfk, k0_pay162]

theorem accDfq_at (f : Vec Ideal S1x1x256 .f32) (s : FVec Ideal S512x256 .f32) (x : Fin 256) :
    accDfq f s (ix3 0 0 x) = f (ix3 0 0 x) + ∑ k : Fin 512, s (ix2 k x) := by
  pointwise [accDfq, k0_pay150]

theorem k0_pay1_at (f : FVec Ideal S512x1 .f32) (k : Fin 512) :
    k0_pay1 f (ix3 0 0 k) = f (ix2 k 0) := by
  pointwise [k0_pay1]
  rw [Finset.sum_eq_single (0 : Fin 128)]
  · rfl
  · intro b _ hb
    have h : IntOp.cmpi CmpIPredicate.eq (0#32) (BitVec.ofNat 32 b.val) = 0#1 := by
      revert b; decide
    rw [h]; rfl
  · intro h; exact absurd (Finset.mem_univ _) h

theorem k0_pay174_at (f : Vec Ideal S512x64 .f32) (k : Fin 512) (d : Fin 64) :
    k0_pay174 f (ix3 0 k d) = f (ix2 k d) * ((Real.log 2 : ℝ) : EReal) := by
  pointwise [k0_pay174]
  rw [named_ln2]

theorem k0_pay175_at (f : Vec Ideal S512x64 .f32) (k : Fin 512) (d : Fin 64) :
    k0_pay175 f (ix3 0 k d) = f (ix2 k d) := by
  pointwise [k0_pay175]

theorem k0_pay176_at (f : Vec Ideal S512x1 .f32) (k : Fin 512) :
    k0_pay176 f (ix2 k 0) = f (ix2 k 0) := by
  pointwise [k0_pay176]

theorem k0_pay131_at (d : Fin 64) (x : Fin 16384) : (k0_pay131 (F := Ideal)) (ix3 0 d x) = (0 : EReal) := by
  pointwise [k0_pay131]

theorem k0_pay132_at (x : Fin 16384) : (k0_pay132 (F := Ideal)) (ix3 0 0 x) = (0 : EReal) := by
  pointwise [k0_pay132]

theorem k0_pay133_at (f : Vec Ideal S1x512x80 .bf16) (k : Fin 512) (a : Fin 80) : k0_pay133 f (ix2 k a) = f (ix3 0 k a) := by
  pointwise [k0_pay133]

theorem k0_pay134_at (f : Vec Ideal S1x64x512 .bf16) (d : Fin 64) (k : Fin 512) : k0_pay134 f (ix2 d k) = f (ix3 0 d k) := by
  pointwise [k0_pay134]

theorem k0_pay135_at (f : Vec Ideal S1x512x64 .bf16) (k : Fin 512) (d : Fin 64) : k0_pay135 f (ix2 k d) = f (ix3 0 k d) := by
  pointwise [k0_pay135]

theorem k0_pay136_at (k : Fin 512) (a : Fin 80) : (k0_pay136 (F := Ideal)) (ix2 k a) = (0 : EReal) := by
  pointwise [k0_pay136]

theorem k0_pay137_at (k : Fin 512) (a : Fin 64) : (k0_pay137 (F := Ideal)) (ix2 k a) = (0 : EReal) := by
  pointwise [k0_pay137]

theorem k0_pay138_at (k : Fin 512) : (k0_pay138 (F := Ideal)) (ix2 k 0) = (0 : EReal) := by
  pointwise [k0_pay138]

end Cert.KernelIdeal.Gen

end
-- ==== Proof.BlockSum.lean ====
/- What one block of keys leaves: the running sums over its tiles of queries, tile by tile in order, and
   each tile of the queries' gradients with the block's part added. -/
module

public import proofs.«01_k».proof.Proof.Steps

@[expose] public section

set_option maxRecDepth 16384

noncomputable section

namespace Cert.KernelIdeal.Gen

open Idealize.ShloMosaic Cert.Fox

variable {F : FTy → Type} [FloatOps F] [Named F]

/-- The rule of the probabilities at tile `t` of block `j`: the two tiles of the diagonal are masked. -/
def rule (j t : ℕ) : Vec F S1x512x256 .f32 → Vec F S1x1x256 .f32 → FVec F S512x256 .f32 :=
  if t = 2 * j then probsLo else if t = 2 * j + 1 then probsHi else probs

/-- The probabilities of tile `t`. -/
def tileP (I : Ins F) (j t : ℕ) : FVec F S512x256 .f32 :=
  rule j t (prodKq I.kA (rowTile (F := F) I.q t)) (colTile (F := F) I.lse t)

/-- The gradient of the scores of tile `t`. -/
def tileG (I : Ins F) (j t : ℕ) : FVec F S512x256 .f32 :=
  gradS (tileP I j t) (prodDp I.vA (rowTile (F := F) I.g t)) (colTile (F := F) I.dl t)

/-- The values' gradient over the first `n` tiles. -/
def sumDv (I : Ins F) (j : ℕ) : ℕ → Vec F S512x64 .f32
  | 0 => k0_pay137
  | n + 1 => accDv (sumDv I j n) (narrow (tileP I j (2 * j + n))) (rowTile (F := F) I.g (2 * j + n))

/-- The keys' gradient over the first `n` tiles. -/
def sumDk (I : Ins F) (j : ℕ) : ℕ → Vec F S512x80 .f32
  | 0 => k0_pay136
  | n + 1 => accDk (sumDk I j n) (narrow (tileG I j (2 * j + n))) (rowTile (F := F) I.q (2 * j + n))

/-- The gradient of the keys' gates over the first `n` tiles. -/
def sumDfk (I : Ins F) (j : ℕ) : ℕ → Vec F S512x1 .f32
  | 0 => k0_pay138
  | n + 1 => accDfk (sumDfk I j n) (tileG I j (2 * j + n))

/-- A tile of the queries' gradient after block `j`. -/
def nextDq (I : Ins F) (j : ℕ) (dq : ℕ → Vec F S1x64x256 .f32) (t : ℕ) : Vec F S1x64x256 .f32 :=
  if 2 * j ≤ t then accDq I.kT (dq t) (narrow (tileG I j t)) else dq t

/-- A tile of the gradient of the queries' gates after block `j`. -/
def nextDfq (I : Ins F) (j : ℕ) (dfq : ℕ → Vec F S1x1x256 .f32) (t : ℕ) : Vec F S1x1x256 .f32 :=
  if 2 * j ≤ t then accDfq (dfq t) (tileG I j t) else dfq t

/-- The state after the probabilities of `n + 2` tiles, the last of them not yet added to the sums of the
    values and of the keys. -/
structure Upto (I : Ins F) (j n : ℕ) (dq : ℕ → Vec F S1x64x256 .f32) (dfq : ℕ → Vec F S1x1x256 .f32) (s : St F) : Prop where
  kq : s.kq 0 = prodKq I.kA (rowTile (F := F) I.q (min (2 * j + n + 2) 63))
  dp : s.dp 0 = prodDp I.vA (rowTile (F := F) I.g (min (2 * j + n + 2) 63))
  pb : s.pb 1 = narrow (tileP I j (2 * j + n + 1))
  ds : s.ds 1 = narrow (tileG I j (2 * j + n + 1))
  dv : s.dv = sumDv I j (n + 1)
  dk : s.dk = sumDk I j (n + 1)
  dfk : s.dfk = sumDfk I j (n + 2)
  dq : ∀ t, s.dq t = if t < 2 * j + n + 1 then nextDq I j dq t else dq t
  dfq : ∀ t, s.dfq t = if t < 2 * j + n + 2 then nextDfq I j dfq t else dfq t

theorem upd_same {α : Type} (f : ℕ → α) (t : ℕ) (w : α) : upd f t w t = w := if_pos rfl
theorem upd_other {α : Type} (f : ℕ → α) (t : ℕ) (w : α) (t' : ℕ) (h : t' ≠ t) : upd f t w t' = f t' := if_neg h
@[simp] theorem upd_00 {α : Type} (f : ℕ → α) (w : α) : upd f 0 w 0 = w := rfl
@[simp] theorem upd_11 {α : Type} (f : ℕ → α) (w : α) : upd f 1 w 1 = w := rfl
@[simp] theorem upd_01 {α : Type} (f : ℕ → α) (w : α) : upd f 0 w 1 = f 1 := rfl
@[simp] theorem upd_10 {α : Type} (f : ℕ → α) (w : α) : upd f 1 w 0 = f 0 := rfl

theorem rule_lo (j : ℕ) : rule (F := F) j (2 * j) = probsLo := if_pos rfl
theorem rule_hi (j : ℕ) : rule (F := F) j (2 * j + 1) = probsHi := by
  unfold rule; rw [if_neg (by omega), if_pos rfl]
theorem rule_past (j t : ℕ) (h : 2 * j + 2 ≤ t) : rule (F := F) j t = probs := by
  unfold rule; rw [if_neg (by omega), if_neg (by omega)]

/-- The diagonal's two tiles. -/
theorem head_upto (I : Ins F) (j : ℕ) (hj : j < 32) (dq : ℕ → Vec F S1x64x256 .f32) (dfq : ℕ → Vec F S1x1x256 .f32)
    (h0 : ∀ t, t < 2 * j → nextDq I j dq t = dq t := by intro t h; exact if_neg (by omega))
    (h1 : ∀ t, t < 2 * j → nextDfq I j dfq t = dfq t := by intro t h; exact if_neg (by omega)) :
    Upto I j 0 dq dfq (St.head I (2 * j) dq dfq) := by
  have hP0 : tileP I j (2 * j) = probsLo (prodKq I.kA (rowTile (F := F) I.q (2 * j))) (colTile (F := F) I.lse (2 * j)) := by
    unfold tileP; rw [rule_lo]
  have hP1 : tileP I j (2 * j + 1) = probsHi (prodKq I.kA (rowTile (F := F) I.q (2 * j + 1))) (colTile (F := F) I.lse (2 * j + 1)) := by
    unfold tileP; rw [rule_hi]
  constructor
  · rfl
  · rfl
  · show narrow _ = narrow _
    rw [show 2 * j + 0 + 1 = 2 * j + 1 from rfl, hP1]; rfl
  · show narrow _ = narrow _
    rw [show 2 * j + 0 + 1 = 2 * j + 1 from rfl]; unfold tileG; rw [hP1]; rfl
  · show _ = accDv k0_pay137 (narrow (tileP I j (2 * j + 0))) (rowTile (F := F) I.g (2 * j + 0))
    rw [show 2 * j + 0 = 2 * j from rfl, hP0]; rfl
  · show _ = accDk k0_pay136 (narrow (tileG I j (2 * j + 0))) (rowTile (F := F) I.q (2 * j + 0))
    rw [show 2 * j + 0 = 2 * j from rfl]; unfold tileG; rw [hP0]; rfl
  · show _ = accDfk (accDfk k0_pay138 (tileG I j (2 * j + 0))) (tileG I j (2 * j + 1))
    rw [show 2 * j + 0 = 2 * j from rfl]; unfold tileG; rw [hP0, hP1]; rfl
  · intro t
    show upd dq (2 * j) (accDq I.kT (dq (2 * j)) (narrow _)) t = _
    by_cases h : t = 2 * j
    · subst h
      rw [upd_same, if_pos (by omega)]; unfold nextDq; rw [if_pos (le_refl _)]; unfold tileG; rw [hP0]; rfl
    · rw [upd_other _ _ _ _ h]
      split
      · rw [h0 t (by omega)]
      · rfl
  · intro t
    show upd (upd dfq (2 * j) (accDfq (dfq (2 * j)) _)) (2 * j + 1) (accDfq (upd dfq (2 * j) (accDfq (dfq (2 * j)) _) (2 * j + 1)) _) t = _
    by_cases h : t = 2 * j + 1
    · subst h
      rw [upd_same, upd_other _ _ _ _ (by omega), if_pos (by omega)]; unfold nextDfq; rw [if_pos (by omega)]; unfold tileG; rw [hP1]; rfl
    · rw [upd_other _ _ _ _ h]
      by_cases h' : t = 2 * j
      · subst h'
        rw [upd_same, if_pos (by omega)]; unfold nextDfq; rw [if_pos (le_refl _)]; unfold tileG; rw [hP0]; rfl
      · rw [upd_other _ _ _ _ h']
        split
        · rw [h1 t (by omega)]
        · rfl

/-- Two tiles more. -/
theorem pair_upto (I : Ins F) (j n : ℕ) (dq : ℕ → Vec F S1x64x256 .f32) (dfq : ℕ → Vec F S1x1x256 .f32) (s : St F)
    (hn : 2 * j + n + 3 ≤ 63) (h : Upto I j n dq dfq s) : Upto I j (n + 2) dq dfq (s.pair I (2 * j + n + 2)) := by
  have hm : min (2 * j + n + 2) 63 = 2 * j + n + 2 := by omega
  have hq := h.kq; have hp := h.dp
  rw [hm] at hq hp
  have hP0 : tileP I j (2 * j + n + 2) = probs (prodKq I.kA (rowTile (F := F) I.q (2 * j + n + 2))) (colTile (F := F) I.lse (2 * j + n + 2)) := by
    unfold tileP; rw [rule_past _ _ (by omega)]
  have hP1 : tileP I j (2 * j + n + 3) = probs (prodKq I.kA (rowTile (F := F) I.q (2 * j + n + 3))) (colTile (F := F) I.lse (2 * j + n + 3)) := by
    unfold tileP; rw [rule_past _ _ (by omega)]
  have e0 : probs (s.kq 0) (colTile (F := F) I.lse (2 * j + n + 2)) = tileP I j (2 * j + n + 2) := by rw [hq, hP0]
  have g0 : gradS (tileP I j (2 * j + n + 2)) (s.dp 0) (colTile (F := F) I.dl (2 * j + n + 2)) = tileG I j (2 * j + n + 2) := by
    rw [hp]; rfl
  have g1 : gradS (tileP I j (2 * j + n + 3)) (prodDp I.vA (rowTile (F := F) I.g (2 * j + n + 3))) (colTile (F := F) I.dl (2 * j + n + 3)) = tileG I j (2 * j + n + 3) := rfl
  have a0 : 2 * j + n + 2 - 1 = 2 * j + n + 1 := by omega
  constructor
  · show prodKq I.kA (rowTile (F := F) I.q (min (2 * j + n + 2 + 2) 63)) = _
    rfl
  · rfl
  · show narrow (probs (prodKq I.kA (rowTile (F := F) I.q (2 * j + n + 3))) (colTile (F := F) I.lse (2 * j + n + 3))) = _
    rw [← hP1]; rfl
  · show narrow (gradS (probs (prodKq I.kA (rowTile (F := F) I.q (2 * j + n + 3))) (colTile (F := F) I.lse (2 * j + n + 3))) (prodDp I.vA (rowTile (F := F) I.g (2 * j + n + 3))) (colTile (F := F) I.dl (2 * j + n + 3))) = _
    rw [← hP1, g1]; rfl
  · show accDv (accDv s.dv (s.pb 1) (rowTile (F := F) I.g (2 * j + n + 2 - 1))) (narrow (probs (s.kq 0) (colTile (F := F) I.lse (2 * j + n + 2)))) (rowTile (F := F) I.g (2 * j + n + 2)) = _
    rw [a0, e0, h.dv, h.pb]; rfl
  · show accDk (accDk s.dk (s.ds 1) (rowTile (F := F) I.q (2 * j + n + 2 - 1))) (narrow (gradS (probs (s.kq 0) (colTile (F := F) I.lse (2 * j + n + 2))) (s.dp 0) (colTile (F := F) I.dl (2 * j + n + 2)))) (rowTile (F := F) I.q (2 * j + n + 2)) = _
    rw [a0, e0, g0, h.dk, h.ds]; rfl
  · show accDfk (accDfk s.dfk (gradS (probs (s.kq 0) (colTile (F := F) I.lse (2 * j + n + 2))) (s.dp 0) (colTile (F := F) I.dl (2 * j + n + 2))))
      (gradS (probs (prodKq I.kA (rowTile (F := F) I.q (2 * j + n + 3))) (colTile (F := F) I.lse (2 * j + n + 3))) (prodDp I.vA (rowTile (F := F) I.g (2 * j + n + 3))) (colTile (F := F) I.dl (2 * j + n + 3))) = _
    rw [← hP1, g1, e0, g0, h.dfk]; rfl
  · intro t
    show upd (upd s.dq (2 * j + n + 2 - 1) (accDq I.kT (s.dq (2 * j + n + 2 - 1)) (s.ds 1))) (2 * j + n + 2)
      (accDq I.kT (upd s.dq (2 * j + n + 2 - 1) (accDq I.kT (s.dq (2 * j + n + 2 - 1)) (s.ds 1)) (2 * j + n + 2))
        (narrow (gradS (probs (s.kq 0) (colTile (F := F) I.lse (2 * j + n + 2))) (s.dp 0) (colTile (F := F) I.dl (2 * j + n + 2))))) t = _
    rw [a0, e0, g0, h.ds]
    by_cases h2 : t = 2 * j + n + 2
    · subst h2
      rw [upd_same, upd_other _ _ _ _ (by omega), h.dq, if_neg (by omega), if_pos (by omega)]
      unfold nextDq; rw [if_pos (by omega)]
    · rw [upd_other _ _ _ _ h2]
      by_cases h3 : t = 2 * j + n + 1
      · subst h3
        rw [upd_same, h.dq, if_neg (by omega), if_pos (by omega)]
        unfold nextDq; rw [if_pos (by omega)]
      · rw [upd_other _ _ _ _ h3, h.dq]
        by_cases h4 : t < 2 * j + n + 1
        · rw [if_pos h4, if_pos (by omega)]
        · rw [if_neg h4, if_neg (by omega)]
  · intro t
    show upd (upd s.dfq (2 * j + n + 2) (accDfq (s.dfq (2 * j + n + 2)) (gradS (probs (s.kq 0) (colTile (F := F) I.lse (2 * j + n + 2))) (s.dp 0) (colTile (F := F) I.dl (2 * j + n + 2))))) (2 * j + n + 3)
      (accDfq (upd s.dfq (2 * j + n + 2) (accDfq (s.dfq (2 * j + n + 2)) (gradS (probs (s.kq 0) (colTile (F := F) I.lse (2 * j + n + 2))) (s.dp 0) (colTile (F := F) I.dl (2 * j + n + 2)))) (2 * j + n + 3))
        (gradS (probs (prodKq I.kA (rowTile (F := F) I.q (2 * j + n + 3))) (colTile (F := F) I.lse (2 * j + n + 3))) (prodDp I.vA (rowTile (F := F) I.g (2 * j + n + 3))) (colTile (F := F) I.dl (2 * j + n + 3)))) t = _
    rw [← hP1, g1, e0, g0]
    by_cases h2 : t = 2 * j + n + 3
    · subst h2
      rw [upd_same, upd_other _ _ _ _ (by omega), h.dfq, if_neg (by omega), if_pos (by omega)]
      unfold nextDfq; rw [if_pos (by omega)]
    · rw [upd_other _ _ _ _ h2]
      by_cases h3 : t = 2 * j + n + 2
      · subst h3
        rw [upd_same, h.dfq, if_neg (by omega), if_pos (by omega)]
        unfold nextDfq; rw [if_pos (by omega)]
      · rw [upd_other _ _ _ _ h3, h.dfq]
        by_cases h4 : t < 2 * j + n + 2
        · rw [if_pos h4, if_pos (by omega)]
        · rw [if_neg h4, if_neg (by omega)]

/-- The trips of the loop. -/
theorem trips_upto (I : Ins F) (j k : ℕ) (dq : ℕ → Vec F S1x64x256 .f32) (dfq : ℕ → Vec F S1x1x256 .f32) (s : St F)
    (h : Upto I j 0 dq dfq s) (hk : 2 * j + 4 * k + 1 ≤ 63) : Upto I j (4 * k) dq dfq (St.trips I (2 * j + 2) k s) := by
  induction k with
  | zero => exact h
  | succ k ih =>
    have h1 := pair_upto I j (4 * k) dq dfq _ (by omega) (ih (by omega))
    have h2 := pair_upto I j (4 * k + 2) dq dfq _ (by omega) h1
    show Upto I j (4 * k + 4) dq dfq (((St.trips I (2 * j + 2) k s).pair I (2 * j + 2 + 4 * k)).pair I (2 * j + 2 + 4 * k + 2))
    rw [show 2 * j + 2 + 4 * k = 2 * j + 4 * k + 2 by omega]
    exact h2

/-- What block `j` leaves. -/
structure After (I : Ins F) (j : ℕ) (dq : ℕ → Vec F S1x64x256 .f32) (dfq : ℕ → Vec F S1x1x256 .f32) (s : St F) : Prop where
  dv : s.dv = sumDv I j (64 - 2 * j)
  dk : s.dk = sumDk I j (64 - 2 * j)
  dfk : s.dfk = sumDfk I j (64 - 2 * j)
  dq : ∀ t, t < 64 → s.dq t = nextDq I j dq t
  dfq : ∀ t, t < 64 → s.dfq t = nextDfq I j dfq t

/-- The last tile's sums. -/
theorem last_after (I : Ins F) (j n : ℕ) (hn : 2 * j + n + 1 = 63) (dq : ℕ → Vec F S1x64x256 .f32) (dfq : ℕ → Vec F S1x1x256 .f32) (s : St F)
    (h : Upto I j n dq dfq s) : After I j dq dfq (s.accumulate I 63 1) := by
  have e : 64 - 2 * j = n + 2 := by omega
  have e1 : 2 * j + (n + 1) = 63 := by omega
  constructor
  · show accDv s.dv (s.pb 1) (rowTile (F := F) I.g 63) = _
    rw [e, h.dv, h.pb, hn]
    show _ = accDv _ (narrow (tileP I j (2 * j + (n + 1)))) (rowTile (F := F) I.g (2 * j + (n + 1)))
    rw [e1]
  · show accDk s.dk (s.ds 1) (rowTile (F := F) I.q 63) = _
    rw [e, h.dk, h.ds, hn]
    show _ = accDk _ (narrow (tileG I j (2 * j + (n + 1)))) (rowTile (F := F) I.q (2 * j + (n + 1)))
    rw [e1]
  · show s.dfk = _
    rw [e]; exact h.dfk
  · intro t ht
    show upd s.dq 63 (accDq I.kT (s.dq 63) (s.ds 1)) t = _
    by_cases h2 : t = 63
    · subst h2
      rw [upd_same, h.dq, if_neg (by omega), h.ds, hn]
      unfold nextDq; rw [if_pos (by omega)]
    · rw [upd_other _ _ _ _ h2, h.dq, if_pos (by omega)]
  · intro t ht
    show s.dfq t = _
    rw [h.dfq, if_pos (by omega)]

/-- What block `j` of the keys leaves. -/
theorem block_after (I : Ins F) (j : ℕ) (hj : j < 32) (dq : ℕ → Vec F S1x64x256 .f32) (dfq : ℕ → Vec F S1x1x256 .f32) :
    After I j dq dfq (St.block I j dq dfq) := by
  have h0 := trips_upto I j ((31 - j) / 2) dq dfq _ (head_upto I j hj dq dfq) (by omega)
  unfold St.block
  by_cases hp : (31 - j) % 2 = 1
  · simp only [if_pos hp]
    have h1 := pair_upto I j (4 * ((31 - j) / 2)) dq dfq _ (by omega) h0
    rw [show 2 * j + 4 * ((31 - j) / 2) + 2 = 62 by omega] at h1
    exact last_after I j _ (by omega) dq dfq _ h1
  · simp only [if_neg hp]
    exact last_after I j _ (by omega) dq dfq _ h0

end Cert.KernelIdeal.Gen

end
-- ==== Proof.BlockVal.lean ====
/- What a block of keys computes, where its inputs are real numbers: the probabilities, the gradient of the
   scores, and the sums over its tiles. -/
module

public import proofs.«01_k».proof.Proof.HostAt
public import proofs.«01_k».proof.Proof.Point
public import proofs.«01_k».proof.Proof.BlockSum

@[expose] public section

set_option maxRecDepth 16384

noncomputable section

namespace Cert.KernelIdeal.Gen

open Idealize.ShloMosaic Cert.Fox Cert.Spec

/-- A block's inputs are head `h`'s rows and the keys and values of block `j`. -/
structure Feeds (A : Args) (h : Fin 8) (j : ℕ) (I : Ins Ideal) : Prop where
  kA : ∀ k a, I.kA (ix2 k a) = ((augK A h (key j k) a : ℝ) : EReal)
  kT : ∀ d k, I.kT (ix2 d k) = ((A.k (key j k) h d : ℝ) : EReal)
  vA : ∀ k d, I.vA (ix2 k d) = ((A.v (key j k) h d : ℝ) : EReal)
  q : ∀ s a, I.q (ix3 0 s a) = ((augQ A h s a : ℝ) : EReal)
  g : ∀ s d, I.g (ix3 0 s d) = ((A.c s h d : ℝ) : EReal)
  lse : ∀ s, I.lse (ix3 0 0 s) = ((lse A h s / Real.log 2 : ℝ) : EReal)
  dl : ∀ s, I.dl (ix3 0 0 s) = ((delta A h s : ℝ) : EReal)

variable {A : Args} {h : Fin 8} {j : ℕ} {I : Ins Ideal}

/-- Two to the power of a masked score, taken off the row's logarithm, is the probability. -/
theorem power_prob (i l : Fin 16384) (c : Prop) [Decidable c] (hc : c ↔ l ≤ i) :
    FloatOps.exp2 (F := Ideal) (φ := .f32) ((if c then ((score A h i l / Real.log 2 : ℝ) : EReal) else ⊥) - ((lse A h i / Real.log 2 : ℝ) : EReal))
      = ((prob A h i l : ℝ) : EReal) := by
  show Ideal.exp2 _ = _
  unfold prob expo
  by_cases hx : c
  · rw [if_pos hx, if_pos (hc.mp hx), ← EReal.coe_sub, Ideal.exp2_coe, ← sub_div, rpow_two]
  · rw [if_neg hx, if_neg (fun hh => hx (hc.mpr hh)), EReal.bot_sub, Ideal.exp2_bot]; rfl

/-- The scores of a tile, to the base two. -/
theorem prodKq_val (H : Feeds A h j I) (t : ℕ) (k : Fin 512) (x : Fin 256) :
    prodKq I.kA (rowTile (F := Ideal) I.q t) (ix3 0 k x) = ((score A h (row t x) (key j k) / Real.log 2 : ℝ) : EReal) := by
  rw [prodKq_at]
  have hq : ∀ a, rowTile (F := Ideal) I.q t (ix3 0 x a) = ((augQ A h (row t x) a : ℝ) : EReal) := fun a => H.q (row t x) a
  simp only [hq, H.kA, ← EReal.coe_mul, ← coe_sum]
  rw [aug_score]

theorem prodDp_val (H : Feeds A h j I) (t : ℕ) (k : Fin 512) (x : Fin 256) :
    prodDp I.vA (rowTile (F := Ideal) I.g t) (ix3 0 k x) = ((dprob A h (row t x) (key j k) : ℝ) : EReal) := by
  rw [prodDp_at]
  have hg : ∀ a, rowTile (F := Ideal) I.g t (ix3 0 x a) = ((A.c (row t x) h a : ℝ) : EReal) := fun a => H.g (row t x) a
  simp only [hg, H.vA, ← EReal.coe_mul, ← coe_sum]
  unfold dprob
  refine congrArg (fun r : ℝ => (r : EReal)) ?_
  exact Finset.sum_congr rfl fun d _ => mul_comm _ _

/-- The probabilities of a tile. -/
theorem tileP_val (H : Feeds A h j I) (hj : j < 32) (t : ℕ) (ht : 2 * j ≤ t) (ht' : t < 64) (k : Fin 512) (x : Fin 256) :
    tileP I j t (ix2 k x) = ((prob A h (row t x) (key j k) : ℝ) : EReal) := by
  have hl : colTile (F := Ideal) I.lse t (ix3 0 0 x) = ((lse A h (row t x) / Real.log 2 : ℝ) : EReal) := H.lse (row t x)
  have hs := prodKq_val H t k x
  have hr := row_val t ht' x
  have hk := key_val j hj k
  have hkl := k.isLt
  have hle : key j k ≤ row t x ↔ 512 * j + k.val ≤ 256 * t + x.val := by rw [Fin.le_def, hr, hk]
  unfold tileP
  by_cases h0 : t = 2 * j
  · have : rule (F := Ideal) j t = probsLo := by rw [h0]; exact rule_lo j
    rw [this, probsLo_at, hs, hl]
    exact power_prob _ _ _ (by rw [hle]; omega)
  · by_cases h1 : t = 2 * j + 1
    · have : rule (F := Ideal) j t = probsHi := by rw [h1]; exact rule_hi j
      rw [this, probsHi_at, hs, hl]
      exact power_prob _ _ _ (by rw [hle]; omega)
    · have : rule (F := Ideal) j t = probs := rule_past j t (by omega)
      rw [this, probs_at, hs, hl]
      have := power_prob (A := A) (h := h) (row t x) (key j k) True (by rw [hle]; constructor <;> intro _ <;> first | omega | trivial)
      rw [if_pos trivial] at this
      exact this

/-- The gradient of a tile's scores. -/
theorem tileG_val (H : Feeds A h j I) (hj : j < 32) (t : ℕ) (ht : 2 * j ≤ t) (ht' : t < 64) (k : Fin 512) (x : Fin 256) :
    tileG I j t (ix2 k x) = ((dscore A h (row t x) (key j k) : ℝ) : EReal) := by
  have hd : colTile (F := Ideal) I.dl t (ix3 0 0 x) = ((delta A h (row t x) : ℝ) : EReal) := H.dl (row t x)
  unfold tileG
  rw [gradS_at, tileP_val H hj t ht ht', prodDp_val H, hd, ← EReal.coe_sub, ← EReal.coe_mul]
  rfl

theorem sumDv_val (H : Feeds A h j I) (hj : j < 32) (n : ℕ) (hn : n ≤ 64 - 2 * j) (k : Fin 512) (d : Fin 64) :
    sumDv I j n (ix2 k d) = ((∑ i ∈ Finset.range n, ∑ x : Fin 256, prob A h (row (2 * j + i) x) (key j k) * A.c (row (2 * j + i) x) h d : ℝ) : EReal) := by
  induction n with
  | zero => rw [Finset.sum_range_zero]; exact k0_pay137_at k d
  | succ n ih =>
    show accDv _ _ _ _ = _
    rw [accDv_at, ih (by omega), Finset.sum_range_succ, EReal.coe_add, coe_sum Finset.univ]
    refine congrArg₂ (fun a b : EReal => a + b) rfl (Finset.sum_congr rfl fun x _ => ?_)
    rw [narrow_at, tileP_val H hj _ (by omega) (by omega), EReal.coe_mul]
    exact congrArg _ (H.g (row (2 * j + n) x) d)

theorem sumDk_val (H : Feeds A h j I) (hj : j < 32) (n : ℕ) (hn : n ≤ 64 - 2 * j) (k : Fin 512) (a : Fin 80) :
    sumDk I j n (ix2 k a) = ((∑ i ∈ Finset.range n, ∑ x : Fin 256, dscore A h (row (2 * j + i) x) (key j k) * augQ A h (row (2 * j + i) x) a : ℝ) : EReal) := by
  induction n with
  | zero => rw [Finset.sum_range_zero]; exact k0_pay136_at k a
  | succ n ih =>
    show accDk _ _ _ _ = _
    rw [accDk_at, ih (by omega), Finset.sum_range_succ, EReal.coe_add, coe_sum Finset.univ]
    refine congrArg₂ (fun a b : EReal => a + b) rfl (Finset.sum_congr rfl fun x _ => ?_)
    rw [narrow_at, tileG_val H hj _ (by omega) (by omega), EReal.coe_mul]
    exact congrArg _ (H.q (row (2 * j + n) x) a)

theorem sumDfk_val (H : Feeds A h j I) (hj : j < 32) (n : ℕ) (hn : n ≤ 64 - 2 * j) (k : Fin 512) :
    sumDfk I j n (ix2 k 0) = ((-∑ i ∈ Finset.range n, ∑ x : Fin 256, dscore A h (row (2 * j + i) x) (key j k) : ℝ) : EReal) := by
  induction n with
  | zero => rw [Finset.sum_range_zero, neg_zero]; exact k0_pay138_at k
  | succ n ih =>
    show accDfk _ _ _ = _
    rw [accDfk_at, ih (by omega), Finset.sum_range_succ, neg_add, ← sub_eq_add_neg, EReal.coe_sub, coe_sum Finset.univ]
    exact congrArg₂ (fun a b : EReal => a - b) rfl (Finset.sum_congr rfl fun x _ => tileG_val H hj _ (by omega) (by omega) k x)

/-- A query before a block of keys has no part in the block's gradient. -/
theorem before_block (hj : j < 32) (i : Fin 16384) (hi : i.val < 512 * j) (k : Fin 512) : ¬ key j k ≤ i := by
  rw [Fin.le_def, key_val j hj]; omega

/-- The values' gradient of a block. -/
theorem dv_val (H : Feeds A h j I) (hj : j < 32) (k : Fin 512) (d : Fin 64) :
    sumDv I j (64 - 2 * j) (ix2 k d) = ((dv A h (key j k) d : ℝ) : EReal) := by
  rw [sumDv_val H hj _ le_rfl]
  refine congrArg (fun r : ℝ => (r : EReal)) ?_
  exact sum_rows_from j hj (fun i => prob A h i (key j k) * A.c i h d) fun i hi => by
    rw [prob_after A h i _ (before_block hj i hi k), zero_mul]

/-- The keys' gradient of a block. -/
theorem dk_val (H : Feeds A h j I) (hj : j < 32) (k : Fin 512) (d : Fin 64) :
    sumDk I j (64 - 2 * j) (ix2 k ⟨d.val, by have := d.isLt; omega⟩) * ((Real.log 2 : ℝ) : EReal) = ((dk A h (key j k) d : ℝ) : EReal) := by
  rw [sumDk_val H hj _ le_rfl, ← EReal.coe_mul]
  refine congrArg (fun r : ℝ => (r : EReal)) ?_
  rw [sum_rows_from j hj (fun i => dscore A h i (key j k) * augQ A h i ⟨d.val, by have := d.isLt; omega⟩) fun i hi => by
    rw [dscore_after A h i _ (before_block hj i hi k), zero_mul]]
  unfold dk
  rw [Finset.sum_mul, Finset.sum_mul]
  refine Finset.sum_congr rfl fun i _ => ?_
  have hq : augQ A h i ⟨d.val, by have := d.isLt; omega⟩ = A.q i h d * (1 / 8 / Real.log 2) := dif_pos d.isLt
  rw [hq]
  have := ln2_ne
  field_simp

/-- The gradient of a block's gates. -/
theorem dfk_val (H : Feeds A h j I) (hj : j < 32) (k : Fin 512) :
    sumDfk I j (64 - 2 * j) (ix2 k 0) = ((dfk A h (key j k) : ℝ) : EReal) := by
  rw [sumDfk_val H hj _ le_rfl]
  refine congrArg (fun r : ℝ => ((-r : ℝ) : EReal)) ?_
  exact sum_rows_from j hj (fun i => dscore A h i (key j k)) fun i hi => dscore_after A h i _ (before_block hj i hi k)

/-- A block's part in the gradient of a query. -/
def partDq (A : Args) (h : Fin 8) (i : Fin 16384) (d : Fin 64) (j : ℕ) : ℝ := (∑ k : Fin 512, A.k (key j k) h d * dscore A h i (key j k)) * (1 / 8)
/-- A block's part in the gradient of a query's gate. -/
def partDfq (A : Args) (h : Fin 8) (i : Fin 16384) (j : ℕ) : ℝ := ∑ k : Fin 512, dscore A h i (key j k)

theorem row_before (hj : j < 32) (t : ℕ) (ht : t < 2 * j) (x : Fin 256) (k : Fin 512) : dscore A h (row t x) (key j k) = 0 := by
  refine dscore_after A h _ _ (before_block hj _ ?_ k)
  rw [row_val t (by omega)]; have := x.isLt; omega

theorem nextDq_val (H : Feeds A h j I) (hj : j < 32) (dq : ℕ → Vec Ideal S1x64x256 .f32) (t : ℕ) (ht : t < 64) (d : Fin 64) (x : Fin 256)
    (hd : dq t (ix3 0 d x) = ((∑ l ∈ Finset.range j, partDq A h (row t x) d l : ℝ) : EReal)) :
    nextDq I j dq t (ix3 0 d x) = ((∑ l ∈ Finset.range (j + 1), partDq A h (row t x) d l : ℝ) : EReal) := by
  rw [Finset.sum_range_succ]
  unfold nextDq
  by_cases h0 : 2 * j ≤ t
  · rw [if_pos h0, accDq_at, hd, EReal.coe_add]
    refine congrArg₂ (fun a b : EReal => a + b) rfl ?_
    unfold partDq
    rw [EReal.coe_mul, coe_sum]
    refine congrArg (fun a : EReal => a * _) (Finset.sum_congr rfl fun k _ => ?_)
    rw [narrow_at, tileG_val H hj t h0 ht, H.kT, EReal.coe_mul]
  · rw [if_neg h0, hd]
    refine congrArg (fun r : ℝ => (r : EReal)) ?_
    have : partDq A h (row t x) d j = 0 := by
      unfold partDq
      rw [Finset.sum_eq_zero fun k _ => by rw [row_before hj t (by omega) x k, mul_zero], zero_mul]
    rw [this, add_zero]

theorem nextDfq_val (H : Feeds A h j I) (hj : j < 32) (dfq : ℕ → Vec Ideal S1x1x256 .f32) (t : ℕ) (ht : t < 64) (x : Fin 256)
    (hd : dfq t (ix3 0 0 x) = ((∑ l ∈ Finset.range j, partDfq A h (row t x) l : ℝ) : EReal)) :
    nextDfq I j dfq t (ix3 0 0 x) = ((∑ l ∈ Finset.range (j + 1), partDfq A h (row t x) l : ℝ) : EReal) := by
  rw [Finset.sum_range_succ]
  unfold nextDfq
  by_cases h0 : 2 * j ≤ t
  · rw [if_pos h0, accDfq_at, hd, EReal.coe_add]
    refine congrArg₂ (fun a b : EReal => a + b) rfl ?_
    unfold partDfq
    rw [coe_sum]
    exact Finset.sum_congr rfl fun k _ => tileG_val H hj t h0 ht k x
  · rw [if_neg h0, hd]
    refine congrArg (fun r : ℝ => (r : EReal)) ?_
    have : partDfq A h (row t x) j = 0 := Finset.sum_eq_zero fun k _ => row_before hj t (by omega) x k
    rw [this, add_zero]

/-- All blocks' parts are the gradient of a query. -/
theorem all_dq (i : Fin 16384) (d : Fin 64) : ∑ l ∈ Finset.range 32, partDq A h i d l = dq A h i d := by
  unfold partDq dq
  rw [← Finset.sum_mul, sum_keys fun l => A.k l h d * dscore A h i l]

/-- All blocks' parts are the gradient of a query's gate. -/
theorem all_dfq (i : Fin 16384) : ∑ l ∈ Finset.range 32, partDfq A h i l = dfq A h i :=
  sum_keys fun l => dscore A h i l

end Cert.KernelIdeal.Gen

end
-- ==== Proof.Feed.lean ====
/- What the windows hand a point of the grid, and the state after it: the head's rows, the block's keys. -/
module

public import proofs.«01_k».proof.Proof.BlockVal
public import proofs.«01_k».proof.Proof.Run
public import Idealize.ShloMosaic.Lib.Pipeline.ValueKit

@[expose] public section

set_option maxRecDepth 16384

noncomputable section

namespace Cert.KernelIdeal.Gen

open Idealize.ShloMosaic Idealize.ShloMosaic.TcCoe Cert.Fox Cert.Spec

/-- Which block each window is on at a point. -/
theorem on0 : ∀ t : Fin cfg0.N, win0_0.index t = ![t.val / 32, 0, 0] := (by decide +kernel : ∀ t : Fin grid0.N, _)
theorem on1 : ∀ t : Fin cfg0.N, win0_1.index t = ![t.val / 32, t.val % 32, 0] := (by decide +kernel : ∀ t : Fin grid0.N, _)
theorem on2 : ∀ t : Fin cfg0.N, win0_2.index t = ![t.val / 32, 0, t.val % 32] := (by decide +kernel : ∀ t : Fin grid0.N, _)
theorem on3 : ∀ t : Fin cfg0.N, win0_3.index t = ![t.val / 32, t.val % 32, 0] := (by decide +kernel : ∀ t : Fin grid0.N, _)
theorem on4 : ∀ t : Fin cfg0.N, win0_4.index t = ![t.val / 32, 0, 0] := (by decide +kernel : ∀ t : Fin grid0.N, _)
theorem on5 : ∀ t : Fin cfg0.N, win0_5.index t = ![t.val / 32, 0, 0] := (by decide +kernel : ∀ t : Fin grid0.N, _)
theorem on6 : ∀ t : Fin cfg0.N, win0_6.index t = ![t.val / 32, 0, 0] := (by decide +kernel : ∀ t : Fin grid0.N, _)

/-- The head of a point. -/
def headOf (t : Fin cfg0.N) : Fin 8 := ⟨t.val / 32, by have h : t.val < 256 := lt_of_lt_of_eq t.isLt (show cfg0.N = 256 from N_0); omega⟩

variable {A : Args} {m : (ℓ : Loc nD τ sig) → Buf (Elt Ideal) ℓ} {c : Dev nD}

theorem blk0 (H : Real' m c A) (t : Fin cfg0.N) (s : Fin 16384) (a : Fin 80) : iblk m c 0 t (ix3 0 s a) = ((augQ A (headOf t) s a : ℝ) : EReal) := by
  rw [← q_at H]
  blk_ext [iblk, on0 t, headOf]

theorem blk1 (H : Real' m c A) (t : Fin cfg0.N) (k : Fin 512) (a : Fin 80) : iblk m c 1 t (ix3 0 k a) = ((augK A (headOf t) (key (t.val % 32) k) a : ℝ) : EReal) := by
  rw [← k_at H]
  have hk := key_val (t.val % 32) (by omega) k
  blk_ext [iblk, on1 t, headOf, hk]

theorem blk2 (H : Real' m c A) (t : Fin cfg0.N) (d : Fin 64) (k : Fin 512) : X0_2 m c t (ix3 0 d k) = ((A.k (key (t.val % 32) k) (headOf t) d : ℝ) : EReal) := by
  have h : ((A.k (key (t.val % 32) k) (headOf t) d : ℝ) : EReal) = _ := (kT_at H (headOf t) (key (t.val % 32) k) ⟨d.val, by have := d.isLt; omega⟩ d.isLt).symm
  rw [h]
  have hk := key_val (t.val % 32) (by omega) k
  unfold X0_2 Pipeline.Window.fill
  rw [dif_pos (moved0_2 t _)]
  blk_ext [iblk, on2 t, headOf, hk]

theorem blk3 (H : Real' m c A) (t : Fin cfg0.N) (k : Fin 512) (d : Fin 64) : left64 (F := Ideal) (e := .bf16) (iblk m c 3 t) (ix3 0 k d) = ((A.v (key (t.val % 32) k) (headOf t) d : ℝ) : EReal) := by
  have h : ((A.v (key (t.val % 32) k) (headOf t) d : ℝ) : EReal) = _ := (v_at H (headOf t) (key (t.val % 32) k) ⟨d.val, by have := d.isLt; omega⟩ d.isLt).symm
  rw [h]
  have hk := key_val (t.val % 32) (by omega) k
  show iblk m c 3 t (ix3 0 k ⟨d.val, _⟩) = _
  blk_ext [iblk, on3 t, headOf, hk]

theorem blk4 (H : Real' m c A) (t : Fin cfg0.N) (s : Fin 16384) (d : Fin 64) : iblk m c 4 t (ix3 0 s d) = ((A.c s (headOf t) d : ℝ) : EReal) := by
  rw [← do_at H]
  blk_ext [iblk, on4 t, headOf]

theorem blk5 (H : Real' m c A) (t : Fin cfg0.N) (s : Fin 16384) : iblk m c 5 t (ix3 0 0 s) = ((lse A (headOf t) s / Real.log 2 : ℝ) : EReal) := by
  rw [← lse_at H]
  blk_ext [iblk, on5 t, headOf]

theorem blk6 (H : Real' m c A) (t : Fin cfg0.N) (s : Fin 16384) : iblk m c 6 t (ix3 0 0 s) = ((delta A (headOf t) s : ℝ) : EReal) := by
  have h := delta_at H (headOf t) s
  have e : iblk m c 6 t (ix3 0 0 s) = V m c main_v84 (ix3 (headOf t) 0 s) := by
    blk_simp [iblk, on6 t, headOf]
    generalize V m c main_v84 = w
    blk_ext [on6 t]
  exact e.trans h

/-- A point's inputs are its head's rows and its block's keys and values. -/
theorem feeds (H : Real' m c A) (t : Fin cfg0.N) : Feeds A (headOf t) (t.val % 32) (insAt m c t) := by
  have h0 := blk0 H t
  have h1 := blk1 H t
  have h2 := blk2 H t
  have h3 := blk3 H t
  have h4 := blk4 H t
  have h5 := blk5 H t
  have h6 := blk6 H t
  unfold insAt
  generalize iblk m c 0 t = w0 at *
  generalize iblk m c 1 t = w1 at *
  generalize X0_2 m c t = w2 at *
  generalize iblk m c 3 t = w3 at *
  generalize iblk m c 4 t = w4 at *
  generalize iblk m c 5 t = w5 at *
  generalize iblk m c 6 t = w6 at *
  constructor
  · intro k a; exact (k0_pay133_at _ k a).trans (h1 k a)
  · intro d k; exact (k0_pay134_at _ d k).trans (h2 d k)
  · intro k d; exact (k0_pay135_at _ k d).trans (h3 k d)
  · exact h0
  · exact h4
  · exact h5
  · exact h6

/-- The state after a point is that of a block run on its inputs. -/
theorem stateAt_after (t : Fin cfg0.N) : ∃ dq dfq, After (insAt m c t) (t.val % 32) dq dfq (stateAt m c t.val t.isLt) := by
  have hj : t.val % 32 < 32 := by omega
  by_cases h0 : t.val % 32 = 0
  · rw [stateAt_first m c t h0, h0]
    exact ⟨_, _, block_after _ 0 (by omega) _ _⟩
  · rw [stateAt_next m c t h0]
    exact ⟨_, _, block_after _ _ hj _ _⟩

theorem state_dv (H : Real' m c A) (t : Fin cfg0.N) (k : Fin 512) (d : Fin 64) :
    (stateAt m c t.val t.isLt).dv (ix2 k d) = ((dv A (headOf t) (key (t.val % 32) k) d : ℝ) : EReal) := by
  obtain ⟨_, _, ha⟩ := stateAt_after (m := m) (c := c) t
  rw [ha.dv]
  exact dv_val (feeds H t) (by omega) k d

theorem state_dk (H : Real' m c A) (t : Fin cfg0.N) (k : Fin 512) (d : Fin 64) :
    (stateAt m c t.val t.isLt).dk (ix2 k ⟨d.val, by have := d.isLt; omega⟩) * ((Real.log 2 : ℝ) : EReal) = ((dk A (headOf t) (key (t.val % 32) k) d : ℝ) : EReal) := by
  obtain ⟨_, _, ha⟩ := stateAt_after (m := m) (c := c) t
  rw [ha.dk]
  exact dk_val (feeds H t) (by omega) k d

theorem state_dfk (H : Real' m c A) (t : Fin cfg0.N) (k : Fin 512) :
    (stateAt m c t.val t.isLt).dfk (ix2 k 0) = ((dfk A (headOf t) (key (t.val % 32) k) : ℝ) : EReal) := by
  obtain ⟨_, _, ha⟩ := stateAt_after (m := m) (c := c) t
  rw [ha.dfk]
  exact dfk_val (feeds H t) (by omega) k

/-- The queries' gradients after a point hold the parts of the head's blocks so far. -/
theorem state_q (H : Real' m c A) : ∀ (n : ℕ) (hn : n < cfg0.N) (t : ℕ) (ht : t < 64) (x : Fin 256),
    (∀ d : Fin 64, (stateAt m c n hn).dq t (ix3 0 d x) = ((∑ l ∈ Finset.range (n % 32 + 1), partDq A (headOf ⟨n, hn⟩) (row t x) d l : ℝ) : EReal))
    ∧ (stateAt m c n hn).dfq t (ix3 0 0 x) = ((∑ l ∈ Finset.range (n % 32 + 1), partDfq A (headOf ⟨n, hn⟩) (row t x) l : ℝ) : EReal) := by
  intro n
  induction n using Nat.strong_induction_on with
  | _ n ih =>
    intro hn t ht x
    have hf := feeds (m := m) (c := c) H ⟨n, hn⟩
    by_cases h0 : n % 32 = 0
    · have hs := stateAt_first m c ⟨n, hn⟩ h0
      have hb := block_after (insAt m c ⟨n, hn⟩) 0 (by omega) (fun t => colTile (F := Ideal) (D := 64) (e := .f32) (k0_pay131 (F := Ideal)) t) (fun t => colTile (F := Ideal) (D := 1) (e := .f32) (k0_pay132 (F := Ideal)) t)
      rw [← hs] at hb
      have hf' : Feeds A (headOf ⟨n, hn⟩) 0 (insAt m c ⟨n, hn⟩) := by
        have := hf; simp only [h0] at this; exact this
      rw [h0]
      constructor
      · intro d
        refine (congrFun (hb.dq t ht) _).trans (nextDq_val hf' (by omega) _ t ht d x ?_)
        rw [Finset.sum_range_zero]; exact k0_pay131_at d (row t x)
      · refine (congrFun (hb.dfq t ht) _).trans (nextDfq_val hf' (by omega) _ t ht x ?_)
        rw [Finset.sum_range_zero]; exact k0_pay132_at (row t x)
    · have hs := stateAt_next m c ⟨n, hn⟩ h0
      have hb := block_after (insAt m c ⟨n, hn⟩) (n % 32) (by omega) (stateAt m c (n - 1) (Nat.lt_of_le_of_lt (Nat.sub_le _ _) hn)).dq
        (stateAt m c (n - 1) (Nat.lt_of_le_of_lt (Nat.sub_le _ _) hn)).dfq
      rw [← hs] at hb
      have hp := ih (n - 1) (by omega) (Nat.lt_of_le_of_lt (Nat.sub_le _ _) hn) t ht x
      have hm : (n - 1) % 32 + 1 = n % 32 := by omega
      have hh : headOf ⟨n - 1, Nat.lt_of_le_of_lt (Nat.sub_le _ _) hn⟩ = headOf ⟨n, hn⟩ := Fin.ext (show (n - 1) / 32 = n / 32 by omega)
      rw [hm, hh] at hp
      constructor
      · intro d
        exact (congrFun (hb.dq t ht) _).trans (nextDq_val hf (by omega) _ t ht d x (hp.1 d))
      · exact (congrFun (hb.dfq t ht) _).trans (nextDfq_val hf (by omega) _ t ht x hp.2)

end Cert.KernelIdeal.Gen

end
-- ==== Proof.Bridge.lean ====
/- The kernel's results as whole arrays: the gradients of the mathematics. -/
module

public import proofs.«01_k».proof.Proof.Feed

@[expose] public section

set_option maxRecDepth 16384

noncomputable section

namespace Cert.KernelIdeal.Gen

open Idealize.ShloMosaic Idealize.ShloMosaic.TcCoe Cert.Fox Cert.Spec

theorem on7 : ∀ t : Fin cfg0.N, win0_7.index t = ![t.val / 32, 0, 0] := (by decide +kernel : ∀ t : Fin grid0.N, _)
theorem on8 : ∀ t : Fin cfg0.N, win0_8.index t = ![t.val / 32, t.val % 32, 0] := (by decide +kernel : ∀ t : Fin grid0.N, _)
theorem on9 : ∀ t : Fin cfg0.N, win0_9.index t = ![t.val / 32, t.val % 32, 0] := (by decide +kernel : ∀ t : Fin grid0.N, _)
theorem on10 : ∀ t : Fin cfg0.N, win0_10.index t = ![t.val / 32, 0, t.val % 32] := (by decide +kernel : ∀ t : Fin grid0.N, _)
theorem on11 : ∀ t : Fin cfg0.N, win0_11.index t = ![t.val / 32, 0, 0] := (by decide +kernel : ∀ t : Fin grid0.N, _)

/-- The queries' gradient, transposed. -/
def resDq (A : Args) : FVec Ideal S8x64x16384 .f32 := fun i => ((dq A (i 0) (i 2) (i 1) : ℝ) : EReal)
/-- The keys' gradient. -/
def resDk (A : Args) : FVec Ideal S8x16384x64 .f32 := fun i => ((dk A (i 0) (i 1) (i 2) : ℝ) : EReal)
/-- The values' gradient. -/
def resDv (A : Args) : FVec Ideal S8x16384x64 .f32 := fun i => ((dv A (i 0) (i 1) (i 2) : ℝ) : EReal)
/-- The gradient of the keys' gates. -/
def resDfk (A : Args) : FVec Ideal S8x1x16384 .f32 := fun i => ((dfk A (i 0) (i 2) : ℝ) : EReal)
/-- The gradient of the queries' gates. -/
def resDfq (A : Args) : FVec Ideal S8x1x16384 .f32 := fun i => ((dfq A (i 0) (i 2) : ℝ) : EReal)

/-- An index of a block whose first axis has one entry. -/
theorem idx_one {n k : ℕ} (y : (⟨3, ![1, n, k]⟩ : Shape).Idx) : y = ix3 0 (y 1) (y 2) := by
  funext a
  apply Fin.ext
  fin_cases a
  · have h : (y 0).val < 1 := (y 0).isLt
    show (y 0).val = 0; omega
  · rfl
  · rfl

/-- An index of a block whose first two axes have one entry. -/
theorem idx_two {k : ℕ} (y : (⟨3, ![1, 1, k]⟩ : Shape).Idx) : y = ix3 0 0 (y 2) := by
  funext a
  apply Fin.ext
  fin_cases a
  · have h : (y 0).val < 1 := (y 0).isLt
    show (y 0).val = 0; omega
  · have h : (y 1).val < 1 := (y 1).isLt
    show (y 1).val = 0; omega
  · rfl

variable {A : Args} {m : (ℓ : Loc nD τ sig) → Buf (Elt Ideal) ℓ} {c : Dev nD}

theorem val8 (H : Real' m c A) (t : Fin cfg0.N) (y : S1x512x64.Idx) :
    k0_pay174 (left64b (F := Ideal) (stateAt m c t.val t.isLt).dk) y = ((dk A (headOf t) (key (t.val % 32) (y 1)) (y 2) : ℝ) : EReal) :=
  (congrArg (k0_pay174 (left64b (F := Ideal) (stateAt m c t.val t.isLt).dk)) (idx_one y)).trans
    ((k0_pay174_at _ (y 1) (y 2)).trans (state_dk H t (y 1) (y 2)))

theorem val9 (H : Real' m c A) (t : Fin cfg0.N) (y : S1x512x64.Idx) :
    k0_pay175 (stateAt m c t.val t.isLt).dv y = ((dv A (headOf t) (key (t.val % 32) (y 1)) (y 2) : ℝ) : EReal) :=
  (congrArg (k0_pay175 (stateAt m c t.val t.isLt).dv) (idx_one y)).trans
    ((k0_pay175_at _ (y 1) (y 2)).trans (state_dv H t (y 1) (y 2)))

theorem val10 (H : Real' m c A) (t : Fin cfg0.N) (y : S1x1x512.Idx) :
    k0_pay1 (k0_pay176 (stateAt m c t.val t.isLt).dfk) y = ((dfk A (headOf t) (key (t.val % 32) (y 2)) : ℝ) : EReal) :=
  (congrArg (k0_pay1 (k0_pay176 (stateAt m c t.val t.isLt).dfk)) (idx_two y)).trans
    ((k0_pay1_at _ (y 2)).trans ((k0_pay176_at _ (y 2)).trans (state_dfk H t (y 2))))

/-- A row found again from its tile and its place in it. -/
theorem row_back (s : Fin 16384) : row (s.val / 256) ⟨s.val % 256, Nat.mod_lt _ (by decide)⟩ = s := by
  have h := s.isLt
  apply Fin.ext
  rw [row_val _ (by omega)]
  show 256 * (s.val / 256) + s.val % 256 = s.val
  omega

theorem at7 (H : Real' m c A) (t : Fin cfg0.N) (hl : t.val % 32 = 31) (s : Fin 16384) (d : Fin 64) :
    (stateAt m c t.val t.isLt).dq (s.val / 256) (ix3 0 d ⟨s.val % 256, Nat.mod_lt _ (by decide)⟩) = ((dq A (headOf t) s d : ℝ) : EReal) := by
  have hy := s.isLt
  have h := (state_q H t.val t.isLt (s.val / 256) (by omega) ⟨s.val % 256, Nat.mod_lt _ (by decide)⟩).1 d
  rw [row_back s, hl, show (31 + 1 : ℕ) = 32 from rfl, all_dq] at h
  exact h

theorem at11 (H : Real' m c A) (t : Fin cfg0.N) (hl : t.val % 32 = 31) (s : Fin 16384) :
    (stateAt m c t.val t.isLt).dfq (s.val / 256) (ix3 0 0 ⟨s.val % 256, Nat.mod_lt _ (by decide)⟩) = ((dfq A (headOf t) s : ℝ) : EReal) := by
  have hy := s.isLt
  have h := (state_q H t.val t.isLt (s.val / 256) (by omega) ⟨s.val % 256, Nat.mod_lt _ (by decide)⟩).2
  rw [row_back s, hl, show (31 + 1 : ℕ) = 32 from rfl, all_dfq] at h
  exact h

theorem val7 (H : Real' m c A) (t : Fin cfg0.N) (hl : t.val % 32 = 31) (y : S1x64x16384.Idx) :
    glue (F := Ideal) (e := .f32) (D := 64) (stateAt m c t.val t.isLt).dq y = ((dq A (headOf t) (y 2) (y 1) : ℝ) : EReal) :=
  (congrArg (glue (F := Ideal) (e := .f32) (D := 64) (stateAt m c t.val t.isLt).dq) (idx_one y)).trans (at7 H t hl (y 2) (y 1))

theorem val11 (H : Real' m c A) (t : Fin cfg0.N) (hl : t.val % 32 = 31) (y : S1x1x16384.Idx) :
    glue (F := Ideal) (e := .f32) (D := 1) (stateAt m c t.val t.isLt).dfq y = ((dfq A (headOf t) (y 2) : ℝ) : EReal) :=
  (congrArg (glue (F := Ideal) (e := .f32) (D := 1) (stateAt m c t.val t.isLt).dfq) (idx_two y)).trans (at11 H t hl (y 2))

theorem out7 (H : Real' m c A) : (dats m 0 c).arrAt 7 cfg0.N = resDq A := by
  refine (dats m 0 c).arrAt_eq_of_covers 7 _ (by decide +kernel) fun t hf y => ?_
  blk_simp
  rw [after_7]
  have hl : t.val % 32 = 31 := (flush0_7 t).mp hf
  refine (val7 H t hl y).trans ?_
  have e0 : headOf t = (win0_7.blk t).view.emb y 0 := Fin.ext (by have h : (y 0).val < 1 := (y 0).isLt; show t.val / 32 = _; blk_simp [on7 t] <;> simp only [Matrix.cons_val] <;> omega)
  have e1 : y 1 = (win0_7.blk t).view.emb y 1 := Fin.ext (by blk_simp [on7 t] <;> simp only [Matrix.cons_val] <;> omega)
  have e2 : y 2 = (win0_7.blk t).view.emb y 2 := Fin.ext (by blk_simp [on7 t] <;> simp only [Matrix.cons_val] <;> omega)
  show _ = ((dq A ((win0_7.blk t).view.emb y 0) ((win0_7.blk t).view.emb y 2) ((win0_7.blk t).view.emb y 1) : ℝ) : EReal)
  rw [← e0, ← e1, ← e2]

theorem out8 (H : Real' m c A) : (dats m 0 c).arrAt 8 cfg0.N = resDk A := by
  refine (dats m 0 c).arrAt_eq_of_covers 8 _ (by decide +kernel) fun t hf y => ?_
  blk_simp
  rw [after_8]
  refine (val8 H t y).trans ?_
  have e0 : headOf t = (win0_8.blk t).view.emb y 0 := Fin.ext (by have h : (y 0).val < 1 := (y 0).isLt; show t.val / 32 = _; blk_simp [on8 t] <;> simp only [Matrix.cons_val] <;> omega)
  have hk := key_val (t.val % 32) (by omega) (y 1)
  have e1 : key (t.val % 32) (y 1) = (win0_8.blk t).view.emb y 1 := Fin.ext (by rw [hk]; blk_simp [on8 t] <;> simp only [Matrix.cons_val] <;> omega)
  have e2 : y 2 = (win0_8.blk t).view.emb y 2 := Fin.ext (by blk_simp [on8 t] <;> simp only [Matrix.cons_val] <;> omega)
  show _ = ((dk A ((win0_8.blk t).view.emb y 0) ((win0_8.blk t).view.emb y 1) ((win0_8.blk t).view.emb y 2) : ℝ) : EReal)
  rw [← e0, ← e1, ← e2]

theorem out9 (H : Real' m c A) : (dats m 0 c).arrAt 9 cfg0.N = resDv A := by
  refine (dats m 0 c).arrAt_eq_of_covers 9 _ (by decide +kernel) fun t hf y => ?_
  blk_simp
  rw [after_9]
  refine (val9 H t y).trans ?_
  have e0 : headOf t = (win0_9.blk t).view.emb y 0 := Fin.ext (by have h : (y 0).val < 1 := (y 0).isLt; show t.val / 32 = _; blk_simp [on9 t] <;> simp only [Matrix.cons_val] <;> omega)
  have hk := key_val (t.val % 32) (by omega) (y 1)
  have e1 : key (t.val % 32) (y 1) = (win0_9.blk t).view.emb y 1 := Fin.ext (by rw [hk]; blk_simp [on9 t] <;> simp only [Matrix.cons_val] <;> omega)
  have e2 : y 2 = (win0_9.blk t).view.emb y 2 := Fin.ext (by blk_simp [on9 t] <;> simp only [Matrix.cons_val] <;> omega)
  show _ = ((dv A ((win0_9.blk t).view.emb y 0) ((win0_9.blk t).view.emb y 1) ((win0_9.blk t).view.emb y 2) : ℝ) : EReal)
  rw [← e0, ← e1, ← e2]

theorem out10 (H : Real' m c A) : (dats m 0 c).arrAt 10 cfg0.N = resDfk A := by
  refine (dats m 0 c).arrAt_eq_of_covers 10 _ (by decide +kernel) fun t hf y => ?_
  blk_simp
  rw [after_10]
  refine (val10 H t y).trans ?_
  have e0 : headOf t = (win0_10.blk t).view.emb y 0 := Fin.ext (by have h : (y 0).val < 1 := (y 0).isLt; show t.val / 32 = _; blk_simp [on10 t] <;> simp only [Matrix.cons_val] <;> omega)
  have hk := key_val (t.val % 32) (by omega) (y 2)
  have e2 : key (t.val % 32) (y 2) = (win0_10.blk t).view.emb y 2 := Fin.ext (by rw [hk]; blk_simp [on10 t] <;> simp only [Matrix.cons_val] <;> omega)
  show _ = ((dfk A ((win0_10.blk t).view.emb y 0) ((win0_10.blk t).view.emb y 2) : ℝ) : EReal)
  rw [← e0, ← e2]

theorem out11 (H : Real' m c A) : (dats m 0 c).arrAt 11 cfg0.N = resDfq A := by
  refine (dats m 0 c).arrAt_eq_of_covers 11 _ (by decide +kernel) fun t hf y => ?_
  blk_simp
  rw [after_11]
  have hl : t.val % 32 = 31 := (flush0_11 t).mp hf
  refine (val11 H t hl y).trans ?_
  have e0 : headOf t = (win0_11.blk t).view.emb y 0 := Fin.ext (by have h : (y 0).val < 1 := (y 0).isLt; show t.val / 32 = _; blk_simp [on11 t] <;> simp only [Matrix.cons_val] <;> omega)
  have e2 : y 2 = (win0_11.blk t).view.emb y 2 := Fin.ext (by blk_simp [on11 t] <;> simp only [Matrix.cons_val] <;> omega)
  show _ = ((dfq A ((win0_11.blk t).view.emb y 0) ((win0_11.blk t).view.emb y 2) : ℝ) : EReal)
  rw [← e0, ← e2]

end Cert.KernelIdeal.Gen

end
-- ==== Proof.RefAt.lean ====
/- The reference's stages at an index, where the arguments are finite: its five results are the gradients of
   the mathematics. -/
module

public import proofs.«01_k».proof.Proof.RefVal
public import proofs.«01_k».proof.Proof.Bridge

@[expose] public section

set_option maxRecDepth 16384

noncomputable section

namespace Cert.Ref

open Idealize.ShloMosaic Cert.Spec Cert.ReferenceIdeal Cert.ReferenceIdeal.Facts₀ Cert.ReferenceIdeal.Facts
open Cert.KernelIdeal.Gen (Holds sle_rows select_bool bot32 eighth32 div_real)

variable {A : Args} {q k v : FVec Ideal S16384x8x64 .f32} {f : FVec Ideal S8x16384 .f32} {g : FVec Ideal S16384x8x64 .f32}

/-- A score, or minus infinity where the key comes after the query. -/
theorem scoreR_at (H : Holds A q k v f g) (h : Fin 8) (i j : Fin 16384) :
    scoreR q k f (ix3 h i j) = if j ≤ i then ((score A h i j : ℝ) : EReal) else ⊥ := by
  pointwise [scoreR, maskR]
  rw [sle_rows _ _ j.isLt i.isLt, select_bool, bot32, eighth32, H.f, H.f]
  simp only [H.q, H.k]
  simp only [← EReal.coe_mul, ← coe_sum, ← EReal.coe_add, ← EReal.coe_sub]
  rfl

/-- A row's maximum before it is laid out. -/
theorem top_at (s : FVec Ideal S8x16384x16384 .f32) (h : Fin 8) (i : Fin 16384) :
    Host.reduce FloatOps.maximumf s (constant S_ .f32 0xFF800000#32) reducesTo_S8x16384x16384_S8x16384_d2 h_S_ (ix2 h i)
      = Finset.fold max (Ideal.ofBits FTy.f32 0xFF800000#32) (fun j : Fin 16384 => s (ix3 h i j)) Finset.univ := by
  pointwise

/-- Laying out a row's maximum, no less than minus infinity. -/
theorem laid_at (r : FVec Ideal S8x16384 .f32) (h : Fin 8) (i : Fin 16384) :
    broadcastInDim S8x16384x1 ![0, 1] bcast_S8x16384_S8x16384x1_0_1 (maximumf (broadcastInDim S8x16384 ![] bcast_S_S8x16384 (constant S_ .f32 0xFF800000#32)) r) (ix3 h i 0)
      = max (Ideal.ofBits FTy.f32 0xFF800000#32) (r (ix2 h i)) := by
  pointwise

/-- A row's maximum is a real number. -/
theorem maxR_real (H : Holds A q k v f g) (h : Fin 8) (i : Fin 16384) :
    ∃ M : ℝ, maxR (scoreR q k f) (ix3 h i 0) = ((M : ℝ) : EReal) := by
  have hm : maxR (scoreR q k f) (ix3 h i 0) = Finset.univ.sup fun j : Fin 16384 => (if j ≤ i then ((score A h i j : ℝ) : EReal) else ⊥) := by
    refine (laid_at _ h i).trans ?_
    rw [top_at, bot32, max_eq_right bot_le]
    simp only [scoreR_at H]
    rfl
  obtain ⟨j, _, hj⟩ := Finset.exists_mem_eq_sup (Finset.univ : Finset (Fin 16384)) ⟨i, Finset.mem_univ _⟩
    (fun j : Fin 16384 => (if j ≤ i then ((score A h i j : ℝ) : EReal) else ⊥))
  by_cases hji : j ≤ i
  · exact ⟨score A h i j, by rw [hm, hj, if_pos hji]⟩
  · exfalso
    rw [if_neg hji] at hj
    have := Finset.le_sup (f := fun j : Fin 16384 => (if j ≤ i then ((score A h i j : ℝ) : EReal) else ⊥)) (Finset.mem_univ i)
    rw [hj, if_pos le_rfl, le_bot_iff] at this
    exact EReal.coe_ne_bot _ this

/-- An exponential off a real level. -/
theorem expoR_at (H : Holds A q k v f g) (t : FVec Ideal S8x16384x1 .f32) (h : Fin 8) (i j : Fin 16384) (M : ℝ) (hM : t (ix3 h i 0) = ((M : ℝ) : EReal)) :
    expoR (scoreR q k f) t (ix3 h i j) = ((expo A h M i j : ℝ) : EReal) := by
  have h1 : expoR (scoreR q k f) t (ix3 h i j) = Ideal.exp (scoreR q k f (ix3 h i j) - t (ix3 h i 0)) := by
    pointwise [expoR]
  rw [h1, scoreR_at H, hM]
  unfold expo
  split
  · rw [← EReal.coe_sub, Ideal.exp_coe]
  · rw [EReal.bot_sub, Ideal.exp_bot]; rfl

/-- A row's sum of exponentials. -/
theorem massR_at (e : FVec Ideal S8x16384x16384 .f32) (h : Fin 8) (i : Fin 16384) (M : ℝ) (he : ∀ j, e (ix3 h i j) = ((expo A h M i j : ℝ) : EReal)) :
    massR e (ix3 h i 0) = ((mass A h M i : ℝ) : EReal) := by
  have h1 : massR e (ix3 h i 0) = ∑ j : Fin 16384, e (ix3 h i j) := by
    pointwise [massR]
  rw [h1]; simp only [he]; rw [← coe_sum]; rfl

/-- The product of a cotangent and a value. -/
theorem dprobR_at (H : Holds A q k v f g) (h : Fin 8) (i j : Fin 16384) :
    dprobR g v (ix3 h i j) = ((dprob A h i j : ℝ) : EReal) := by
  have h1 : dprobR g v (ix3 h i j) = ∑ d : Fin 64, g (ix3 i h d) * v (ix3 j h d) := by
    pointwise [dprobR]
  rw [h1]
  simp only [H.g, H.v, ← EReal.coe_mul, ← coe_sum]
  rfl

/-- What a row's sum takes is its mean over its sum, taken away. -/
theorem mean_eq (h : Fin 8) (i : Fin 16384) (M : ℝ) :
    -∑ j : Fin 16384, dprob A h i j * (1 / (mass A h M i * mass A h M i)) * expo A h M i j = -(delta A h i / mass A h M i) := by
  have hp := (mass_pos A h M i).ne'
  unfold delta
  rw [Finset.sum_div]
  refine congrArg Neg.neg (Finset.sum_congr rfl fun j _ => ?_)
  rw [← prob_eq A h M]
  field_simp

/-- What a row's sum of exponentials takes from its gradient. -/
theorem meanR_at (p e : FVec Ideal S8x16384x16384 .f32) (l : FVec Ideal S8x16384x1 .f32) (h : Fin 8) (i : Fin 16384) (M : ℝ)
    (hp : ∀ j, p (ix3 h i j) = ((dprob A h i j : ℝ) : EReal)) (he : ∀ j, e (ix3 h i j) = ((expo A h M i j : ℝ) : EReal))
    (hl : l (ix3 h i 0) = ((mass A h M i : ℝ) : EReal)) :
    meanR p e l (ix2 h i) = ((-(delta A h i / mass A h M i) : ℝ) : EReal) := by
  have h1 : meanR p e l (ix2 h i) = ∑ _x : Fin 1, -∑ j : Fin 16384, p (ix3 h i j) * Ideal.div 1 (l (ix3 h i 0) * l (ix3 h i 0)) * e (ix3 h i j) := by
    pointwise [meanR]
  have hm := (mass_pos A h M i).ne'
  rw [h1, Fin.sum_univ_one, hl, ← EReal.coe_mul, ← EReal.coe_one, div_real _ _ (mul_ne_zero hm hm)]
  simp only [hp, he, ← EReal.coe_mul, ← coe_sum, ← EReal.coe_neg]
  rw [mean_eq]

/-- The gradient of a score. -/
theorem dscore_eq (h : Fin 8) (i j : Fin 16384) (M : ℝ) :
    (dprob A h i j / mass A h M i + -(delta A h i / mass A h M i)) * expo A h M i j = dscore A h i j := by
  have hp := (mass_pos A h M i).ne'
  unfold dscore
  rw [← prob_eq A h M]
  field_simp
  ring

/-- The gradient of the scores at an index. -/
theorem dscoreR_at (p e : FVec Ideal S8x16384x16384 .f32) (l : FVec Ideal S8x16384x1 .f32) (w : FVec Ideal S8x16384 .f32) (h : Fin 8) (i j : Fin 16384) (M : ℝ)
    (hp : p (ix3 h i j) = ((dprob A h i j : ℝ) : EReal)) (he : e (ix3 h i j) = ((expo A h M i j : ℝ) : EReal))
    (hl : l (ix3 h i 0) = ((mass A h M i : ℝ) : EReal)) (hw : w (ix2 h i) = ((-(delta A h i / mass A h M i) : ℝ) : EReal)) :
    dscoreR p e l w (ix3 h i j) = ((dscore A h i j : ℝ) : EReal) := by
  have h1 : dscoreR p e l w (ix3 h i j) = Scalar.select (IntOp.cmpi CmpIPredicate.sle (BitVec.ofNat 32 j.val) (BitVec.ofNat 32 i.val))
      ((Ideal.div (p (ix3 h i j)) (l (ix3 h i 0)) + w (ix2 h i)) * e (ix3 h i j)) 0 := by
    pointwise [dscoreR, maskR]
  rw [h1, sle_rows _ _ j.isLt i.isLt, select_bool, hp, he, hl, hw, div_real _ _ (mass_pos A h M i).ne', ← EReal.coe_add, ← EReal.coe_mul, dscore_eq]
  by_cases hji : j.val ≤ i.val
  · rw [if_pos hji]
  · rw [if_neg hji, dscore_after A h i j hji]; rfl

theorem expoOf_at (H : Holds A q k v f g) (h : Fin 8) (i : Fin 16384) :
    ∃ M : ℝ, (∀ j, expoOf q k f (ix3 h i j) = ((expo A h M i j : ℝ) : EReal)) ∧ massR (expoOf q k f) (ix3 h i 0) = ((mass A h M i : ℝ) : EReal) := by
  obtain ⟨M, hM⟩ := maxR_real H h i
  have he : ∀ j, expoOf q k f (ix3 h i j) = ((expo A h M i j : ℝ) : EReal) := fun j => expoR_at H _ h i j M hM
  exact ⟨M, he, massR_at _ h i M he⟩

theorem dscoreOf_at (H : Holds A q k v f g) (h : Fin 8) (i j : Fin 16384) :
    dscoreOf q k v f g (ix3 h i j) = ((dscore A h i j : ℝ) : EReal) := by
  obtain ⟨M, he, hl⟩ := expoOf_at H h i
  exact dscoreR_at _ _ _ _ h i j M (dprobR_at H h i j) (he j) hl (meanR_at _ _ _ h i M (fun j => dprobR_at H h i j) he hl)

/-- A gradient of a query. -/
theorem dqR_at (H : Holds A q k v f g) (s : FVec Ideal S8x16384x16384 .f32) (hs : ∀ h i j, s (ix3 h i j) = ((dscore A h i j : ℝ) : EReal)) (h : Fin 8) (d : Fin 64) (i : Fin 16384) :
    dqR s k (ix3 h d i) = ((dq A h i d : ℝ) : EReal) := by
  have h1 : dqR s k (ix3 h d i) = ∑ j : Fin 16384, s (ix3 h i j) * Ideal.ofBits FTy.f32 0x3E000000#32 * k (ix3 j h d) := by
    pointwise [dqR, scaledR]
  rw [h1, eighth32]
  simp only [hs, H.k, ← EReal.coe_mul, ← coe_sum]
  refine congrArg (fun r : ℝ => (r : EReal)) ?_
  unfold dq
  rw [Finset.sum_mul]
  exact Finset.sum_congr rfl fun j _ => by ring

/-- A gradient of a key. -/
theorem dkR_at (H : Holds A q k v f g) (s : FVec Ideal S8x16384x16384 .f32) (hs : ∀ h i j, s (ix3 h i j) = ((dscore A h i j : ℝ) : EReal)) (h : Fin 8) (j : Fin 16384) (d : Fin 64) :
    dkR s q (ix3 h j d) = ((dk A h j d : ℝ) : EReal) := by
  have h1 : dkR s q (ix3 h j d) = ∑ i : Fin 16384, s (ix3 h i j) * Ideal.ofBits FTy.f32 0x3E000000#32 * q (ix3 i h d) := by
    pointwise [dkR, scaledR]
  rw [h1, eighth32]
  simp only [hs, H.q, ← EReal.coe_mul, ← coe_sum]
  refine congrArg (fun r : ℝ => (r : EReal)) ?_
  unfold dk
  rw [Finset.sum_mul]
  exact Finset.sum_congr rfl fun j _ => by ring

/-- A gradient of a value. -/
theorem dvR_at (H : Holds A q k v f g) (e : FVec Ideal S8x16384x16384 .f32) (l : FVec Ideal S8x16384x1 .f32)
    (he : ∀ h i, ∃ M : ℝ, (∀ j, e (ix3 h i j) = ((expo A h M i j : ℝ) : EReal)) ∧ l (ix3 h i 0) = ((mass A h M i : ℝ) : EReal)) (h : Fin 8) (j : Fin 16384) (d : Fin 64) :
    dvR g e l (ix3 h j d) = ((dv A h j d : ℝ) : EReal) := by
  have h1 : dvR g e l (ix3 h j d) = ∑ i : Fin 16384, g (ix3 i h d) * Ideal.div (e (ix3 h i j)) (l (ix3 h i 0)) := by
    pointwise [dvR]
  have h2 : ∀ i, Ideal.div (e (ix3 h i j)) (l (ix3 h i 0)) = ((prob A h i j : ℝ) : EReal) := fun i => by
    obtain ⟨M, hM, hl⟩ := he h i
    rw [hM, hl, div_real _ _ (mass_pos A h M i).ne', prob_eq]
  rw [h1]
  simp only [h2, H.g, ← EReal.coe_mul, ← coe_sum]
  refine congrArg (fun r : ℝ => (r : EReal)) ?_
  unfold dv
  exact Finset.sum_congr rfl fun i _ => mul_comm _ _

/-- A gradient of a key's gate. -/
theorem dfkR_at (s : FVec Ideal S8x16384x16384 .f32) (hs : ∀ h i j, s (ix3 h i j) = ((dscore A h i j : ℝ) : EReal)) (h : Fin 8) (j : Fin 16384) :
    dfkR s (ix3 h 0 j) = ((dfk A h j : ℝ) : EReal) := by
  have h1 : dfkR s (ix3 h 0 j) = ∑ _x : Fin 1, ∑ i : Fin 16384, -s (ix3 h i j) := by
    pointwise [dfkR]
  rw [h1, Fin.sum_univ_one]
  simp only [hs, ← EReal.coe_neg, ← coe_sum]
  refine congrArg (fun r : ℝ => (r : EReal)) ?_
  unfold dfk
  rw [Finset.sum_neg_distrib]

/-- A gradient of a query's gate. -/
theorem dfqR_at (s : FVec Ideal S8x16384x16384 .f32) (hs : ∀ h i j, s (ix3 h i j) = ((dscore A h i j : ℝ) : EReal)) (h : Fin 8) (i : Fin 16384) :
    dfqR s (ix3 h 0 i) = ((dfq A h i : ℝ) : EReal) := by
  have h1 : dfqR s (ix3 h 0 i) = ∑ _x : Fin 1, ∑ j : Fin 16384, s (ix3 h i j) := by
    pointwise [dfqR]
  rw [h1, Fin.sum_univ_one]
  simp only [hs, ← coe_sum]
  rfl

theorem idx_three {a b c : ℕ} (y : (⟨3, ![a, b, c]⟩ : Shape).Idx) : y = ix3 (y 0) (y 1) (y 2) := by
  funext d; fin_cases d <;> rfl

theorem idx_mid {a c : ℕ} (y : (⟨3, ![a, 1, c]⟩ : Shape).Idx) : y = ix3 (y 0) 0 (y 2) :=
  (idx_three y).trans (congrArg (fun z => ix3 (y 0) z (y 2)) (Subsingleton.elim (α := Fin 1) _ _))

/-- The gradients of the queries. -/
theorem ref_dq (H : Holds A q k v f g) : dqR (dscoreOf q k v f g) k = Cert.KernelIdeal.Gen.resDq A :=
  funext fun y => (congrArg (dqR (dscoreOf q k v f g) k) (idx_three y)).trans (dqR_at H _ (dscoreOf_at H) (y 0) (y 1) (y 2))

/-- The gradients of the keys. -/
theorem ref_dk (H : Holds A q k v f g) : dkR (dscoreOf q k v f g) q = Cert.KernelIdeal.Gen.resDk A :=
  funext fun y => (congrArg (dkR (dscoreOf q k v f g) q) (idx_three y)).trans (dkR_at H _ (dscoreOf_at H) (y 0) (y 1) (y 2))

/-- The gradients of the values. -/
theorem ref_dv (H : Holds A q k v f g) : dvR g (expoOf q k f) (massR (expoOf q k f)) = Cert.KernelIdeal.Gen.resDv A :=
  funext fun y => (congrArg (dvR g (expoOf q k f) (massR (expoOf q k f))) (idx_three y)).trans (dvR_at H _ _ (expoOf_at H) (y 0) (y 1) (y 2))

/-- The gradients of the keys' gates. -/
theorem ref_dfk (H : Holds A q k v f g) : dfkR (dscoreOf q k v f g) = Cert.KernelIdeal.Gen.resDfk A :=
  funext fun y => (congrArg (dfkR (dscoreOf q k v f g)) (idx_mid y)).trans (dfkR_at _ (dscoreOf_at H) (y 0) (y 2))

/-- The gradients of the queries' gates. -/
theorem ref_dfq (H : Holds A q k v f g) : dfqR (dscoreOf q k v f g) = Cert.KernelIdeal.Gen.resDfq A :=
  funext fun y => (congrArg (dfqR (dscoreOf q k v f g)) (idx_mid y)).trans (dfqR_at _ (dscoreOf_at H) (y 0) (y 2))

end Cert.Ref

end
-- ==== Proof.Finite.lean ====
/- The precondition read: every entry of the five arguments is a real number. -/
module

public import proofs.«01_k».proof.Pre_finite
public import proofs.«01_k».proof.Proof.HostAt
public import Idealize.ShloMosaic.Lib.ReduceAll

@[expose] public section

set_option maxRecDepth 16384

noncomputable section

namespace Cert.Fin

open Idealize.ShloMosaic Cert.Spec Cert.Pre_finite Cert.Pre_finite.Facts

/-- The shape relations that the precondition takes. -/
theorem facts : Cert.Pre_finite.Facts where
  bcast_S_S16384x8x64 := by decide
  reducesTo_S16384x8x64_S_d0_1_2 := by decide
  h_S_ := by decide
  bcast_S_S8x16384 := by decide
  reducesTo_S8x16384_S_d0_1 := by decide

/-- A number whose size is below infinity is a real number. -/
theorem real_of_abs (x : Ideal .f32)
    (h : FloatOps.cmpf .olt (FloatOps.hostAbsf x) (FloatOps.ofBits (F := Ideal) .f32 0x7F800000#32) = 1#1) :
    (x : EReal) = ((x : EReal).toReal : EReal) := by
  have htop : Ideal.ofBits .f32 0x7F800000#32 = ⊤ := by simp [Ideal.ofBits, Ideal.ieee]
  have h2 : Ideal.cmp .olt (max (x : EReal) (-(x : EReal))) (Ideal.ofBits .f32 0x7F800000#32) = 1#1 := h
  rw [htop] at h2
  have h3 : max (x : EReal) (-(x : EReal)) < ⊤ := by
    by_contra hn
    simp [Ideal.cmp, hn] at h2
  have h4 := max_lt_iff.mp h3
  refine (EReal.coe_toReal h4.1.ne ?_).symm
  intro hb
  have h5 := h4.2
  rw [hb] at h5
  exact absurd h5 (by simp)

theorem both {a b : BitVec 1} (h : IntOp.andi a b = 1#1) : a = 1#1 ∧ b = 1#1 := by
  revert a b; decide

variable [Cert.Pre_finite.Facts]

/-- The precondition's test of an argument of three axes. -/
def ok3 (x : FVec Ideal S16384x8x64 .f32) : IVec S_ 1 :=
  Host.reduce IntOp.andi (cmpf .olt (Host.absf x) (broadcastInDim S16384x8x64 ![] bcast_S_S16384x8x64 (constant S_ .f32 0x7F800000#32))) (constantI S_ 1 1#1) reducesTo_S16384x8x64_S_d0_1_2 h_S_

/-- The precondition's test of the gates. -/
def ok2 (x : FVec Ideal S8x16384 .f32) : IVec S_ 1 :=
  Host.reduce IntOp.andi (cmpf .olt (Host.absf x) (broadcastInDim S8x16384 ![] bcast_S_S8x16384 (constant S_ .f32 0x7F800000#32))) (constantI S_ 1 1#1) reducesTo_S8x16384_S_d0_1 h_S_

theorem ok3_real (x : FVec Ideal S16384x8x64 .f32) (j : S_.Idx) (h : ok3 x j = 1#1) (i : S16384x8x64.Idx) : (x i : EReal) = ((x i : EReal).toReal : EReal) :=
  real_of_abs (x i) (Host.reduce_andi_all _ _ _ _ j h i)

theorem ok2_real (x : FVec Ideal S8x16384 .f32) (j : S_.Idx) (h : ok2 x j = 1#1) (i : S8x16384.Idx) : (x i : EReal) = ((x i : EReal).toReal : EReal) :=
  real_of_abs (x i) (Host.reduce_andi_all _ _ _ _ j h i)

/-- Finite arguments are real numbers. -/
theorem holds_of_finite (q k v : FVec Ideal S16384x8x64 .f32) (f : FVec Ideal S8x16384 .f32) (g : FVec Ideal S16384x8x64 .f32)
    (h : Cert.Pre_finite.fn (F := Ideal) q k v f g = fun _ => 1#1) : ∃ A : Args, Cert.KernelIdeal.Gen.Holds A q k v f g := by
  have h0 : ∀ j : S_.Idx, IntOp.andi (IntOp.andi (IntOp.andi (IntOp.andi (ok3 q j) (ok3 k j)) (ok3 v j)) (ok2 f j)) (ok3 g j) = 1#1 := fun j => congrFun h j
  obtain ⟨h1, hg⟩ := both (h0 ix0)
  obtain ⟨h2, hf⟩ := both h1
  obtain ⟨h3, hv⟩ := both h2
  obtain ⟨hq, hk⟩ := both h3
  exact ⟨⟨fun s h d => (q (ix3 s h d) : EReal).toReal, fun s h d => (k (ix3 s h d) : EReal).toReal, fun s h d => (v (ix3 s h d) : EReal).toReal,
      fun h s => (f (ix2 h s) : EReal).toReal, fun s h d => (g (ix3 s h d) : EReal).toReal⟩,
    ⟨fun _ _ _ => ok3_real q _ hq _, fun _ _ _ => ok3_real k _ hk _, fun _ _ _ => ok3_real v _ hv _, fun _ _ => ok2_real f _ hf _, fun _ _ _ => ok3_real g _ hg _⟩⟩

end Cert.Fin

end
-- ==== Proof.Value.lean ====
/- The idealized program's run, with its five results at the gradients of the mathematics. -/
module

public import proofs.«01_k».proof.Proof.Bridge

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable (m : (ℓ : Loc nD τ sig) → Buf (Elt Ideal) ℓ)
variable (D : (p : Fin 1) → (c : Dev nD) → Dat τ (Elt Ideal) Unit ℕ (UR sig nD τ) ℕ (cfgs p) c)
variable (r : PUnit × MemSt nD τ sig (Elt Ideal))

variable {m D r}

/-! Each result is what its window leaves. -/

theorem lands7 (h : Pipeline.FramePost cfgs D 0 (V m) r) (c : Dev nD) : r.2.mem ((c : Thread nD τ).loc main_v85_0) = (D 0 c).arrAt 7 cfg0.N := (h c).1 7
theorem lands8 (h : Pipeline.FramePost cfgs D 0 (V m) r) (c : Dev nD) : r.2.mem ((c : Thread nD τ).loc main_v85_1) = (D 0 c).arrAt 8 cfg0.N := (h c).1 8
theorem lands9 (h : Pipeline.FramePost cfgs D 0 (V m) r) (c : Dev nD) : r.2.mem ((c : Thread nD τ).loc main_v85_2) = (D 0 c).arrAt 9 cfg0.N := (h c).1 9
theorem lands10 (h : Pipeline.FramePost cfgs D 0 (V m) r) (c : Dev nD) : r.2.mem ((c : Thread nD τ).loc main_v85_3) = (D 0 c).arrAt 10 cfg0.N := (h c).1 10
theorem lands11 (h : Pipeline.FramePost cfgs D 0 (V m) r) (c : Dev nD) : r.2.mem ((c : Thread nD τ).loc main_v85_4) = (D 0 c).arrAt 11 cfg0.N := (h c).1 11

/-- The idealized program ends with its five results at the gradients of the mathematics, its arguments unchanged. -/
theorem run_value (m : (ℓ : Loc nD τ sig) → Buf (Elt Ideal) ℓ) (g : Dev nD → PrngReg) (A : Dev nD → Cert.Spec.Args) (H : ∀ c, Real' m c (A c)) :
    θ_run (defs (F := Ideal)) (onTc (τ := τ) (main (F := Ideal))) ⟨m, fun _ => 0, g⟩ (fun r => ∀ c : Dev nD,
      r.2.mem ((c : Thread nD τ).loc main_v85_0) = resDq (A c)
      ∧ r.2.mem ((c : Thread nD τ).loc main_v85_1) = resDk (A c)
      ∧ r.2.mem ((c : Thread nD τ).loc main_v85_2) = resDv (A c)
      ∧ r.2.mem ((c : Thread nD τ).loc main_v85_3) = resDfk (A c)
      ∧ r.2.mem ((c : Thread nD τ).loc main_v85_4) = resDfq (A c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) := by
  have hb := θ_run_and (run_main (F := Ideal) m g) (run_frame (F := Ideal) m g)
  refine (θ_run defs _ _).mono (fun r h => ?_) hb
  intro c
  obtain ⟨hp, hf, _⟩ := h
  refine ⟨?_, ?_, ?_, ?_, ?_, hf c⟩
  · exact (lands7 hp c).trans (out7 (H c))
  · exact (lands8 hp c).trans (out8 (H c))
  · exact (lands9 hp c).trans (out9 (H c))
  · exact (lands10 hp c).trans (out10 (H c))
  · exact (lands11 hp c).trans (out11 (H c))

end Cert.KernelIdeal.Gen

end
-- ==== Proof.MmWeight.lean ====
/- What the weight-gradient call leaves in its result: the product of the transposed input with the gradient. -/
module

public import proofs.«01_k».proof.Defs
public import proofs.«01_k».proof.Proof.Gen.GradWeight
public import proofs.«01_k».proof.Proof.Gen.GradWeightIdeal.Value
public import proofs.«01_k».proof.Proof.Gen.GradWeightRefIdeal.Run
public import Idealize.ShloMosaic.Lib.Pipeline.ValueKit
public import Idealize.ShloMosaic.Lib.Pointwise
public import Idealize.ShloMosaic.Lib.Pipeline.ReadBack
public import Idealize.ShloMosaic.Adequacy
public import Idealize.ShloMosaic.Init
public import Idealize.ShloMosaic.Lib.Claim
public import Idealize.ShloMosaic.Lib.Quiescent

@[expose] public section

noncomputable section

namespace Cert.GradWeightIdeal

open Cert.GradWeightIdeal.Gen Idealize.ShloMosaic Idealize.ShloMosaic.TcCoe Idealize.SL.Sem
open Idealize.ShloMosaic.Pipeline (Dat)

variable (m : (ℓ : Loc nD τ sig) → Buf (Elt Ideal) ℓ)

/-- The block of the input that a point reads: stretch `t mod 8` of the rows, every column. -/
theorem idx0 : ∀ t : Fin cfg0.N, win0_0.index t = ![t.val % 8, 0] :=
  (by decide +kernel : ∀ t : Fin grid0.N, _)

/-- The block of the gradient that a point reads: stretch `t mod 8` of the rows, stretch `t / 8` of the columns. -/
theorem idx1 : ∀ t : Fin cfg0.N, win0_1.index t = ![t.val % 8, t.val / 8] :=
  (by decide +kernel : ∀ t : Fin grid0.N, _)

/-- The block of the result that a point writes: every row, stretch `t / 8` of the columns. -/
theorem idx2 : ∀ t : Fin cfg0.N, win0_2.index t = ![0, t.val / 8] :=
  (by decide +kernel : ∀ t : Fin grid0.N, _)

/-- The zero that an accumulator starts from. -/
theorem zero_at (i : Fin 1024) (j : Fin 1664) : (k0_pay1 (F := Ideal)) (ix2 i j) = (0 : EReal) := by
  pointwise [k0_pay1]

/-- One step of an accumulator: what it held, plus the product of the two blocks. -/
theorem step_at (a : Vec Ideal S1024x1664 .f32) (x : Vec Ideal S2048x1024 .bf16) (y : Vec Ideal S2048x1664 .bf16)
    (i : Fin 1024) (j : Fin 1664) :
    k0_pay2 a x y (ix2 i j) = a (ix2 i j) + ∑ k : Fin 2048, x (ix2 k i) * y (ix2 k j) := by
  pointwise [k0_pay2]

/-- Row `k` of stretch `s` of the rows. -/
def row (s : ℕ) (k : Fin 2048) : Fin 16384 := ⟨(s * 2048 + k.val) % 16384, Nat.mod_lt _ (by decide)⟩
/-- Column `j` of stretch `q` of the columns. -/
def col (q : ℕ) (j : Fin 1664) : Fin 8320 := ⟨(q * 1664 + j.val) % 8320, Nat.mod_lt _ (by decide)⟩

/-- The call's first argument. -/
abbrev inp (c : Dev nD) : Vec Ideal S16384x1024 .bf16 := m ((c : Thread nD τ).loc main_arg0)
/-- The call's second argument. -/
abbrev grd (c : Dev nD) : Vec Ideal S16384x8320 .bf16 := m ((c : Thread nD τ).loc main_arg1)

theorem blk0_at (c : Dev nD) (t : Fin cfg0.N) (k : Fin 2048) (i : Fin 1024) :
    (iblk m c 0 t : Vec Ideal S2048x1024 .bf16) (ix2 k i) = inp m c (ix2 (row (t.val % 8) k) i) := by
  have hs := Nat.mod_lt t.val (show 0 < 8 by decide)
  have hk := k.isLt
  have hr : ((row (t.val % 8) k : Fin 16384) : ℕ) = t.val % 8 * 2048 + k.val := Nat.mod_eq_of_lt (by omega)
  blk_ext [iblk, V, idx0 t, hr]

theorem blk1_at (c : Dev nD) (t : Fin cfg0.N) (k : Fin 2048) (j : Fin 1664) :
    (iblk m c 1 t : Vec Ideal S2048x1664 .bf16) (ix2 k j) = grd m c (ix2 (row (t.val % 8) k) (col (t.val / 8) j)) := by
  have hN := lt_of_lt_of_eq t.isLt (show cfg0.N = 40 from N_0)
  have hs := Nat.mod_lt t.val (show 0 < 8 by decide)
  have hk := k.isLt
  have hj := j.isLt
  have hr : ((row (t.val % 8) k : Fin 16384) : ℕ) = t.val % 8 * 2048 + k.val := Nat.mod_eq_of_lt (by omega)
  have hc : ((col (t.val / 8) j : Fin 8320) : ℕ) = t.val / 8 * 1664 + j.val := Nat.mod_eq_of_lt (by omega)
  blk_ext [iblk, V, idx1 t, hr, hc]

/-- What stretch `s` of the rows adds to stretch `q` of the result's columns. -/
def part (c : Dev nD) (q s : ℕ) (y : S1024x1664.Idx) : EReal :=
  ∑ k : Fin 2048, inp m c (ix2 (row s k) (y 0)) * grd m c (ix2 (row s k) (col q (y 1)))

/-- A step at a point, at an entry of the accumulator. -/
theorem step_point (c : Dev nD) (t : Fin cfg0.N) (a : Vec Ideal S1024x1664 .f32) (y : S1024x1664.Idx) :
    k0_pay2 a (iblk m c 0 t) (iblk m c 1 t) y = a y + part m c (t.val / 8) (t.val % 8) y := by
  obtain ⟨i, j, rfl⟩ : ∃ i j, y = ix2 i j := ⟨y 0, y 1, eq_ix2 y⟩
  refine (step_at _ _ _ i j).trans (congrArg (a (ix2 i j) + ·) (Finset.sum_congr rfl fun k _ => ?_))
  exact congrArg₂ (· * ·) (blk0_at m c t k i) (blk1_at m c t k j)

/-- After a point, the accumulator holds the sum over the stretches of the rows up to that point's. -/
theorem acc_at (c : Dev nD) (t : Fin cfg0.N) (y : S1024x1664.Idx) :
    (outsAt0 m c t.val t.isLt).2 y = ∑ s ∈ Finset.range (t.val % 8 + 1), part m c (t.val / 8) s y := by
  have h := Pipeline.eq_sum_of_reset_step_apply_divmod (M := EReal) (fun n h => (outsAt0 m c n h).2) 8 (fun _ => 0) (part m c) ?_ ?_ t y
  · rw [h, zero_add]
  · intro t h0 y
    have h1 : ¬t.val % 8 = 7 := by omega
    show (outsAt0 m c t.val t.isLt).2 y = _
    rw [outsAt0_A m c t h0 h1]
    frame_out
    rw [step_point]
    obtain ⟨i, j, rfl⟩ : ∃ i j, y = ix2 i j := ⟨y 0, y 1, eq_ix2 y⟩
    rw [zero_at]
  · intro t h0 y
    show (outsAt0 m c t.val t.isLt).2 y = (outsAt0 m c (t.val - 1) _).2 y + _
    by_cases h1 : t.val % 8 = 7
    · rw [outsAt0_C m c t h0 h1]
      frame_out
      rw [step_point, read_unread_whole]
    · rw [outsAt0_B m c t h0 h1]
      frame_out
      rw [step_point, read_unread_whole]

/-- The point that writes a block back writes what the accumulator holds. -/
theorem out_eq (c : Dev nD) (t : Fin cfg0.N) (h1 : t.val % 8 = 7) : (outsAt0 m c t.val t.isLt).1 = (outsAt0 m c t.val t.isLt).2 := by
  rw [outsAt0_C m c t (by omega) h1]
  frame_out

/-- The eight stretches of the rows are the rows. -/
theorem part_sum (c : Dev nD) (q : ℕ) (y : S1024x1664.Idx) :
    ∑ s ∈ Finset.range 8, part m c q s y = ∑ l : Fin 16384, inp m c (ix2 l (y 0)) * grd m c (ix2 l (col q (y 1))) := by
  rw [← Fin.sum_univ_eq_sum_range (fun s => part m c q s y) 8]
  refine Fin.sum_mul_add_congr (S := 8) (n := 2048) (fun s k hl => ?_)
  have e : row s.val k = ⟨s.val * 2048 + k.val, hl⟩ := Fin.ext (Nat.mod_eq_of_lt hl)
  rw [e]

/-- The gradient of the weight: the transposed input times the gradient of the product. -/
def res (c : Dev nD) : Vec Ideal S1024x8320 .f32 :=
  fun y => (∑ l : Fin 16384, inp m c (ix2 l (y 0)) * grd m c (ix2 l (y 1)) : EReal)

/-- What the call leaves in its result. -/
theorem final (c : Dev nD) : (dats m 0 c).arrAt 2 cfg0.N = res m c := by
  refine (dats m 0 c).arrAt_eq_of_covers 2 _ (by decide +kernel) fun t hf y => ?_
  have h7 := (flush0_2 t).mp hf
  have hN := lt_of_lt_of_eq t.isLt (show cfg0.N = 40 from N_0)
  blk_simp
  rw [after0_2, out_eq m c t h7, acc_at, h7, part_sum]
  have hj : (y 1).val < 1664 := (y 1).isLt
  have e0 : ((win0_2.blk t).view.emb y) 0 = y 0 := Fin.ext (by blk_simp [idx2 t])
  have e1 : ((win0_2.blk t).view.emb y) 1 = col (t.val / 8) (y 1) :=
    Fin.ext ((by blk_simp [idx2 t] : (((win0_2.blk t).view.emb y) 1).val = t.val / 8 * 1664 + (y 1).val).trans
      (Nat.mod_eq_of_lt (by omega)).symm)
  show _ = (∑ l : Fin 16384, inp m c (ix2 l (((win0_2.blk t).view.emb y) 0)) * grd m c (ix2 l (((win0_2.blk t).view.emb y) 1)) : EReal)
  rw [e0, e1]

/-- The call ends with its result at that product, its arguments unchanged. -/
theorem run_res (g : Dev nD → PrngReg) : θ_run (defs (F := Ideal)) (onTc (τ := τ) (main (F := Ideal))) ⟨m, fun _ => 0, g⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Value.run_blocks m g)

end Cert.GradWeightIdeal

namespace Cert.GradWeight

open Idealize.ShloMosaic Idealize.SL.Sem

/-- The reference's term at an entry: the same product. -/
theorem ref_at (x : FVec Ideal Cert.GradWeightRefIdeal.S16384x1024 .bf16) (z : FVec Ideal Cert.GradWeightRefIdeal.S16384x8320 .bf16) (i : Fin 1024) (j : Fin 8320) :
    transpose Cert.GradWeightRefIdeal.S1024x8320 [1, 0] (Host.dotGeneral Cert.GradWeightRefIdeal.dot_S16384x8320_S16384x1024_S8320x1024_0_0_1_1_n_n none
        (extf .f32 z Cert.GradWeightRefIdeal.Gen.facts.bitsLt_bf16_f32) (extf .f32 x Cert.GradWeightRefIdeal.Gen.facts.bitsLt_bf16_f32))
        Cert.GradWeightRefIdeal.Gen.facts.transposes_S8320x1024_S1024x8320_1_0 (ix2 i j)
      = (∑ l : Fin 16384, x (ix2 l i) * z (ix2 l j) : EReal) := by
  pointwise []
  exact Finset.sum_congr rfl fun l _ => mul_comm _ _

/-- From equal arguments, the call and the reference end with equal results. -/
theorem algebraic : Cert.algebraic_GradWeightIdeal_GradWeightRefIdeal := by
  intro m g m' g' _ ha
  refine ⟨Cert.GradWeightIdeal.res m, Cert.GradWeightIdeal.run_res m g,
    (θ_run Cert.GradWeightRefIdeal.defs _ _).mono (fun r h c => ?_) (Cert.GradWeightRefIdeal.Value.run m' g')⟩
  refine ⟨(h c).1.trans (funext fun y => ?_), (h c).2⟩
  obtain ⟨i, j, rfl⟩ : ∃ (i : Fin 1024) (j : Fin 8320), y = ix2 i j := ⟨y 0, y 1, eq_ix2 y⟩
  refine (ref_at _ _ i j).trans ?_
  rw [(ha c).1, (ha c).2]
  rfl

/-- The idealized call runs to its end, its arguments unchanged and every counter at zero. -/
theorem frame_ideal : Cert.quiescent_GradWeightIdeal := fun m g _ => Cert.GradWeightIdeal.Gen.frame m g

/-- The call's body is the idealized one's, at machine words. -/
theorem body_same : Cert.GradWeight.defs₀ (F := Bits) = Cert.GradWeightIdeal.defs₀ (F := Bits) := by
  delta Cert.GradWeight.defs₀ Cert.GradWeightIdeal.defs₀
  refine congrArg Defs.onTc (funext fun l => funext fun a => ?_)
  match l, a with
  | 0, (t, s) => rfl

/-- The call's own text is the idealized one's, so its run is that run at machine words. -/
theorem frame_words : Cert.quiescent_GradWeight := by
  intro m g _
  have e : Cert.GradWeight.defs (F := Bits) = Cert.GradWeightIdeal.defs (F := Bits) := by
    delta Cert.GradWeight.defs Cert.GradWeightIdeal.defs
    rw [body_same]
    rfl
  rw [e]
  exact Cert.GradWeightIdeal.Gen.frame (F := Bits) m g

/-- The reference runs to its end, its arguments unchanged and every counter at zero. -/
theorem frame_ref : Cert.quiescent_GradWeightRefIdeal := by
  intro m g _
  hlo_run
  · exact fun _ => ⟨trivial, trivial⟩
  · exact sem_eq_zero_of_no_sems rfl _

end Cert.GradWeight

end
-- ==== Proof.MmInput.lean ====
/- What the input-gradient call leaves in its result: the product of the gradient with the transposed weight. -/
module

public import proofs.«01_k».proof.Defs
public import proofs.«01_k».proof.Proof.Gen.GradInput
public import proofs.«01_k».proof.Proof.Gen.GradInputIdeal.Value
public import proofs.«01_k».proof.Proof.Gen.GradInputRefIdeal.Run
public import Idealize.ShloMosaic.Lib.Pipeline.ValueKit
public import Idealize.ShloMosaic.Lib.Pointwise
public import Idealize.ShloMosaic.Lib.Pipeline.ReadBack
public import Idealize.ShloMosaic.Adequacy
public import Idealize.ShloMosaic.Init
public import Idealize.ShloMosaic.Lib.Claim
public import Idealize.ShloMosaic.Lib.Quiescent

@[expose] public section

noncomputable section

namespace Cert.GradInputIdeal

open Cert.GradInputIdeal.Gen Idealize.ShloMosaic Idealize.ShloMosaic.TcCoe Idealize.SL.Sem
open Idealize.ShloMosaic.Pipeline (Dat)

variable (m : (ℓ : Loc nD τ sig) → Buf (Elt Ideal) ℓ)

/-- The block of the gradient that a point reads: stretch `t / 5` of the rows, stretch `t mod 5` of the columns. -/
theorem idx0 : ∀ t : Fin cfg0.N, win0_0.index t = ![t.val / 5, t.val % 5] :=
  (by decide +kernel : ∀ t : Fin grid0.N, _)

/-- The block of the weight that a point reads: every row, stretch `t mod 5` of the columns. -/
theorem idx1 : ∀ t : Fin cfg0.N, win0_1.index t = ![0, t.val % 5] :=
  (by decide +kernel : ∀ t : Fin grid0.N, _)

/-- The block of the result that a point writes: stretch `t / 5` of the rows, every column. -/
theorem idx2 : ∀ t : Fin cfg0.N, win0_2.index t = ![t.val / 5, 0] :=
  (by decide +kernel : ∀ t : Fin grid0.N, _)

/-- The zero that an accumulator starts from. -/
theorem zero_at (i : Fin 2048) (j : Fin 1024) : (k0_pay1 (F := Ideal)) (ix2 i j) = (0 : EReal) := by
  pointwise [k0_pay1]

/-- One step of an accumulator: what it held, plus the product of the first block with the second, transposed. -/
theorem step_at (a : Vec Ideal S2048x1024 .f32) (x : Vec Ideal S2048x1664 .bf16) (y : Vec Ideal S1024x1664 .bf16)
    (i : Fin 2048) (j : Fin 1024) :
    k0_pay2 a x y (ix2 i j) = a (ix2 i j) + ∑ k : Fin 1664, x (ix2 i k) * y (ix2 j k) := by
  pointwise [k0_pay2]

/-- Row `i` of stretch `q` of the rows. -/
def row (q : ℕ) (i : Fin 2048) : Fin 16384 := ⟨(q * 2048 + i.val) % 16384, Nat.mod_lt _ (by decide)⟩
/-- Column `k` of stretch `s` of the columns. -/
def col (s : ℕ) (k : Fin 1664) : Fin 8320 := ⟨(s * 1664 + k.val) % 8320, Nat.mod_lt _ (by decide)⟩

/-- The call's first argument. -/
abbrev grd (c : Dev nD) : Vec Ideal S16384x8320 .bf16 := m ((c : Thread nD τ).loc main_arg0)
/-- The call's second argument. -/
abbrev wgt (c : Dev nD) : Vec Ideal S1024x8320 .bf16 := m ((c : Thread nD τ).loc main_arg1)

theorem blk0_at (c : Dev nD) (t : Fin cfg0.N) (i : Fin 2048) (k : Fin 1664) :
    (iblk m c 0 t : Vec Ideal S2048x1664 .bf16) (ix2 i k) = grd m c (ix2 (row (t.val / 5) i) (col (t.val % 5) k)) := by
  have hN := lt_of_lt_of_eq t.isLt (show cfg0.N = 40 from N_0)
  have hs := Nat.mod_lt t.val (show 0 < 5 by decide)
  have hk := k.isLt
  have hi := i.isLt
  have hr : ((row (t.val / 5) i : Fin 16384) : ℕ) = t.val / 5 * 2048 + i.val := Nat.mod_eq_of_lt (by omega)
  have hc : ((col (t.val % 5) k : Fin 8320) : ℕ) = t.val % 5 * 1664 + k.val := Nat.mod_eq_of_lt (by omega)
  blk_ext [iblk, V, idx0 t, hr, hc]

theorem blk1_at (c : Dev nD) (t : Fin cfg0.N) (j : Fin 1024) (k : Fin 1664) :
    (iblk m c 1 t : Vec Ideal S1024x1664 .bf16) (ix2 j k) = wgt m c (ix2 j (col (t.val % 5) k)) := by
  have hs := Nat.mod_lt t.val (show 0 < 5 by decide)
  have hk := k.isLt
  have hc : ((col (t.val % 5) k : Fin 8320) : ℕ) = t.val % 5 * 1664 + k.val := Nat.mod_eq_of_lt (by omega)
  blk_ext [iblk, V, idx1 t, hc]

/-- What stretch `s` of the columns adds to stretch `q` of the result's rows. -/
def part (c : Dev nD) (q s : ℕ) (y : S2048x1024.Idx) : EReal :=
  ∑ k : Fin 1664, grd m c (ix2 (row q (y 0)) (col s k)) * wgt m c (ix2 (y 1) (col s k))

/-- A step at a point, at an entry of the accumulator. -/
theorem step_point (c : Dev nD) (t : Fin cfg0.N) (a : Vec Ideal S2048x1024 .f32) (y : S2048x1024.Idx) :
    k0_pay2 a (iblk m c 0 t) (iblk m c 1 t) y = a y + part m c (t.val / 5) (t.val % 5) y := by
  obtain ⟨i, j, rfl⟩ : ∃ i j, y = ix2 i j := ⟨y 0, y 1, eq_ix2 y⟩
  refine (step_at _ _ _ i j).trans (congrArg (a (ix2 i j) + ·) (Finset.sum_congr rfl fun k _ => ?_))
  exact congrArg₂ (· * ·) (blk0_at m c t i k) (blk1_at m c t j k)

/-- After a point, the accumulator holds the sum over the stretches of the columns up to that point's. -/
theorem acc_at (c : Dev nD) (t : Fin cfg0.N) (y : S2048x1024.Idx) :
    (outsAt0 m c t.val t.isLt).2 y = ∑ s ∈ Finset.range (t.val % 5 + 1), part m c (t.val / 5) s y := by
  have h := Pipeline.eq_sum_of_reset_step_apply_divmod (M := EReal) (fun n h => (outsAt0 m c n h).2) 5 (fun _ => 0) (part m c) ?_ ?_ t y
  · rw [h, zero_add]
  · intro t h0 y
    have h1 : ¬t.val % 5 = 4 := by omega
    show (outsAt0 m c t.val t.isLt).2 y = _
    rw [outsAt0_A m c t h0 h1]
    frame_out
    rw [step_point]
    obtain ⟨i, j, rfl⟩ : ∃ i j, y = ix2 i j := ⟨y 0, y 1, eq_ix2 y⟩
    rw [zero_at]
  · intro t h0 y
    show (outsAt0 m c t.val t.isLt).2 y = (outsAt0 m c (t.val - 1) _).2 y + _
    by_cases h1 : t.val % 5 = 4
    · rw [outsAt0_C m c t h0 h1]
      frame_out
      rw [step_point, read_unread_whole]
    · rw [outsAt0_B m c t h0 h1]
      frame_out
      rw [step_point, read_unread_whole]

/-- The point that writes a block back writes what the accumulator holds. -/
theorem out_eq (c : Dev nD) (t : Fin cfg0.N) (h1 : t.val % 5 = 4) : (outsAt0 m c t.val t.isLt).1 = (outsAt0 m c t.val t.isLt).2 := by
  rw [outsAt0_C m c t (by omega) h1]
  frame_out

/-- The five stretches of the columns are the columns. -/
theorem part_sum (c : Dev nD) (q : ℕ) (y : S2048x1024.Idx) :
    ∑ s ∈ Finset.range 5, part m c q s y = ∑ l : Fin 8320, grd m c (ix2 (row q (y 0)) l) * wgt m c (ix2 (y 1) l) := by
  rw [← Fin.sum_univ_eq_sum_range (fun s => part m c q s y) 5]
  refine Fin.sum_mul_add_congr (S := 5) (n := 1664) (fun s k hl => ?_)
  have e : col s.val k = ⟨s.val * 1664 + k.val, hl⟩ := Fin.ext (Nat.mod_eq_of_lt hl)
  rw [e]

/-- The gradient of the input: the gradient of the product times the transposed weight. -/
def res (c : Dev nD) : Vec Ideal S16384x1024 .f32 :=
  fun y => (∑ l : Fin 8320, grd m c (ix2 (y 0) l) * wgt m c (ix2 (y 1) l) : EReal)

/-- What the call leaves in its result. -/
theorem final (c : Dev nD) : (dats m 0 c).arrAt 2 cfg0.N = res m c := by
  refine (dats m 0 c).arrAt_eq_of_covers 2 _ (by decide +kernel) fun t hf y => ?_
  have h4 := (flush0_2 t).mp hf
  have hN := lt_of_lt_of_eq t.isLt (show cfg0.N = 40 from N_0)
  blk_simp
  rw [after0_2, out_eq m c t h4, acc_at, h4, part_sum]
  have hi : (y 0).val < 2048 := (y 0).isLt
  have e0 : ((win0_2.blk t).view.emb y) 0 = row (t.val / 5) (y 0) :=
    Fin.ext ((by blk_simp [idx2 t] : (((win0_2.blk t).view.emb y) 0).val = t.val / 5 * 2048 + (y 0).val).trans
      (Nat.mod_eq_of_lt (by omega)).symm)
  have e1 : ((win0_2.blk t).view.emb y) 1 = y 1 := Fin.ext (by blk_simp [idx2 t])
  show _ = (∑ l : Fin 8320, grd m c (ix2 (((win0_2.blk t).view.emb y) 0) l) * wgt m c (ix2 (((win0_2.blk t).view.emb y) 1) l) : EReal)
  rw [e0, e1]

/-- The call ends with its result at that product, its arguments unchanged. -/
theorem run_res (g : Dev nD → PrngReg) : θ_run (defs (F := Ideal)) (onTc (τ := τ) (main (F := Ideal))) ⟨m, fun _ => 0, g⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Value.run_blocks m g)

end Cert.GradInputIdeal

namespace Cert.GradInput

open Idealize.ShloMosaic Idealize.SL.Sem

/-- The reference's term at an entry: the same product. -/
theorem ref_at (z : FVec Ideal Cert.GradInputRefIdeal.S16384x8320 .bf16) (w : FVec Ideal Cert.GradInputRefIdeal.S1024x8320 .bf16) (i : Fin 16384) (j : Fin 1024) :
    Host.dotGeneral Cert.GradInputRefIdeal.dot_S16384x8320_S1024x8320_S16384x1024_1_1_0_0_n_n none
        (extf .f32 z Cert.GradInputRefIdeal.Gen.facts.bitsLt_bf16_f32) (extf .f32 w Cert.GradInputRefIdeal.Gen.facts.bitsLt_bf16_f32) (ix2 i j)
      = (∑ l : Fin 8320, z (ix2 i l) * w (ix2 j l) : EReal) := by
  pointwise []

/-- From equal arguments, the call and the reference end with equal results. -/
theorem algebraic : Cert.algebraic_GradInputIdeal_GradInputRefIdeal := by
  intro m g m' g' _ ha
  refine ⟨Cert.GradInputIdeal.res m, Cert.GradInputIdeal.run_res m g,
    (θ_run Cert.GradInputRefIdeal.defs _ _).mono (fun r h c => ?_) (Cert.GradInputRefIdeal.Value.run m' g')⟩
  refine ⟨(h c).1.trans (funext fun y => ?_), (h c).2⟩
  obtain ⟨i, j, rfl⟩ : ∃ (i : Fin 16384) (j : Fin 1024), y = ix2 i j := ⟨y 0, y 1, eq_ix2 y⟩
  refine (ref_at _ _ i j).trans ?_
  rw [(ha c).1, (ha c).2]
  rfl

/-- The idealized call runs to its end, its arguments unchanged and every counter at zero. -/
theorem frame_ideal : Cert.quiescent_GradInputIdeal := fun m g _ => Cert.GradInputIdeal.Gen.frame m g

/-- The call's body is the idealized one's, at machine words. -/
theorem body_same : Cert.GradInput.defs₀ (F := Bits) = Cert.GradInputIdeal.defs₀ (F := Bits) := by
  delta Cert.GradInput.defs₀ Cert.GradInputIdeal.defs₀
  refine congrArg Defs.onTc (funext fun l => funext fun a => ?_)
  match l, a with
  | 0, (t, s) => rfl

/-- The call's own text is the idealized one's, so its run is that run at machine words. -/
theorem frame_words : Cert.quiescent_GradInput := by
  intro m g _
  have e : Cert.GradInput.defs (F := Bits) = Cert.GradInputIdeal.defs (F := Bits) := by
    delta Cert.GradInput.defs Cert.GradInputIdeal.defs
    rw [body_same]
    rfl
  rw [e]
  exact Cert.GradInputIdeal.Gen.frame (F := Bits) m g

/-- The reference runs to its end, its arguments unchanged and every counter at zero. -/
theorem frame_ref : Cert.quiescent_GradInputRefIdeal := by
  intro m g _
  hlo_run
  · exact fun _ => ⟨trivial, trivial⟩
  · exact sem_eq_zero_of_no_sems rfl _

end Cert.GradInput

end
-- ==== Proof.MmProject.lean ====
/- What the input projection leaves in its result: the product of the input with the weight. -/
module

public import proofs.«01_k».proof.Defs
public import proofs.«01_k».proof.Proof.Gen.Project
public import proofs.«01_k».proof.Proof.Gen.ProjectIdeal.Value
public import proofs.«01_k».proof.Proof.Gen.ProjectRefIdeal.Run
public import Idealize.ShloMosaic.Lib.Pipeline.ValueKit
public import Idealize.ShloMosaic.Lib.Pointwise
public import Idealize.ShloMosaic.Lib.Pipeline.ReadBack
public import Idealize.ShloMosaic.Adequacy
public import Idealize.ShloMosaic.Init
public import Idealize.ShloMosaic.Lib.Claim
public import Idealize.ShloMosaic.Lib.Quiescent

@[expose] public section

noncomputable section

namespace Cert.ProjectIdeal

open Cert.ProjectIdeal.Gen Idealize.ShloMosaic Idealize.ShloMosaic.TcCoe Idealize.SL.Sem
open Idealize.ShloMosaic.Pipeline (Dat)

variable (m : (ℓ : Loc nD τ sig) → Buf (Elt Ideal) ℓ)

/-- The block of the input that a point reads: stretch `t / 5` of the rows, every column. -/
theorem idx0 : ∀ t : Fin cfg0.N, win0_0.index t = ![t.val / 5, 0] :=
  (by decide +kernel : ∀ t : Fin grid0.N, _)

/-- The block of the weight that a point reads: every row, stretch `t mod 5` of the columns. -/
theorem idx1 : ∀ t : Fin cfg0.N, win0_1.index t = ![0, t.val % 5] :=
  (by decide +kernel : ∀ t : Fin grid0.N, _)

/-- The block of the result that a point writes: stretch `t / 5` of the rows, stretch `t mod 5` of the columns. -/
theorem idx2 : ∀ t : Fin cfg0.N, win0_2.index t = ![t.val / 5, t.val % 5] :=
  (by decide +kernel : ∀ t : Fin grid0.N, _)

/-- What a point computes: the product of its two blocks. -/
theorem step_at (x : Vec Ideal S2048x1024 .bf16) (y : Vec Ideal S1024x1664 .bf16) (i : Fin 2048) (j : Fin 1664) :
    k0_pay1 x y (ix2 i j) = (∑ k : Fin 1024, x (ix2 i k) * y (ix2 k j) : EReal) := by
  pointwise [k0_pay1]

/-- Row `i` of stretch `q` of the rows. -/
def row (q : ℕ) (i : Fin 2048) : Fin 16384 := ⟨(q * 2048 + i.val) % 16384, Nat.mod_lt _ (by decide)⟩
/-- Column `j` of stretch `s` of the columns. -/
def col (s : ℕ) (j : Fin 1664) : Fin 8320 := ⟨(s * 1664 + j.val) % 8320, Nat.mod_lt _ (by decide)⟩

/-- The call's first argument. -/
abbrev inp (c : Dev nD) : Vec Ideal S16384x1024 .bf16 := m ((c : Thread nD τ).loc main_arg0)
/-- The call's second argument. -/
abbrev wgt (c : Dev nD) : Vec Ideal S1024x8320 .bf16 := m ((c : Thread nD τ).loc main_arg1)

theorem blk0_at (c : Dev nD) (t : Fin cfg0.N) (i : Fin 2048) (k : Fin 1024) :
    (iblk m c 0 t : Vec Ideal S2048x1024 .bf16) (ix2 i k) = inp m c (ix2 (row (t.val / 5) i) k) := by
  have hN := lt_of_lt_of_eq t.isLt (show cfg0.N = 40 from N_0)
  have hi := i.isLt
  have hr : ((row (t.val / 5) i : Fin 16384) : ℕ) = t.val / 5 * 2048 + i.val := Nat.mod_eq_of_lt (by omega)
  blk_ext [iblk, V, idx0 t, hr]

theorem blk1_at (c : Dev nD) (t : Fin cfg0.N) (k : Fin 1024) (j : Fin 1664) :
    (iblk m c 1 t : Vec Ideal S1024x1664 .bf16) (ix2 k j) = wgt m c (ix2 k (col (t.val % 5) j)) := by
  have hs := Nat.mod_lt t.val (show 0 < 5 by decide)
  have hj := j.isLt
  have hc : ((col (t.val % 5) j : Fin 8320) : ℕ) = t.val % 5 * 1664 + j.val := Nat.mod_eq_of_lt (by omega)
  blk_ext [iblk, V, idx1 t, hc]

/-- The projection: the input times the weight. -/
def res (c : Dev nD) : Vec Ideal S16384x8320 .f32 :=
  fun y => (∑ l : Fin 1024, inp m c (ix2 (y 0) l) * wgt m c (ix2 l (y 1)) : EReal)

/-- A point's product, at an entry of its block, is the projection's entry there. -/
theorem step_point (c : Dev nD) (t : Fin cfg0.N) (y : S2048x1664.Idx) :
    k0_pay1 (iblk m c 0 t) (iblk m c 1 t) y = res m c (ix2 (row (t.val / 5) (y 0)) (col (t.val % 5) (y 1))) := by
  obtain ⟨i, j, rfl⟩ : ∃ i j, y = ix2 i j := ⟨y 0, y 1, eq_ix2 y⟩
  refine (step_at _ _ i j).trans (Finset.sum_congr rfl fun k _ => ?_)
  exact congrArg₂ (· * ·) (blk0_at m c t i k) (blk1_at m c t k j)

/-- What the call leaves in its result. -/
theorem final (c : Dev nD) : (dats m 0 c).arrAt 2 cfg0.N = res m c := by
  refine (dats m 0 c).arrAt_eq_of_covers 2 _ (by decide +kernel) fun t hf y => ?_
  have hN := lt_of_lt_of_eq t.isLt (show cfg0.N = 40 from N_0)
  blk_simp
  rw [after0_2]
  frame_out
  rw [step_point]
  have hi : (y 0).val < 2048 := (y 0).isLt
  have hj : (y 1).val < 1664 := (y 1).isLt
  have e0 : ((win0_2.blk t).view.emb y) 0 = row (t.val / 5) (y 0) :=
    Fin.ext ((by blk_simp [idx2 t] : (((win0_2.blk t).view.emb y) 0).val = t.val / 5 * 2048 + (y 0).val).trans
      (Nat.mod_eq_of_lt (by omega)).symm)
  have e1 : ((win0_2.blk t).view.emb y) 1 = col (t.val % 5) (y 1) :=
    Fin.ext ((by blk_simp [idx2 t] : (((win0_2.blk t).view.emb y) 1).val = t.val % 5 * 1664 + (y 1).val).trans
      (Nat.mod_eq_of_lt (by omega)).symm)
  rw [← e0, ← e1, ← eq_ix2]

/-- The call ends with its result at that product, its arguments unchanged. -/
theorem run_res (g : Dev nD → PrngReg) : θ_run (defs (F := Ideal)) (onTc (τ := τ) (main (F := Ideal))) ⟨m, fun _ => 0, g⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Value.run_blocks m g)

end Cert.ProjectIdeal

namespace Cert.Project

open Idealize.ShloMosaic Idealize.SL.Sem

/-- The reference's term at an entry: the same product. -/
theorem ref_at (x : FVec Ideal Cert.ProjectRefIdeal.S16384x1024 .bf16) (w : FVec Ideal Cert.ProjectRefIdeal.S1024x8320 .bf16) (i : Fin 16384) (j : Fin 8320) :
    Host.dotGeneral Cert.ProjectRefIdeal.dot_S16384x1024_S1024x8320_S16384x8320_1_0_0_1_n_n none
        (extf .f32 x Cert.ProjectRefIdeal.Gen.facts.bitsLt_bf16_f32) (extf .f32 w Cert.ProjectRefIdeal.Gen.facts.bitsLt_bf16_f32) (ix2 i j)
      = (∑ l : Fin 1024, x (ix2 i l) * w (ix2 l j) : EReal) := by
  pointwise []

/-- From equal arguments, the call and the reference end with equal results. -/
theorem algebraic : Cert.algebraic_ProjectIdeal_ProjectRefIdeal := by
  intro m g m' g' _ ha
  refine ⟨Cert.ProjectIdeal.res m, Cert.ProjectIdeal.run_res m g,
    (θ_run Cert.ProjectRefIdeal.defs _ _).mono (fun r h c => ?_) (Cert.ProjectRefIdeal.Value.run m' g')⟩
  refine ⟨(h c).1.trans (funext fun y => ?_), (h c).2⟩
  obtain ⟨i, j, rfl⟩ : ∃ (i : Fin 16384) (j : Fin 8320), y = ix2 i j := ⟨y 0, y 1, eq_ix2 y⟩
  refine (ref_at _ _ i j).trans ?_
  rw [(ha c).1, (ha c).2]
  rfl

/-- The idealized call runs to its end, its arguments unchanged and every counter at zero. -/
theorem frame_ideal : Cert.quiescent_ProjectIdeal := fun m g _ => Cert.ProjectIdeal.Gen.frame m g

/-- The call's body is the idealized one's, at machine words. -/
theorem body_same : Cert.Project.defs₀ (F := Bits) = Cert.ProjectIdeal.defs₀ (F := Bits) := by
  delta Cert.Project.defs₀ Cert.ProjectIdeal.defs₀
  refine congrArg Defs.onTc (funext fun l => funext fun a => ?_)
  match l, a with
  | 0, (t, s) => rfl

/-- The call's own text is the idealized one's, so its run is that run at machine words. -/
theorem frame_words : Cert.quiescent_Project := by
  intro m g _
  have e : Cert.Project.defs (F := Bits) = Cert.ProjectIdeal.defs (F := Bits) := by
    delta Cert.Project.defs Cert.ProjectIdeal.defs
    rw [body_same]
    rfl
  rw [e]
  exact Cert.ProjectIdeal.Gen.frame (F := Bits) m g

/-- The reference runs to its end, its arguments unchanged and every counter at zero. -/
theorem frame_ref : Cert.quiescent_ProjectRefIdeal := by
  intro m g _
  hlo_run
  · exact fun _ => ⟨trivial, trivial⟩
  · exact sem_eq_zero_of_no_sems rfl _

end Cert.Project

end
-- ==== Proof.MmOut.lean ====
/- What the call of the output weight's gradient leaves in its result: the product of the transposed input with the gradient. -/
module

public import proofs.«01_k».proof.Defs
public import proofs.«01_k».proof.Proof.Gen.GradOut
public import proofs.«01_k».proof.Proof.Gen.GradOutIdeal.Value
public import proofs.«01_k».proof.Proof.Gen.GradOutRefIdeal.Run
public import Idealize.ShloMosaic.Lib.Pipeline.ValueKit
public import Idealize.ShloMosaic.Lib.Pointwise
public import Idealize.ShloMosaic.Lib.Pipeline.ReadBack
public import Idealize.ShloMosaic.Adequacy
public import Idealize.ShloMosaic.Init
public import Idealize.ShloMosaic.Lib.Claim
public import Idealize.ShloMosaic.Lib.Quiescent

@[expose] public section

noncomputable section

namespace Cert.GradOutIdeal

open Cert.GradOutIdeal.Gen Idealize.ShloMosaic Idealize.ShloMosaic.TcCoe Idealize.SL.Sem
open Idealize.ShloMosaic.Pipeline (Dat)

variable (m : (ℓ : Loc nD τ sig) → Buf (Elt Ideal) ℓ)

/-- The block of the input that a point reads: stretch `t mod 16` of the rows, every column. -/
theorem idx0 : ∀ t : Fin cfg0.N, win0_0.index t = ![t.val % 16, 0] :=
  (by decide +kernel : ∀ t : Fin grid0.N, _)

/-- The block of the gradient that a point reads: stretch `t mod 16` of the rows, stretch `t / 16` of the columns. -/
theorem idx1 : ∀ t : Fin cfg0.N, win0_1.index t = ![t.val % 16, t.val / 16] :=
  (by decide +kernel : ∀ t : Fin grid0.N, _)

/-- The block of the result that a point writes: every row, stretch `t / 16` of the columns. -/
theorem idx2 : ∀ t : Fin cfg0.N, win0_2.index t = ![0, t.val / 16] :=
  (by decide +kernel : ∀ t : Fin grid0.N, _)

/-- The zero that an accumulator starts from. -/
theorem zero_at (i : Fin 1024) (j : Fin 1024) : (k0_pay1 (F := Ideal)) (ix2 i j) = (0 : EReal) := by
  pointwise [k0_pay1]

/-- One step of an accumulator: what it held, plus the product of the two blocks. -/
theorem step_at (a : Vec Ideal S1024x1024 .f32) (x : Vec Ideal S1024x1024 .bf16) (y : Vec Ideal S1024x1024 .f32)
    (i : Fin 1024) (j : Fin 1024) :
    k0_pay2 a x y (ix2 i j) = a (ix2 i j) + ∑ k : Fin 1024, x (ix2 k i) * y (ix2 k j) := by
  pointwise [k0_pay2]

/-- Row `k` of stretch `s` of the rows. -/
def row (s : ℕ) (k : Fin 1024) : Fin 16384 := ⟨(s * 1024 + k.val) % 16384, Nat.mod_lt _ (by decide)⟩
/-- Column `j` of stretch `q` of the columns. -/
def col (q : ℕ) (j : Fin 1024) : Fin 1024 := ⟨(q * 1024 + j.val) % 1024, Nat.mod_lt _ (by decide)⟩

/-- The call's first argument. -/
abbrev inp (c : Dev nD) : Vec Ideal S16384x1024 .bf16 := m ((c : Thread nD τ).loc main_arg0)
/-- The call's second argument. -/
abbrev grd (c : Dev nD) : Vec Ideal S16384x1024 .f32 := m ((c : Thread nD τ).loc main_arg1)

theorem blk0_at (c : Dev nD) (t : Fin cfg0.N) (k : Fin 1024) (i : Fin 1024) :
    (iblk m c 0 t : Vec Ideal S1024x1024 .bf16) (ix2 k i) = inp m c (ix2 (row (t.val % 16) k) i) := by
  have hs := Nat.mod_lt t.val (show 0 < 16 by decide)
  have hk := k.isLt
  have hr : ((row (t.val % 16) k : Fin 16384) : ℕ) = t.val % 16 * 1024 + k.val := Nat.mod_eq_of_lt (by omega)
  blk_ext [iblk, V, idx0 t, hr]

theorem blk1_at (c : Dev nD) (t : Fin cfg0.N) (k : Fin 1024) (j : Fin 1024) :
    (iblk m c 1 t : Vec Ideal S1024x1024 .f32) (ix2 k j) = grd m c (ix2 (row (t.val % 16) k) (col (t.val / 16) j)) := by
  have hN := lt_of_lt_of_eq t.isLt (show cfg0.N = 16 from N_0)
  have hs := Nat.mod_lt t.val (show 0 < 16 by decide)
  have hk := k.isLt
  have hj := j.isLt
  have hr : ((row (t.val % 16) k : Fin 16384) : ℕ) = t.val % 16 * 1024 + k.val := Nat.mod_eq_of_lt (by omega)
  have hc : ((col (t.val / 16) j : Fin 1024) : ℕ) = t.val / 16 * 1024 + j.val := Nat.mod_eq_of_lt (by omega)
  blk_ext [iblk, V, idx1 t, hr, hc]

/-- What stretch `s` of the rows adds to stretch `q` of the result's columns. -/
def part (c : Dev nD) (q s : ℕ) (y : S1024x1024.Idx) : EReal :=
  ∑ k : Fin 1024, inp m c (ix2 (row s k) (y 0)) * grd m c (ix2 (row s k) (col q (y 1)))

/-- A step at a point, at an entry of the accumulator. -/
theorem step_point (c : Dev nD) (t : Fin cfg0.N) (a : Vec Ideal S1024x1024 .f32) (y : S1024x1024.Idx) :
    k0_pay2 a (iblk m c 0 t) (iblk m c 1 t) y = a y + part m c (t.val / 16) (t.val % 16) y := by
  obtain ⟨i, j, rfl⟩ : ∃ i j, y = ix2 i j := ⟨y 0, y 1, eq_ix2 y⟩
  refine (step_at _ _ _ i j).trans (congrArg (a (ix2 i j) + ·) (Finset.sum_congr rfl fun k _ => ?_))
  exact congrArg₂ (· * ·) (blk0_at m c t k i) (blk1_at m c t k j)

/-- After a point, the accumulator holds the sum over the stretches of the rows up to that point's. -/
theorem acc_at (c : Dev nD) (t : Fin cfg0.N) (y : S1024x1024.Idx) :
    (outsAt0 m c t.val t.isLt).2 y = ∑ s ∈ Finset.range (t.val % 16 + 1), part m c (t.val / 16) s y := by
  have h := Pipeline.eq_sum_of_reset_step_apply_divmod (M := EReal) (fun n h => (outsAt0 m c n h).2) 16 (fun _ => 0) (part m c) ?_ ?_ t y
  · rw [h, zero_add]
  · intro t h0 y
    have h1 : ¬t.val % 16 = 15 := by omega
    show (outsAt0 m c t.val t.isLt).2 y = _
    rw [outsAt0_A m c t h0 h1]
    frame_out
    rw [step_point]
    obtain ⟨i, j, rfl⟩ : ∃ i j, y = ix2 i j := ⟨y 0, y 1, eq_ix2 y⟩
    rw [zero_at]
  · intro t h0 y
    show (outsAt0 m c t.val t.isLt).2 y = (outsAt0 m c (t.val - 1) _).2 y + _
    by_cases h1 : t.val % 16 = 15
    · rw [outsAt0_C m c t h0 h1]
      frame_out
      rw [step_point, read_unread_whole]
    · rw [outsAt0_B m c t h0 h1]
      frame_out
      rw [step_point, read_unread_whole]

/-- The point that writes a block back writes what the accumulator holds. -/
theorem out_eq (c : Dev nD) (t : Fin cfg0.N) (h1 : t.val % 16 = 15) : (outsAt0 m c t.val t.isLt).1 = (outsAt0 m c t.val t.isLt).2 := by
  rw [outsAt0_C m c t (by omega) h1]
  frame_out

/-- The sixteen stretches of the rows are the rows. -/
theorem part_sum (c : Dev nD) (q : ℕ) (y : S1024x1024.Idx) :
    ∑ s ∈ Finset.range 16, part m c q s y = ∑ l : Fin 16384, inp m c (ix2 l (y 0)) * grd m c (ix2 l (col q (y 1))) := by
  rw [← Fin.sum_univ_eq_sum_range (fun s => part m c q s y) 16]
  refine Fin.sum_mul_add_congr (S := 16) (n := 1024) (fun s k hl => ?_)
  have e : row s.val k = ⟨s.val * 1024 + k.val, hl⟩ := Fin.ext (Nat.mod_eq_of_lt hl)
  rw [e]

/-- The gradient of the weight: the transposed input times the gradient of the product. -/
def res (c : Dev nD) : Vec Ideal S1024x1024 .f32 :=
  fun y => (∑ l : Fin 16384, inp m c (ix2 l (y 0)) * grd m c (ix2 l (y 1)) : EReal)

/-- What the call leaves in its result. -/
theorem final (c : Dev nD) : (dats m 0 c).arrAt 2 cfg0.N = res m c := by
  refine (dats m 0 c).arrAt_eq_of_covers 2 _ (by decide +kernel) fun t hf y => ?_
  have h7 := (flush0_2 t).mp hf
  have hN := lt_of_lt_of_eq t.isLt (show cfg0.N = 16 from N_0)
  blk_simp
  rw [after0_2, out_eq m c t h7, acc_at, h7, part_sum]
  have hj : (y 1).val < 1024 := (y 1).isLt
  have e0 : ((win0_2.blk t).view.emb y) 0 = y 0 := Fin.ext (by blk_simp [idx2 t])
  have e1 : ((win0_2.blk t).view.emb y) 1 = col (t.val / 16) (y 1) :=
    Fin.ext ((by blk_simp [idx2 t] : (((win0_2.blk t).view.emb y) 1).val = t.val / 16 * 1024 + (y 1).val).trans
      (Nat.mod_eq_of_lt (by omega)).symm)
  show _ = (∑ l : Fin 16384, inp m c (ix2 l (((win0_2.blk t).view.emb y) 0)) * grd m c (ix2 l (((win0_2.blk t).view.emb y) 1)) : EReal)
  rw [e0, e1]

/-- The call ends with its result at that product, its arguments unchanged. -/
theorem run_res (g : Dev nD → PrngReg) : θ_run (defs (F := Ideal)) (onTc (τ := τ) (main (F := Ideal))) ⟨m, fun _ => 0, g⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Value.run_blocks m g)

end Cert.GradOutIdeal

namespace Cert.GradOut

open Idealize.ShloMosaic Idealize.SL.Sem

/-- The reference's term at an entry: the same product. -/
theorem ref_at (x : FVec Ideal Cert.GradOutRefIdeal.S16384x1024 .bf16) (z : FVec Ideal Cert.GradOutRefIdeal.S16384x1024 .f32) (i : Fin 1024) (j : Fin 1024) :
    transpose Cert.GradOutRefIdeal.S1024x1024 [1, 0] (Host.dotGeneral Cert.GradOutRefIdeal.dot_S16384x1024_S16384x1024_S1024x1024_0_0_1_1_n_n none
        z (extf .f32 x Cert.GradOutRefIdeal.Gen.facts.bitsLt_bf16_f32))
        Cert.GradOutRefIdeal.Gen.facts.transposes_S1024x1024_S1024x1024_1_0 (ix2 i j)
      = (∑ l : Fin 16384, x (ix2 l i) * z (ix2 l j) : EReal) := by
  pointwise []
  exact Finset.sum_congr rfl fun l _ => mul_comm _ _

/-- From equal arguments, the call and the reference end with equal results. -/
theorem algebraic : Cert.algebraic_GradOutIdeal_GradOutRefIdeal := by
  intro m g m' g' _ ha
  refine ⟨Cert.GradOutIdeal.res m, Cert.GradOutIdeal.run_res m g,
    (θ_run Cert.GradOutRefIdeal.defs _ _).mono (fun r h c => ?_) (Cert.GradOutRefIdeal.Value.run m' g')⟩
  refine ⟨(h c).1.trans (funext fun y => ?_), (h c).2⟩
  obtain ⟨i, j, rfl⟩ : ∃ (i : Fin 1024) (j : Fin 1024), y = ix2 i j := ⟨y 0, y 1, eq_ix2 y⟩
  refine (ref_at _ _ i j).trans ?_
  rw [(ha c).1, (ha c).2]
  rfl

/-- The idealized call runs to its end, its arguments unchanged and every counter at zero. -/
theorem frame_ideal : Cert.quiescent_GradOutIdeal := fun m g _ => Cert.GradOutIdeal.Gen.frame m g

/-- The call's body is the idealized one's, at machine words. -/
theorem body_same : Cert.GradOut.defs₀ (F := Bits) = Cert.GradOutIdeal.defs₀ (F := Bits) := by
  delta Cert.GradOut.defs₀ Cert.GradOutIdeal.defs₀
  refine congrArg Defs.onTc (funext fun l => funext fun a => ?_)
  match l, a with
  | 0, (t, s) => rfl

/-- The call's own text is the idealized one's, so its run is that run at machine words. -/
theorem frame_words : Cert.quiescent_GradOut := by
  intro m g _
  have e : Cert.GradOut.defs (F := Bits) = Cert.GradOutIdeal.defs (F := Bits) := by
    delta Cert.GradOut.defs Cert.GradOutIdeal.defs
    rw [body_same]
    rfl
  rw [e]
  exact Cert.GradOutIdeal.Gen.frame (F := Bits) m g

/-- The reference runs to its end, its arguments unchanged and every counter at zero. -/
theorem frame_ref : Cert.quiescent_GradOutRefIdeal := by
  intro m g _
  hlo_run
  · exact fun _ => ⟨trivial, trivial⟩
  · exact sem_eq_zero_of_no_sems rfl _

end Cert.GradOut

end
-- ==== Proof.MmBranch.lean ====
/- What the call of a branch weight's gradient leaves in its result: the product of the transposed input with the gradient. -/
module

public import proofs.«01_k».proof.Defs
public import proofs.«01_k».proof.Proof.Gen.GradBranch
public import proofs.«01_k».proof.Proof.Gen.GradBranchIdeal.Value
public import proofs.«01_k».proof.Proof.Gen.GradBranchRefIdeal.Run
public import Idealize.ShloMosaic.Lib.Pipeline.ValueKit
public import Idealize.ShloMosaic.Lib.Pointwise
public import Idealize.ShloMosaic.Lib.Pipeline.ReadBack
public import Idealize.ShloMosaic.Adequacy
public import Idealize.ShloMosaic.Init
public import Idealize.ShloMosaic.Lib.Claim
public import Idealize.ShloMosaic.Lib.Quiescent

@[expose] public section

noncomputable section

namespace Cert.GradBranchIdeal

open Cert.GradBranchIdeal.Gen Idealize.ShloMosaic Idealize.ShloMosaic.TcCoe Idealize.SL.Sem
open Idealize.ShloMosaic.Pipeline (Dat)

variable (m : (ℓ : Loc nD τ sig) → Buf (Elt Ideal) ℓ)

/-- The block of the input that a point reads: stretch `t mod 16` of the rows, every column. -/
theorem idx0 : ∀ t : Fin cfg0.N, win0_0.index t = ![t.val % 16, 0] :=
  (by decide +kernel : ∀ t : Fin grid0.N, _)

/-- The block of the gradient that a point reads: stretch `t mod 16` of the rows, stretch `t / 16` of the columns. -/
theorem idx1 : ∀ t : Fin cfg0.N, win0_1.index t = ![t.val % 16, t.val / 16] :=
  (by decide +kernel : ∀ t : Fin grid0.N, _)

/-- The block of the result that a point writes: every row, stretch `t / 16` of the columns. -/
theorem idx2 : ∀ t : Fin cfg0.N, win0_2.index t = ![0, t.val / 16] :=
  (by decide +kernel : ∀ t : Fin grid0.N, _)

/-- The zero that an accumulator starts from. -/
theorem zero_at (i : Fin 512) (j : Fin 1024) : (k0_pay1 (F := Ideal)) (ix2 i j) = (0 : EReal) := by
  pointwise [k0_pay1]

/-- One step of an accumulator: what it held, plus the product of the two blocks. -/
theorem step_at (a : Vec Ideal S512x1024 .f32) (x : Vec Ideal S1024x512 .bf16) (y : Vec Ideal S1024x1024 .bf16)
    (i : Fin 512) (j : Fin 1024) :
    k0_pay2 a x y (ix2 i j) = a (ix2 i j) + ∑ k : Fin 1024, x (ix2 k i) * y (ix2 k j) := by
  pointwise [k0_pay2]

/-- Row `k` of stretch `s` of the rows. -/
def row (s : ℕ) (k : Fin 1024) : Fin 16384 := ⟨(s * 1024 + k.val) % 16384, Nat.mod_lt _ (by decide)⟩
/-- Column `j` of stretch `q` of the columns. -/
def col (q : ℕ) (j : Fin 1024) : Fin 1024 := ⟨(q * 1024 + j.val) % 1024, Nat.mod_lt _ (by decide)⟩

/-- The call's first argument. -/
abbrev inp (c : Dev nD) : Vec Ideal S16384x512 .bf16 := m ((c : Thread nD τ).loc main_arg0)
/-- The call's second argument. -/
abbrev grd (c : Dev nD) : Vec Ideal S16384x1024 .bf16 := m ((c : Thread nD τ).loc main_arg1)

theorem blk0_at (c : Dev nD) (t : Fin cfg0.N) (k : Fin 1024) (i : Fin 512) :
    (iblk m c 0 t : Vec Ideal S1024x512 .bf16) (ix2 k i) = inp m c (ix2 (row (t.val % 16) k) i) := by
  have hs := Nat.mod_lt t.val (show 0 < 16 by decide)
  have hk := k.isLt
  have hr : ((row (t.val % 16) k : Fin 16384) : ℕ) = t.val % 16 * 1024 + k.val := Nat.mod_eq_of_lt (by omega)
  blk_ext [iblk, V, idx0 t, hr]

theorem blk1_at (c : Dev nD) (t : Fin cfg0.N) (k : Fin 1024) (j : Fin 1024) :
    (iblk m c 1 t : Vec Ideal S1024x1024 .bf16) (ix2 k j) = grd m c (ix2 (row (t.val % 16) k) (col (t.val / 16) j)) := by
  have hN := lt_of_lt_of_eq t.isLt (show cfg0.N = 16 from N_0)
  have hs := Nat.mod_lt t.val (show 0 < 16 by decide)
  have hk := k.isLt
  have hj := j.isLt
  have hr : ((row (t.val % 16) k : Fin 16384) : ℕ) = t.val % 16 * 1024 + k.val := Nat.mod_eq_of_lt (by omega)
  have hc : ((col (t.val / 16) j : Fin 1024) : ℕ) = t.val / 16 * 1024 + j.val := Nat.mod_eq_of_lt (by omega)
  blk_ext [iblk, V, idx1 t, hr, hc]

/-- What stretch `s` of the rows adds to stretch `q` of the result's columns. -/
def part (c : Dev nD) (q s : ℕ) (y : S512x1024.Idx) : EReal :=
  ∑ k : Fin 1024, inp m c (ix2 (row s k) (y 0)) * grd m c (ix2 (row s k) (col q (y 1)))

/-- A step at a point, at an entry of the accumulator. -/
theorem step_point (c : Dev nD) (t : Fin cfg0.N) (a : Vec Ideal S512x1024 .f32) (y : S512x1024.Idx) :
    k0_pay2 a (iblk m c 0 t) (iblk m c 1 t) y = a y + part m c (t.val / 16) (t.val % 16) y := by
  obtain ⟨i, j, rfl⟩ : ∃ i j, y = ix2 i j := ⟨y 0, y 1, eq_ix2 y⟩
  refine (step_at _ _ _ i j).trans (congrArg (a (ix2 i j) + ·) (Finset.sum_congr rfl fun k _ => ?_))
  exact congrArg₂ (· * ·) (blk0_at m c t k i) (blk1_at m c t k j)

/-- After a point, the accumulator holds the sum over the stretches of the rows up to that point's. -/
theorem acc_at (c : Dev nD) (t : Fin cfg0.N) (y : S512x1024.Idx) :
    (outsAt0 m c t.val t.isLt).2 y = ∑ s ∈ Finset.range (t.val % 16 + 1), part m c (t.val / 16) s y := by
  have h := Pipeline.eq_sum_of_reset_step_apply_divmod (M := EReal) (fun n h => (outsAt0 m c n h).2) 16 (fun _ => 0) (part m c) ?_ ?_ t y
  · rw [h, zero_add]
  · intro t h0 y
    have h1 : ¬t.val % 16 = 15 := by omega
    show (outsAt0 m c t.val t.isLt).2 y = _
    rw [outsAt0_A m c t h0 h1]
    frame_out
    rw [step_point]
    obtain ⟨i, j, rfl⟩ : ∃ i j, y = ix2 i j := ⟨y 0, y 1, eq_ix2 y⟩
    rw [zero_at]
  · intro t h0 y
    show (outsAt0 m c t.val t.isLt).2 y = (outsAt0 m c (t.val - 1) _).2 y + _
    by_cases h1 : t.val % 16 = 15
    · rw [outsAt0_C m c t h0 h1]
      frame_out
      rw [step_point, read_unread_whole]
    · rw [outsAt0_B m c t h0 h1]
      frame_out
      rw [step_point, read_unread_whole]

/-- The point that writes a block back writes what the accumulator holds. -/
theorem out_eq (c : Dev nD) (t : Fin cfg0.N) (h1 : t.val % 16 = 15) : (outsAt0 m c t.val t.isLt).1 = (outsAt0 m c t.val t.isLt).2 := by
  rw [outsAt0_C m c t (by omega) h1]
  frame_out

/-- The sixteen stretches of the rows are the rows. -/
theorem part_sum (c : Dev nD) (q : ℕ) (y : S512x1024.Idx) :
    ∑ s ∈ Finset.range 16, part m c q s y = ∑ l : Fin 16384, inp m c (ix2 l (y 0)) * grd m c (ix2 l (col q (y 1))) := by
  rw [← Fin.sum_univ_eq_sum_range (fun s => part m c q s y) 16]
  refine Fin.sum_mul_add_congr (S := 16) (n := 1024) (fun s k hl => ?_)
  have e : row s.val k = ⟨s.val * 1024 + k.val, hl⟩ := Fin.ext (Nat.mod_eq_of_lt hl)
  rw [e]

/-- The gradient of the weight: the transposed input times the gradient of the product. -/
def res (c : Dev nD) : Vec Ideal S512x1024 .f32 :=
  fun y => (∑ l : Fin 16384, inp m c (ix2 l (y 0)) * grd m c (ix2 l (y 1)) : EReal)

/-- What the call leaves in its result. -/
theorem final (c : Dev nD) : (dats m 0 c).arrAt 2 cfg0.N = res m c := by
  refine (dats m 0 c).arrAt_eq_of_covers 2 _ (by decide +kernel) fun t hf y => ?_
  have h7 := (flush0_2 t).mp hf
  have hN := lt_of_lt_of_eq t.isLt (show cfg0.N = 16 from N_0)
  blk_simp
  rw [after0_2, out_eq m c t h7, acc_at, h7, part_sum]
  have hj : (y 1).val < 1024 := (y 1).isLt
  have e0 : ((win0_2.blk t).view.emb y) 0 = y 0 := Fin.ext (by blk_simp [idx2 t])
  have e1 : ((win0_2.blk t).view.emb y) 1 = col (t.val / 16) (y 1) :=
    Fin.ext ((by blk_simp [idx2 t] : (((win0_2.blk t).view.emb y) 1).val = t.val / 16 * 1024 + (y 1).val).trans
      (Nat.mod_eq_of_lt (by omega)).symm)
  show _ = (∑ l : Fin 16384, inp m c (ix2 l (((win0_2.blk t).view.emb y) 0)) * grd m c (ix2 l (((win0_2.blk t).view.emb y) 1)) : EReal)
  rw [e0, e1]

/-- The call ends with its result at that product, its arguments unchanged. -/
theorem run_res (g : Dev nD → PrngReg) : θ_run (defs (F := Ideal)) (onTc (τ := τ) (main (F := Ideal))) ⟨m, fun _ => 0, g⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Value.run_blocks m g)

end Cert.GradBranchIdeal

namespace Cert.GradBranch

open Idealize.ShloMosaic Idealize.SL.Sem

/-- The reference's term at an entry: the same product. -/
theorem ref_at (x : FVec Ideal Cert.GradBranchRefIdeal.S16384x512 .bf16) (z : FVec Ideal Cert.GradBranchRefIdeal.S16384x1024 .bf16) (i : Fin 512) (j : Fin 1024) :
    transpose Cert.GradBranchRefIdeal.S512x1024 [1, 0] (Host.dotGeneral Cert.GradBranchRefIdeal.dot_S16384x1024_S16384x512_S1024x512_0_0_1_1_n_n none
        (extf .f32 z Cert.GradBranchRefIdeal.Gen.facts.bitsLt_bf16_f32) (extf .f32 x Cert.GradBranchRefIdeal.Gen.facts.bitsLt_bf16_f32))
        Cert.GradBranchRefIdeal.Gen.facts.transposes_S1024x512_S512x1024_1_0 (ix2 i j)
      = (∑ l : Fin 16384, x (ix2 l i) * z (ix2 l j) : EReal) := by
  pointwise []
  exact Finset.sum_congr rfl fun l _ => mul_comm _ _

/-- From equal arguments, the call and the reference end with equal results. -/
theorem algebraic : Cert.algebraic_GradBranchIdeal_GradBranchRefIdeal := by
  intro m g m' g' _ ha
  refine ⟨Cert.GradBranchIdeal.res m, Cert.GradBranchIdeal.run_res m g,
    (θ_run Cert.GradBranchRefIdeal.defs _ _).mono (fun r h c => ?_) (Cert.GradBranchRefIdeal.Value.run m' g')⟩
  refine ⟨(h c).1.trans (funext fun y => ?_), (h c).2⟩
  obtain ⟨i, j, rfl⟩ : ∃ (i : Fin 512) (j : Fin 1024), y = ix2 i j := ⟨y 0, y 1, eq_ix2 y⟩
  refine (ref_at _ _ i j).trans ?_
  rw [(ha c).1, (ha c).2]
  rfl

/-- The idealized call runs to its end, its arguments unchanged and every counter at zero. -/
theorem frame_ideal : Cert.quiescent_GradBranchIdeal := fun m g _ => Cert.GradBranchIdeal.Gen.frame m g

/-- The call's body is the idealized one's, at machine words. -/
theorem body_same : Cert.GradBranch.defs₀ (F := Bits) = Cert.GradBranchIdeal.defs₀ (F := Bits) := by
  delta Cert.GradBranch.defs₀ Cert.GradBranchIdeal.defs₀
  refine congrArg Defs.onTc (funext fun l => funext fun a => ?_)
  match l, a with
  | 0, (t, s) => rfl

/-- The call's own text is the idealized one's, so its run is that run at machine words. -/
theorem frame_words : Cert.quiescent_GradBranch := by
  intro m g _
  have e : Cert.GradBranch.defs (F := Bits) = Cert.GradBranchIdeal.defs (F := Bits) := by
    delta Cert.GradBranch.defs Cert.GradBranchIdeal.defs
    rw [body_same]
    rfl
  rw [e]
  exact Cert.GradBranchIdeal.Gen.frame (F := Bits) m g

/-- The reference runs to its end, its arguments unchanged and every counter at zero. -/
theorem frame_ref : Cert.quiescent_GradBranchRefIdeal := by
  intro m g _
  hlo_run
  · exact fun _ => ⟨trivial, trivial⟩
  · exact sem_eq_zero_of_no_sems rfl _

end Cert.GradBranch

end
-- ==== Proof.Merge.lean ====
/- What the merge call leaves in its five results, entry by entry. -/
module

public import proofs.«01_k».proof.Proof.Gen.MergeIdeal.Value
public import Idealize.ShloMosaic.Lib.Pipeline.ValueKit
public import Idealize.ShloMosaic.Lib.Pointwise
public import Idealize.ShloMosaic.Lib.Pipeline.ReadBack
public import Idealize.ShloMosaic.Lib.StableHlo.ReadAt

@[expose] public section

noncomputable section

namespace Cert.MergeSpec

open Idealize.ShloMosaic

/-- The logistic function. -/
def sg (x : EReal) : EReal := Ideal.div 1 (1 + Ideal.exp (-x))
/-- A value times its logistic. -/
def silu (x : EReal) : EReal := x * sg x
/-- Column `k` of the head that column `j` lies in. -/
def hd (j : Fin 512) (k : Fin 128) : Fin 512 := ⟨j.val / 128 * 128 + k.val, by omega⟩
/-- The place of column `j` in its head. -/
def lane (j : Fin 512) : Fin 128 := ⟨j.val % 128, by omega⟩
/-- Column `j` of the `h`-th stretch of 512 columns. -/
def zc (h : Fin 9) (j : Fin 512) : Fin 8320 := ⟨h.val * 512 + j.val, by omega⟩
/-- Column `j` of the `n`-th branch's gates. -/
def gc (n : Fin 3) (j : Fin 1024) : Fin 8320 := ⟨n.val * 1024 + j.val, by omega⟩
/-- Column `j` of the `n`-th branch's bias. -/
def bc (n : Fin 3) (j : Fin 1024) : Fin 3072 := ⟨n.val * 1024 + j.val, by omega⟩
/-- A branch's row: what came out of it, by the silu of its gate. -/
def gated (o z : Fin 512 → EReal) (j : Fin 512) : EReal := o j * silu (z j)
/-- A row normed head by head, times the norm's weight. -/
def normed (o : Fin 512 → EReal) (g : Fin 128 → EReal) (j : Fin 512) : EReal :=
  o j * Ideal.rsqrt (Ideal.div (∑ k : Fin 128, o (hd j k) * o (hd j k)) (Ideal.ofBits .f32 1124073472#32) + Ideal.ofBits .f32 897988541#32) * g (lane j)
/-- A branch's share of a merged entry. -/
def term (G b : EReal) (y w : Fin 512 → EReal) : EReal := sg (G + b) * ∑ k : Fin 512, y k * w k
/-- The branches' rows, from the rows of what came out of each and the row of the projection. -/
def rowA (o : Fin 512 → EReal) (z : Fin 8320 → EReal) : Fin 512 → EReal := gated o fun j => z (zc 6 j)
def rowB (o : Fin 512 → EReal) (g : Fin 128 → EReal) (z : Fin 8320 → EReal) : Fin 512 → EReal := gated (normed o g) fun j => z (zc 7 j)
def rowM (o : Fin 512 → EReal) (z : Fin 8320 → EReal) : Fin 512 → EReal := gated o fun j => z (zc 8 j)
/-- The merged row. -/
def merged (z : Fin 8320 → EReal) (oa ob om : Fin 512 → EReal) (g : Fin 128 → EReal) (b : Fin 3072 → EReal) (w : Fin 3 → Fin 512 → Fin 1024 → EReal) (j : Fin 1024) : EReal :=
  term (z (gc 0 j)) (b (bc 0 j)) (rowA oa z) (fun k => w 0 k j) + term (z (gc 1 j)) (b (bc 1 j)) (rowB ob g z) (fun k => w 1 k j)
    + term (z (gc 2 j)) (b (bc 2 j)) (rowM om z) (fun k => w 2 k j)

end Cert.MergeSpec

namespace Cert.MergeIdeal

open Cert.MergeSpec
open Cert.MergeIdeal.Gen Idealize.ShloMosaic Idealize.ShloMosaic.TcCoe Idealize.SL.Sem
open Idealize.ShloMosaic.Pipeline (Dat)

/-- Two branches' rows as the kernel makes them. -/
theorem gated_at (o z : Vec Ideal S512x512 .f32) (i : Fin 512) (j : Fin 512) :
    k0_pay2 o z (ix2 i j) = gated (fun j => o (ix2 i j)) (fun j => z (ix2 i j)) j := by
  pointwise [k0_pay2, gated, silu, sg]
  rw [zero_sub]

theorem gated_at' (o z : Vec Ideal S512x512 .f32) (i : Fin 512) (j : Fin 512) :
    k0_pay9 o z (ix2 i j) = gated (fun j => o (ix2 i j)) (fun j => z (ix2 i j)) j := by
  pointwise [k0_pay9, gated, silu, sg]
  rw [zero_sub]

/-- The normed branch's row as the kernel makes it. -/
theorem normed_at (o z : Vec Ideal S512x512 .f32) (g : Vec Ideal S1x128 .f32) (i : Fin 512) (j : Fin 512) :
    k0_pay8 o (k0_pay3 o) (k0_pay4 o) (k0_pay5 o) (k0_pay6 o) k0_pay7 g g g g z (ix2 i j)
      = gated (normed (fun j => o (ix2 i j)) (fun k => g (ix2 0 k))) (fun j => z (ix2 i j)) j := by
  pointwise [k0_pay8, k0_pay3, k0_pay4, k0_pay5, k0_pay6, k0_pay7]
  simp only [gated, normed, silu, sg, zero_sub]
  congr 1
  have key : ∀ (a : ℕ) (l : ℕ) (ha : a + l < 512) (hl : l < 128) (hb : a + 127 < 512) (ej : j.val = a + l) (ea : j.val / 128 * 128 = a) (el : j.val % 128 = l),
      o (ix2 i ⟨a + l, ha⟩) * Ideal.rsqrt (Ideal.div (∑ x : Fin 128, o (ix2 i ⟨a + x.val, by omega⟩) * o (ix2 i ⟨a + x.val, by omega⟩)) (Ideal.ofBits .f32 1124073472#32) + Ideal.ofBits .f32 897988541#32) * g (ix2 0 ⟨l, hl⟩)
        = o (ix2 i j) * Ideal.rsqrt (Ideal.div (∑ k : Fin 128, o (ix2 i (hd j k)) * o (ix2 i (hd j k))) (Ideal.ofBits .f32 1124073472#32) + Ideal.ofBits .f32 897988541#32) * g (ix2 0 (lane j)) := by
    intro a l ha hl hb ej ea el
    have e1 : (⟨a + l, ha⟩ : Fin 512) = j := Fin.ext ej.symm
    have e2 : ∀ x : Fin 128, (⟨a + x.val, by omega⟩ : Fin 512) = hd j x := fun x => Fin.ext (by show a + x.val = j.val / 128 * 128 + x.val; rw [ea])
    have e3 : (⟨l, hl⟩ : Fin 128) = lane j := Fin.ext el.symm
    simp only [e1, e2, e3]
  have hj := j.isLt
  by_cases h0 : j.val < 128
  · refine (dif_pos h0).trans (Eq.trans ?_ (key 0 j.val (by omega) h0 (by omega) (by omega) (by omega) (by omega)))
    simp only [zero_add]
  refine (dif_neg h0).trans ?_
  by_cases h1 : j.val - 128 < 128
  · exact (dif_pos h1).trans (key 128 (j.val - 128) (by omega) h1 (by omega) (by omega) (by omega) (by omega))
  refine (dif_neg h1).trans ?_
  by_cases h2 : j.val - 128 - 128 < 128
  · exact (dif_pos h2).trans (key 256 (j.val - 128 - 128) (by omega) h2 (by omega) (by omega) (by omega) (by omega))
  exact (dif_neg h2).trans (key 384 (j.val - 128 - 128 - 128) (by omega) (by omega) (by omega) (by omega) (by omega) (by omega))

/-- The first branch's share, as the kernel makes it. -/
theorem first_at (y : FVec Ideal S512x512 .f32) (G : Vec Ideal S512x1024 .f32) (b : Vec Ideal S1x1024 .f32) (w : Vec Ideal S1x512x1024 .bf16) (i : Fin 512) (j : Fin 1024) :
    k0_pay11 y G b w (ix2 i j) = term (G (ix2 i j)) (b (ix2 0 j)) (fun k => y (ix2 i k)) (fun k => w (ix3 0 k j)) := by
  pointwise [k0_pay11, k0_pay10, term, sg]
  rw [zero_sub]

/-- The merged entry: the three branches' shares. -/
theorem merged_at (y3 : FVec Ideal S512x512 .f32) (a : FVec Ideal S512x1024 .f32) (y2 : FVec Ideal S512x512 .f32) (G2 G3 : Vec Ideal S512x1024 .f32) (b2 b3 : Vec Ideal S1x1024 .f32)
    (w2 w3 : Vec Ideal S1x512x1024 .bf16) (i : Fin 512) (j : Fin 1024) :
    k0_pay14 y3 a (k0_pay12 y2) G2 b2 w2 G3 b3 w3 (ix2 i j)
      = a (ix2 i j) + term (G2 (ix2 i j)) (b2 (ix2 0 j)) (fun k => y2 (ix2 i k)) (fun k => w2 (ix3 0 k j))
        + term (G3 (ix2 i j)) (b3 (ix2 0 j)) (fun k => y3 (ix2 i k)) (fun k => w3 (ix3 0 k j)) := by
  pointwise [k0_pay14, k0_pay13, k0_pay12, term, sg]
  simp only [zero_sub]

theorem last_at (M : FVec Ideal S512x1024 .bf16) (x : Vec Ideal S512x1024 .f32) (w : Vec Ideal S1024x1024 .bf16) (i : Fin 512) (j : Fin 1024) :
    k0_pay1 M x w (ix2 i j) = x (ix2 i j) + ∑ e : Fin 1024, M (ix2 i e) * w (ix2 e j) := by
  pointwise [k0_pay1]

variable (m : (ℓ : Loc nD τ sig) → Buf (Elt Ideal) ℓ)

/-- The block that a point's windows of rows are at: stretch `t` of the rows, from the first column. -/
theorem idxRow : ∀ t : Fin cfg0.N, win0_0.index t = ![t.val, 0] ∧ win0_1.index t = ![t.val, 0] ∧ win0_2.index t = ![t.val, 0] ∧ win0_4.index t = ![t.val, 0] ∧ win0_6.index t = ![t.val, 0] ∧ win0_12.index t = ![t.val, 0] ∧ win0_13.index t = ![t.val, 0] ∧ win0_14.index t = ![t.val, 0] ∧ win0_15.index t = ![t.val, 0] ∧ win0_16.index t = ![t.val, 0] :=
  (by decide +kernel : ∀ t : Fin grid0.N, _)
/-- Those of the projection's other columns. -/
theorem idxCol : ∀ t : Fin cfg0.N, win0_3.index t = ![t.val, 6] ∧ win0_5.index t = ![t.val, 7] ∧ win0_7.index t = ![t.val, 8] :=
  (by decide +kernel : ∀ t : Fin grid0.N, _)
/-- Those that are whole. -/
theorem idxWhole : ∀ t : Fin cfg0.N, win0_8.index t = ![0, 0] ∧ win0_9.index t = ![0, 0] ∧ win0_10.index t = ![0, 0, 0] ∧ win0_11.index t = ![0, 0] :=
  (by decide +kernel : ∀ t : Fin grid0.N, _)

/-- Row `i` of point `t`'s block of rows. -/
def row (t : Fin cfg0.N) (i : Fin 512) : Fin 16384 := ⟨(t.val * 512 + i.val) % 16384, Nat.mod_lt _ (by decide)⟩

theorem row_val (t : Fin cfg0.N) (i : Fin 512) : (row t i).val = t.val * 512 + i.val := by
  have hN := lt_of_lt_of_eq t.isLt (show cfg0.N = 32 from N_0)
  have hi := i.isLt
  exact Nat.mod_eq_of_lt (by omega)

abbrev ax (c : Dev nD) : Vec Ideal S16384x1024 .f32 := m ((c : Thread nD τ).loc main_arg0)
abbrev az (c : Dev nD) : Vec Ideal S16384x8320 .f32 := m ((c : Thread nD τ).loc main_arg1)
abbrev aoa (c : Dev nD) : Vec Ideal S16384x512 .f32 := m ((c : Thread nD τ).loc main_arg2)
abbrev aob (c : Dev nD) : Vec Ideal S16384x512 .f32 := m ((c : Thread nD τ).loc main_arg3)
abbrev aom (c : Dev nD) : Vec Ideal S16384x512 .f32 := m ((c : Thread nD τ).loc main_arg4)
abbrev agg (c : Dev nD) : Vec Ideal S128 .f32 := m ((c : Thread nD τ).loc main_arg5)
abbrev abm (c : Dev nD) : Vec Ideal S3072 .f32 := m ((c : Thread nD τ).loc main_arg6)
abbrev awb (c : Dev nD) : Vec Ideal S3x512x1024 .bf16 := m ((c : Thread nD τ).loc main_arg7)
abbrev awo (c : Dev nD) : Vec Ideal S1024x1024 .bf16 := m ((c : Thread nD τ).loc main_arg8)

theorem blk0_at (c : Dev nD) (t : Fin cfg0.N) (i : Fin 512) (j : Fin 1024) :
    (iblk m c 0 t : Vec Ideal S512x1024 .f32) (ix2 i j) = ax m c (ix2 (row t i) j) := by
  have hr := row_val t i
  blk_ext [iblk, V, idxRow t, hr]
theorem blk2_at (c : Dev nD) (t : Fin cfg0.N) (i : Fin 512) (j : Fin 512) :
    (iblk m c 2 t : Vec Ideal S512x512 .f32) (ix2 i j) = aoa m c (ix2 (row t i) j) := by
  have hr := row_val t i
  blk_ext [iblk, V, idxRow t, hr]
theorem blk4_at (c : Dev nD) (t : Fin cfg0.N) (i : Fin 512) (j : Fin 512) :
    (iblk m c 4 t : Vec Ideal S512x512 .f32) (ix2 i j) = aob m c (ix2 (row t i) j) := by
  have hr := row_val t i
  blk_ext [iblk, V, idxRow t, hr]
theorem blk6_at (c : Dev nD) (t : Fin cfg0.N) (i : Fin 512) (j : Fin 512) :
    (iblk m c 6 t : Vec Ideal S512x512 .f32) (ix2 i j) = aom m c (ix2 (row t i) j) := by
  have hr := row_val t i
  blk_ext [iblk, V, idxRow t, hr]
theorem blk8_at (c : Dev nD) (t : Fin cfg0.N) (k : Fin 128) :
    (iblk m c 8 t : Vec Ideal S1x128 .f32) (ix2 0 k) = agg m c (ix1 k) := by
  have e : ((win0_8.blk t).view.emb (ix2 0 k)) = (ix2 0 k : S1x128.Idx) := by blk_ext [idxWhole t]
  refine (congrArg (V m c main_v0) e).trans ?_
  show StableHlo.after hostOps0 (fun b => m (c, b)) _ _ = _
  after_reads_at
theorem blk9_at (c : Dev nD) (t : Fin cfg0.N) (k : Fin 3072) :
    (iblk m c 9 t : Vec Ideal S1x3072 .f32) (ix2 0 k) = abm m c (ix1 k) := by
  have e : ((win0_9.blk t).view.emb (ix2 0 k)) = (ix2 0 k : S1x3072.Idx) := by blk_ext [idxWhole t]
  refine (congrArg (V m c main_v1) e).trans ?_
  show StableHlo.after hostOps0 (fun b => m (c, b)) _ _ = _
  after_reads_at
theorem blk10_at (c : Dev nD) (t : Fin cfg0.N) (n : Fin 3) (k : Fin 512) (j : Fin 1024) :
    (iblk m c 10 t : Vec Ideal S3x512x1024 .bf16) (ix3 n k j) = awb m c (ix3 n k j) := by
  blk_ext [iblk, V, idxWhole t]
theorem blk11_at (c : Dev nD) (t : Fin cfg0.N) (k : Fin 1024) (j : Fin 1024) :
    (iblk m c 11 t : Vec Ideal S1024x1024 .bf16) (ix2 k j) = awo m c (ix2 k j) := by
  blk_ext [iblk, V, idxWhole t]
theorem blk1_at (c : Dev nD) (t : Fin cfg0.N) (i : Fin 512) (j : Fin 3072) :
    (X0_1 m c t : Vec Ideal S512x3072 .f32) (ix2 i j) = az m c (ix2 (row t i) ⟨j.val, by omega⟩) := by
  have hr := row_val t i
  unfold X0_1 Pipeline.Window.fill
  rw [dif_pos (moved0_1 t _)]
  blk_ext [iblk, V, idxRow t, hr]
theorem blk3_at (c : Dev nD) (t : Fin cfg0.N) (i : Fin 512) (j : Fin 512) :
    (X0_3 m c t : Vec Ideal S512x512 .f32) (ix2 i j) = az m c (ix2 (row t i) (zc 6 j)) := by
  have hr := row_val t i
  unfold X0_3 Pipeline.Window.fill
  rw [dif_pos (moved0_3 t _)]
  blk_ext [iblk, V, idxCol t, hr, zc]

/-- A stretch of a window's columns, read at an entry. -/
theorem gate (c : Dev nD) (t : Fin cfg0.N) (n : Fin 3) (o : ℕ) (ho : o = n.val * 1024) (h) (i : Fin 512) (j : Fin 1024) :
    View.ld (X0_1 m c t) (Rect.unit ![0, o] ![512, 1024] h) (ix2 i j) = az m c (ix2 (row t i) (gc n j)) := by
  have e : (Rect.unit ![0, o] ![512, 1024] h : Rect S512x3072).idx (ix2 i j) = ix2 i (bc n j) := by
    funext a
    match a with
    | 0 => exact Fin.ext (by show 0 + 1 * i.val = i.val; omega)
    | 1 => exact Fin.ext (by show o + 1 * j.val = n.val * 1024 + j.val; omega)
  exact (congrArg (X0_1 m c t) e).trans (blk1_at m c t i _)
theorem bias (c : Dev nD) (t : Fin cfg0.N) (n : Fin 3) (o : ℕ) (ho : o = n.val * 1024) (h) (j : Fin 1024) :
    View.ld (iblk m c 9 t : Vec Ideal S1x3072 .f32) (Rect.unit ![0, o] ![1, 1024] h) (ix2 0 j) = abm m c (ix1 (bc n j)) := by
  have e : (Rect.unit ![0, o] ![1, 1024] h : Rect S1x3072).idx (ix2 0 j) = ix2 0 (bc n j) := by
    funext a
    match a with
    | 0 => rfl
    | 1 => exact Fin.ext (by show o + 1 * j.val = n.val * 1024 + j.val; omega)
  exact (congrArg (iblk m c 9 t : Vec Ideal S1x3072 .f32) e).trans (blk9_at m c t _)
theorem weight (c : Dev nD) (t : Fin cfg0.N) (n : Fin 3) (o : ℕ) (ho : o = n.val) (h) (k : Fin 512) (j : Fin 1024) :
    View.ld (iblk m c 10 t : Vec Ideal S3x512x1024 .bf16) (Rect.unit ![o, 0, 0] ![1, 512, 1024] h) (ix3 0 k j) = awb m c (ix3 n k j) := by
  have e : (Rect.unit ![o, 0, 0] ![1, 512, 1024] h : Rect S3x512x1024).idx (ix3 0 k j) = ix3 n k j := by
    funext a
    match a with
    | 0 => exact Fin.ext (by show o + 1 * 0 = n.val; omega)
    | 1 => exact Fin.ext (by show 0 + 1 * k.val = k.val; omega)
    | 2 => exact Fin.ext (by show 0 + 1 * j.val = j.val; omega)
  exact (congrArg (iblk m c 10 t : Vec Ideal S3x512x1024 .bf16) e).trans (blk10_at m c t n k j)
theorem blk5_at (c : Dev nD) (t : Fin cfg0.N) (i : Fin 512) (j : Fin 512) :
    (X0_5 m c t : Vec Ideal S512x512 .f32) (ix2 i j) = az m c (ix2 (row t i) (zc 7 j)) := by
  have hr := row_val t i
  unfold X0_5 Pipeline.Window.fill
  rw [dif_pos (moved0_5 t _)]
  blk_ext [iblk, V, idxCol t, hr, zc]
theorem blk7_at (c : Dev nD) (t : Fin cfg0.N) (i : Fin 512) (j : Fin 512) :
    (X0_7 m c t : Vec Ideal S512x512 .f32) (ix2 i j) = az m c (ix2 (row t i) (zc 8 j)) := by
  have hr := row_val t i
  unfold X0_7 Pipeline.Window.fill
  rw [dif_pos (moved0_7 t _)]
  blk_ext [iblk, V, idxCol t, hr, zc]

end Cert.MergeIdeal

end
-- ==== Proof.MergeRun.lean ====
/- The merge call's five results, as arrays. -/
module

public import proofs.«01_k».proof.Proof.Merge

@[expose] public section

noncomputable section

namespace Cert.MergeIdeal

open Cert.MergeSpec
open Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- What the call leaves in its results, from its arguments' rows. -/
def resA (c : Dev nD) : Vec Ideal S16384x512 .bf16 := fun y => rowA (fun k => aoa m c (ix2 (y 0) k)) (fun k => az m c (ix2 (y 0) k)) (y 1)
def resB (c : Dev nD) : Vec Ideal S16384x512 .bf16 := fun y => rowB (fun k => aob m c (ix2 (y 0) k)) (fun k => agg m c (ix1 k)) (fun k => az m c (ix2 (y 0) k)) (y 1)
def resM (c : Dev nD) : Vec Ideal S16384x512 .bf16 := fun y => rowM (fun k => aom m c (ix2 (y 0) k)) (fun k => az m c (ix2 (y 0) k)) (y 1)
def mergedOf (c : Dev nD) (s : Fin 16384) : Fin 1024 → EReal :=
  merged (fun k => az m c (ix2 s k)) (fun k => aoa m c (ix2 s k)) (fun k => aob m c (ix2 s k)) (fun k => aom m c (ix2 s k)) (fun k => agg m c (ix1 k)) (fun k => abm m c (ix1 k)) (fun n k j => awb m c (ix3 n k j))
def resG (c : Dev nD) : Vec Ideal S16384x1024 .bf16 := fun y => mergedOf m c (y 0) (y 1)
def resX (c : Dev nD) : Vec Ideal S16384x1024 .f32 := fun y => (ax m c (ix2 (y 0) (y 1)) + ∑ e : Fin 1024, mergedOf m c (y 0) e * awo m c (ix2 e (y 1)) : EReal)

/-- The branches' rows at a point. -/
theorem ya_at (c : Dev nD) (t : Fin cfg0.N) (i : Fin 512) (j : Fin 512) :
    k0_pay2 (iblk m c 2 t) (X0_3 m c t) (ix2 i j) = rowA (fun k => aoa m c (ix2 (row t i) k)) (fun k => az m c (ix2 (row t i) k)) j := by
  rw [gated_at]
  simp only [blk2_at, blk3_at]
  rfl
theorem ym_at (c : Dev nD) (t : Fin cfg0.N) (i : Fin 512) (j : Fin 512) :
    k0_pay9 (iblk m c 6 t) (X0_7 m c t) (ix2 i j) = rowM (fun k => aom m c (ix2 (row t i) k)) (fun k => az m c (ix2 (row t i) k)) j := by
  rw [gated_at']
  simp only [blk6_at, blk7_at]
  rfl
theorem yb_at (c : Dev nD) (t : Fin cfg0.N) (i : Fin 512) (j : Fin 512) :
    k0_pay8 (iblk m c 4 t) (k0_pay3 (iblk m c 4 t)) (k0_pay4 (iblk m c 4 t)) (k0_pay5 (iblk m c 4 t)) (k0_pay6 (iblk m c 4 t)) k0_pay7
        (iblk m c 8 t) (iblk m c 8 t) (iblk m c 8 t) (iblk m c 8 t) (X0_5 m c t) (ix2 i j)
      = rowB (fun k => aob m c (ix2 (row t i) k)) (fun k => agg m c (ix1 k)) (fun k => az m c (ix2 (row t i) k)) j := by
  rw [normed_at]
  simp only [blk4_at, blk5_at, blk8_at]
  rfl

/-- The merged block at a point. -/
theorem out4 (c : Dev nD) (t : Fin cfg0.N) (i : Fin 512) (j : Fin 1024) : ((outsAt0 m c t).2.2.2.2 : Vec Ideal S512x1024 .bf16) (ix2 i j) = mergedOf m c (row t i) j := by
  unfold outsAt0
  frame_out
  rw [merged_at, first_at]
  simp only [ya_at, yb_at, ym_at, gate m c t 0 0 rfl, gate m c t 1 1024 rfl, gate m c t 2 2048 rfl, bias m c t 0 0 rfl, bias m c t 1 1024 rfl, bias m c t 2 2048 rfl, weight m c t 0 0 rfl, weight m c t 1 1 rfl, weight m c t 2 2 rfl]
  rfl
theorem out0 (c : Dev nD) (t : Fin cfg0.N) (i : Fin 512) (j : Fin 1024) : ((outsAt0 m c t).1 : Vec Ideal S512x1024 .f32) (ix2 i j)
    = (ax m c (ix2 (row t i) j) + ∑ e : Fin 1024, mergedOf m c (row t i) e * awo m c (ix2 e j) : EReal) := by
  unfold outsAt0
  frame_out
  rw [last_at]
  simp only [merged_at, first_at, ya_at, yb_at, ym_at, gate m c t 0 0 rfl, gate m c t 1 1024 rfl, gate m c t 2 2048 rfl, bias m c t 0 0 rfl, bias m c t 1 1024 rfl, bias m c t 2 2048 rfl, weight m c t 0 0 rfl, weight m c t 1 1 rfl, weight m c t 2 2 rfl, blk0_at, blk11_at]
  rfl
theorem out1 (c : Dev nD) (t : Fin cfg0.N) (i : Fin 512) (j : Fin 512) : ((outsAt0 m c t).2.1 : Vec Ideal S512x512 .bf16) (ix2 i j)
    = rowA (fun k => aoa m c (ix2 (row t i) k)) (fun k => az m c (ix2 (row t i) k)) j := by
  unfold outsAt0
  frame_out
  exact ya_at m c t i j
theorem out2 (c : Dev nD) (t : Fin cfg0.N) (i : Fin 512) (j : Fin 512) : ((outsAt0 m c t).2.2.1 : Vec Ideal S512x512 .bf16) (ix2 i j)
    = rowB (fun k => aob m c (ix2 (row t i) k)) (fun k => agg m c (ix1 k)) (fun k => az m c (ix2 (row t i) k)) j := by
  unfold outsAt0
  frame_out
  exact yb_at m c t i j
theorem out3 (c : Dev nD) (t : Fin cfg0.N) (i : Fin 512) (j : Fin 512) : ((outsAt0 m c t).2.2.2.1 : Vec Ideal S512x512 .bf16) (ix2 i j)
    = rowM (fun k => aom m c (ix2 (row t i) k)) (fun k => az m c (ix2 (row t i) k)) j := by
  unfold outsAt0
  frame_out
  exact ym_at m c t i j

theorem final12 (c : Dev nD) : (dats m 0 c).arrAt 12 cfg0.N = resX m c := by
  refine (dats m 0 c).arrAt_eq_of_covers 12 _ (by decide +kernel) fun t hf y => ?_
  blk_simp
  rw [after0_12]
  obtain ⟨i, j, rfl⟩ : ∃ (i : Fin 512) (j : Fin 1024), y = ix2 i j := ⟨y 0, y 1, eq_ix2 y⟩
  have hr := row_val t i
  have e : ((win0_12.blk t).view.emb (ix2 i j)) = ix2 (row t i) j := by blk_ext [idxRow t, hr]
  exact (out0 m c t i j).trans (congrArg (resX m c) e).symm
theorem final13 (c : Dev nD) : (dats m 0 c).arrAt 13 cfg0.N = resA m c := by
  refine (dats m 0 c).arrAt_eq_of_covers 13 _ (by decide +kernel) fun t hf y => ?_
  blk_simp
  rw [after0_13]
  obtain ⟨i, j, rfl⟩ : ∃ (i : Fin 512) (j : Fin 512), y = ix2 i j := ⟨y 0, y 1, eq_ix2 y⟩
  have hr := row_val t i
  have e : ((win0_13.blk t).view.emb (ix2 i j)) = ix2 (row t i) j := by blk_ext [idxRow t, hr]
  exact (out1 m c t i j).trans (congrArg (resA m c) e).symm
theorem final14 (c : Dev nD) : (dats m 0 c).arrAt 14 cfg0.N = resB m c := by
  refine (dats m 0 c).arrAt_eq_of_covers 14 _ (by decide +kernel) fun t hf y => ?_
  blk_simp
  rw [after0_14]
  obtain ⟨i, j, rfl⟩ : ∃ (i : Fin 512) (j : Fin 512), y = ix2 i j := ⟨y 0, y 1, eq_ix2 y⟩
  have hr := row_val t i
  have e : ((win0_14.blk t).view.emb (ix2 i j)) = ix2 (row t i) j := by blk_ext [idxRow t, hr]
  exact (out2 m c t i j).trans (congrArg (resB m c) e).symm
theorem final15 (c : Dev nD) : (dats m 0 c).arrAt 15 cfg0.N = resM m c := by
  refine (dats m 0 c).arrAt_eq_of_covers 15 _ (by decide +kernel) fun t hf y => ?_
  blk_simp
  rw [after0_15]
  obtain ⟨i, j, rfl⟩ : ∃ (i : Fin 512) (j : Fin 512), y = ix2 i j := ⟨y 0, y 1, eq_ix2 y⟩
  have hr := row_val t i
  have e : ((win0_15.blk t).view.emb (ix2 i j)) = ix2 (row t i) j := by blk_ext [idxRow t, hr]
  exact (out3 m c t i j).trans (congrArg (resM m c) e).symm
theorem final16 (c : Dev nD) : (dats m 0 c).arrAt 16 cfg0.N = resG m c := by
  refine (dats m 0 c).arrAt_eq_of_covers 16 _ (by decide +kernel) fun t hf y => ?_
  blk_simp
  rw [after0_16]
  obtain ⟨i, j, rfl⟩ : ∃ (i : Fin 512) (j : Fin 1024), y = ix2 i j := ⟨y 0, y 1, eq_ix2 y⟩
  have hr := row_val t i
  have e : ((win0_16.blk t).view.emb (ix2 i j)) = ix2 (row t i) j := by blk_ext [idxRow t, hr]
  exact (out4 m c t i j).trans (congrArg (resG m c) e).symm

/-- The call ends with its results at those arrays, its arguments unchanged. -/
theorem run_res (g : Dev nD → PrngReg) : θ_run (defs (F := Ideal)) (onTc (τ := τ) (main (F := Ideal))) ⟨m, fun _ => 0, g⟩ (fun r => ∀ c : Dev nD,
      r.2.mem ((c.tc : Thread nD τ).loc main_v2_0) = resX m c
      ∧ r.2.mem ((c.tc : Thread nD τ).loc main_v2_1) = resA m c
      ∧ r.2.mem ((c.tc : Thread nD τ).loc main_v2_2) = resB m c
      ∧ r.2.mem ((c.tc : Thread nD τ).loc main_v2_3) = resM m c
      ∧ r.2.mem ((c.tc : Thread nD τ).loc main_v2_4) = resG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (final12 m c), (h c).2.1.trans (final13 m c), (h c).2.2.1.trans (final14 m c),
    (h c).2.2.2.1.trans (final15 m c), (h c).2.2.2.2.1.trans (final16 m c), (h c).2.2.2.2.2⟩) (Value.run_blocks m g)

end Cert.MergeIdeal

end
-- ==== Proof.MergeRef.lean ====
/- The merge's reference, stage by stage and entry by entry. -/
module

public import proofs.«01_k».proof.Proof.Merge
public import proofs.«01_k».proof.Proof.Gen.MergeRefIdeal.Run

@[expose] public section

set_option maxRecDepth 8192

noncomputable section

namespace Cert.MergeRefIdeal.Gen

open Idealize.ShloMosaic Idealize.ShloMosaic.TcCoe Cert.MergeSpec

/-- The silu of an array. -/
def siluA (z : FVec Ideal S16384x512 .f32) : FVec Ideal S16384x512 .f32 :=
  mulf z (Host.divf (broadcastInDim S16384x512 ![] bcast_S_S16384x512 (constant S_ .f32 0x3F800000#32)) (addf (broadcastInDim S16384x512 ![] bcast_S_S16384x512 (constant S_ .f32 0x3F800000#32)) (Host.exp (Host.negf z))))
/-- The gates. -/
def gatesA (z : FVec Ideal S16384x8320 .f32) (bm : FVec Ideal S3072 .f32) : FVec Ideal S16384x3x1024 .f32 :=
  shapeCast _ (Host.divf (broadcastInDim S16384x3072 ![] bcast_S_S16384x3072 (constant S_ .f32 0x3F800000#32)) (addf (broadcastInDim S16384x3072 ![] bcast_S_S16384x3072 (constant S_ .f32 0x3F800000#32)) (Host.exp (Host.negf (addf (extractStridedSlice S16384x3072 ![0, 0] z slices_S16384x8320_S16384x3072_0_0) (broadcastInDim S16384x3072 ![0, 1] bcast_S1x3072_S16384x3072_0_1 (broadcastInDim S1x3072 ![1] bcast_S3072_S1x3072_1 bm))))))) shapeCasts_S16384x3072_S16384x3x1024
/-- The stacked branches by their weights. -/
def projA (a b c : FVec Ideal S16384x512 .f32) (wb : FVec Ideal S3x512x1024 .bf16) : FVec Ideal S16384x3x1024 .f32 :=
  transpose S16384x3x1024 [2, 0, 1] (Host.dotGeneral dot_S3x512x1024_S16384x3x512_S3x1024x16384_1_2_2_0_0_1 none (extf .f32 wb bitsLt_bf16_f32) (concatenate S16384x3x512 1 [⟨S16384x1x512, broadcastInDim S16384x1x512 ![0, 2] bcast_S16384x512_S16384x1x512_0_2 a⟩, ⟨S16384x1x512, broadcastInDim S16384x1x512 ![0, 2] bcast_S16384x512_S16384x1x512_0_2 b⟩, ⟨S16384x1x512, broadcastInDim S16384x1x512 ![0, 2] bcast_S16384x512_S16384x1x512_0_2 c⟩] concatenates_S16384x1x512_S16384x1x512_S16384x1x512_S16384x3x512_d1)) transposes_S3x1024x16384_S16384x3x1024_2_0_1
/-- The branches. -/
def brA (o : FVec Ideal S16384x512 .f32) (z : FVec Ideal S16384x8320 .f32) : FVec Ideal S16384x512 .f32 :=
  mulf o (siluA (extractStridedSlice S16384x512 ![0, 3072] z slices_S16384x8320_S16384x512_0_3072))
def brM (o : FVec Ideal S16384x512 .f32) (z : FVec Ideal S16384x8320 .f32) : FVec Ideal S16384x512 .f32 :=
  mulf o (siluA (extractStridedSlice S16384x512 ![0, 4096] z slices_S16384x8320_S16384x512_0_4096))
def brB (ob : FVec Ideal S16384x512 .f32) (gg : FVec Ideal S128 .f32) (z : FVec Ideal S16384x8320 .f32) : FVec Ideal S16384x512 .f32 :=
  mulf (shapeCast _ (mulf (mulf (shapeCast _ ob shapeCasts_S16384x512_S16384x4x128) (broadcastInDim S16384x4x128 ![0, 1, 2] bcast_S16384x4x1_S16384x4x128_0_1_2 (Host.rsqrt (addf (Host.divf (broadcastInDim S16384x4x1 ![0, 1] bcast_S16384x4_S16384x4x1_0_1 (Host.reduceAdd (mulf (shapeCast _ ob shapeCasts_S16384x512_S16384x4x128) (shapeCast _ ob shapeCasts_S16384x512_S16384x4x128)) (constant S_ .f32 0x00000000#32) reducesTo_S16384x4x128_S16384x4_d2 h_S_)) (broadcastInDim S16384x4x1 ![] bcast_S_S16384x4x1 (constant S_ .f32 0x43000000#32))) (broadcastInDim S16384x4x1 ![] bcast_S_S16384x4x1 (constant S_ .f32 0x358637BD#32)))))) (broadcastInDim S16384x4x128 ![0, 1, 2] bcast_S1x1x128_S16384x4x128_0_1_2 (broadcastInDim S1x1x128 ![2] bcast_S128_S1x1x128_2 gg))) shapeCasts_S16384x4x128_S16384x512)
    (siluA (extractStridedSlice S16384x512 ![0, 3584] z slices_S16384x8320_S16384x512_0_3584))
/-- The gated sum over the branches. -/
def mergeA (u v : FVec Ideal S16384x3x1024 .f32) : FVec Ideal S16384x1024 .f32 :=
  Host.reduceAdd (mulf u v) (constant S_ .f32 0x00000000#32) reducesTo_S16384x3x1024_S16384x1024_d1 h_S_
/-- The residual stream after the merge. -/
def nextA (x : FVec Ideal S16384x1024 .f32) (M : FVec Ideal S16384x1024 .f32) (wo : FVec Ideal S1024x1024 .bf16) : FVec Ideal S16384x1024 .f32 :=
  addf x (Host.dotGeneral dot_S16384x1024_S1024x1024_S16384x1024_1_0_0_1_n_n none M (extf .f32 wo bitsLt_bf16_f32))

theorem siluA_at (z : FVec Ideal S16384x512 .f32) (i : Fin 16384) (j : Fin 512) : siluA z (ix2 i j) = silu (z (ix2 i j)) := by
  pointwise [siluA, silu, sg]

theorem gatesA_at (z : FVec Ideal S16384x8320 .f32) (bm : FVec Ideal S3072 .f32) (i : Fin 16384) (n : Fin 3) (j : Fin 1024) :
    gatesA z bm (ix3 i n j) = sg (z (ix2 i (gc n j)) + bm (ix1 (bc n j))) := by
  pointwise [gatesA, sg]
  rfl

theorem projA_at (a b c : FVec Ideal S16384x512 .f32) (wb : FVec Ideal S3x512x1024 .bf16) (i : Fin 16384) (n : Fin 3) (j : Fin 1024) :
    projA a b c wb (ix3 i n j) = (∑ k : Fin 512, (![a (ix2 i k), b (ix2 i k), c (ix2 i k)] : Fin 3 → EReal) n * wb (ix3 n k j) : EReal) := by
  pointwise [projA]
  refine Finset.sum_congr rfl fun k _ => (mul_comm _ _).trans ?_
  fin_cases n <;> rfl

theorem brA_at (o : FVec Ideal S16384x512 .f32) (z : FVec Ideal S16384x8320 .f32) (i : Fin 16384) (j : Fin 512) :
    brA o z (ix2 i j) = rowA (fun k => o (ix2 i k)) (fun k => z (ix2 i k)) j := by
  pointwise [brA]
  rw [siluA_at]
  pointwise []
  rfl
theorem brM_at (o : FVec Ideal S16384x512 .f32) (z : FVec Ideal S16384x8320 .f32) (i : Fin 16384) (j : Fin 512) :
    brM o z (ix2 i j) = rowM (fun k => o (ix2 i k)) (fun k => z (ix2 i k)) j := by
  pointwise [brM]
  rw [siluA_at]
  pointwise []
  rfl
theorem brB_at (o : FVec Ideal S16384x512 .f32) (g : FVec Ideal S128 .f32) (z : FVec Ideal S16384x8320 .f32) (i : Fin 16384) (j : Fin 512) :
    brB o g z (ix2 i j) = rowB (fun k => o (ix2 i k)) (fun k => g (ix1 k)) (fun k => z (ix2 i k)) j := by
  pointwise [brB]
  rw [siluA_at]
  pointwise []
  rfl

theorem mergeA_at (x : FVec Ideal S16384x8320 .f32) (oa ob om : FVec Ideal S16384x512 .f32) (g : FVec Ideal S128 .f32) (bm : FVec Ideal S3072 .f32) (wb : FVec Ideal S3x512x1024 .bf16) (i : Fin 16384) (j : Fin 1024) :
    mergeA (gatesA x bm) (projA (brA oa x) (brB ob g x) (brM om x) wb) (ix2 i j)
      = merged (fun k => x (ix2 i k)) (fun k => oa (ix2 i k)) (fun k => ob (ix2 i k)) (fun k => om (ix2 i k)) (fun k => g (ix1 k)) (fun k => bm (ix1 k)) (fun n k j => wb (ix3 n k j)) j := by
  pointwise [mergeA]
  rw [Fin.sum_univ_three]
  simp only [gatesA_at, projA_at, brA_at, brB_at, brM_at]
  rfl

theorem nextA_at (x : FVec Ideal S16384x1024 .f32) (M : FVec Ideal S16384x1024 .f32) (wo : FVec Ideal S1024x1024 .bf16) (i : Fin 16384) (j : Fin 1024) :
    nextA x M wo (ix2 i j) = (x (ix2 i j) + ∑ e : Fin 1024, M (ix2 i e) * wo (ix2 e j) : EReal) := by
  pointwise [nextA]

/-- The merged array of the arguments in a memory. -/
def refMerged (m : (ℓ : Loc nD τ sig) → Buf (Elt Ideal) ℓ) (c : Dev nD) : FVec Ideal S16384x1024 .f32 :=
  let a (b : Ref sig .tc) := m ((c.tc : Thread nD τ).loc b)
  mergeA (gatesA (a main_arg1) (a main_arg6)) (projA (brA (a main_arg2) (a main_arg1)) (brB (a main_arg3) (a main_arg5) (a main_arg1)) (brM (a main_arg4) (a main_arg1)) (a main_arg7))

end Cert.MergeRefIdeal.Gen

end
-- ==== Proof.MergeClaim.lean ====
/- The merge call and its reference end with equal results; each runs to its end. -/
module

public import proofs.«01_k».proof.Defs
public import proofs.«01_k».proof.Proof.Gen.Merge
public import proofs.«01_k».proof.Proof.MergeRun
public import proofs.«01_k».proof.Proof.MergeRef
public import Idealize.ShloMosaic.Adequacy
public import Idealize.ShloMosaic.Init
public import Idealize.ShloMosaic.Lib.Claim
public import Idealize.ShloMosaic.Lib.Quiescent

@[expose] public section

noncomputable section

namespace Cert.Merge

open Idealize.ShloMosaic Idealize.SL.Sem
open Cert.MergeRefIdeal.Gen (refMerged mergeA_at nextA_at brA_at brB_at brM_at)

/-- From equal arguments, the call and the reference end with equal results. -/
theorem algebraic : Cert.algebraic_MergeIdeal_MergeRefIdeal := by
  intro m g m' g' _ ha
  refine ⟨Cert.MergeIdeal.resX m, Cert.MergeIdeal.resA m, Cert.MergeIdeal.resB m, Cert.MergeIdeal.resM m, Cert.MergeIdeal.resG m, Cert.MergeIdeal.run_res m g,
    (θ_run Cert.MergeRefIdeal.defs _ _).mono (fun r h c => ?_) (Cert.MergeRefIdeal.Value.run m' g')⟩
  obtain ⟨a0, a1, a2, a3, a4, a5, a6, a7, a8⟩ := ha c
  have hM : ∀ (i : Fin 16384) (j : Fin 1024), refMerged m' c (ix2 i j) = Cert.MergeIdeal.mergedOf m c i j := fun i j => by
    refine (mergeA_at _ _ _ _ _ _ _ i j).trans ?_
    dsimp only
    rw [a1, a2, a3, a4, a5, a6, a7]
    rfl
  refine ⟨(h c).1.trans (funext fun y => ?_), (h c).2.1.trans (funext fun y => ?_), (h c).2.2.1.trans (funext fun y => ?_),
    (h c).2.2.2.1.trans (funext fun y => ?_), (h c).2.2.2.2.1.trans (funext fun y => ?_), (h c).2.2.2.2.2⟩
  · obtain ⟨i, j, rfl⟩ : ∃ (i : Fin 16384) (j : Fin 1024), y = ix2 i j := ⟨y 0, y 1, eq_ix2 y⟩
    refine (nextA_at _ (refMerged m' c) _ i j).trans ?_
    simp only [hM]
    rw [a0, a8]
    rfl
  · obtain ⟨i, j, rfl⟩ : ∃ (i : Fin 16384) (j : Fin 512), y = ix2 i j := ⟨y 0, y 1, eq_ix2 y⟩
    refine (brA_at _ _ i j).trans ?_
    rw [a1, a2]
    rfl
  · obtain ⟨i, j, rfl⟩ : ∃ (i : Fin 16384) (j : Fin 512), y = ix2 i j := ⟨y 0, y 1, eq_ix2 y⟩
    refine (brB_at _ _ _ i j).trans ?_
    rw [a1, a3, a5]
    rfl
  · obtain ⟨i, j, rfl⟩ : ∃ (i : Fin 16384) (j : Fin 512), y = ix2 i j := ⟨y 0, y 1, eq_ix2 y⟩
    refine (brM_at _ _ i j).trans ?_
    rw [a1, a4]
    rfl
  · obtain ⟨i, j, rfl⟩ : ∃ (i : Fin 16384) (j : Fin 1024), y = ix2 i j := ⟨y 0, y 1, eq_ix2 y⟩
    exact hM i j

/-- The idealized call runs to its end, its arguments unchanged and every counter at zero. -/
theorem frame_ideal : Cert.quiescent_MergeIdeal := fun m g _ => Cert.MergeIdeal.Gen.frame m g

set_option maxHeartbeats 4000000 in
/-- The call's body is the idealized one's, at machine words. -/
theorem body_same : Cert.Merge.defs₀ (F := Bits) = Cert.MergeIdeal.defs₀ (F := Bits) := by
  delta Cert.Merge.defs₀ Cert.MergeIdeal.defs₀
  refine congrArg Defs.onTc (funext fun l => funext fun a => ?_)
  match l, a with
  | 0, (t, s) => rfl

set_option maxHeartbeats 4000000 in
/-- The call's own text is the idealized one's, so its run is that run at machine words. -/
theorem frame_words : Cert.quiescent_Merge := by
  intro m g _
  have e : Cert.Merge.defs (F := Bits) = Cert.MergeIdeal.defs (F := Bits) := by
    delta Cert.Merge.defs Cert.MergeIdeal.defs
    rw [body_same]
    rfl
  rw [e]
  exact Cert.MergeIdeal.Gen.frame (F := Bits) m g

/-- The reference runs to its end, its arguments unchanged and every counter at zero. -/
theorem frame_ref : Cert.quiescent_MergeRefIdeal := by
  intro m g _
  hlo_run
  · exact fun _ => ⟨trivial, trivial, trivial, trivial, trivial, trivial, trivial, trivial, trivial⟩
  · exact sem_eq_zero_of_no_sems rfl _

end Cert.Merge

end
-- ==== Proof.lean ====
/- The claims put together: the frames of the programs, that naming the two constants is sound, and that
   on finite arguments the kernel's five results are the reference's; and the same, with no condition, of the
   three products of the input projection, the two weight gradients of the merge and the merge itself. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.FrameWords
public import proofs.«01_k».proof.Proof.RefRun
public import proofs.«01_k».proof.Proof.RefAt
public import proofs.«01_k».proof.Proof.Finite
public import proofs.«01_k».proof.Proof.Value
public import proofs.«01_k».proof.Proof.MmWeight
public import proofs.«01_k».proof.Proof.MmInput
public import proofs.«01_k».proof.Proof.MmProject
public import proofs.«01_k».proof.Proof.Gen.GradOut
public import proofs.«01_k».proof.Proof.Gen.GradOutIdeal.Value
public import proofs.«01_k».proof.Proof.Gen.GradOutRefIdeal.Run
public import proofs.«01_k».proof.Proof.Gen.GradBranch
public import proofs.«01_k».proof.Proof.Gen.GradBranchIdeal.Value
public import proofs.«01_k».proof.Proof.Gen.GradBranchRefIdeal.Run
public import proofs.«01_k».proof.Proof.Gen.Merge
public import proofs.«01_k».proof.Proof.Gen.MergeIdeal.Value
public import proofs.«01_k».proof.Proof.Gen.MergeRefIdeal.Run
public import proofs.«01_k».proof.Proof.MmOut
public import proofs.«01_k».proof.Proof.MmBranch
public import proofs.«01_k».proof.Proof.MergeClaim
public import proofs.«01_k».proof.Proof.Gen.GradWeight
public import proofs.«01_k».proof.Proof.Gen.GradWeightIdeal.Value
public import proofs.«01_k».proof.Proof.Gen.GradInput
public import proofs.«01_k».proof.Proof.Gen.GradInputIdeal.Value
public import proofs.«01_k».proof.Proof.Gen.Project
public import proofs.«01_k».proof.Proof.Gen.ProjectIdeal.Value
public import proofs.«01_k».proof.Proof.Gen.GradWeightRefIdeal.Run
public import proofs.«01_k».proof.Proof.Gen.GradInputRefIdeal.Run
public import proofs.«01_k».proof.Proof.Gen.ProjectRefIdeal.Run
public import Idealize.ShloMosaic.Adequacy
public import Idealize.ShloMosaic.Init

@[expose] public section

noncomputable section

namespace Cert.Proof

open Idealize.ShloMosaic Idealize.SL.Sem

/-- The idealized program runs to its end, its arguments unchanged and every counter at zero. -/
theorem frame_kernelideal : Cert.quiescent_KernelIdeal :=
  fun m g _ => Cert.KernelIdeal.Gen.run_frame (F := Ideal) m g

/-- The two named constants are replaced by the values that they stand for, and by nothing else. -/
theorem preserves : Cert.preserves_Kernel_KernelIdeal :=
  ⟨IdealRules.named_const.statement Cert.KernelIdeal.κ "mask" .f32 _ _ rfl,
    IdealRules.named_const.statement Cert.KernelIdeal.κ "ln2" .f32 _ _ rfl⟩

section
open Cert.ReferenceIdeal

/-- Arguments equal to arguments of real numbers are those numbers. -/
theorem holds_of_eq {A : Cert.Spec.Args} {q q' k k' v v' : FVec Ideal S16384x8x64 .f32} {f f' : FVec Ideal S8x16384 .f32} {g g' : FVec Ideal S16384x8x64 .f32}
    (hq : q' = q) (hk : k' = k) (hv : v' = v) (hf : f' = f) (hg : g' = g) (H : Cert.KernelIdeal.Gen.Holds A q k v f g) : Cert.KernelIdeal.Gen.Holds A q' k' v' f' g' := by
  subst hq hk hv hf hg; exact H

/-- The reference ends with its five results at the gradients of the mathematics, its arguments unchanged. -/
theorem reference_value (m' : (ℓ : Loc nD τ sig) → Buf (Elt Ideal) ℓ) (g' : Dev nD → PrngReg) (A : Dev nD → Cert.Spec.Args)
    (H : ∀ c : Dev nD, Cert.KernelIdeal.Gen.Holds (A c) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) :
    θ_run (defs (F := Ideal)) (onTc (τ := τ) (main (F := Ideal))) ⟨m', fun _ => 0, g'⟩ (fun r => ∀ c : Dev nD,
      r.2.mem ((c.tc : Thread nD τ).loc main_v76) = Cert.KernelIdeal.Gen.resDq (A c)
      ∧ r.2.mem ((c.tc : Thread nD τ).loc main_v77) = Cert.KernelIdeal.Gen.resDk (A c)
      ∧ r.2.mem ((c.tc : Thread nD τ).loc main_v78) = Cert.KernelIdeal.Gen.resDv (A c)
      ∧ r.2.mem ((c.tc : Thread nD τ).loc main_v79) = Cert.KernelIdeal.Gen.resDfk (A c)
      ∧ r.2.mem ((c.tc : Thread nD τ).loc main_v80) = Cert.KernelIdeal.Gen.resDfq (A c)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) := by
  refine (θ_run defs _ _).mono (fun r h c => ?_) (Cert.Ref.run_value m' g')
  obtain ⟨h0, h1, h2, h3, h4, ha⟩ := h c
  exact ⟨h0.trans (Cert.Ref.ref_dq (H c)), h1.trans (Cert.Ref.ref_dk (H c)), h2.trans (Cert.Ref.ref_dv (H c)),
    h3.trans (Cert.Ref.ref_dfk (H c)), h4.trans (Cert.Ref.ref_dfq (H c)), ha⟩

end

/-- On finite arguments, equal for the two programs, the kernel and the reference end with equal results. -/
theorem algebraic : Cert.algebraic_KernelIdeal_ReferenceIdeal_pre_finite (hPre_finite := Cert.Fin.facts) := by
  intro m g m' g' hpre hargs
  haveI := Cert.Fin.facts
  choose A H using fun c : Dev Cert.KernelIdeal.nD => Cert.Fin.holds_of_finite _ _ _ _ _ (hpre c)
  exact ⟨fun c => Cert.KernelIdeal.Gen.resDq (A c), fun c => Cert.KernelIdeal.Gen.resDk (A c), fun c => Cert.KernelIdeal.Gen.resDv (A c),
    fun c => Cert.KernelIdeal.Gen.resDfk (A c), fun c => Cert.KernelIdeal.Gen.resDfq (A c),
    Cert.KernelIdeal.Gen.run_value m g A H,
    reference_value m' g' A fun c => holds_of_eq (hargs c).1 (hargs c).2.1 (hargs c).2.2.1 (hargs c).2.2.2.1 (hargs c).2.2.2.2 (H c)⟩

/-- Every claim. -/
theorem claim : Cert.Claim := ⟨Cert.Kernel.Gen.facts, Cert.KernelIdeal.Gen.facts, Cert.ReferenceIdeal.Gen.facts,
  Cert.GradWeight.Gen.facts, Cert.GradWeightIdeal.Gen.facts, Cert.GradWeightRefIdeal.Gen.facts,
  Cert.GradInput.Gen.facts, Cert.GradInputIdeal.Gen.facts, Cert.GradInputRefIdeal.Gen.facts,
  Cert.Project.Gen.facts, Cert.ProjectIdeal.Gen.facts, Cert.ProjectRefIdeal.Gen.facts,
  Cert.GradOut.Gen.facts, Cert.GradOutIdeal.Gen.facts, Cert.GradOutRefIdeal.Gen.facts,
  Cert.GradBranch.Gen.facts, Cert.GradBranchIdeal.Gen.facts, Cert.GradBranchRefIdeal.Gen.facts,
  Cert.Merge.Gen.facts, Cert.MergeIdeal.Gen.facts, Cert.MergeRefIdeal.Gen.facts, Cert.Fin.facts,
  Cert.Words.frame_kernel, frame_kernelideal, fun m g _ => frame_kernelideal m g trivial, Cert.Ref.frame_reference,
  fun m g _ => Cert.Ref.frame_reference m g trivial,
  Cert.GradWeight.frame_words, Cert.GradWeight.frame_ideal, Cert.GradWeight.frame_ref,
  Cert.GradInput.frame_words, Cert.GradInput.frame_ideal, Cert.GradInput.frame_ref,
  Cert.Project.frame_words, Cert.Project.frame_ideal, Cert.Project.frame_ref,
  Cert.GradOut.frame_words, Cert.GradOut.frame_ideal, Cert.GradOut.frame_ref,
  Cert.GradBranch.frame_words, Cert.GradBranch.frame_ideal, Cert.GradBranch.frame_ref,
  Cert.Merge.frame_words, Cert.Merge.frame_ideal, Cert.Merge.frame_ref,
  preserves, algebraic, trivial, Cert.GradWeight.algebraic, trivial, Cert.GradInput.algebraic, trivial, Cert.Project.algebraic,
  trivial, Cert.GradOut.algebraic, trivial, Cert.GradBranch.algebraic, trivial, Cert.Merge.algebraic⟩

end Cert.Proof

end
